-- ==== Defs.lean ====
def Pre_FBwd (m : (ℓ : Loc Cert.FBwd.nD Cert.FBwd.τ Cert.FBwd.sig) → Buf (Elt Bits) ℓ) : Prop :=
  True

def Pre_FBwdIdeal (m : (ℓ : Loc Cert.FBwdIdeal.nD Cert.FBwdIdeal.τ Cert.FBwdIdeal.sig) → Buf (Elt Ideal) ℓ) : Prop :=
  True

def Pre_FBwdIdeal_f_finite [hPre_f_finite : Cert.Pre_f_finite.Facts] (m : (ℓ : Loc Cert.FBwdIdeal.nD Cert.FBwdIdeal.τ Cert.FBwdIdeal.sig) → Buf (Elt Ideal) ℓ) : Prop :=
  ∀ c : Dev Cert.FBwdIdeal.nD,
    (Cert.Pre_f_finite.fn (F := Ideal) (m ((c.tc : Thread Cert.FBwdIdeal.nD Cert.FBwdIdeal.τ).loc Cert.FBwdIdeal.main_arg0)) (m ((c.tc : Thread Cert.FBwdIdeal.nD Cert.FBwdIdeal.τ).loc Cert.FBwdIdeal.main_arg1)) (m ((c.tc : Thread Cert.FBwdIdeal.nD Cert.FBwdIdeal.τ).loc Cert.FBwdIdeal.main_arg2)) (m ((c.tc : Thread Cert.FBwdIdeal.nD Cert.FBwdIdeal.τ).loc Cert.FBwdIdeal.main_arg3)) (m ((c.tc : Thread Cert.FBwdIdeal.nD Cert.FBwdIdeal.τ).loc Cert.FBwdIdeal.main_arg4)) (m ((c.tc : Thread Cert.FBwdIdeal.nD Cert.FBwdIdeal.τ).loc Cert.FBwdIdeal.main_arg5)) (m ((c.tc : Thread Cert.FBwdIdeal.nD Cert.FBwdIdeal.τ).loc Cert.FBwdIdeal.main_arg6))) = (fun _ => 1#1)

def Pre_FBwdRefIdeal (m : (ℓ : Loc Cert.FBwdRefIdeal.nD Cert.FBwdRefIdeal.τ Cert.FBwdRefIdeal.sig) → Buf (Elt Ideal) ℓ) : Prop :=
  True

def Pre_FBwdRefIdeal_f_finite [hPre_f_finite : Cert.Pre_f_finite.Facts] (m : (ℓ : Loc Cert.FBwdRefIdeal.nD Cert.FBwdRefIdeal.τ Cert.FBwdRefIdeal.sig) → Buf (Elt Ideal) ℓ) : Prop :=
  ∀ c : Dev Cert.FBwdRefIdeal.nD,
    (Cert.Pre_f_finite.fn (F := Ideal) (m ((c.tc : Thread Cert.FBwdRefIdeal.nD Cert.FBwdRefIdeal.τ).loc Cert.FBwdRefIdeal.main_arg0)) (m ((c.tc : Thread Cert.FBwdRefIdeal.nD Cert.FBwdRefIdeal.τ).loc Cert.FBwdRefIdeal.main_arg1)) (m ((c.tc : Thread Cert.FBwdRefIdeal.nD Cert.FBwdRefIdeal.τ).loc Cert.FBwdRefIdeal.main_arg2)) (m ((c.tc : Thread Cert.FBwdRefIdeal.nD Cert.FBwdRefIdeal.τ).loc Cert.FBwdRefIdeal.main_arg3)) (m ((c.tc : Thread Cert.FBwdRefIdeal.nD Cert.FBwdRefIdeal.τ).loc Cert.FBwdRefIdeal.main_arg4)) (m ((c.tc : Thread Cert.FBwdRefIdeal.nD Cert.FBwdRefIdeal.τ).loc Cert.FBwdRefIdeal.main_arg5)) (m ((c.tc : Thread Cert.FBwdRefIdeal.nD Cert.FBwdRefIdeal.τ).loc Cert.FBwdRefIdeal.main_arg6))) = (fun _ => 1#1)

def Pre_FGrad (m : (ℓ : Loc Cert.FGrad.nD Cert.FGrad.τ Cert.FGrad.sig) → Buf (Elt Bits) ℓ) : Prop :=
  True

def Pre_FGradIdeal (m : (ℓ : Loc Cert.FGradIdeal.nD Cert.FGradIdeal.τ Cert.FGradIdeal.sig) → Buf (Elt Ideal) ℓ) : Prop :=
  True

def Pre_FGradRefIdeal (m : (ℓ : Loc Cert.FGradRefIdeal.nD Cert.FGradRefIdeal.τ Cert.FGradRefIdeal.sig) → Buf (Elt Ideal) ℓ) : Prop :=
  True

def Pre_FFwd (m : (ℓ : Loc Cert.FFwd.nD Cert.FFwd.τ Cert.FFwd.sig) → Buf (Elt Bits) ℓ) : Prop :=
  True

def Pre_FFwdIdeal (m : (ℓ : Loc Cert.FFwdIdeal.nD Cert.FFwdIdeal.τ Cert.FFwdIdeal.sig) → Buf (Elt Ideal) ℓ) : Prop :=
  True

def Pre_FFwdIdeal_ff_finite [hPre_ff_finite : Cert.Pre_ff_finite.Facts] (m : (ℓ : Loc Cert.FFwdIdeal.nD Cert.FFwdIdeal.τ Cert.FFwdIdeal.sig) → Buf (Elt Ideal) ℓ) : Prop :=
  ∀ c : Dev Cert.FFwdIdeal.nD,
    (Cert.Pre_ff_finite.fn (F := Ideal) (m ((c.tc : Thread Cert.FFwdIdeal.nD Cert.FFwdIdeal.τ).loc Cert.FFwdIdeal.main_arg0)) (m ((c.tc : Thread Cert.FFwdIdeal.nD Cert.FFwdIdeal.τ).loc Cert.FFwdIdeal.main_arg1)) (m ((c.tc : Thread Cert.FFwdIdeal.nD Cert.FFwdIdeal.τ).loc Cert.FFwdIdeal.main_arg2)) (m ((c.tc : Thread Cert.FFwdIdeal.nD Cert.FFwdIdeal.τ).loc Cert.FFwdIdeal.main_arg3)) (m ((c.tc : Thread Cert.FFwdIdeal.nD Cert.FFwdIdeal.τ).loc Cert.FFwdIdeal.main_arg4)) (m ((c.tc : Thread Cert.FFwdIdeal.nD Cert.FFwdIdeal.τ).loc Cert.FFwdIdeal.main_arg5))) = (fun _ => 1#1)

def Pre_FFwdRefIdeal (m : (ℓ : Loc Cert.FFwdRefIdeal.nD Cert.FFwdRefIdeal.τ Cert.FFwdRefIdeal.sig) → Buf (Elt Ideal) ℓ) : Prop :=
  True

def Pre_FFwdRefIdeal_ff_finite [hPre_ff_finite : Cert.Pre_ff_finite.Facts] (m : (ℓ : Loc Cert.FFwdRefIdeal.nD Cert.FFwdRefIdeal.τ Cert.FFwdRefIdeal.sig) → Buf (Elt Ideal) ℓ) : Prop :=
  ∀ c : Dev Cert.FFwdRefIdeal.nD,
    (Cert.Pre_ff_finite.fn (F := Ideal) (m ((c.tc : Thread Cert.FFwdRefIdeal.nD Cert.FFwdRefIdeal.τ).loc Cert.FFwdRefIdeal.main_arg0)) (m ((c.tc : Thread Cert.FFwdRefIdeal.nD Cert.FFwdRefIdeal.τ).loc Cert.FFwdRefIdeal.main_arg1)) (m ((c.tc : Thread Cert.FFwdRefIdeal.nD Cert.FFwdRefIdeal.τ).loc Cert.FFwdRefIdeal.main_arg2)) (m ((c.tc : Thread Cert.FFwdRefIdeal.nD Cert.FFwdRefIdeal.τ).loc Cert.FFwdRefIdeal.main_arg3)) (m ((c.tc : Thread Cert.FFwdRefIdeal.nD Cert.FFwdRefIdeal.τ).loc Cert.FFwdRefIdeal.main_arg4)) (m ((c.tc : Thread Cert.FFwdRefIdeal.nD Cert.FFwdRefIdeal.τ).loc Cert.FFwdRefIdeal.main_arg5))) = (fun _ => 1#1)

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_BGrad (m : (ℓ : Loc Cert.BGrad.nD Cert.BGrad.τ Cert.BGrad.sig) → Buf (Elt Bits) ℓ) : Prop :=
  True

def Pre_BGradIdeal (m : (ℓ : Loc Cert.BGradIdeal.nD Cert.BGradIdeal.τ Cert.BGradIdeal.sig) → Buf (Elt Ideal) ℓ) : Prop :=
  True

def Pre_BGradRefIdeal (m : (ℓ : Loc Cert.BGradRefIdeal.nD Cert.BGradRefIdeal.τ Cert.BGradRefIdeal.sig) → Buf (Elt Ideal) ℓ) : Prop :=
  True

def Pre_BBwd (m : (ℓ : Loc Cert.BBwd.nD Cert.BBwd.τ Cert.BBwd.sig) → Buf (Elt Bits) ℓ) : Prop :=
  True

def Pre_BBwdIdeal (m : (ℓ : Loc Cert.BBwdIdeal.nD Cert.BBwdIdeal.τ Cert.BBwdIdeal.sig) → Buf (Elt Ideal) ℓ) : Prop :=
  True

def Pre_BBwdIdeal_b_finite [hPre_b_finite : Cert.Pre_b_finite.Facts] (m : (ℓ : Loc Cert.BBwdIdeal.nD Cert.BBwdIdeal.τ Cert.BBwdIdeal.sig) → Buf (Elt Ideal) ℓ) : Prop :=
  ∀ c : Dev Cert.BBwdIdeal.nD,
    (Cert.Pre_b_finite.fn (F := Ideal) (m ((c.tc : Thread Cert.BBwdIdeal.nD Cert.BBwdIdeal.τ).loc Cert.BBwdIdeal.main_arg0)) (m ((c.tc : Thread Cert.BBwdIdeal.nD Cert.BBwdIdeal.τ).loc Cert.BBwdIdeal.main_arg1)) (m ((c.tc : Thread Cert.BBwdIdeal.nD Cert.BBwdIdeal.τ).loc Cert.BBwdIdeal.main_arg2)) (m ((c.tc : Thread Cert.BBwdIdeal.nD Cert.BBwdIdeal.τ).loc Cert.BBwdIdeal.main_arg3)) (m ((c.tc : Thread Cert.BBwdIdeal.nD Cert.BBwdIdeal.τ).loc Cert.BBwdIdeal.main_arg4)) (m ((c.tc : Thread Cert.BBwdIdeal.nD Cert.BBwdIdeal.τ).loc Cert.BBwdIdeal.main_arg5)) (m ((c.tc : Thread Cert.BBwdIdeal.nD Cert.BBwdIdeal.τ).loc Cert.BBwdIdeal.main_arg6)) (m ((c.tc : Thread Cert.BBwdIdeal.nD Cert.BBwdIdeal.τ).loc Cert.BBwdIdeal.main_arg7))) = (fun _ => 1#1)

def Pre_BBwdRefIdeal (m : (ℓ : Loc Cert.BBwdRefIdeal.nD Cert.BBwdRefIdeal.τ Cert.BBwdRefIdeal.sig) → Buf (Elt Ideal) ℓ) : Prop :=
  True

def Pre_BBwdRefIdeal_b_finite [hPre_b_finite : Cert.Pre_b_finite.Facts] (m : (ℓ : Loc Cert.BBwdRefIdeal.nD Cert.BBwdRefIdeal.τ Cert.BBwdRefIdeal.sig) → Buf (Elt Ideal) ℓ) : Prop :=
  ∀ c : Dev Cert.BBwdRefIdeal.nD,
    (Cert.Pre_b_finite.fn (F := Ideal) (m ((c.tc : Thread Cert.BBwdRefIdeal.nD Cert.BBwdRefIdeal.τ).loc Cert.BBwdRefIdeal.main_arg0)) (m ((c.tc : Thread Cert.BBwdRefIdeal.nD Cert.BBwdRefIdeal.τ).loc Cert.BBwdRefIdeal.main_arg1)) (m ((c.tc : Thread Cert.BBwdRefIdeal.nD Cert.BBwdRefIdeal.τ).loc Cert.BBwdRefIdeal.main_arg2)) (m ((c.tc : Thread Cert.BBwdRefIdeal.nD Cert.BBwdRefIdeal.τ).loc Cert.BBwdRefIdeal.main_arg3)) (m ((c.tc : Thread Cert.BBwdRefIdeal.nD Cert.BBwdRefIdeal.τ).loc Cert.BBwdRefIdeal.main_arg4)) (m ((c.tc : Thread Cert.BBwdRefIdeal.nD Cert.BBwdRefIdeal.τ).loc Cert.BBwdRefIdeal.main_arg5)) (m ((c.tc : Thread Cert.BBwdRefIdeal.nD Cert.BBwdRefIdeal.τ).loc Cert.BBwdRefIdeal.main_arg6)) (m ((c.tc : Thread Cert.BBwdRefIdeal.nD Cert.BBwdRefIdeal.τ).loc Cert.BBwdRefIdeal.main_arg7))) = (fun _ => 1#1)

def Pre_AFwd (m : (ℓ : Loc Cert.AFwd.nD Cert.AFwd.τ Cert.AFwd.sig) → Buf (Elt Bits) ℓ) : Prop :=
  True

def Pre_AFwdIdeal (m : (ℓ : Loc Cert.AFwdIdeal.nD Cert.AFwdIdeal.τ Cert.AFwdIdeal.sig) → Buf (Elt Ideal) ℓ) : Prop :=
  True

def Pre_AFwdRefIdeal (m : (ℓ : Loc Cert.AFwdRefIdeal.nD Cert.AFwdRefIdeal.τ Cert.AFwdRefIdeal.sig) → Buf (Elt Ideal) ℓ) : Prop :=
  True

def Pre_BFwd (m : (ℓ : Loc Cert.BFwd.nD Cert.BFwd.τ Cert.BFwd.sig) → Buf (Elt Bits) ℓ) : Prop :=
  True

def Pre_BFwdIdeal (m : (ℓ : Loc Cert.BFwdIdeal.nD Cert.BFwdIdeal.τ Cert.BFwdIdeal.sig) → Buf (Elt Ideal) ℓ) : Prop :=
  True

def Pre_BFwdIdeal_bf_finite [hPre_bf_finite : Cert.Pre_bf_finite.Facts] (m : (ℓ : Loc Cert.BFwdIdeal.nD Cert.BFwdIdeal.τ Cert.BFwdIdeal.sig) → Buf (Elt Ideal) ℓ) : Prop :=
  ∀ c : Dev Cert.BFwdIdeal.nD,
    (Cert.Pre_bf_finite.fn (F := Ideal) (m ((c.tc : Thread Cert.BFwdIdeal.nD Cert.BFwdIdeal.τ).loc Cert.BFwdIdeal.main_arg0)) (m ((c.tc : Thread Cert.BFwdIdeal.nD Cert.BFwdIdeal.τ).loc Cert.BFwdIdeal.main_arg1)) (m ((c.tc : Thread Cert.BFwdIdeal.nD Cert.BFwdIdeal.τ).loc Cert.BFwdIdeal.main_arg2)) (m ((c.tc : Thread Cert.BFwdIdeal.nD Cert.BFwdIdeal.τ).loc Cert.BFwdIdeal.main_arg3)) (m ((c.tc : Thread Cert.BFwdIdeal.nD Cert.BFwdIdeal.τ).loc Cert.BFwdIdeal.main_arg4)) (m ((c.tc : Thread Cert.BFwdIdeal.nD Cert.BFwdIdeal.τ).loc Cert.BFwdIdeal.main_arg5)) (m ((c.tc : Thread Cert.BFwdIdeal.nD Cert.BFwdIdeal.τ).loc Cert.BFwdIdeal.main_arg6))) = (fun _ => 1#1)

def Pre_BFwdRefIdeal (m : (ℓ : Loc Cert.BFwdRefIdeal.nD Cert.BFwdRefIdeal.τ Cert.BFwdRefIdeal.sig) → Buf (Elt Ideal) ℓ) : Prop :=
  True

def Pre_BFwdRefIdeal_bf_finite [hPre_bf_finite : Cert.Pre_bf_finite.Facts] (m : (ℓ : Loc Cert.BFwdRefIdeal.nD Cert.BFwdRefIdeal.τ Cert.BFwdRefIdeal.sig) → Buf (Elt Ideal) ℓ) : Prop :=
  ∀ c : Dev Cert.BFwdRefIdeal.nD,
    (Cert.Pre_bf_finite.fn (F := Ideal) (m ((c.tc : Thread Cert.BFwdRefIdeal.nD Cert.BFwdRefIdeal.τ).loc Cert.BFwdRefIdeal.main_arg0)) (m ((c.tc : Thread Cert.BFwdRefIdeal.nD Cert.BFwdRefIdeal.τ).loc Cert.BFwdRefIdeal.main_arg1)) (m ((c.tc : Thread Cert.BFwdRefIdeal.nD Cert.BFwdRefIdeal.τ).loc Cert.BFwdRefIdeal.main_arg2)) (m ((c.tc : Thread Cert.BFwdRefIdeal.nD Cert.BFwdRefIdeal.τ).loc Cert.BFwdRefIdeal.main_arg3)) (m ((c.tc : Thread Cert.BFwdRefIdeal.nD Cert.BFwdRefIdeal.τ).loc Cert.BFwdRefIdeal.main_arg4)) (m ((c.tc : Thread Cert.BFwdRefIdeal.nD Cert.BFwdRefIdeal.τ).loc Cert.BFwdRefIdeal.main_arg5)) (m ((c.tc : Thread Cert.BFwdRefIdeal.nD Cert.BFwdRefIdeal.τ).loc Cert.BFwdRefIdeal.main_arg6))) = (fun _ => 1#1)

def quiescent_FBwd [hFBwd : Cert.FBwd.Facts] : Prop :=
  ∀ (m : (ℓ : Loc Cert.FBwd.nD Cert.FBwd.τ Cert.FBwd.sig) → Buf (Elt Bits) ℓ) (g : Dev Cert.FBwd.nD → PrngReg), Pre_FBwd m →
    θ_run (Cert.FBwd.defs (F := Bits)) (onTc (τ := Cert.FBwd.τ) (Cert.FBwd.main (F := Bits))) ⟨m, fun _ => 0, g⟩ (fun r => (∀ c : Dev Cert.FBwd.nD,
      r.2.mem ((c.tc : Thread Cert.FBwd.nD Cert.FBwd.τ).loc Cert.FBwd.main_arg0) = m ((c.tc : Thread Cert.FBwd.nD Cert.FBwd.τ).loc Cert.FBwd.main_arg0)
      ∧ r.2.mem ((c.tc : Thread Cert.FBwd.nD Cert.FBwd.τ).loc Cert.FBwd.main_arg1) = m ((c.tc : Thread Cert.FBwd.nD Cert.FBwd.τ).loc Cert.FBwd.main_arg1)
      ∧ r.2.mem ((c.tc : Thread Cert.FBwd.nD Cert.FBwd.τ).loc Cert.FBwd.main_arg2) = m ((c.tc : Thread Cert.FBwd.nD Cert.FBwd.τ).loc Cert.FBwd.main_arg2)
      ∧ r.2.mem ((c.tc : Thread Cert.FBwd.nD Cert.FBwd.τ).loc Cert.FBwd.main_arg3) = m ((c.tc : Thread Cert.FBwd.nD Cert.FBwd.τ).loc Cert.FBwd.main_arg3)
      ∧ r.2.mem ((c.tc : Thread Cert.FBwd.nD Cert.FBwd.τ).loc Cert.FBwd.main_arg4) = m ((c.tc : Thread Cert.FBwd.nD Cert.FBwd.τ).loc Cert.FBwd.main_arg4)
      ∧ r.2.mem ((c.tc : Thread Cert.FBwd.nD Cert.FBwd.τ).loc Cert.FBwd.main_arg5) = m ((c.tc : Thread Cert.FBwd.nD Cert.FBwd.τ).loc Cert.FBwd.main_arg5)
      ∧ r.2.mem ((c.tc : Thread Cert.FBwd.nD Cert.FBwd.τ).loc Cert.FBwd.main_arg6) = m ((c.tc : Thread Cert.FBwd.nD Cert.FBwd.τ).loc Cert.FBwd.main_arg6))
      ∧ r.2.sem = fun _ => 0)

def quiescent_FBwdIdeal [hFBwdIdeal : Cert.FBwdIdeal.Facts] : Prop :=
  ∀ (m : (ℓ : Loc Cert.FBwdIdeal.nD Cert.FBwdIdeal.τ Cert.FBwdIdeal.sig) → Buf (Elt Ideal) ℓ) (g : Dev Cert.FBwdIdeal.nD → PrngReg), Pre_FBwdIdeal m →
    θ_run (Cert.FBwdIdeal.defs (F := Ideal)) (onTc (τ := Cert.FBwdIdeal.τ) (Cert.FBwdIdeal.main (F := Ideal))) ⟨m, fun _ => 0, g⟩ (fun r => (∀ c : Dev Cert.FBwdIdeal.nD,
      r.2.mem ((c.tc : Thread Cert.FBwdIdeal.nD Cert.FBwdIdeal.τ).loc Cert.FBwdIdeal.main_arg0) = m ((c.tc : Thread Cert.FBwdIdeal.nD Cert.FBwdIdeal.τ).loc Cert.FBwdIdeal.main_arg0)
      ∧ r.2.mem ((c.tc : Thread Cert.FBwdIdeal.nD Cert.FBwdIdeal.τ).loc Cert.FBwdIdeal.main_arg1) = m ((c.tc : Thread Cert.FBwdIdeal.nD Cert.FBwdIdeal.τ).loc Cert.FBwdIdeal.main_arg1)
      ∧ r.2.mem ((c.tc : Thread Cert.FBwdIdeal.nD Cert.FBwdIdeal.τ).loc Cert.FBwdIdeal.main_arg2) = m ((c.tc : Thread Cert.FBwdIdeal.nD Cert.FBwdIdeal.τ).loc Cert.FBwdIdeal.main_arg2)
      ∧ r.2.mem ((c.tc : Thread Cert.FBwdIdeal.nD Cert.FBwdIdeal.τ).loc Cert.FBwdIdeal.main_arg3) = m ((c.tc : Thread Cert.FBwdIdeal.nD Cert.FBwdIdeal.τ).loc Cert.FBwdIdeal.main_arg3)
      ∧ r.2.mem ((c.tc : Thread Cert.FBwdIdeal.nD Cert.FBwdIdeal.τ).loc Cert.FBwdIdeal.main_arg4) = m ((c.tc : Thread Cert.FBwdIdeal.nD Cert.FBwdIdeal.τ).loc Cert.FBwdIdeal.main_arg4)
      ∧ r.2.mem ((c.tc : Thread Cert.FBwdIdeal.nD Cert.FBwdIdeal.τ).loc Cert.FBwdIdeal.main_arg5) = m ((c.tc : Thread Cert.FBwdIdeal.nD Cert.FBwdIdeal.τ).loc Cert.FBwdIdeal.main_arg5)
      ∧ r.2.mem ((c.tc : Thread Cert.FBwdIdeal.nD Cert.FBwdIdeal.τ).loc Cert.FBwdIdeal.main_arg6) = m ((c.tc : Thread Cert.FBwdIdeal.nD Cert.FBwdIdeal.τ).loc Cert.FBwdIdeal.main_arg6))
      ∧ r.2.sem = fun _ => 0)

def quiescent_FBwdIdeal_pre_f_finite [hFBwdIdeal : Cert.FBwdIdeal.Facts] [hPre_f_finite : Cert.Pre_f_finite.Facts] : Prop :=
  ∀ (m : (ℓ : Loc Cert.FBwdIdeal.nD Cert.FBwdIdeal.τ Cert.FBwdIdeal.sig) → Buf (Elt Ideal) ℓ) (g : Dev Cert.FBwdIdeal.nD → PrngReg), Pre_FBwdIdeal_f_finite m →
    θ_run (Cert.FBwdIdeal.defs (F := Ideal)) (onTc (τ := Cert.FBwdIdeal.τ) (Cert.FBwdIdeal.main (F := Ideal))) ⟨m, fun _ => 0, g⟩ (fun r => (∀ c : Dev Cert.FBwdIdeal.nD,
      r.2.mem ((c.tc : Thread Cert.FBwdIdeal.nD Cert.FBwdIdeal.τ).loc Cert.FBwdIdeal.main_arg0) = m ((c.tc : Thread Cert.FBwdIdeal.nD Cert.FBwdIdeal.τ).loc Cert.FBwdIdeal.main_arg0)
      ∧ r.2.mem ((c.tc : Thread Cert.FBwdIdeal.nD Cert.FBwdIdeal.τ).loc Cert.FBwdIdeal.main_arg1) = m ((c.tc : Thread Cert.FBwdIdeal.nD Cert.FBwdIdeal.τ).loc Cert.FBwdIdeal.main_arg1)
      ∧ r.2.mem ((c.tc : Thread Cert.FBwdIdeal.nD Cert.FBwdIdeal.τ).loc Cert.FBwdIdeal.main_arg2) = m ((c.tc : Thread Cert.FBwdIdeal.nD Cert.FBwdIdeal.τ).loc Cert.FBwdIdeal.main_arg2)
      ∧ r.2.mem ((c.tc : Thread Cert.FBwdIdeal.nD Cert.FBwdIdeal.τ).loc Cert.FBwdIdeal.main_arg3) = m ((c.tc : Thread Cert.FBwdIdeal.nD Cert.FBwdIdeal.τ).loc Cert.FBwdIdeal.main_arg3)
      ∧ r.2.mem ((c.tc : Thread Cert.FBwdIdeal.nD Cert.FBwdIdeal.τ).loc Cert.FBwdIdeal.main_arg4) = m ((c.tc : Thread Cert.FBwdIdeal.nD Cert.FBwdIdeal.τ).loc Cert.FBwdIdeal.main_arg4)
      ∧ r.2.mem ((c.tc : Thread Cert.FBwdIdeal.nD Cert.FBwdIdeal.τ).loc Cert.FBwdIdeal.main_arg5) = m ((c.tc : Thread Cert.FBwdIdeal.nD Cert.FBwdIdeal.τ).loc Cert.FBwdIdeal.main_arg5)
      ∧ r.2.mem ((c.tc : Thread Cert.FBwdIdeal.nD Cert.FBwdIdeal.τ).loc Cert.FBwdIdeal.main_arg6) = m ((c.tc : Thread Cert.FBwdIdeal.nD Cert.FBwdIdeal.τ).loc Cert.FBwdIdeal.main_arg6))
      ∧ r.2.sem = fun _ => 0)

def quiescent_FBwdRefIdeal [hFBwdRefIdeal : Cert.FBwdRefIdeal.Facts] : Prop :=
  ∀ (m : (ℓ : Loc Cert.FBwdRefIdeal.nD Cert.FBwdRefIdeal.τ Cert.FBwdRefIdeal.sig) → Buf (Elt Ideal) ℓ) (g : Dev Cert.FBwdRefIdeal.nD → PrngReg), Pre_FBwdRefIdeal m →
    θ_run (Cert.FBwdRefIdeal.defs (F := Ideal)) (onTc (τ := Cert.FBwdRefIdeal.τ) (Cert.FBwdRefIdeal.main (F := Ideal))) ⟨m, fun _ => 0, g⟩ (fun r => (∀ c : Dev Cert.FBwdRefIdeal.nD,
      r.2.mem ((c.tc : Thread Cert.FBwdRefIdeal.nD Cert.FBwdRefIdeal.τ).loc Cert.FBwdRefIdeal.main_arg0) = m ((c.tc : Thread Cert.FBwdRefIdeal.nD Cert.FBwdRefIdeal.τ).loc Cert.FBwdRefIdeal.main_arg0)
      ∧ r.2.mem ((c.tc : Thread Cert.FBwdRefIdeal.nD Cert.FBwdRefIdeal.τ).loc Cert.FBwdRefIdeal.main_arg1) = m ((c.tc : Thread Cert.FBwdRefIdeal.nD Cert.FBwdRefIdeal.τ).loc Cert.FBwdRefIdeal.main_arg1)
      ∧ r.2.mem ((c.tc : Thread Cert.FBwdRefIdeal.nD Cert.FBwdRefIdeal.τ).loc Cert.FBwdRefIdeal.main_arg2) = m ((c.tc : Thread Cert.FBwdRefIdeal.nD Cert.FBwdRefIdeal.τ).loc Cert.FBwdRefIdeal.main_arg2)
      ∧ r.2.mem ((c.tc : Thread Cert.FBwdRefIdeal.nD Cert.FBwdRefIdeal.τ).loc Cert.FBwdRefIdeal.main_arg3) = m ((c.tc : Thread Cert.FBwdRefIdeal.nD Cert.FBwdRefIdeal.τ).loc Cert.FBwdRefIdeal.main_arg3)
      ∧ r.2.mem ((c.tc : Thread Cert.FBwdRefIdeal.nD Cert.FBwdRefIdeal.τ).loc Cert.FBwdRefIdeal.main_arg4) = m ((c.tc : Thread Cert.FBwdRefIdeal.nD Cert.FBwdRefIdeal.τ).loc Cert.FBwdRefIdeal.main_arg4)
      ∧ r.2.mem ((c.tc : Thread Cert.FBwdRefIdeal.nD Cert.FBwdRefIdeal.τ).loc Cert.FBwdRefIdeal.main_arg5) = m ((c.tc : Thread Cert.FBwdRefIdeal.nD Cert.FBwdRefIdeal.τ).loc Cert.FBwdRefIdeal.main_arg5)
      ∧ r.2.mem ((c.tc : Thread Cert.FBwdRefIdeal.nD Cert.FBwdRefIdeal.τ).loc Cert.FBwdRefIdeal.main_arg6) = m ((c.tc : Thread Cert.FBwdRefIdeal.nD Cert.FBwdRefIdeal.τ).loc Cert.FBwdRefIdeal.main_arg6))
      ∧ r.2.sem = fun _ => 0)

def quiescent_FBwdRefIdeal_pre_f_finite [hFBwdRefIdeal : Cert.FBwdRefIdeal.Facts] [hPre_f_finite : Cert.Pre_f_finite.Facts] : Prop :=
  ∀ (m : (ℓ : Loc Cert.FBwdRefIdeal.nD Cert.FBwdRefIdeal.τ Cert.FBwdRefIdeal.sig) → Buf (Elt Ideal) ℓ) (g : Dev Cert.FBwdRefIdeal.nD → PrngReg), Pre_FBwdRefIdeal_f_finite m →
    θ_run (Cert.FBwdRefIdeal.defs (F := Ideal)) (onTc (τ := Cert.FBwdRefIdeal.τ) (Cert.FBwdRefIdeal.main (F := Ideal))) ⟨m, fun _ => 0, g⟩ (fun r => (∀ c : Dev Cert.FBwdRefIdeal.nD,
      r.2.mem ((c.tc : Thread Cert.FBwdRefIdeal.nD Cert.FBwdRefIdeal.τ).loc Cert.FBwdRefIdeal.main_arg0) = m ((c.tc : Thread Cert.FBwdRefIdeal.nD Cert.FBwdRefIdeal.τ).loc Cert.FBwdRefIdeal.main_arg0)
      ∧ r.2.mem ((c.tc : Thread Cert.FBwdRefIdeal.nD Cert.FBwdRefIdeal.τ).loc Cert.FBwdRefIdeal.main_arg1) = m ((c.tc : Thread Cert.FBwdRefIdeal.nD Cert.FBwdRefIdeal.τ).loc Cert.FBwdRefIdeal.main_arg1)
      ∧ r.2.mem ((c.tc : Thread Cert.FBwdRefIdeal.nD Cert.FBwdRefIdeal.τ).loc Cert.FBwdRefIdeal.main_arg2) = m ((c.tc : Thread Cert.FBwdRefIdeal.nD Cert.FBwdRefIdeal.τ).loc Cert.FBwdRefIdeal.main_arg2)
      ∧ r.2.mem ((c.tc : Thread Cert.FBwdRefIdeal.nD Cert.FBwdRefIdeal.τ).loc Cert.FBwdRefIdeal.main_arg3) = m ((c.tc : Thread Cert.FBwdRefIdeal.nD Cert.FBwdRefIdeal.τ).loc Cert.FBwdRefIdeal.main_arg3)
      ∧ r.2.mem ((c.tc : Thread Cert.FBwdRefIdeal.nD Cert.FBwdRefIdeal.τ).loc Cert.FBwdRefIdeal.main_arg4) = m ((c.tc : Thread Cert.FBwdRefIdeal.nD Cert.FBwdRefIdeal.τ).loc Cert.FBwdRefIdeal.main_arg4)
      ∧ r.2.mem ((c.tc : Thread Cert.FBwdRefIdeal.nD Cert.FBwdRefIdeal.τ).loc Cert.FBwdRefIdeal.main_arg5) = m ((c.tc : Thread Cert.FBwdRefIdeal.nD Cert.FBwdRefIdeal.τ).loc Cert.FBwdRefIdeal.main_arg5)
      ∧ r.2.mem ((c.tc : Thread Cert.FBwdRefIdeal.nD Cert.FBwdRefIdeal.τ).loc Cert.FBwdRefIdeal.main_arg6) = m ((c.tc : Thread Cert.FBwdRefIdeal.nD Cert.FBwdRefIdeal.τ).loc Cert.FBwdRefIdeal.main_arg6))
      ∧ r.2.sem = fun _ => 0)

def quiescent_FGrad [hFGrad : Cert.FGrad.Facts] : Prop :=
  ∀ (m : (ℓ : Loc Cert.FGrad.nD Cert.FGrad.τ Cert.FGrad.sig) → Buf (Elt Bits) ℓ) (g : Dev Cert.FGrad.nD → PrngReg), Pre_FGrad m →
    θ_run (Cert.FGrad.defs (F := Bits)) (onTc (τ := Cert.FGrad.τ) (Cert.FGrad.main (F := Bits))) ⟨m, fun _ => 0, g⟩ (fun r => (∀ c : Dev Cert.FGrad.nD,
      r.2.mem ((c.tc : Thread Cert.FGrad.nD Cert.FGrad.τ).loc Cert.FGrad.main_arg0) = m ((c.tc : Thread Cert.FGrad.nD Cert.FGrad.τ).loc Cert.FGrad.main_arg0)
      ∧ r.2.mem ((c.tc : Thread Cert.FGrad.nD Cert.FGrad.τ).loc Cert.FGrad.main_arg1) = m ((c.tc : Thread Cert.FGrad.nD Cert.FGrad.τ).loc Cert.FGrad.main_arg1)
      ∧ r.2.mem ((c.tc : Thread Cert.FGrad.nD Cert.FGrad.τ).loc Cert.FGrad.main_arg2) = m ((c.tc : Thread Cert.FGrad.nD Cert.FGrad.τ).loc Cert.FGrad.main_arg2)
      ∧ r.2.mem ((c.tc : Thread Cert.FGrad.nD Cert.FGrad.τ).loc Cert.FGrad.main_arg3) = m ((c.tc : Thread Cert.FGrad.nD Cert.FGrad.τ).loc Cert.FGrad.main_arg3)
      ∧ r.2.mem ((c.tc : Thread Cert.FGrad.nD Cert.FGrad.τ).loc Cert.FGrad.main_arg4) = m ((c.tc : Thread Cert.FGrad.nD Cert.FGrad.τ).loc Cert.FGrad.main_arg4))
      ∧ r.2.sem = fun _ => 0)

def quiescent_FGradIdeal [hFGradIdeal : Cert.FGradIdeal.Facts] : Prop :=
  ∀ (m : (ℓ : Loc Cert.FGradIdeal.nD Cert.FGradIdeal.τ Cert.FGradIdeal.sig) → Buf (Elt Ideal) ℓ) (g : Dev Cert.FGradIdeal.nD → PrngReg), Pre_FGradIdeal m →
    θ_run (Cert.FGradIdeal.defs (F := Ideal)) (onTc (τ := Cert.FGradIdeal.τ) (Cert.FGradIdeal.main (F := Ideal))) ⟨m, fun _ => 0, g⟩ (fun r => (∀ c : Dev Cert.FGradIdeal.nD,
      r.2.mem ((c.tc : Thread Cert.FGradIdeal.nD Cert.FGradIdeal.τ).loc Cert.FGradIdeal.main_arg0) = m ((c.tc : Thread Cert.FGradIdeal.nD Cert.FGradIdeal.τ).loc Cert.FGradIdeal.main_arg0)
      ∧ r.2.mem ((c.tc : Thread Cert.FGradIdeal.nD Cert.FGradIdeal.τ).loc Cert.FGradIdeal.main_arg1) = m ((c.tc : Thread Cert.FGradIdeal.nD Cert.FGradIdeal.τ).loc Cert.FGradIdeal.main_arg1)
      ∧ r.2.mem ((c.tc : Thread Cert.FGradIdeal.nD Cert.FGradIdeal.τ).loc Cert.FGradIdeal.main_arg2) = m ((c.tc : Thread Cert.FGradIdeal.nD Cert.FGradIdeal.τ).loc Cert.FGradIdeal.main_arg2)
      ∧ r.2.mem ((c.tc : Thread Cert.FGradIdeal.nD Cert.FGradIdeal.τ).loc Cert.FGradIdeal.main_arg3) = m ((c.tc : Thread Cert.FGradIdeal.nD Cert.FGradIdeal.τ).loc Cert.FGradIdeal.main_arg3)
      ∧ r.2.mem ((c.tc : Thread Cert.FGradIdeal.nD Cert.FGradIdeal.τ).loc Cert.FGradIdeal.main_arg4) = m ((c.tc : Thread Cert.FGradIdeal.nD Cert.FGradIdeal.τ).loc Cert.FGradIdeal.main_arg4))
      ∧ r.2.sem = fun _ => 0)

def quiescent_FGradRefIdeal [hFGradRefIdeal : Cert.FGradRefIdeal.Facts] : Prop :=
  ∀ (m : (ℓ : Loc Cert.FGradRefIdeal.nD Cert.FGradRefIdeal.τ Cert.FGradRefIdeal.sig) → Buf (Elt Ideal) ℓ) (g : Dev Cert.FGradRefIdeal.nD → PrngReg), Pre_FGradRefIdeal m →
    θ_run (Cert.FGradRefIdeal.defs (F := Ideal)) (onTc (τ := Cert.FGradRefIdeal.τ) (Cert.FGradRefIdeal.main (F := Ideal))) ⟨m, fun _ => 0, g⟩ (fun r => (∀ c : Dev Cert.FGradRefIdeal.nD,
      r.2.mem ((c.tc : Thread Cert.FGradRefIdeal.nD Cert.FGradRefIdeal.τ).loc Cert.FGradRefIdeal.main_arg0) = m ((c.tc : Thread Cert.FGradRefIdeal.nD Cert.FGradRefIdeal.τ).loc Cert.FGradRefIdeal.main_arg0)
      ∧ r.2.mem ((c.tc : Thread Cert.FGradRefIdeal.nD Cert.FGradRefIdeal.τ).loc Cert.FGradRefIdeal.main_arg1) = m ((c.tc : Thread Cert.FGradRefIdeal.nD Cert.FGradRefIdeal.τ).loc Cert.FGradRefIdeal.main_arg1)
      ∧ r.2.mem ((c.tc : Thread Cert.FGradRefIdeal.nD Cert.FGradRefIdeal.τ).loc Cert.FGradRefIdeal.main_arg2) = m ((c.tc : Thread Cert.FGradRefIdeal.nD Cert.FGradRefIdeal.τ).loc Cert.FGradRefIdeal.main_arg2)
      ∧ r.2.mem ((c.tc : Thread Cert.FGradRefIdeal.nD Cert.FGradRefIdeal.τ).loc Cert.FGradRefIdeal.main_arg3) = m ((c.tc : Thread Cert.FGradRefIdeal.nD Cert.FGradRefIdeal.τ).loc Cert.FGradRefIdeal.main_arg3)
      ∧ r.2.mem ((c.tc : Thread Cert.FGradRefIdeal.nD Cert.FGradRefIdeal.τ).loc Cert.FGradRefIdeal.main_arg4) = m ((c.tc : Thread Cert.FGradRefIdeal.nD Cert.FGradRefIdeal.τ).loc Cert.FGradRefIdeal.main_arg4))
      ∧ r.2.sem = fun _ => 0)

def quiescent_FFwd [hFFwd : Cert.FFwd.Facts] : Prop :=
  ∀ (m : (ℓ : Loc Cert.FFwd.nD Cert.FFwd.τ Cert.FFwd.sig) → Buf (Elt Bits) ℓ) (g : Dev Cert.FFwd.nD → PrngReg), Pre_FFwd m →
    θ_run (Cert.FFwd.defs (F := Bits)) (onTc (τ := Cert.FFwd.τ) (Cert.FFwd.main (F := Bits))) ⟨m, fun _ => 0, g⟩ (fun r => (∀ c : Dev Cert.FFwd.nD,
      r.2.mem ((c.tc : Thread Cert.FFwd.nD Cert.FFwd.τ).loc Cert.FFwd.main_arg0) = m ((c.tc : Thread Cert.FFwd.nD Cert.FFwd.τ).loc Cert.FFwd.main_arg0)
      ∧ r.2.mem ((c.tc : Thread Cert.FFwd.nD Cert.FFwd.τ).loc Cert.FFwd.main_arg1) = m ((c.tc : Thread Cert.FFwd.nD Cert.FFwd.τ).loc Cert.FFwd.main_arg1)
      ∧ r.2.mem ((c.tc : Thread Cert.FFwd.nD Cert.FFwd.τ).loc Cert.FFwd.main_arg2) = m ((c.tc : Thread Cert.FFwd.nD Cert.FFwd.τ).loc Cert.FFwd.main_arg2)
      ∧ r.2.mem ((c.tc : Thread Cert.FFwd.nD Cert.FFwd.τ).loc Cert.FFwd.main_arg3) = m ((c.tc : Thread Cert.FFwd.nD Cert.FFwd.τ).loc Cert.FFwd.main_arg3)
      ∧ r.2.mem ((c.tc : Thread Cert.FFwd.nD Cert.FFwd.τ).loc Cert.FFwd.main_arg4) = m ((c.tc : Thread Cert.FFwd.nD Cert.FFwd.τ).loc Cert.FFwd.main_arg4)
      ∧ r.2.mem ((c.tc : Thread Cert.FFwd.nD Cert.FFwd.τ).loc Cert.FFwd.main_arg5) = m ((c.tc : Thread Cert.FFwd.nD Cert.FFwd.τ).loc Cert.FFwd.main_arg5))
      ∧ r.2.sem = fun _ => 0)

def quiescent_FFwdIdeal [hFFwdIdeal : Cert.FFwdIdeal.Facts] : Prop :=
  ∀ (m : (ℓ : Loc Cert.FFwdIdeal.nD Cert.FFwdIdeal.τ Cert.FFwdIdeal.sig) → Buf (Elt Ideal) ℓ) (g : Dev Cert.FFwdIdeal.nD → PrngReg), Pre_FFwdIdeal m →
    θ_run (Cert.FFwdIdeal.defs (F := Ideal)) (onTc (τ := Cert.FFwdIdeal.τ) (Cert.FFwdIdeal.main (F := Ideal))) ⟨m, fun _ => 0, g⟩ (fun r => (∀ c : Dev Cert.FFwdIdeal.nD,
      r.2.mem ((c.tc : Thread Cert.FFwdIdeal.nD Cert.FFwdIdeal.τ).loc Cert.FFwdIdeal.main_arg0) = m ((c.tc : Thread Cert.FFwdIdeal.nD Cert.FFwdIdeal.τ).loc Cert.FFwdIdeal.main_arg0)
      ∧ r.2.mem ((c.tc : Thread Cert.FFwdIdeal.nD Cert.FFwdIdeal.τ).loc Cert.FFwdIdeal.main_arg1) = m ((c.tc : Thread Cert.FFwdIdeal.nD Cert.FFwdIdeal.τ).loc Cert.FFwdIdeal.main_arg1)
      ∧ r.2.mem ((c.tc : Thread Cert.FFwdIdeal.nD Cert.FFwdIdeal.τ).loc Cert.FFwdIdeal.main_arg2) = m ((c.tc : Thread Cert.FFwdIdeal.nD Cert.FFwdIdeal.τ).loc Cert.FFwdIdeal.main_arg2)
      ∧ r.2.mem ((c.tc : Thread Cert.FFwdIdeal.nD Cert.FFwdIdeal.τ).loc Cert.FFwdIdeal.main_arg3) = m ((c.tc : Thread Cert.FFwdIdeal.nD Cert.FFwdIdeal.τ).loc Cert.FFwdIdeal.main_arg3)
      ∧ r.2.mem ((c.tc : Thread Cert.FFwdIdeal.nD Cert.FFwdIdeal.τ).loc Cert.FFwdIdeal.main_arg4) = m ((c.tc : Thread Cert.FFwdIdeal.nD Cert.FFwdIdeal.τ).loc Cert.FFwdIdeal.main_arg4)
      ∧ r.2.mem ((c.tc : Thread Cert.FFwdIdeal.nD Cert.FFwdIdeal.τ).loc Cert.FFwdIdeal.main_arg5) = m ((c.tc : Thread Cert.FFwdIdeal.nD Cert.FFwdIdeal.τ).loc Cert.FFwdIdeal.main_arg5))
      ∧ r.2.sem = fun _ => 0)

def quiescent_FFwdIdeal_pre_ff_finite [hFFwdIdeal : Cert.FFwdIdeal.Facts] [hPre_ff_finite : Cert.Pre_ff_finite.Facts] : Prop :=
  ∀ (m : (ℓ : Loc Cert.FFwdIdeal.nD Cert.FFwdIdeal.τ Cert.FFwdIdeal.sig) → Buf (Elt Ideal) ℓ) (g : Dev Cert.FFwdIdeal.nD → PrngReg), Pre_FFwdIdeal_ff_finite m →
    θ_run (Cert.FFwdIdeal.defs (F := Ideal)) (onTc (τ := Cert.FFwdIdeal.τ) (Cert.FFwdIdeal.main (F := Ideal))) ⟨m, fun _ => 0, g⟩ (fun r => (∀ c : Dev Cert.FFwdIdeal.nD,
      r.2.mem ((c.tc : Thread Cert.FFwdIdeal.nD Cert.FFwdIdeal.τ).loc Cert.FFwdIdeal.main_arg0) = m ((c.tc : Thread Cert.FFwdIdeal.nD Cert.FFwdIdeal.τ).loc Cert.FFwdIdeal.main_arg0)
      ∧ r.2.mem ((c.tc : Thread Cert.FFwdIdeal.nD Cert.FFwdIdeal.τ).loc Cert.FFwdIdeal.main_arg1) = m ((c.tc : Thread Cert.FFwdIdeal.nD Cert.FFwdIdeal.τ).loc Cert.FFwdIdeal.main_arg1)
      ∧ r.2.mem ((c.tc : Thread Cert.FFwdIdeal.nD Cert.FFwdIdeal.τ).loc Cert.FFwdIdeal.main_arg2) = m ((c.tc : Thread Cert.FFwdIdeal.nD Cert.FFwdIdeal.τ).loc Cert.FFwdIdeal.main_arg2)
      ∧ r.2.mem ((c.tc : Thread Cert.FFwdIdeal.nD Cert.FFwdIdeal.τ).loc Cert.FFwdIdeal.main_arg3) = m ((c.tc : Thread Cert.FFwdIdeal.nD Cert.FFwdIdeal.τ).loc Cert.FFwdIdeal.main_arg3)
      ∧ r.2.mem ((c.tc : Thread Cert.FFwdIdeal.nD Cert.FFwdIdeal.τ).loc Cert.FFwdIdeal.main_arg4) = m ((c.tc : Thread Cert.FFwdIdeal.nD Cert.FFwdIdeal.τ).loc Cert.FFwdIdeal.main_arg4)
      ∧ r.2.mem ((c.tc : Thread Cert.FFwdIdeal.nD Cert.FFwdIdeal.τ).loc Cert.FFwdIdeal.main_arg5) = m ((c.tc : Thread Cert.FFwdIdeal.nD Cert.FFwdIdeal.τ).loc Cert.FFwdIdeal.main_arg5))
      ∧ r.2.sem = fun _ => 0)

def quiescent_FFwdRefIdeal [hFFwdRefIdeal : Cert.FFwdRefIdeal.Facts] : Prop :=
  ∀ (m : (ℓ : Loc Cert.FFwdRefIdeal.nD Cert.FFwdRefIdeal.τ Cert.FFwdRefIdeal.sig) → Buf (Elt Ideal) ℓ) (g : Dev Cert.FFwdRefIdeal.nD → PrngReg), Pre_FFwdRefIdeal m →
    θ_run (Cert.FFwdRefIdeal.defs (F := Ideal)) (onTc (τ := Cert.FFwdRefIdeal.τ) (Cert.FFwdRefIdeal.main (F := Ideal))) ⟨m, fun _ => 0, g⟩ (fun r => (∀ c : Dev Cert.FFwdRefIdeal.nD,
      r.2.mem ((c.tc : Thread Cert.FFwdRefIdeal.nD Cert.FFwdRefIdeal.τ).loc Cert.FFwdRefIdeal.main_arg0) = m ((c.tc : Thread Cert.FFwdRefIdeal.nD Cert.FFwdRefIdeal.τ).loc Cert.FFwdRefIdeal.main_arg0)
      ∧ r.2.mem ((c.tc : Thread Cert.FFwdRefIdeal.nD Cert.FFwdRefIdeal.τ).loc Cert.FFwdRefIdeal.main_arg1) = m ((c.tc : Thread Cert.FFwdRefIdeal.nD Cert.FFwdRefIdeal.τ).loc Cert.FFwdRefIdeal.main_arg1)
      ∧ r.2.mem ((c.tc : Thread Cert.FFwdRefIdeal.nD Cert.FFwdRefIdeal.τ).loc Cert.FFwdRefIdeal.main_arg2) = m ((c.tc : Thread Cert.FFwdRefIdeal.nD Cert.FFwdRefIdeal.τ).loc Cert.FFwdRefIdeal.main_arg2)
      ∧ r.2.mem ((c.tc : Thread Cert.FFwdRefIdeal.nD Cert.FFwdRefIdeal.τ).loc Cert.FFwdRefIdeal.main_arg3) = m ((c.tc : Thread Cert.FFwdRefIdeal.nD Cert.FFwdRefIdeal.τ).loc Cert.FFwdRefIdeal.main_arg3)
      ∧ r.2.mem ((c.tc : Thread Cert.FFwdRefIdeal.nD Cert.FFwdRefIdeal.τ).loc Cert.FFwdRefIdeal.main_arg4) = m ((c.tc : Thread Cert.FFwdRefIdeal.nD Cert.FFwdRefIdeal.τ).loc Cert.FFwdRefIdeal.main_arg4)
      ∧ r.2.mem ((c.tc : Thread Cert.FFwdRefIdeal.nD Cert.FFwdRefIdeal.τ).loc Cert.FFwdRefIdeal.main_arg5) = m ((c.tc : Thread Cert.FFwdRefIdeal.nD Cert.FFwdRefIdeal.τ).loc Cert.FFwdRefIdeal.main_arg5))
      ∧ r.2.sem = fun _ => 0)

def quiescent_FFwdRefIdeal_pre_ff_finite [hFFwdRefIdeal : Cert.FFwdRefIdeal.Facts] [hPre_ff_finite : Cert.Pre_ff_finite.Facts] : Prop :=
  ∀ (m : (ℓ : Loc Cert.FFwdRefIdeal.nD Cert.FFwdRefIdeal.τ Cert.FFwdRefIdeal.sig) → Buf (Elt Ideal) ℓ) (g : Dev Cert.FFwdRefIdeal.nD → PrngReg), Pre_FFwdRefIdeal_ff_finite m →
    θ_run (Cert.FFwdRefIdeal.defs (F := Ideal)) (onTc (τ := Cert.FFwdRefIdeal.τ) (Cert.FFwdRefIdeal.main (F := Ideal))) ⟨m, fun _ => 0, g⟩ (fun r => (∀ c : Dev Cert.FFwdRefIdeal.nD,
      r.2.mem ((c.tc : Thread Cert.FFwdRefIdeal.nD Cert.FFwdRefIdeal.τ).loc Cert.FFwdRefIdeal.main_arg0) = m ((c.tc : Thread Cert.FFwdRefIdeal.nD Cert.FFwdRefIdeal.τ).loc Cert.FFwdRefIdeal.main_arg0)
      ∧ r.2.mem ((c.tc : Thread Cert.FFwdRefIdeal.nD Cert.FFwdRefIdeal.τ).loc Cert.FFwdRefIdeal.main_arg1) = m ((c.tc : Thread Cert.FFwdRefIdeal.nD Cert.FFwdRefIdeal.τ).loc Cert.FFwdRefIdeal.main_arg1)
      ∧ r.2.mem ((c.tc : Thread Cert.FFwdRefIdeal.nD Cert.FFwdRefIdeal.τ).loc Cert.FFwdRefIdeal.main_arg2) = m ((c.tc : Thread Cert.FFwdRefIdeal.nD Cert.FFwdRefIdeal.τ).loc Cert.FFwdRefIdeal.main_arg2)
      ∧ r.2.mem ((c.tc : Thread Cert.FFwdRefIdeal.nD Cert.FFwdRefIdeal.τ).loc Cert.FFwdRefIdeal.main_arg3) = m ((c.tc : Thread Cert.FFwdRefIdeal.nD Cert.FFwdRefIdeal.τ).loc Cert.FFwdRefIdeal.main_arg3)
      ∧ r.2.mem ((c.tc : Thread Cert.FFwdRefIdeal.nD Cert.FFwdRefIdeal.τ).loc Cert.FFwdRefIdeal.main_arg4) = m ((c.tc : Thread Cert.FFwdRefIdeal.nD Cert.FFwdRefIdeal.τ).loc Cert.FFwdRefIdeal.main_arg4)
      ∧ r.2.mem ((c.tc : Thread Cert.FFwdRefIdeal.nD Cert.FFwdRefIdeal.τ).loc Cert.FFwdRefIdeal.main_arg5) = m ((c.tc : Thread Cert.FFwdRefIdeal.nD Cert.FFwdRefIdeal.τ).loc Cert.FFwdRefIdeal.main_arg5))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2))
      ∧ r.2.sem = fun _ => 0)

def quiescent_BGrad [hBGrad : Cert.BGrad.Facts] : Prop :=
  ∀ (m : (ℓ : Loc Cert.BGrad.nD Cert.BGrad.τ Cert.BGrad.sig) → Buf (Elt Bits) ℓ) (g : Dev Cert.BGrad.nD → PrngReg), Pre_BGrad m →
    θ_run (Cert.BGrad.defs (F := Bits)) (onTc (τ := Cert.BGrad.τ) (Cert.BGrad.main (F := Bits))) ⟨m, fun _ => 0, g⟩ (fun r => (∀ c : Dev Cert.BGrad.nD,
      r.2.mem ((c.tc : Thread Cert.BGrad.nD Cert.BGrad.τ).loc Cert.BGrad.main_arg0) = m ((c.tc : Thread Cert.BGrad.nD Cert.BGrad.τ).loc Cert.BGrad.main_arg0)
      ∧ r.2.mem ((c.tc : Thread Cert.BGrad.nD Cert.BGrad.τ).loc Cert.BGrad.main_arg1) = m ((c.tc : Thread Cert.BGrad.nD Cert.BGrad.τ).loc Cert.BGrad.main_arg1)
      ∧ r.2.mem ((c.tc : Thread Cert.BGrad.nD Cert.BGrad.τ).loc Cert.BGrad.main_arg2) = m ((c.tc : Thread Cert.BGrad.nD Cert.BGrad.τ).loc Cert.BGrad.main_arg2)
      ∧ r.2.mem ((c.tc : Thread Cert.BGrad.nD Cert.BGrad.τ).loc Cert.BGrad.main_arg3) = m ((c.tc : Thread Cert.BGrad.nD Cert.BGrad.τ).loc Cert.BGrad.main_arg3)
      ∧ r.2.mem ((c.tc : Thread Cert.BGrad.nD Cert.BGrad.τ).loc Cert.BGrad.main_arg4) = m ((c.tc : Thread Cert.BGrad.nD Cert.BGrad.τ).loc Cert.BGrad.main_arg4)
      ∧ r.2.mem ((c.tc : Thread Cert.BGrad.nD Cert.BGrad.τ).loc Cert.BGrad.main_arg5) = m ((c.tc : Thread Cert.BGrad.nD Cert.BGrad.τ).loc Cert.BGrad.main_arg5))
      ∧ r.2.sem = fun _ => 0)

def quiescent_BGradIdeal [hBGradIdeal : Cert.BGradIdeal.Facts] : Prop :=
  ∀ (m : (ℓ : Loc Cert.BGradIdeal.nD Cert.BGradIdeal.τ Cert.BGradIdeal.sig) → Buf (Elt Ideal) ℓ) (g : Dev Cert.BGradIdeal.nD → PrngReg), Pre_BGradIdeal m →
    θ_run (Cert.BGradIdeal.defs (F := Ideal)) (onTc (τ := Cert.BGradIdeal.τ) (Cert.BGradIdeal.main (F := Ideal))) ⟨m, fun _ => 0, g⟩ (fun r => (∀ c : Dev Cert.BGradIdeal.nD,
      r.2.mem ((c.tc : Thread Cert.BGradIdeal.nD Cert.BGradIdeal.τ).loc Cert.BGradIdeal.main_arg0) = m ((c.tc : Thread Cert.BGradIdeal.nD Cert.BGradIdeal.τ).loc Cert.BGradIdeal.main_arg0)
      ∧ r.2.mem ((c.tc : Thread Cert.BGradIdeal.nD Cert.BGradIdeal.τ).loc Cert.BGradIdeal.main_arg1) = m ((c.tc : Thread Cert.BGradIdeal.nD Cert.BGradIdeal.τ).loc Cert.BGradIdeal.main_arg1)
      ∧ r.2.mem ((c.tc : Thread Cert.BGradIdeal.nD Cert.BGradIdeal.τ).loc Cert.BGradIdeal.main_arg2) = m ((c.tc : Thread Cert.BGradIdeal.nD Cert.BGradIdeal.τ).loc Cert.BGradIdeal.main_arg2)
      ∧ r.2.mem ((c.tc : Thread Cert.BGradIdeal.nD Cert.BGradIdeal.τ).loc Cert.BGradIdeal.main_arg3) = m ((c.tc : Thread Cert.BGradIdeal.nD Cert.BGradIdeal.τ).loc Cert.BGradIdeal.main_arg3)
      ∧ r.2.mem ((c.tc : Thread Cert.BGradIdeal.nD Cert.BGradIdeal.τ).loc Cert.BGradIdeal.main_arg4) = m ((c.tc : Thread Cert.BGradIdeal.nD Cert.BGradIdeal.τ).loc Cert.BGradIdeal.main_arg4)
      ∧ r.2.mem ((c.tc : Thread Cert.BGradIdeal.nD Cert.BGradIdeal.τ).loc Cert.BGradIdeal.main_arg5) = m ((c.tc : Thread Cert.BGradIdeal.nD Cert.BGradIdeal.τ).loc Cert.BGradIdeal.main_arg5))
      ∧ r.2.sem = fun _ => 0)

def quiescent_BGradRefIdeal [hBGradRefIdeal : Cert.BGradRefIdeal.Facts] : Prop :=
  ∀ (m : (ℓ : Loc Cert.BGradRefIdeal.nD Cert.BGradRefIdeal.τ Cert.BGradRefIdeal.sig) → Buf (Elt Ideal) ℓ) (g : Dev Cert.BGradRefIdeal.nD → PrngReg), Pre_BGradRefIdeal m →
    θ_run (Cert.BGradRefIdeal.defs (F := Ideal)) (onTc (τ := Cert.BGradRefIdeal.τ) (Cert.BGradRefIdeal.main (F := Ideal))) ⟨m, fun _ => 0, g⟩ (fun r => (∀ c : Dev Cert.BGradRefIdeal.nD,
      r.2.mem ((c.tc : Thread Cert.BGradRefIdeal.nD Cert.BGradRefIdeal.τ).loc Cert.BGradRefIdeal.main_arg0) = m ((c.tc : Thread Cert.BGradRefIdeal.nD Cert.BGradRefIdeal.τ).loc Cert.BGradRefIdeal.main_arg0)
      ∧ r.2.mem ((c.tc : Thread Cert.BGradRefIdeal.nD Cert.BGradRefIdeal.τ).loc Cert.BGradRefIdeal.main_arg1) = m ((c.tc : Thread Cert.BGradRefIdeal.nD Cert.BGradRefIdeal.τ).loc Cert.BGradRefIdeal.main_arg1)
      ∧ r.2.mem ((c.tc : Thread Cert.BGradRefIdeal.nD Cert.BGradRefIdeal.τ).loc Cert.BGradRefIdeal.main_arg2) = m ((c.tc : Thread Cert.BGradRefIdeal.nD Cert.BGradRefIdeal.τ).loc Cert.BGradRefIdeal.main_arg2)
      ∧ r.2.mem ((c.tc : Thread Cert.BGradRefIdeal.nD Cert.BGradRefIdeal.τ).loc Cert.BGradRefIdeal.main_arg3) = m ((c.tc : Thread Cert.BGradRefIdeal.nD Cert.BGradRefIdeal.τ).loc Cert.BGradRefIdeal.main_arg3)
      ∧ r.2.mem ((c.tc : Thread Cert.BGradRefIdeal.nD Cert.BGradRefIdeal.τ).loc Cert.BGradRefIdeal.main_arg4) = m ((c.tc : Thread Cert.BGradRefIdeal.nD Cert.BGradRefIdeal.τ).loc Cert.BGradRefIdeal.main_arg4)
      ∧ r.2.mem ((c.tc : Thread Cert.BGradRefIdeal.nD Cert.BGradRefIdeal.τ).loc Cert.BGradRefIdeal.main_arg5) = m ((c.tc : Thread Cert.BGradRefIdeal.nD Cert.BGradRefIdeal.τ).loc Cert.BGradRefIdeal.main_arg5))
      ∧ r.2.sem = fun _ => 0)

def quiescent_BBwd [hBBwd : Cert.BBwd.Facts] : Prop :=
  ∀ (m : (ℓ : Loc Cert.BBwd.nD Cert.BBwd.τ Cert.BBwd.sig) → Buf (Elt Bits) ℓ) (g : Dev Cert.BBwd.nD → PrngReg), Pre_BBwd m →
    θ_run (Cert.BBwd.defs (F := Bits)) (onTc (τ := Cert.BBwd.τ) (Cert.BBwd.main (F := Bits))) ⟨m, fun _ => 0, g⟩ (fun r => (∀ c : Dev Cert.BBwd.nD,
      r.2.mem ((c.tc : Thread Cert.BBwd.nD Cert.BBwd.τ).loc Cert.BBwd.main_arg0) = m ((c.tc : Thread Cert.BBwd.nD Cert.BBwd.τ).loc Cert.BBwd.main_arg0)
      ∧ r.2.mem ((c.tc : Thread Cert.BBwd.nD Cert.BBwd.τ).loc Cert.BBwd.main_arg1) = m ((c.tc : Thread Cert.BBwd.nD Cert.BBwd.τ).loc Cert.BBwd.main_arg1)
      ∧ r.2.mem ((c.tc : Thread Cert.BBwd.nD Cert.BBwd.τ).loc Cert.BBwd.main_arg2) = m ((c.tc : Thread Cert.BBwd.nD Cert.BBwd.τ).loc Cert.BBwd.main_arg2)
      ∧ r.2.mem ((c.tc : Thread Cert.BBwd.nD Cert.BBwd.τ).loc Cert.BBwd.main_arg3) = m ((c.tc : Thread Cert.BBwd.nD Cert.BBwd.τ).loc Cert.BBwd.main_arg3)
      ∧ r.2.mem ((c.tc : Thread Cert.BBwd.nD Cert.BBwd.τ).loc Cert.BBwd.main_arg4) = m ((c.tc : Thread Cert.BBwd.nD Cert.BBwd.τ).loc Cert.BBwd.main_arg4)
      ∧ r.2.mem ((c.tc : Thread Cert.BBwd.nD Cert.BBwd.τ).loc Cert.BBwd.main_arg5) = m ((c.tc : Thread Cert.BBwd.nD Cert.BBwd.τ).loc Cert.BBwd.main_arg5)
      ∧ r.2.mem ((c.tc : Thread Cert.BBwd.nD Cert.BBwd.τ).loc Cert.BBwd.main_arg6) = m ((c.tc : Thread Cert.BBwd.nD Cert.BBwd.τ).loc Cert.BBwd.main_arg6)
      ∧ r.2.mem ((c.tc : Thread Cert.BBwd.nD Cert.BBwd.τ).loc Cert.BBwd.main_arg7) = m ((c.tc : Thread Cert.BBwd.nD Cert.BBwd.τ).loc Cert.BBwd.main_arg7))
      ∧ r.2.sem = fun _ => 0)

def quiescent_BBwdIdeal [hBBwdIdeal : Cert.BBwdIdeal.Facts] : Prop :=
  ∀ (m : (ℓ : Loc Cert.BBwdIdeal.nD Cert.BBwdIdeal.τ Cert.BBwdIdeal.sig) → Buf (Elt Ideal) ℓ) (g : Dev Cert.BBwdIdeal.nD → PrngReg), Pre_BBwdIdeal m →
    θ_run (Cert.BBwdIdeal.defs (F := Ideal)) (onTc (τ := Cert.BBwdIdeal.τ) (Cert.BBwdIdeal.main (F := Ideal))) ⟨m, fun _ => 0, g⟩ (fun r => (∀ c : Dev Cert.BBwdIdeal.nD,
      r.2.mem ((c.tc : Thread Cert.BBwdIdeal.nD Cert.BBwdIdeal.τ).loc Cert.BBwdIdeal.main_arg0) = m ((c.tc : Thread Cert.BBwdIdeal.nD Cert.BBwdIdeal.τ).loc Cert.BBwdIdeal.main_arg0)
      ∧ r.2.mem ((c.tc : Thread Cert.BBwdIdeal.nD Cert.BBwdIdeal.τ).loc Cert.BBwdIdeal.main_arg1) = m ((c.tc : Thread Cert.BBwdIdeal.nD Cert.BBwdIdeal.τ).loc Cert.BBwdIdeal.main_arg1)
      ∧ r.2.mem ((c.tc : Thread Cert.BBwdIdeal.nD Cert.BBwdIdeal.τ).loc Cert.BBwdIdeal.main_arg2) = m ((c.tc : Thread Cert.BBwdIdeal.nD Cert.BBwdIdeal.τ).loc Cert.BBwdIdeal.main_arg2)
      ∧ r.2.mem ((c.tc : Thread Cert.BBwdIdeal.nD Cert.BBwdIdeal.τ).loc Cert.BBwdIdeal.main_arg3) = m ((c.tc : Thread Cert.BBwdIdeal.nD Cert.BBwdIdeal.τ).loc Cert.BBwdIdeal.main_arg3)
      ∧ r.2.mem ((c.tc : Thread Cert.BBwdIdeal.nD Cert.BBwdIdeal.τ).loc Cert.BBwdIdeal.main_arg4) = m ((c.tc : Thread Cert.BBwdIdeal.nD Cert.BBwdIdeal.τ).loc Cert.BBwdIdeal.main_arg4)
      ∧ r.2.mem ((c.tc : Thread Cert.BBwdIdeal.nD Cert.BBwdIdeal.τ).loc Cert.BBwdIdeal.main_arg5) = m ((c.tc : Thread Cert.BBwdIdeal.nD Cert.BBwdIdeal.τ).loc Cert.BBwdIdeal.main_arg5)
      ∧ r.2.mem ((c.tc : Thread Cert.BBwdIdeal.nD Cert.BBwdIdeal.τ).loc Cert.BBwdIdeal.main_arg6) = m ((c.tc : Thread Cert.BBwdIdeal.nD Cert.BBwdIdeal.τ).loc Cert.BBwdIdeal.main_arg6)
      ∧ r.2.mem ((c.tc : Thread Cert.BBwdIdeal.nD Cert.BBwdIdeal.τ).loc Cert.BBwdIdeal.main_arg7) = m ((c.tc : Thread Cert.BBwdIdeal.nD Cert.BBwdIdeal.τ).loc Cert.BBwdIdeal.main_arg7))
      ∧ r.2.sem = fun _ => 0)

def quiescent_BBwdIdeal_pre_b_finite [hBBwdIdeal : Cert.BBwdIdeal.Facts] [hPre_b_finite : Cert.Pre_b_finite.Facts] : Prop :=
  ∀ (m : (ℓ : Loc Cert.BBwdIdeal.nD Cert.BBwdIdeal.τ Cert.BBwdIdeal.sig) → Buf (Elt Ideal) ℓ) (g : Dev Cert.BBwdIdeal.nD → PrngReg), Pre_BBwdIdeal_b_finite m →
    θ_run (Cert.BBwdIdeal.defs (F := Ideal)) (onTc (τ := Cert.BBwdIdeal.τ) (Cert.BBwdIdeal.main (F := Ideal))) ⟨m, fun _ => 0, g⟩ (fun r => (∀ c : Dev Cert.BBwdIdeal.nD,
      r.2.mem ((c.tc : Thread Cert.BBwdIdeal.nD Cert.BBwdIdeal.τ).loc Cert.BBwdIdeal.main_arg0) = m ((c.tc : Thread Cert.BBwdIdeal.nD Cert.BBwdIdeal.τ).loc Cert.BBwdIdeal.main_arg0)
      ∧ r.2.mem ((c.tc : Thread Cert.BBwdIdeal.nD Cert.BBwdIdeal.τ).loc Cert.BBwdIdeal.main_arg1) = m ((c.tc : Thread Cert.BBwdIdeal.nD Cert.BBwdIdeal.τ).loc Cert.BBwdIdeal.main_arg1)
      ∧ r.2.mem ((c.tc : Thread Cert.BBwdIdeal.nD Cert.BBwdIdeal.τ).loc Cert.BBwdIdeal.main_arg2) = m ((c.tc : Thread Cert.BBwdIdeal.nD Cert.BBwdIdeal.τ).loc Cert.BBwdIdeal.main_arg2)
      ∧ r.2.mem ((c.tc : Thread Cert.BBwdIdeal.nD Cert.BBwdIdeal.τ).loc Cert.BBwdIdeal.main_arg3) = m ((c.tc : Thread Cert.BBwdIdeal.nD Cert.BBwdIdeal.τ).loc Cert.BBwdIdeal.main_arg3)
      ∧ r.2.mem ((c.tc : Thread Cert.BBwdIdeal.nD Cert.BBwdIdeal.τ).loc Cert.BBwdIdeal.main_arg4) = m ((c.tc : Thread Cert.BBwdIdeal.nD Cert.BBwdIdeal.τ).loc Cert.BBwdIdeal.main_arg4)
      ∧ r.2.mem ((c.tc : Thread Cert.BBwdIdeal.nD Cert.BBwdIdeal.τ).loc Cert.BBwdIdeal.main_arg5) = m ((c.tc : Thread Cert.BBwdIdeal.nD Cert.BBwdIdeal.τ).loc Cert.BBwdIdeal.main_arg5)
      ∧ r.2.mem ((c.tc : Thread Cert.BBwdIdeal.nD Cert.BBwdIdeal.τ).loc Cert.BBwdIdeal.main_arg6) = m ((c.tc : Thread Cert.BBwdIdeal.nD Cert.BBwdIdeal.τ).loc Cert.BBwdIdeal.main_arg6)
      ∧ r.2.mem ((c.tc : Thread Cert.BBwdIdeal.nD Cert.BBwdIdeal.τ).loc Cert.BBwdIdeal.main_arg7) = m ((c.tc : Thread Cert.BBwdIdeal.nD Cert.BBwdIdeal.τ).loc Cert.BBwdIdeal.main_arg7))
      ∧ r.2.sem = fun _ => 0)

def quiescent_BBwdRefIdeal [hBBwdRefIdeal : Cert.BBwdRefIdeal.Facts] : Prop :=
  ∀ (m : (ℓ : Loc Cert.BBwdRefIdeal.nD Cert.BBwdRefIdeal.τ Cert.BBwdRefIdeal.sig) → Buf (Elt Ideal) ℓ) (g : Dev Cert.BBwdRefIdeal.nD → PrngReg), Pre_BBwdRefIdeal m →
    θ_run (Cert.BBwdRefIdeal.defs (F := Ideal)) (onTc (τ := Cert.BBwdRefIdeal.τ) (Cert.BBwdRefIdeal.main (F := Ideal))) ⟨m, fun _ => 0, g⟩ (fun r => (∀ c : Dev Cert.BBwdRefIdeal.nD,
      r.2.mem ((c.tc : Thread Cert.BBwdRefIdeal.nD Cert.BBwdRefIdeal.τ).loc Cert.BBwdRefIdeal.main_arg0) = m ((c.tc : Thread Cert.BBwdRefIdeal.nD Cert.BBwdRefIdeal.τ).loc Cert.BBwdRefIdeal.main_arg0)
      ∧ r.2.mem ((c.tc : Thread Cert.BBwdRefIdeal.nD Cert.BBwdRefIdeal.τ).loc Cert.BBwdRefIdeal.main_arg1) = m ((c.tc : Thread Cert.BBwdRefIdeal.nD Cert.BBwdRefIdeal.τ).loc Cert.BBwdRefIdeal.main_arg1)
      ∧ r.2.mem ((c.tc : Thread Cert.BBwdRefIdeal.nD Cert.BBwdRefIdeal.τ).loc Cert.BBwdRefIdeal.main_arg2) = m ((c.tc : Thread Cert.BBwdRefIdeal.nD Cert.BBwdRefIdeal.τ).loc Cert.BBwdRefIdeal.main_arg2)
      ∧ r.2.mem ((c.tc : Thread Cert.BBwdRefIdeal.nD Cert.BBwdRefIdeal.τ).loc Cert.BBwdRefIdeal.main_arg3) = m ((c.tc : Thread Cert.BBwdRefIdeal.nD Cert.BBwdRefIdeal.τ).loc Cert.BBwdRefIdeal.main_arg3)
      ∧ r.2.mem ((c.tc : Thread Cert.BBwdRefIdeal.nD Cert.BBwdRefIdeal.τ).loc Cert.BBwdRefIdeal.main_arg4) = m ((c.tc : Thread Cert.BBwdRefIdeal.nD Cert.BBwdRefIdeal.τ).loc Cert.BBwdRefIdeal.main_arg4)
      ∧ r.2.mem ((c.tc : Thread Cert.BBwdRefIdeal.nD Cert.BBwdRefIdeal.τ).loc Cert.BBwdRefIdeal.main_arg5) = m ((c.tc : Thread Cert.BBwdRefIdeal.nD Cert.BBwdRefIdeal.τ).loc Cert.BBwdRefIdeal.main_arg5)
      ∧ r.2.mem ((c.tc : Thread Cert.BBwdRefIdeal.nD Cert.BBwdRefIdeal.τ).loc Cert.BBwdRefIdeal.main_arg6) = m ((c.tc : Thread Cert.BBwdRefIdeal.nD Cert.BBwdRefIdeal.τ).loc Cert.BBwdRefIdeal.main_arg6)
      ∧ r.2.mem ((c.tc : Thread Cert.BBwdRefIdeal.nD Cert.BBwdRefIdeal.τ).loc Cert.BBwdRefIdeal.main_arg7) = m ((c.tc : Thread Cert.BBwdRefIdeal.nD Cert.BBwdRefIdeal.τ).loc Cert.BBwdRefIdeal.main_arg7))
      ∧ r.2.sem = fun _ => 0)

def quiescent_BBwdRefIdeal_pre_b_finite [hBBwdRefIdeal : Cert.BBwdRefIdeal.Facts] [hPre_b_finite : Cert.Pre_b_finite.Facts] : Prop :=
  ∀ (m : (ℓ : Loc Cert.BBwdRefIdeal.nD Cert.BBwdRefIdeal.τ Cert.BBwdRefIdeal.sig) → Buf (Elt Ideal) ℓ) (g : Dev Cert.BBwdRefIdeal.nD → PrngReg), Pre_BBwdRefIdeal_b_finite m →
    θ_run (Cert.BBwdRefIdeal.defs (F := Ideal)) (onTc (τ := Cert.BBwdRefIdeal.τ) (Cert.BBwdRefIdeal.main (F := Ideal))) ⟨m, fun _ => 0, g⟩ (fun r => (∀ c : Dev Cert.BBwdRefIdeal.nD,
      r.2.mem ((c.tc : Thread Cert.BBwdRefIdeal.nD Cert.BBwdRefIdeal.τ).loc Cert.BBwdRefIdeal.main_arg0) = m ((c.tc : Thread Cert.BBwdRefIdeal.nD Cert.BBwdRefIdeal.τ).loc Cert.BBwdRefIdeal.main_arg0)
      ∧ r.2.mem ((c.tc : Thread Cert.BBwdRefIdeal.nD Cert.BBwdRefIdeal.τ).loc Cert.BBwdRefIdeal.main_arg1) = m ((c.tc : Thread Cert.BBwdRefIdeal.nD Cert.BBwdRefIdeal.τ).loc Cert.BBwdRefIdeal.main_arg1)
      ∧ r.2.mem ((c.tc : Thread Cert.BBwdRefIdeal.nD Cert.BBwdRefIdeal.τ).loc Cert.BBwdRefIdeal.main_arg2) = m ((c.tc : Thread Cert.BBwdRefIdeal.nD Cert.BBwdRefIdeal.τ).loc Cert.BBwdRefIdeal.main_arg2)
      ∧ r.2.mem ((c.tc : Thread Cert.BBwdRefIdeal.nD Cert.BBwdRefIdeal.τ).loc Cert.BBwdRefIdeal.main_arg3) = m ((c.tc : Thread Cert.BBwdRefIdeal.nD Cert.BBwdRefIdeal.τ).loc Cert.BBwdRefIdeal.main_arg3)
      ∧ r.2.mem ((c.tc : Thread Cert.BBwdRefIdeal.nD Cert.BBwdRefIdeal.τ).loc Cert.BBwdRefIdeal.main_arg4) = m ((c.tc : Thread Cert.BBwdRefIdeal.nD Cert.BBwdRefIdeal.τ).loc Cert.BBwdRefIdeal.main_arg4)
      ∧ r.2.mem ((c.tc : Thread Cert.BBwdRefIdeal.nD Cert.BBwdRefIdeal.τ).loc Cert.BBwdRefIdeal.main_arg5) = m ((c.tc : Thread Cert.BBwdRefIdeal.nD Cert.BBwdRefIdeal.τ).loc Cert.BBwdRefIdeal.main_arg5)
      ∧ r.2.mem ((c.tc : Thread Cert.BBwdRefIdeal.nD Cert.BBwdRefIdeal.τ).loc Cert.BBwdRefIdeal.main_arg6) = m ((c.tc : Thread Cert.BBwdRefIdeal.nD Cert.BBwdRefIdeal.τ).loc Cert.BBwdRefIdeal.main_arg6)
      ∧ r.2.mem ((c.tc : Thread Cert.BBwdRefIdeal.nD Cert.BBwdRefIdeal.τ).loc Cert.BBwdRefIdeal.main_arg7) = m ((c.tc : Thread Cert.BBwdRefIdeal.nD Cert.BBwdRefIdeal.τ).loc Cert.BBwdRefIdeal.main_arg7))
      ∧ r.2.sem = fun _ => 0)

def quiescent_AFwd [hAFwd : Cert.AFwd.Facts] : Prop :=
  ∀ (m : (ℓ : Loc Cert.AFwd.nD Cert.AFwd.τ Cert.AFwd.sig) → Buf (Elt Bits) ℓ) (g : Dev Cert.AFwd.nD → PrngReg), Pre_AFwd m →
    θ_run (Cert.AFwd.defs (F := Bits)) (onTc (τ := Cert.AFwd.τ) (Cert.AFwd.main (F := Bits))) ⟨m, fun _ => 0, g⟩ (fun r => (∀ c : Dev Cert.AFwd.nD,
      r.2.mem ((c.tc : Thread Cert.AFwd.nD Cert.AFwd.τ).loc Cert.AFwd.main_arg0) = m ((c.tc : Thread Cert.AFwd.nD Cert.AFwd.τ).loc Cert.AFwd.main_arg0)
      ∧ r.2.mem ((c.tc : Thread Cert.AFwd.nD Cert.AFwd.τ).loc Cert.AFwd.main_arg1) = m ((c.tc : Thread Cert.AFwd.nD Cert.AFwd.τ).loc Cert.AFwd.main_arg1)
      ∧ r.2.mem ((c.tc : Thread Cert.AFwd.nD Cert.AFwd.τ).loc Cert.AFwd.main_arg2) = m ((c.tc : Thread Cert.AFwd.nD Cert.AFwd.τ).loc Cert.AFwd.main_arg2)
      ∧ r.2.mem ((c.tc : Thread Cert.AFwd.nD Cert.AFwd.τ).loc Cert.AFwd.main_arg3) = m ((c.tc : Thread Cert.AFwd.nD Cert.AFwd.τ).loc Cert.AFwd.main_arg3)
      ∧ r.2.mem ((c.tc : Thread Cert.AFwd.nD Cert.AFwd.τ).loc Cert.AFwd.main_arg4) = m ((c.tc : Thread Cert.AFwd.nD Cert.AFwd.τ).loc Cert.AFwd.main_arg4)
      ∧ r.2.mem ((c.tc : Thread Cert.AFwd.nD Cert.AFwd.τ).loc Cert.AFwd.main_arg5) = m ((c.tc : Thread Cert.AFwd.nD Cert.AFwd.τ).loc Cert.AFwd.main_arg5)
      ∧ r.2.mem ((c.tc : Thread Cert.AFwd.nD Cert.AFwd.τ).loc Cert.AFwd.main_arg6) = m ((c.tc : Thread Cert.AFwd.nD Cert.AFwd.τ).loc Cert.AFwd.main_arg6)
      ∧ r.2.mem ((c.tc : Thread Cert.AFwd.nD Cert.AFwd.τ).loc Cert.AFwd.main_arg7) = m ((c.tc : Thread Cert.AFwd.nD Cert.AFwd.τ).loc Cert.AFwd.main_arg7)
      ∧ r.2.mem ((c.tc : Thread Cert.AFwd.nD Cert.AFwd.τ).loc Cert.AFwd.main_arg8) = m ((c.tc : Thread Cert.AFwd.nD Cert.AFwd.τ).loc Cert.AFwd.main_arg8))
      ∧ r.2.sem = fun _ => 0)

def quiescent_AFwdIdeal [hAFwdIdeal : Cert.AFwdIdeal.Facts] : Prop :=
  ∀ (m : (ℓ : Loc Cert.AFwdIdeal.nD Cert.AFwdIdeal.τ Cert.AFwdIdeal.sig) → Buf (Elt Ideal) ℓ) (g : Dev Cert.AFwdIdeal.nD → PrngReg), Pre_AFwdIdeal m →
    θ_run (Cert.AFwdIdeal.defs (F := Ideal)) (onTc (τ := Cert.AFwdIdeal.τ) (Cert.AFwdIdeal.main (F := Ideal))) ⟨m, fun _ => 0, g⟩ (fun r => (∀ c : Dev Cert.AFwdIdeal.nD,
      r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
      ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
      ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
      ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
      ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
      ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
      ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
      ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7)
      ∧ r.2.mem ((c.tc : Thread Cert.AFwdIdeal.nD Cert.AFwdIdeal.τ).loc Cert.AFwdIdeal.main_arg8) = m ((c.tc : Thread Cert.AFwdIdeal.nD Cert.AFwdIdeal.τ).loc Cert.AFwdIdeal.main_arg8))
      ∧ r.2.sem = fun _ => 0)

def quiescent_AFwdRefIdeal [hAFwdRefIdeal : Cert.AFwdRefIdeal.Facts] : Prop :=
  ∀ (m : (ℓ : Loc Cert.AFwdRefIdeal.nD Cert.AFwdRefIdeal.τ Cert.AFwdRefIdeal.sig) → Buf (Elt Ideal) ℓ) (g : Dev Cert.AFwdRefIdeal.nD → PrngReg), Pre_AFwdRefIdeal m →
    θ_run (Cert.AFwdRefIdeal.defs (F := Ideal)) (onTc (τ := Cert.AFwdRefIdeal.τ) (Cert.AFwdRefIdeal.main (F := Ideal))) ⟨m, fun _ => 0, g⟩ (fun r => (∀ c : Dev Cert.AFwdRefIdeal.nD,
      r.2.mem ((c.tc : Thread Cert.AFwdRefIdeal.nD Cert.AFwdRefIdeal.τ).loc Cert.AFwdRefIdeal.main_arg0) = m ((c.tc : Thread Cert.AFwdRefIdeal.nD Cert.AFwdRefIdeal.τ).loc Cert.AFwdRefIdeal.main_arg0)
      ∧ r.2.mem ((c.tc : Thread Cert.AFwdRefIdeal.nD Cert.AFwdRefIdeal.τ).loc Cert.AFwdRefIdeal.main_arg1) = m ((c.tc : Thread Cert.AFwdRefIdeal.nD Cert.AFwdRefIdeal.τ).loc Cert.AFwdRefIdeal.main_arg1)
      ∧ r.2.mem ((c.tc : Thread Cert.AFwdRefIdeal.nD Cert.AFwdRefIdeal.τ).loc Cert.AFwdRefIdeal.main_arg2) = m ((c.tc : Thread Cert.AFwdRefIdeal.nD Cert.AFwdRefIdeal.τ).loc Cert.AFwdRefIdeal.main_arg2)
      ∧ r.2.mem ((c.tc : Thread Cert.AFwdRefIdeal.nD Cert.AFwdRefIdeal.τ).loc Cert.AFwdRefIdeal.main_arg3) = m ((c.tc : Thread Cert.AFwdRefIdeal.nD Cert.AFwdRefIdeal.τ).loc Cert.AFwdRefIdeal.main_arg3)
      ∧ r.2.mem ((c.tc : Thread Cert.AFwdRefIdeal.nD Cert.AFwdRefIdeal.τ).loc Cert.AFwdRefIdeal.main_arg4) = m ((c.tc : Thread Cert.AFwdRefIdeal.nD Cert.AFwdRefIdeal.τ).loc Cert.AFwdRefIdeal.main_arg4)
      ∧ r.2.mem ((c.tc : Thread Cert.AFwdRefIdeal.nD Cert.AFwdRefIdeal.τ).loc Cert.AFwdRefIdeal.main_arg5) = m ((c.tc : Thread Cert.AFwdRefIdeal.nD Cert.AFwdRefIdeal.τ).loc Cert.AFwdRefIdeal.main_arg5)
      ∧ r.2.mem ((c.tc : Thread Cert.AFwdRefIdeal.nD Cert.AFwdRefIdeal.τ).loc Cert.AFwdRefIdeal.main_arg6) = m ((c.tc : Thread Cert.AFwdRefIdeal.nD Cert.AFwdRefIdeal.τ).loc Cert.AFwdRefIdeal.main_arg6)
      ∧ r.2.mem ((c.tc : Thread Cert.AFwdRefIdeal.nD Cert.AFwdRefIdeal.τ).loc Cert.AFwdRefIdeal.main_arg7) = m ((c.tc : Thread Cert.AFwdRefIdeal.nD Cert.AFwdRefIdeal.τ).loc Cert.AFwdRefIdeal.main_arg7)
      ∧ r.2.mem ((c.tc : Thread Cert.AFwdRefIdeal.nD Cert.AFwdRefIdeal.τ).loc Cert.AFwdRefIdeal.main_arg8) = m ((c.tc : Thread Cert.AFwdRefIdeal.nD Cert.AFwdRefIdeal.τ).loc Cert.AFwdRefIdeal.main_arg8))
      ∧ r.2.sem = fun _ => 0)

def quiescent_BFwd [hBFwd : Cert.BFwd.Facts] : Prop :=
  ∀ (m : (ℓ : Loc Cert.BFwd.nD Cert.BFwd.τ Cert.BFwd.sig) → Buf (Elt Bits) ℓ) (g : Dev Cert.BFwd.nD → PrngReg), Pre_BFwd m →
    θ_run (Cert.BFwd.defs (F := Bits)) (onTc (τ := Cert.BFwd.τ) (Cert.BFwd.main (F := Bits))) ⟨m, fun _ => 0, g⟩ (fun r => (∀ c : Dev Cert.BFwd.nD,
      r.2.mem ((c.tc : Thread Cert.BFwd.nD Cert.BFwd.τ).loc Cert.BFwd.main_arg0) = m ((c.tc : Thread Cert.BFwd.nD Cert.BFwd.τ).loc Cert.BFwd.main_arg0)
      ∧ r.2.mem ((c.tc : Thread Cert.BFwd.nD Cert.BFwd.τ).loc Cert.BFwd.main_arg1) = m ((c.tc : Thread Cert.BFwd.nD Cert.BFwd.τ).loc Cert.BFwd.main_arg1)
      ∧ r.2.mem ((c.tc : Thread Cert.BFwd.nD Cert.BFwd.τ).loc Cert.BFwd.main_arg2) = m ((c.tc : Thread Cert.BFwd.nD Cert.BFwd.τ).loc Cert.BFwd.main_arg2)
      ∧ r.2.mem ((c.tc : Thread Cert.BFwd.nD Cert.BFwd.τ).loc Cert.BFwd.main_arg3) = m ((c.tc : Thread Cert.BFwd.nD Cert.BFwd.τ).loc Cert.BFwd.main_arg3)
      ∧ r.2.mem ((c.tc : Thread Cert.BFwd.nD Cert.BFwd.τ).loc Cert.BFwd.main_arg4) = m ((c.tc : Thread Cert.BFwd.nD Cert.BFwd.τ).loc Cert.BFwd.main_arg4)
      ∧ r.2.mem ((c.tc : Thread Cert.BFwd.nD Cert.BFwd.τ).loc Cert.BFwd.main_arg5) = m ((c.tc : Thread Cert.BFwd.nD Cert.BFwd.τ).loc Cert.BFwd.main_arg5)
      ∧ r.2.mem ((c.tc : Thread Cert.BFwd.nD Cert.BFwd.τ).loc Cert.BFwd.main_arg6) = m ((c.tc : Thread Cert.BFwd.nD Cert.BFwd.τ).loc Cert.BFwd.main_arg6))
      ∧ r.2.sem = fun _ => 0)

def quiescent_BFwdIdeal [hBFwdIdeal : Cert.BFwdIdeal.Facts] : Prop :=
  ∀ (m : (ℓ : Loc Cert.BFwdIdeal.nD Cert.BFwdIdeal.τ Cert.BFwdIdeal.sig) → Buf (Elt Ideal) ℓ) (g : Dev Cert.BFwdIdeal.nD → PrngReg), Pre_BFwdIdeal m →
    θ_run (Cert.BFwdIdeal.defs (F := Ideal)) (onTc (τ := Cert.BFwdIdeal.τ) (Cert.BFwdIdeal.main (F := Ideal))) ⟨m, fun _ => 0, g⟩ (fun r => (∀ c : Dev Cert.BFwdIdeal.nD,
      r.2.mem ((c.tc : Thread Cert.BFwdIdeal.nD Cert.BFwdIdeal.τ).loc Cert.BFwdIdeal.main_arg0) = m ((c.tc : Thread Cert.BFwdIdeal.nD Cert.BFwdIdeal.τ).loc Cert.BFwdIdeal.main_arg0)
      ∧ r.2.mem ((c.tc : Thread Cert.BFwdIdeal.nD Cert.BFwdIdeal.τ).loc Cert.BFwdIdeal.main_arg1) = m ((c.tc : Thread Cert.BFwdIdeal.nD Cert.BFwdIdeal.τ).loc Cert.BFwdIdeal.main_arg1)
      ∧ r.2.mem ((c.tc : Thread Cert.BFwdIdeal.nD Cert.BFwdIdeal.τ).loc Cert.BFwdIdeal.main_arg2) = m ((c.tc : Thread Cert.BFwdIdeal.nD Cert.BFwdIdeal.τ).loc Cert.BFwdIdeal.main_arg2)
      ∧ r.2.mem ((c.tc : Thread Cert.BFwdIdeal.nD Cert.BFwdIdeal.τ).loc Cert.BFwdIdeal.main_arg3) = m ((c.tc : Thread Cert.BFwdIdeal.nD Cert.BFwdIdeal.τ).loc Cert.BFwdIdeal.main_arg3)
      ∧ r.2.mem ((c.tc : Thread Cert.BFwdIdeal.nD Cert.BFwdIdeal.τ).loc Cert.BFwdIdeal.main_arg4) = m ((c.tc : Thread Cert.BFwdIdeal.nD Cert.BFwdIdeal.τ).loc Cert.BFwdIdeal.main_arg4)
      ∧ r.2.mem ((c.tc : Thread Cert.BFwdIdeal.nD Cert.BFwdIdeal.τ).loc Cert.BFwdIdeal.main_arg5) = m ((c.tc : Thread Cert.BFwdIdeal.nD Cert.BFwdIdeal.τ).loc Cert.BFwdIdeal.main_arg5)
      ∧ r.2.mem ((c.tc : Thread Cert.BFwdIdeal.nD Cert.BFwdIdeal.τ).loc Cert.BFwdIdeal.main_arg6) = m ((c.tc : Thread Cert.BFwdIdeal.nD Cert.BFwdIdeal.τ).loc Cert.BFwdIdeal.main_arg6))
      ∧ r.2.sem = fun _ => 0)

def quiescent_BFwdIdeal_pre_bf_finite [hBFwdIdeal : Cert.BFwdIdeal.Facts] [hPre_bf_finite : Cert.Pre_bf_finite.Facts] : Prop :=
  ∀ (m : (ℓ : Loc Cert.BFwdIdeal.nD Cert.BFwdIdeal.τ Cert.BFwdIdeal.sig) → Buf (Elt Ideal) ℓ) (g : Dev Cert.BFwdIdeal.nD → PrngReg), Pre_BFwdIdeal_bf_finite m →
    θ_run (Cert.BFwdIdeal.defs (F := Ideal)) (onTc (τ := Cert.BFwdIdeal.τ) (Cert.BFwdIdeal.main (F := Ideal))) ⟨m, fun _ => 0, g⟩ (fun r => (∀ c : Dev Cert.BFwdIdeal.nD,
      r.2.mem ((c.tc : Thread Cert.BFwdIdeal.nD Cert.BFwdIdeal.τ).loc Cert.BFwdIdeal.main_arg0) = m ((c.tc : Thread Cert.BFwdIdeal.nD Cert.BFwdIdeal.τ).loc Cert.BFwdIdeal.main_arg0)
      ∧ r.2.mem ((c.tc : Thread Cert.BFwdIdeal.nD Cert.BFwdIdeal.τ).loc Cert.BFwdIdeal.main_arg1) = m ((c.tc : Thread Cert.BFwdIdeal.nD Cert.BFwdIdeal.τ).loc Cert.BFwdIdeal.main_arg1)
      ∧ r.2.mem ((c.tc : Thread Cert.BFwdIdeal.nD Cert.BFwdIdeal.τ).loc Cert.BFwdIdeal.main_arg2) = m ((c.tc : Thread Cert.BFwdIdeal.nD Cert.BFwdIdeal.τ).loc Cert.BFwdIdeal.main_arg2)
      ∧ r.2.mem ((c.tc : Thread Cert.BFwdIdeal.nD Cert.BFwdIdeal.τ).loc Cert.BFwdIdeal.main_arg3) = m ((c.tc : Thread Cert.BFwdIdeal.nD Cert.BFwdIdeal.τ).loc Cert.BFwdIdeal.main_arg3)
      ∧ r.2.mem ((c.tc : Thread Cert.BFwdIdeal.nD Cert.BFwdIdeal.τ).loc Cert.BFwdIdeal.main_arg4) = m ((c.tc : Thread Cert.BFwdIdeal.nD Cert.BFwdIdeal.τ).loc Cert.BFwdIdeal.main_arg4)
      ∧ r.2.mem ((c.tc : Thread Cert.BFwdIdeal.nD Cert.BFwdIdeal.τ).loc Cert.BFwdIdeal.main_arg5) = m ((c.tc : Thread Cert.BFwdIdeal.nD Cert.BFwdIdeal.τ).loc Cert.BFwdIdeal.main_arg5)
      ∧ r.2.mem ((c.tc : Thread Cert.BFwdIdeal.nD Cert.BFwdIdeal.τ).loc Cert.BFwdIdeal.main_arg6) = m ((c.tc : Thread Cert.BFwdIdeal.nD Cert.BFwdIdeal.τ).loc Cert.BFwdIdeal.main_arg6))
      ∧ r.2.sem = fun _ => 0)

def quiescent_BFwdRefIdeal [hBFwdRefIdeal : Cert.BFwdRefIdeal.Facts] : Prop :=
  ∀ (m : (ℓ : Loc Cert.BFwdRefIdeal.nD Cert.BFwdRefIdeal.τ Cert.BFwdRefIdeal.sig) → Buf (Elt Ideal) ℓ) (g : Dev Cert.BFwdRefIdeal.nD → PrngReg), Pre_BFwdRefIdeal m →
    θ_run (Cert.BFwdRefIdeal.defs (F := Ideal)) (onTc (τ := Cert.BFwdRefIdeal.τ) (Cert.BFwdRefIdeal.main (F := Ideal))) ⟨m, fun _ => 0, g⟩ (fun r => (∀ c : Dev Cert.BFwdRefIdeal.nD,
      r.2.mem ((c.tc : Thread Cert.BFwdRefIdeal.nD Cert.BFwdRefIdeal.τ).loc Cert.BFwdRefIdeal.main_arg0) = m ((c.tc : Thread Cert.BFwdRefIdeal.nD Cert.BFwdRefIdeal.τ).loc Cert.BFwdRefIdeal.main_arg0)
      ∧ r.2.mem ((c.tc : Thread Cert.BFwdRefIdeal.nD Cert.BFwdRefIdeal.τ).loc Cert.BFwdRefIdeal.main_arg1) = m ((c.tc : Thread Cert.BFwdRefIdeal.nD Cert.BFwdRefIdeal.τ).loc Cert.BFwdRefIdeal.main_arg1)
      ∧ r.2.mem ((c.tc : Thread Cert.BFwdRefIdeal.nD Cert.BFwdRefIdeal.τ).loc Cert.BFwdRefIdeal.main_arg2) = m ((c.tc : Thread Cert.BFwdRefIdeal.nD Cert.BFwdRefIdeal.τ).loc Cert.BFwdRefIdeal.main_arg2)
      ∧ r.2.mem ((c.tc : Thread Cert.BFwdRefIdeal.nD Cert.BFwdRefIdeal.τ).loc Cert.BFwdRefIdeal.main_arg3) = m ((c.tc : Thread Cert.BFwdRefIdeal.nD Cert.BFwdRefIdeal.τ).loc Cert.BFwdRefIdeal.main_arg3)
      ∧ r.2.mem ((c.tc : Thread Cert.BFwdRefIdeal.nD Cert.BFwdRefIdeal.τ).loc Cert.BFwdRefIdeal.main_arg4) = m ((c.tc : Thread Cert.BFwdRefIdeal.nD Cert.BFwdRefIdeal.τ).loc Cert.BFwdRefIdeal.main_arg4)
      ∧ r.2.mem ((c.tc : Thread Cert.BFwdRefIdeal.nD Cert.BFwdRefIdeal.τ).loc Cert.BFwdRefIdeal.main_arg5) = m ((c.tc : Thread Cert.BFwdRefIdeal.nD Cert.BFwdRefIdeal.τ).loc Cert.BFwdRefIdeal.main_arg5)
      ∧ r.2.mem ((c.tc : Thread Cert.BFwdRefIdeal.nD Cert.BFwdRefIdeal.τ).loc Cert.BFwdRefIdeal.main_arg6) = m ((c.tc : Thread Cert.BFwdRefIdeal.nD Cert.BFwdRefIdeal.τ).loc Cert.BFwdRefIdeal.main_arg6))
      ∧ r.2.sem = fun _ => 0)

def quiescent_BFwdRefIdeal_pre_bf_finite [hBFwdRefIdeal : Cert.BFwdRefIdeal.Facts] [hPre_bf_finite : Cert.Pre_bf_finite.Facts] : Prop :=
  ∀ (m : (ℓ : Loc Cert.BFwdRefIdeal.nD Cert.BFwdRefIdeal.τ Cert.BFwdRefIdeal.sig) → Buf (Elt Ideal) ℓ) (g : Dev Cert.BFwdRefIdeal.nD → PrngReg), Pre_BFwdRefIdeal_bf_finite m →
    θ_run (Cert.BFwdRefIdeal.defs (F := Ideal)) (onTc (τ := Cert.BFwdRefIdeal.τ) (Cert.BFwdRefIdeal.main (F := Ideal))) ⟨m, fun _ => 0, g⟩ (fun r => (∀ c : Dev Cert.BFwdRefIdeal.nD,
      r.2.mem ((c.tc : Thread Cert.BFwdRefIdeal.nD Cert.BFwdRefIdeal.τ).loc Cert.BFwdRefIdeal.main_arg0) = m ((c.tc : Thread Cert.BFwdRefIdeal.nD Cert.BFwdRefIdeal.τ).loc Cert.BFwdRefIdeal.main_arg0)
      ∧ r.2.mem ((c.tc : Thread Cert.BFwdRefIdeal.nD Cert.BFwdRefIdeal.τ).loc Cert.BFwdRefIdeal.main_arg1) = m ((c.tc : Thread Cert.BFwdRefIdeal.nD Cert.BFwdRefIdeal.τ).loc Cert.BFwdRefIdeal.main_arg1)
      ∧ r.2.mem ((c.tc : Thread Cert.BFwdRefIdeal.nD Cert.BFwdRefIdeal.τ).loc Cert.BFwdRefIdeal.main_arg2) = m ((c.tc : Thread Cert.BFwdRefIdeal.nD Cert.BFwdRefIdeal.τ).loc Cert.BFwdRefIdeal.main_arg2)
      ∧ r.2.mem ((c.tc : Thread Cert.BFwdRefIdeal.nD Cert.BFwdRefIdeal.τ).loc Cert.BFwdRefIdeal.main_arg3) = m ((c.tc : Thread Cert.BFwdRefIdeal.nD Cert.BFwdRefIdeal.τ).loc Cert.BFwdRefIdeal.main_arg3)
      ∧ r.2.mem ((c.tc : Thread Cert.BFwdRefIdeal.nD Cert.BFwdRefIdeal.τ).loc Cert.BFwdRefIdeal.main_arg4) = m ((c.tc : Thread Cert.BFwdRefIdeal.nD Cert.BFwdRefIdeal.τ).loc Cert.BFwdRefIdeal.main_arg4)
      ∧ r.2.mem ((c.tc : Thread Cert.BFwdRefIdeal.nD Cert.BFwdRefIdeal.τ).loc Cert.BFwdRefIdeal.main_arg5) = m ((c.tc : Thread Cert.BFwdRefIdeal.nD Cert.BFwdRefIdeal.τ).loc Cert.BFwdRefIdeal.main_arg5)
      ∧ r.2.mem ((c.tc : Thread Cert.BFwdRefIdeal.nD Cert.BFwdRefIdeal.τ).loc Cert.BFwdRefIdeal.main_arg6) = m ((c.tc : Thread Cert.BFwdRefIdeal.nD Cert.BFwdRefIdeal.τ).loc Cert.BFwdRefIdeal.main_arg6))
      ∧ r.2.sem = fun _ => 0)

def preserves_FBwd_FBwdIdeal : Prop :=
  True

def algebraic_FBwdIdeal_FBwdRefIdeal_pre_f_finite [hFBwdIdeal : Cert.FBwdIdeal.Facts] [hFBwdRefIdeal : Cert.FBwdRefIdeal.Facts] [hPre_f_finite : Cert.Pre_f_finite.Facts] : Prop :=
  ∀ (m : (ℓ : Loc Cert.FBwdIdeal.nD Cert.FBwdIdeal.τ Cert.FBwdIdeal.sig) → Buf (Elt Ideal) ℓ) (g : Dev Cert.FBwdIdeal.nD → PrngReg)
    (m' : (ℓ : Loc Cert.FBwdRefIdeal.nD Cert.FBwdRefIdeal.τ Cert.FBwdRefIdeal.sig) → Buf (Elt Ideal) ℓ) (g' : Dev Cert.FBwdRefIdeal.nD → PrngReg), Pre_FBwdIdeal_f_finite m →
    (∀ c : Dev Cert.FBwdIdeal.nD,
      m' ((c.tc : Thread Cert.FBwdRefIdeal.nD Cert.FBwdRefIdeal.τ).loc Cert.FBwdRefIdeal.main_arg0) = m ((c.tc : Thread Cert.FBwdIdeal.nD Cert.FBwdIdeal.τ).loc Cert.FBwdIdeal.main_arg0)
      ∧ m' ((c.tc : Thread Cert.FBwdRefIdeal.nD Cert.FBwdRefIdeal.τ).loc Cert.FBwdRefIdeal.main_arg1) = m ((c.tc : Thread Cert.FBwdIdeal.nD Cert.FBwdIdeal.τ).loc Cert.FBwdIdeal.main_arg1)
      ∧ m' ((c.tc : Thread Cert.FBwdRefIdeal.nD Cert.FBwdRefIdeal.τ).loc Cert.FBwdRefIdeal.main_arg2) = m ((c.tc : Thread Cert.FBwdIdeal.nD Cert.FBwdIdeal.τ).loc Cert.FBwdIdeal.main_arg2)
      ∧ m' ((c.tc : Thread Cert.FBwdRefIdeal.nD Cert.FBwdRefIdeal.τ).loc Cert.FBwdRefIdeal.main_arg3) = m ((c.tc : Thread Cert.FBwdIdeal.nD Cert.FBwdIdeal.τ).loc Cert.FBwdIdeal.main_arg3)
      ∧ m' ((c.tc : Thread Cert.FBwdRefIdeal.nD Cert.FBwdRefIdeal.τ).loc Cert.FBwdRefIdeal.main_arg4) = m ((c.tc : Thread Cert.FBwdIdeal.nD Cert.FBwdIdeal.τ).loc Cert.FBwdIdeal.main_arg4)
      ∧ m' ((c.tc : Thread Cert.FBwdRefIdeal.nD Cert.FBwdRefIdeal.τ).loc Cert.FBwdRefIdeal.main_arg5) = m ((c.tc : Thread Cert.FBwdIdeal.nD Cert.FBwdIdeal.τ).loc Cert.FBwdIdeal.main_arg5)
      ∧ m' ((c.tc : Thread Cert.FBwdRefIdeal.nD Cert.FBwdRefIdeal.τ).loc Cert.FBwdRefIdeal.main_arg6) = m ((c.tc : Thread Cert.FBwdIdeal.nD Cert.FBwdIdeal.τ).loc Cert.FBwdIdeal.main_arg6)) →
    ∃ (v0 : (c : Dev Cert.FBwdIdeal.nD) → Buf (Elt Ideal) ((c.tc : Thread Cert.FBwdIdeal.nD Cert.FBwdIdeal.τ).loc Cert.FBwdIdeal.main_v34_0)) (v1 : (c : Dev Cert.FBwdIdeal.nD) → Buf (Elt Ideal) ((c.tc : Thread Cert.FBwdIdeal.nD Cert.FBwdIdeal.τ).loc Cert.FBwdIdeal.main_v34_1)) (v2 : (c : Dev Cert.FBwdIdeal.nD) → Buf (Elt Ideal) ((c.tc : Thread Cert.FBwdIdeal.nD Cert.FBwdIdeal.τ).loc Cert.FBwdIdeal.main_v34_2)) (v3 : (c : Dev Cert.FBwdIdeal.nD) → Buf (Elt Ideal) ((c.tc : Thread Cert.FBwdIdeal.nD Cert.FBwdIdeal.τ).loc Cert.FBwdIdeal.main_v34_3)) (v4 : (c : Dev Cert.FBwdIdeal.nD) → Buf (Elt Ideal) ((c.tc : Thread Cert.FBwdIdeal.nD Cert.FBwdIdeal.τ).loc Cert.FBwdIdeal.main_v34_4)),
      θ_run (Cert.FBwdIdeal.defs (F := Ideal)) (onTc (τ := Cert.FBwdIdeal.τ) (Cert.FBwdIdeal.main (F := Ideal))) ⟨m, fun _ => 0, g⟩ (fun r => ∀ c : Dev Cert.FBwdIdeal.nD,
          r.2.mem ((c.tc : Thread Cert.FBwdIdeal.nD Cert.FBwdIdeal.τ).loc Cert.FBwdIdeal.main_v34_0) = v0 c
          ∧ r.2.mem ((c.tc : Thread Cert.FBwdIdeal.nD Cert.FBwdIdeal.τ).loc Cert.FBwdIdeal.main_v34_1) = v1 c
          ∧ r.2.mem ((c.tc : Thread Cert.FBwdIdeal.nD Cert.FBwdIdeal.τ).loc Cert.FBwdIdeal.main_v34_2) = v2 c
          ∧ r.2.mem ((c.tc : Thread Cert.FBwdIdeal.nD Cert.FBwdIdeal.τ).loc Cert.FBwdIdeal.main_v34_3) = v3 c
          ∧ r.2.mem ((c.tc : Thread Cert.FBwdIdeal.nD Cert.FBwdIdeal.τ).loc Cert.FBwdIdeal.main_v34_4) = v4 c
          ∧ r.2.mem ((c.tc : Thread Cert.FBwdIdeal.nD Cert.FBwdIdeal.τ).loc Cert.FBwdIdeal.main_arg0) = m ((c.tc : Thread Cert.FBwdIdeal.nD Cert.FBwdIdeal.τ).loc Cert.FBwdIdeal.main_arg0)
          ∧ r.2.mem ((c.tc : Thread Cert.FBwdIdeal.nD Cert.FBwdIdeal.τ).loc Cert.FBwdIdeal.main_arg1) = m ((c.tc : Thread Cert.FBwdIdeal.nD Cert.FBwdIdeal.τ).loc Cert.FBwdIdeal.main_arg1)
          ∧ r.2.mem ((c.tc : Thread Cert.FBwdIdeal.nD Cert.FBwdIdeal.τ).loc Cert.FBwdIdeal.main_arg2) = m ((c.tc : Thread Cert.FBwdIdeal.nD Cert.FBwdIdeal.τ).loc Cert.FBwdIdeal.main_arg2)
          ∧ r.2.mem ((c.tc : Thread Cert.FBwdIdeal.nD Cert.FBwdIdeal.τ).loc Cert.FBwdIdeal.main_arg3) = m ((c.tc : Thread Cert.FBwdIdeal.nD Cert.FBwdIdeal.τ).loc Cert.FBwdIdeal.main_arg3)
          ∧ r.2.mem ((c.tc : Thread Cert.FBwdIdeal.nD Cert.FBwdIdeal.τ).loc Cert.FBwdIdeal.main_arg4) = m ((c.tc : Thread Cert.FBwdIdeal.nD Cert.FBwdIdeal.τ).loc Cert.FBwdIdeal.main_arg4)
          ∧ r.2.mem ((c.tc : Thread Cert.FBwdIdeal.nD Cert.FBwdIdeal.τ).loc Cert.FBwdIdeal.main_arg5) = m ((c.tc : Thread Cert.FBwdIdeal.nD Cert.FBwdIdeal.τ).loc Cert.FBwdIdeal.main_arg5)
          ∧ r.2.mem ((c.tc : Thread Cert.FBwdIdeal.nD Cert.FBwdIdeal.τ).loc Cert.FBwdIdeal.main_arg6) = m ((c.tc : Thread Cert.FBwdIdeal.nD Cert.FBwdIdeal.τ).loc Cert.FBwdIdeal.main_arg6))
      ∧ θ_run (Cert.FBwdRefIdeal.defs (F := Ideal)) (onTc (τ := Cert.FBwdRefIdeal.τ) (Cert.FBwdRefIdeal.main (F := Ideal))) ⟨m', fun _ => 0, g'⟩ (fun r => ∀ c : Dev Cert.FBwdRefIdeal.nD,
          r.2.mem ((c.tc : Thread Cert.FBwdRefIdeal.nD Cert.FBwdRefIdeal.τ).loc Cert.FBwdRefIdeal.main_v91) = v0 c
          ∧ r.2.mem ((c.tc : Thread Cert.FBwdRefIdeal.nD Cert.FBwdRefIdeal.τ).loc Cert.FBwdRefIdeal.main_v92) = v1 c
          ∧ r.2.mem ((c.tc : Thread Cert.FBwdRefIdeal.nD Cert.FBwdRefIdeal.τ).loc Cert.FBwdRefIdeal.main_v94) = v2 c
          ∧ r.2.mem ((c.tc : Thread Cert.FBwdRefIdeal.nD Cert.FBwdRefIdeal.τ).loc Cert.FBwdRefIdeal.main_v95) = v3 c
          ∧ r.2.mem ((c.tc : Thread Cert.FBwdRefIdeal.nD Cert.FBwdRefIdeal.τ).loc Cert.FBwdRefIdeal.main_v96) = v4 c
          ∧ r.2.mem ((c.tc : Thread Cert.FBwdRefIdeal.nD Cert.FBwdRefIdeal.τ).loc Cert.FBwdRefIdeal.main_arg0) = m' ((c.tc : Thread Cert.FBwdRefIdeal.nD Cert.FBwdRefIdeal.τ).loc Cert.FBwdRefIdeal.main_arg0)
          ∧ r.2.mem ((c.tc : Thread Cert.FBwdRefIdeal.nD Cert.FBwdRefIdeal.τ).loc Cert.FBwdRefIdeal.main_arg1) = m' ((c.tc : Thread Cert.FBwdRefIdeal.nD Cert.FBwdRefIdeal.τ).loc Cert.FBwdRefIdeal.main_arg1)
          ∧ r.2.mem ((c.tc : Thread Cert.FBwdRefIdeal.nD Cert.FBwdRefIdeal.τ).loc Cert.FBwdRefIdeal.main_arg2) = m' ((c.tc : Thread Cert.FBwdRefIdeal.nD Cert.FBwdRefIdeal.τ).loc Cert.FBwdRefIdeal.main_arg2)
          ∧ r.2.mem ((c.tc : Thread Cert.FBwdRefIdeal.nD Cert.FBwdRefIdeal.τ).loc Cert.FBwdRefIdeal.main_arg3) = m' ((c.tc : Thread Cert.FBwdRefIdeal.nD Cert.FBwdRefIdeal.τ).loc Cert.FBwdRefIdeal.main_arg3)
          ∧ r.2.mem ((c.tc : Thread Cert.FBwdRefIdeal.nD Cert.FBwdRefIdeal.τ).loc Cert.FBwdRefIdeal.main_arg4) = m' ((c.tc : Thread Cert.FBwdRefIdeal.nD Cert.FBwdRefIdeal.τ).loc Cert.FBwdRefIdeal.main_arg4)
          ∧ r.2.mem ((c.tc : Thread Cert.FBwdRefIdeal.nD Cert.FBwdRefIdeal.τ).loc Cert.FBwdRefIdeal.main_arg5) = m' ((c.tc : Thread Cert.FBwdRefIdeal.nD Cert.FBwdRefIdeal.τ).loc Cert.FBwdRefIdeal.main_arg5)
          ∧ r.2.mem ((c.tc : Thread Cert.FBwdRefIdeal.nD Cert.FBwdRefIdeal.τ).loc Cert.FBwdRefIdeal.main_arg6) = m' ((c.tc : Thread Cert.FBwdRefIdeal.nD Cert.FBwdRefIdeal.τ).loc Cert.FBwdRefIdeal.main_arg6))

def preserves_FGrad_FGradIdeal : Prop :=
  True

def algebraic_FGradIdeal_FGradRefIdeal [hFGradIdeal : Cert.FGradIdeal.Facts] [hFGradRefIdeal : Cert.FGradRefIdeal.Facts] : Prop :=
  ∀ (m : (ℓ : Loc Cert.FGradIdeal.nD Cert.FGradIdeal.τ Cert.FGradIdeal.sig) → Buf (Elt Ideal) ℓ) (g : Dev Cert.FGradIdeal.nD → PrngReg)
    (m' : (ℓ : Loc Cert.FGradRefIdeal.nD Cert.FGradRefIdeal.τ Cert.FGradRefIdeal.sig) → Buf (Elt Ideal) ℓ) (g' : Dev Cert.FGradRefIdeal.nD → PrngReg), Pre_FGradIdeal m →
    (∀ c : Dev Cert.FGradIdeal.nD,
      m' ((c.tc : Thread Cert.FGradRefIdeal.nD Cert.FGradRefIdeal.τ).loc Cert.FGradRefIdeal.main_arg0) = m ((c.tc : Thread Cert.FGradIdeal.nD Cert.FGradIdeal.τ).loc Cert.FGradIdeal.main_arg0)
      ∧ m' ((c.tc : Thread Cert.FGradRefIdeal.nD Cert.FGradRefIdeal.τ).loc Cert.FGradRefIdeal.main_arg1) = m ((c.tc : Thread Cert.FGradIdeal.nD Cert.FGradIdeal.τ).loc Cert.FGradIdeal.main_arg1)
      ∧ m' ((c.tc : Thread Cert.FGradRefIdeal.nD Cert.FGradRefIdeal.τ).loc Cert.FGradRefIdeal.main_arg2) = m ((c.tc : Thread Cert.FGradIdeal.nD Cert.FGradIdeal.τ).loc Cert.FGradIdeal.main_arg2)
      ∧ m' ((c.tc : Thread Cert.FGradRefIdeal.nD Cert.FGradRefIdeal.τ).loc Cert.FGradRefIdeal.main_arg3) = m ((c.tc : Thread Cert.FGradIdeal.nD Cert.FGradIdeal.τ).loc Cert.FGradIdeal.main_arg3)
      ∧ m' ((c.tc : Thread Cert.FGradRefIdeal.nD Cert.FGradRefIdeal.τ).loc Cert.FGradRefIdeal.main_arg4) = m ((c.tc : Thread Cert.FGradIdeal.nD Cert.FGradIdeal.τ).loc Cert.FGradIdeal.main_arg4)) →
    ∃ (v0 : (c : Dev Cert.FGradIdeal.nD) → Buf (Elt Ideal) ((c.tc : Thread Cert.FGradIdeal.nD Cert.FGradIdeal.τ).loc Cert.FGradIdeal.main_v13)),
      θ_run (Cert.FGradIdeal.defs (F := Ideal)) (onTc (τ := Cert.FGradIdeal.τ) (Cert.FGradIdeal.main (F := Ideal))) ⟨m, fun _ => 0, g⟩ (fun r => ∀ c : Dev Cert.FGradIdeal.nD,
          r.2.mem ((c.tc : Thread Cert.FGradIdeal.nD Cert.FGradIdeal.τ).loc Cert.FGradIdeal.main_v13) = v0 c
          ∧ r.2.mem ((c.tc : Thread Cert.FGradIdeal.nD Cert.FGradIdeal.τ).loc Cert.FGradIdeal.main_arg0) = m ((c.tc : Thread Cert.FGradIdeal.nD Cert.FGradIdeal.τ).loc Cert.FGradIdeal.main_arg0)
          ∧ r.2.mem ((c.tc : Thread Cert.FGradIdeal.nD Cert.FGradIdeal.τ).loc Cert.FGradIdeal.main_arg1) = m ((c.tc : Thread Cert.FGradIdeal.nD Cert.FGradIdeal.τ).loc Cert.FGradIdeal.main_arg1)
          ∧ r.2.mem ((c.tc : Thread Cert.FGradIdeal.nD Cert.FGradIdeal.τ).loc Cert.FGradIdeal.main_arg2) = m ((c.tc : Thread Cert.FGradIdeal.nD Cert.FGradIdeal.τ).loc Cert.FGradIdeal.main_arg2)
          ∧ r.2.mem ((c.tc : Thread Cert.FGradIdeal.nD Cert.FGradIdeal.τ).loc Cert.FGradIdeal.main_arg3) = m ((c.tc : Thread Cert.FGradIdeal.nD Cert.FGradIdeal.τ).loc Cert.FGradIdeal.main_arg3)
          ∧ r.2.mem ((c.tc : Thread Cert.FGradIdeal.nD Cert.FGradIdeal.τ).loc Cert.FGradIdeal.main_arg4) = m ((c.tc : Thread Cert.FGradIdeal.nD Cert.FGradIdeal.τ).loc Cert.FGradIdeal.main_arg4))
      ∧ θ_run (Cert.FGradRefIdeal.defs (F := Ideal)) (onTc (τ := Cert.FGradRefIdeal.τ) (Cert.FGradRefIdeal.main (F := Ideal))) ⟨m', fun _ => 0, g'⟩ (fun r => ∀ c : Dev Cert.FGradRefIdeal.nD,
          r.2.mem ((c.tc : Thread Cert.FGradRefIdeal.nD Cert.FGradRefIdeal.τ).loc Cert.FGradRefIdeal.main_v21) = v0 c
          ∧ r.2.mem ((c.tc : Thread Cert.FGradRefIdeal.nD Cert.FGradRefIdeal.τ).loc Cert.FGradRefIdeal.main_arg0) = m' ((c.tc : Thread Cert.FGradRefIdeal.nD Cert.FGradRefIdeal.τ).loc Cert.FGradRefIdeal.main_arg0)
          ∧ r.2.mem ((c.tc : Thread Cert.FGradRefIdeal.nD Cert.FGradRefIdeal.τ).loc Cert.FGradRefIdeal.main_arg1) = m' ((c.tc : Thread Cert.FGradRefIdeal.nD Cert.FGradRefIdeal.τ).loc Cert.FGradRefIdeal.main_arg1)
          ∧ r.2.mem ((c.tc : Thread Cert.FGradRefIdeal.nD Cert.FGradRefIdeal.τ).loc Cert.FGradRefIdeal.main_arg2) = m' ((c.tc : Thread Cert.FGradRefIdeal.nD Cert.FGradRefIdeal.τ).loc Cert.FGradRefIdeal.main_arg2)
          ∧ r.2.mem ((c.tc : Thread Cert.FGradRefIdeal.nD Cert.FGradRefIdeal.τ).loc Cert.FGradRefIdeal.main_arg3) = m' ((c.tc : Thread Cert.FGradRefIdeal.nD Cert.FGradRefIdeal.τ).loc Cert.FGradRefIdeal.main_arg3)
          ∧ r.2.mem ((c.tc : Thread Cert.FGradRefIdeal.nD Cert.FGradRefIdeal.τ).loc Cert.FGradRefIdeal.main_arg4) = m' ((c.tc : Thread Cert.FGradRefIdeal.nD Cert.FGradRefIdeal.τ).loc Cert.FGradRefIdeal.main_arg4))

def preserves_FFwd_FFwdIdeal : Prop :=
  True

def algebraic_FFwdIdeal_FFwdRefIdeal_pre_ff_finite [hFFwdIdeal : Cert.FFwdIdeal.Facts] [hFFwdRefIdeal : Cert.FFwdRefIdeal.Facts] [hPre_ff_finite : Cert.Pre_ff_finite.Facts] : Prop :=
  ∀ (m : (ℓ : Loc Cert.FFwdIdeal.nD Cert.FFwdIdeal.τ Cert.FFwdIdeal.sig) → Buf (Elt Ideal) ℓ) (g : Dev Cert.FFwdIdeal.nD → PrngReg)
    (m' : (ℓ : Loc Cert.FFwdRefIdeal.nD Cert.FFwdRefIdeal.τ Cert.FFwdRefIdeal.sig) → Buf (Elt Ideal) ℓ) (g' : Dev Cert.FFwdRefIdeal.nD → PrngReg), Pre_FFwdIdeal_ff_finite m →
    (∀ c : Dev Cert.FFwdIdeal.nD,
      m' ((c.tc : Thread Cert.FFwdRefIdeal.nD Cert.FFwdRefIdeal.τ).loc Cert.FFwdRefIdeal.main_arg0) = m ((c.tc : Thread Cert.FFwdIdeal.nD Cert.FFwdIdeal.τ).loc Cert.FFwdIdeal.main_arg0)
      ∧ m' ((c.tc : Thread Cert.FFwdRefIdeal.nD Cert.FFwdRefIdeal.τ).loc Cert.FFwdRefIdeal.main_arg1) = m ((c.tc : Thread Cert.FFwdIdeal.nD Cert.FFwdIdeal.τ).loc Cert.FFwdIdeal.main_arg1)
      ∧ m' ((c.tc : Thread Cert.FFwdRefIdeal.nD Cert.FFwdRefIdeal.τ).loc Cert.FFwdRefIdeal.main_arg2) = m ((c.tc : Thread Cert.FFwdIdeal.nD Cert.FFwdIdeal.τ).loc Cert.FFwdIdeal.main_arg2)
      ∧ m' ((c.tc : Thread Cert.FFwdRefIdeal.nD Cert.FFwdRefIdeal.τ).loc Cert.FFwdRefIdeal.main_arg3) = m ((c.tc : Thread Cert.FFwdIdeal.nD Cert.FFwdIdeal.τ).loc Cert.FFwdIdeal.main_arg3)
      ∧ m' ((c.tc : Thread Cert.FFwdRefIdeal.nD Cert.FFwdRefIdeal.τ).loc Cert.FFwdRefIdeal.main_arg4) = m ((c.tc : Thread Cert.FFwdIdeal.nD Cert.FFwdIdeal.τ).loc Cert.FFwdIdeal.main_arg4)
      ∧ m' ((c.tc : Thread Cert.FFwdRefIdeal.nD Cert.FFwdRefIdeal.τ).loc Cert.FFwdRefIdeal.main_arg5) = m ((c.tc : Thread Cert.FFwdIdeal.nD Cert.FFwdIdeal.τ).loc Cert.FFwdIdeal.main_arg5)) →
    ∃ (v0 : (c : Dev Cert.FFwdIdeal.nD) → Buf (Elt Ideal) ((c.tc : Thread Cert.FFwdIdeal.nD Cert.FFwdIdeal.τ).loc Cert.FFwdIdeal.main_v7_0)) (v1 : (c : Dev Cert.FFwdIdeal.nD) → Buf (Elt Ideal) ((c.tc : Thread Cert.FFwdIdeal.nD Cert.FFwdIdeal.τ).loc Cert.FFwdIdeal.main_v7_1)) (v2 : (c : Dev Cert.FFwdIdeal.nD) → Buf (Elt Ideal) ((c.tc : Thread Cert.FFwdIdeal.nD Cert.FFwdIdeal.τ).loc Cert.FFwdIdeal.main_v7_2)) (v3 : (c : Dev Cert.FFwdIdeal.nD) → Buf (Elt Ideal) ((c.tc : Thread Cert.FFwdIdeal.nD Cert.FFwdIdeal.τ).loc Cert.FFwdIdeal.main_v7_3)),
      θ_run (Cert.FFwdIdeal.defs (F := Ideal)) (onTc (τ := Cert.FFwdIdeal.τ) (Cert.FFwdIdeal.main (F := Ideal))) ⟨m, fun _ => 0, g⟩ (fun r => ∀ c : Dev Cert.FFwdIdeal.nD,
          r.2.mem ((c.tc : Thread Cert.FFwdIdeal.nD Cert.FFwdIdeal.τ).loc Cert.FFwdIdeal.main_v7_0) = v0 c
          ∧ r.2.mem ((c.tc : Thread Cert.FFwdIdeal.nD Cert.FFwdIdeal.τ).loc Cert.FFwdIdeal.main_v7_1) = v1 c
          ∧ r.2.mem ((c.tc : Thread Cert.FFwdIdeal.nD Cert.FFwdIdeal.τ).loc Cert.FFwdIdeal.main_v7_2) = v2 c
          ∧ r.2.mem ((c.tc : Thread Cert.FFwdIdeal.nD Cert.FFwdIdeal.τ).loc Cert.FFwdIdeal.main_v7_3) = v3 c
          ∧ r.2.mem ((c.tc : Thread Cert.FFwdIdeal.nD Cert.FFwdIdeal.τ).loc Cert.FFwdIdeal.main_arg0) = m ((c.tc : Thread Cert.FFwdIdeal.nD Cert.FFwdIdeal.τ).loc Cert.FFwdIdeal.main_arg0)
          ∧ r.2.mem ((c.tc : Thread Cert.FFwdIdeal.nD Cert.FFwdIdeal.τ).loc Cert.FFwdIdeal.main_arg1) = m ((c.tc : Thread Cert.FFwdIdeal.nD Cert.FFwdIdeal.τ).loc Cert.FFwdIdeal.main_arg1)
          ∧ r.2.mem ((c.tc : Thread Cert.FFwdIdeal.nD Cert.FFwdIdeal.τ).loc Cert.FFwdIdeal.main_arg2) = m ((c.tc : Thread Cert.FFwdIdeal.nD Cert.FFwdIdeal.τ).loc Cert.FFwdIdeal.main_arg2)
          ∧ r.2.mem ((c.tc : Thread Cert.FFwdIdeal.nD Cert.FFwdIdeal.τ).loc Cert.FFwdIdeal.main_arg3) = m ((c.tc : Thread Cert.FFwdIdeal.nD Cert.FFwdIdeal.τ).loc Cert.FFwdIdeal.main_arg3)
          ∧ r.2.mem ((c.tc : Thread Cert.FFwdIdeal.nD Cert.FFwdIdeal.τ).loc Cert.FFwdIdeal.main_arg4) = m ((c.tc : Thread Cert.FFwdIdeal.nD Cert.FFwdIdeal.τ).loc Cert.FFwdIdeal.main_arg4)
          ∧ r.2.mem ((c.tc : Thread Cert.FFwdIdeal.nD Cert.FFwdIdeal.τ).loc Cert.FFwdIdeal.main_arg5) = m ((c.tc : Thread Cert.FFwdIdeal.nD Cert.FFwdIdeal.τ).loc Cert.FFwdIdeal.main_arg5))
      ∧ θ_run (Cert.FFwdRefIdeal.defs (F := Ideal)) (onTc (τ := Cert.FFwdRefIdeal.τ) (Cert.FFwdRefIdeal.main (F := Ideal))) ⟨m', fun _ => 0, g'⟩ (fun r => ∀ c : Dev Cert.FFwdRefIdeal.nD,
          r.2.mem ((c.tc : Thread Cert.FFwdRefIdeal.nD Cert.FFwdRefIdeal.τ).loc Cert.FFwdRefIdeal.main_v35) = v0 c
          ∧ r.2.mem ((c.tc : Thread Cert.FFwdRefIdeal.nD Cert.FFwdRefIdeal.τ).loc Cert.FFwdRefIdeal.main_v36) = v1 c
          ∧ r.2.mem ((c.tc : Thread Cert.FFwdRefIdeal.nD Cert.FFwdRefIdeal.τ).loc Cert.FFwdRefIdeal.main_v38) = v2 c
          ∧ r.2.mem ((c.tc : Thread Cert.FFwdRefIdeal.nD Cert.FFwdRefIdeal.τ).loc Cert.FFwdRefIdeal.main_v21) = v3 c
          ∧ r.2.mem ((c.tc : Thread Cert.FFwdRefIdeal.nD Cert.FFwdRefIdeal.τ).loc Cert.FFwdRefIdeal.main_arg0) = m' ((c.tc : Thread Cert.FFwdRefIdeal.nD Cert.FFwdRefIdeal.τ).loc Cert.FFwdRefIdeal.main_arg0)
          ∧ r.2.mem ((c.tc : Thread Cert.FFwdRefIdeal.nD Cert.FFwdRefIdeal.τ).loc Cert.FFwdRefIdeal.main_arg1) = m' ((c.tc : Thread Cert.FFwdRefIdeal.nD Cert.FFwdRefIdeal.τ).loc Cert.FFwdRefIdeal.main_arg1)
          ∧ r.2.mem ((c.tc : Thread Cert.FFwdRefIdeal.nD Cert.FFwdRefIdeal.τ).loc Cert.FFwdRefIdeal.main_arg2) = m' ((c.tc : Thread Cert.FFwdRefIdeal.nD Cert.FFwdRefIdeal.τ).loc Cert.FFwdRefIdeal.main_arg2)
          ∧ r.2.mem ((c.tc : Thread Cert.FFwdRefIdeal.nD Cert.FFwdRefIdeal.τ).loc Cert.FFwdRefIdeal.main_arg3) = m' ((c.tc : Thread Cert.FFwdRefIdeal.nD Cert.FFwdRefIdeal.τ).loc Cert.FFwdRefIdeal.main_arg3)
          ∧ r.2.mem ((c.tc : Thread Cert.FFwdRefIdeal.nD Cert.FFwdRefIdeal.τ).loc Cert.FFwdRefIdeal.main_arg4) = m' ((c.tc : Thread Cert.FFwdRefIdeal.nD Cert.FFwdRefIdeal.τ).loc Cert.FFwdRefIdeal.main_arg4)
          ∧ r.2.mem ((c.tc : Thread Cert.FFwdRefIdeal.nD Cert.FFwdRefIdeal.τ).loc Cert.FFwdRefIdeal.main_arg5) = m' ((c.tc : Thread Cert.FFwdRefIdeal.nD Cert.FFwdRefIdeal.τ).loc Cert.FFwdRefIdeal.main_arg5))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v3)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v3) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v6) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)) →
    ∃ (v0 : (c : Dev Cert.AOutIdeal.nD) → Buf (Elt Ideal) ((c.tc : Thread Cert.AOutIdeal.nD Cert.AOutIdeal.τ).loc Cert.AOutIdeal.main_v3)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v3) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v7) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2))

def preserves_BGrad_BGradIdeal : Prop :=
  True

def algebraic_BGradIdeal_BGradRefIdeal [hBGradIdeal : Cert.BGradIdeal.Facts] [hBGradRefIdeal : Cert.BGradRefIdeal.Facts] : Prop :=
  ∀ (m : (ℓ : Loc Cert.BGradIdeal.nD Cert.BGradIdeal.τ Cert.BGradIdeal.sig) → Buf (Elt Ideal) ℓ) (g : Dev Cert.BGradIdeal.nD → PrngReg)
    (m' : (ℓ : Loc Cert.BGradRefIdeal.nD Cert.BGradRefIdeal.τ Cert.BGradRefIdeal.sig) → Buf (Elt Ideal) ℓ) (g' : Dev Cert.BGradRefIdeal.nD → PrngReg), Pre_BGradIdeal m →
    (∀ c : Dev Cert.BGradIdeal.nD,
      m' ((c.tc : Thread Cert.BGradRefIdeal.nD Cert.BGradRefIdeal.τ).loc Cert.BGradRefIdeal.main_arg0) = m ((c.tc : Thread Cert.BGradIdeal.nD Cert.BGradIdeal.τ).loc Cert.BGradIdeal.main_arg0)
      ∧ m' ((c.tc : Thread Cert.BGradRefIdeal.nD Cert.BGradRefIdeal.τ).loc Cert.BGradRefIdeal.main_arg1) = m ((c.tc : Thread Cert.BGradIdeal.nD Cert.BGradIdeal.τ).loc Cert.BGradIdeal.main_arg1)
      ∧ m' ((c.tc : Thread Cert.BGradRefIdeal.nD Cert.BGradRefIdeal.τ).loc Cert.BGradRefIdeal.main_arg2) = m ((c.tc : Thread Cert.BGradIdeal.nD Cert.BGradIdeal.τ).loc Cert.BGradIdeal.main_arg2)
      ∧ m' ((c.tc : Thread Cert.BGradRefIdeal.nD Cert.BGradRefIdeal.τ).loc Cert.BGradRefIdeal.main_arg3) = m ((c.tc : Thread Cert.BGradIdeal.nD Cert.BGradIdeal.τ).loc Cert.BGradIdeal.main_arg3)
      ∧ m' ((c.tc : Thread Cert.BGradRefIdeal.nD Cert.BGradRefIdeal.τ).loc Cert.BGradRefIdeal.main_arg4) = m ((c.tc : Thread Cert.BGradIdeal.nD Cert.BGradIdeal.τ).loc Cert.BGradIdeal.main_arg4)
      ∧ m' ((c.tc : Thread Cert.BGradRefIdeal.nD Cert.BGradRefIdeal.τ).loc Cert.BGradRefIdeal.main_arg5) = m ((c.tc : Thread Cert.BGradIdeal.nD Cert.BGradIdeal.τ).loc Cert.BGradIdeal.main_arg5)) →
    ∃ (v0 : (c : Dev Cert.BGradIdeal.nD) → Buf (Elt Ideal) ((c.tc : Thread Cert.BGradIdeal.nD Cert.BGradIdeal.τ).loc Cert.BGradIdeal.main_v6_0)) (v1 : (c : Dev Cert.BGradIdeal.nD) → Buf (Elt Ideal) ((c.tc : Thread Cert.BGradIdeal.nD Cert.BGradIdeal.τ).loc Cert.BGradIdeal.main_v6_1)),
      θ_run (Cert.BGradIdeal.defs (F := Ideal)) (onTc (τ := Cert.BGradIdeal.τ) (Cert.BGradIdeal.main (F := Ideal))) ⟨m, fun _ => 0, g⟩ (fun r => ∀ c : Dev Cert.BGradIdeal.nD,
          r.2.mem ((c.tc : Thread Cert.BGradIdeal.nD Cert.BGradIdeal.τ).loc Cert.BGradIdeal.main_v6_0) = v0 c
          ∧ r.2.mem ((c.tc : Thread Cert.BGradIdeal.nD Cert.BGradIdeal.τ).loc Cert.BGradIdeal.main_v6_1) = v1 c
          ∧ r.2.mem ((c.tc : Thread Cert.BGradIdeal.nD Cert.BGradIdeal.τ).loc Cert.BGradIdeal.main_arg0) = m ((c.tc : Thread Cert.BGradIdeal.nD Cert.BGradIdeal.τ).loc Cert.BGradIdeal.main_arg0)
          ∧ r.2.mem ((c.tc : Thread Cert.BGradIdeal.nD Cert.BGradIdeal.τ).loc Cert.BGradIdeal.main_arg1) = m ((c.tc : Thread Cert.BGradIdeal.nD Cert.BGradIdeal.τ).loc Cert.BGradIdeal.main_arg1)
          ∧ r.2.mem ((c.tc : Thread Cert.BGradIdeal.nD Cert.BGradIdeal.τ).loc Cert.BGradIdeal.main_arg2) = m ((c.tc : Thread Cert.BGradIdeal.nD Cert.BGradIdeal.τ).loc Cert.BGradIdeal.main_arg2)
          ∧ r.2.mem ((c.tc : Thread Cert.BGradIdeal.nD Cert.BGradIdeal.τ).loc Cert.BGradIdeal.main_arg3) = m ((c.tc : Thread Cert.BGradIdeal.nD Cert.BGradIdeal.τ).loc Cert.BGradIdeal.main_arg3)
          ∧ r.2.mem ((c.tc : Thread Cert.BGradIdeal.nD Cert.BGradIdeal.τ).loc Cert.BGradIdeal.main_arg4) = m ((c.tc : Thread Cert.BGradIdeal.nD Cert.BGradIdeal.τ).loc Cert.BGradIdeal.main_arg4)
          ∧ r.2.mem ((c.tc : Thread Cert.BGradIdeal.nD Cert.BGradIdeal.τ).loc Cert.BGradIdeal.main_arg5) = m ((c.tc : Thread Cert.BGradIdeal.nD Cert.BGradIdeal.τ).loc Cert.BGradIdeal.main_arg5))
      ∧ θ_run (Cert.BGradRefIdeal.defs (F := Ideal)) (onTc (τ := Cert.BGradRefIdeal.τ) (Cert.BGradRefIdeal.main (F := Ideal))) ⟨m', fun _ => 0, g'⟩ (fun r => ∀ c : Dev Cert.BGradRefIdeal.nD,
          r.2.mem ((c.tc : Thread Cert.BGradRefIdeal.nD Cert.BGradRefIdeal.τ).loc Cert.BGradRefIdeal.main_v19) = v0 c
          ∧ r.2.mem ((c.tc : Thread Cert.BGradRefIdeal.nD Cert.BGradRefIdeal.τ).loc Cert.BGradRefIdeal.main_v11) = v1 c
          ∧ r.2.mem ((c.tc : Thread Cert.BGradRefIdeal.nD Cert.BGradRefIdeal.τ).loc Cert.BGradRefIdeal.main_arg0) = m' ((c.tc : Thread Cert.BGradRefIdeal.nD Cert.BGradRefIdeal.τ).loc Cert.BGradRefIdeal.main_arg0)
          ∧ r.2.mem ((c.tc : Thread Cert.BGradRefIdeal.nD Cert.BGradRefIdeal.τ).loc Cert.BGradRefIdeal.main_arg1) = m' ((c.tc : Thread Cert.BGradRefIdeal.nD Cert.BGradRefIdeal.τ).loc Cert.BGradRefIdeal.main_arg1)
          ∧ r.2.mem ((c.tc : Thread Cert.BGradRefIdeal.nD Cert.BGradRefIdeal.τ).loc Cert.BGradRefIdeal.main_arg2) = m' ((c.tc : Thread Cert.BGradRefIdeal.nD Cert.BGradRefIdeal.τ).loc Cert.BGradRefIdeal.main_arg2)
          ∧ r.2.mem ((c.tc : Thread Cert.BGradRefIdeal.nD Cert.BGradRefIdeal.τ).loc Cert.BGradRefIdeal.main_arg3) = m' ((c.tc : Thread Cert.BGradRefIdeal.nD Cert.BGradRefIdeal.τ).loc Cert.BGradRefIdeal.main_arg3)
          ∧ r.2.mem ((c.tc : Thread Cert.BGradRefIdeal.nD Cert.BGradRefIdeal.τ).loc Cert.BGradRefIdeal.main_arg4) = m' ((c.tc : Thread Cert.BGradRefIdeal.nD Cert.BGradRefIdeal.τ).loc Cert.BGradRefIdeal.main_arg4)
          ∧ r.2.mem ((c.tc : Thread Cert.BGradRefIdeal.nD Cert.BGradRefIdeal.τ).loc Cert.BGradRefIdeal.main_arg5) = m' ((c.tc : Thread Cert.BGradRefIdeal.nD Cert.BGradRefIdeal.τ).loc Cert.BGradRefIdeal.main_arg5))

def preserves_BBwd_BBwdIdeal : Prop :=
  True

def algebraic_BBwdIdeal_BBwdRefIdeal_pre_b_finite [hBBwdIdeal : Cert.BBwdIdeal.Facts] [hBBwdRefIdeal : Cert.BBwdRefIdeal.Facts] [hPre_b_finite : Cert.Pre_b_finite.Facts] : Prop :=
  ∀ (m : (ℓ : Loc Cert.BBwdIdeal.nD Cert.BBwdIdeal.τ Cert.BBwdIdeal.sig) → Buf (Elt Ideal) ℓ) (g : Dev Cert.BBwdIdeal.nD → PrngReg)
    (m' : (ℓ : Loc Cert.BBwdRefIdeal.nD Cert.BBwdRefIdeal.τ Cert.BBwdRefIdeal.sig) → Buf (Elt Ideal) ℓ) (g' : Dev Cert.BBwdRefIdeal.nD → PrngReg), Pre_BBwdIdeal_b_finite m →
    (∀ c : Dev Cert.BBwdIdeal.nD,
      m' ((c.tc : Thread Cert.BBwdRefIdeal.nD Cert.BBwdRefIdeal.τ).loc Cert.BBwdRefIdeal.main_arg0) = m ((c.tc : Thread Cert.BBwdIdeal.nD Cert.BBwdIdeal.τ).loc Cert.BBwdIdeal.main_arg0)
      ∧ m' ((c.tc : Thread Cert.BBwdRefIdeal.nD Cert.BBwdRefIdeal.τ).loc Cert.BBwdRefIdeal.main_arg1) = m ((c.tc : Thread Cert.BBwdIdeal.nD Cert.BBwdIdeal.τ).loc Cert.BBwdIdeal.main_arg1)
      ∧ m' ((c.tc : Thread Cert.BBwdRefIdeal.nD Cert.BBwdRefIdeal.τ).loc Cert.BBwdRefIdeal.main_arg2) = m ((c.tc : Thread Cert.BBwdIdeal.nD Cert.BBwdIdeal.τ).loc Cert.BBwdIdeal.main_arg2)
      ∧ m' ((c.tc : Thread Cert.BBwdRefIdeal.nD Cert.BBwdRefIdeal.τ).loc Cert.BBwdRefIdeal.main_arg3) = m ((c.tc : Thread Cert.BBwdIdeal.nD Cert.BBwdIdeal.τ).loc Cert.BBwdIdeal.main_arg3)
      ∧ m' ((c.tc : Thread Cert.BBwdRefIdeal.nD Cert.BBwdRefIdeal.τ).loc Cert.BBwdRefIdeal.main_arg4) = m ((c.tc : Thread Cert.BBwdIdeal.nD Cert.BBwdIdeal.τ).loc Cert.BBwdIdeal.main_arg4)
      ∧ m' ((c.tc : Thread Cert.BBwdRefIdeal.nD Cert.BBwdRefIdeal.τ).loc Cert.BBwdRefIdeal.main_arg5) = m ((c.tc : Thread Cert.BBwdIdeal.nD Cert.BBwdIdeal.τ).loc Cert.BBwdIdeal.main_arg5)
      ∧ m' ((c.tc : Thread Cert.BBwdRefIdeal.nD Cert.BBwdRefIdeal.τ).loc Cert.BBwdRefIdeal.main_arg6) = m ((c.tc : Thread Cert.BBwdIdeal.nD Cert.BBwdIdeal.τ).loc Cert.BBwdIdeal.main_arg6)
      ∧ m' ((c.tc : Thread Cert.BBwdRefIdeal.nD Cert.BBwdRefIdeal.τ).loc Cert.BBwdRefIdeal.main_arg7) = m ((c.tc : Thread Cert.BBwdIdeal.nD Cert.BBwdIdeal.τ).loc Cert.BBwdIdeal.main_arg7)) →
    ∃ (v0 : (c : Dev Cert.BBwdIdeal.nD) → Buf (Elt Ideal) ((c.tc : Thread Cert.BBwdIdeal.nD Cert.BBwdIdeal.τ).loc Cert.BBwdIdeal.main_v103_0)) (v1 : (c : Dev Cert.BBwdIdeal.nD) → Buf (Elt Ideal) ((c.tc : Thread Cert.BBwdIdeal.nD Cert.BBwdIdeal.τ).loc Cert.BBwdIdeal.main_v103_1)) (v2 : (c : Dev Cert.BBwdIdeal.nD) → Buf (Elt Ideal) ((c.tc : Thread Cert.BBwdIdeal.nD Cert.BBwdIdeal.τ).loc Cert.BBwdIdeal.main_v103_2)) (v3 : (c : Dev Cert.BBwdIdeal.nD) → Buf (Elt Ideal) ((c.tc : Thread Cert.BBwdIdeal.nD Cert.BBwdIdeal.τ).loc Cert.BBwdIdeal.main_v103_3)) (v4 : (c : Dev Cert.BBwdIdeal.nD) → Buf (Elt Ideal) ((c.tc : Thread Cert.BBwdIdeal.nD Cert.BBwdIdeal.τ).loc Cert.BBwdIdeal.main_v103_4)) (v5 : (c : Dev Cert.BBwdIdeal.nD) → Buf (Elt Ideal) ((c.tc : Thread Cert.BBwdIdeal.nD Cert.BBwdIdeal.τ).loc Cert.BBwdIdeal.main_v103_5)) (v6 : (c : Dev Cert.BBwdIdeal.nD) → Buf (Elt Ideal) ((c.tc : Thread Cert.BBwdIdeal.nD Cert.BBwdIdeal.τ).loc Cert.BBwdIdeal.main_v103_6)),
      θ_run (Cert.BBwdIdeal.defs (F := Ideal)) (onTc (τ := Cert.BBwdIdeal.τ) (Cert.BBwdIdeal.main (F := Ideal))) ⟨m, fun _ => 0, g⟩ (fun r => ∀ c : Dev Cert.BBwdIdeal.nD,
          r.2.mem ((c.tc : Thread Cert.BBwdIdeal.nD Cert.BBwdIdeal.τ).loc Cert.BBwdIdeal.main_v103_0) = v0 c
          ∧ r.2.mem ((c.tc : Thread Cert.BBwdIdeal.nD Cert.BBwdIdeal.τ).loc Cert.BBwdIdeal.main_v103_1) = v1 c
          ∧ r.2.mem ((c.tc : Thread Cert.BBwdIdeal.nD Cert.BBwdIdeal.τ).loc Cert.BBwdIdeal.main_v103_2) = v2 c
          ∧ r.2.mem ((c.tc : Thread Cert.BBwdIdeal.nD Cert.BBwdIdeal.τ).loc Cert.BBwdIdeal.main_v103_3) = v3 c
          ∧ r.2.mem ((c.tc : Thread Cert.BBwdIdeal.nD Cert.BBwdIdeal.τ).loc Cert.BBwdIdeal.main_v103_4) = v4 c
          ∧ r.2.mem ((c.tc : Thread Cert.BBwdIdeal.nD Cert.BBwdIdeal.τ).loc Cert.BBwdIdeal.main_v103_5) = v5 c
          ∧ r.2.mem ((c.tc : Thread Cert.BBwdIdeal.nD Cert.BBwdIdeal.τ).loc Cert.BBwdIdeal.main_v103_6) = v6 c
          ∧ r.2.mem ((c.tc : Thread Cert.BBwdIdeal.nD Cert.BBwdIdeal.τ).loc Cert.BBwdIdeal.main_arg0) = m ((c.tc : Thread Cert.BBwdIdeal.nD Cert.BBwdIdeal.τ).loc Cert.BBwdIdeal.main_arg0)
          ∧ r.2.mem ((c.tc : Thread Cert.BBwdIdeal.nD Cert.BBwdIdeal.τ).loc Cert.BBwdIdeal.main_arg1) = m ((c.tc : Thread Cert.BBwdIdeal.nD Cert.BBwdIdeal.τ).loc Cert.BBwdIdeal.main_arg1)
          ∧ r.2.mem ((c.tc : Thread Cert.BBwdIdeal.nD Cert.BBwdIdeal.τ).loc Cert.BBwdIdeal.main_arg2) = m ((c.tc : Thread Cert.BBwdIdeal.nD Cert.BBwdIdeal.τ).loc Cert.BBwdIdeal.main_arg2)
          ∧ r.2.mem ((c.tc : Thread Cert.BBwdIdeal.nD Cert.BBwdIdeal.τ).loc Cert.BBwdIdeal.main_arg3) = m ((c.tc : Thread Cert.BBwdIdeal.nD Cert.BBwdIdeal.τ).loc Cert.BBwdIdeal.main_arg3)
          ∧ r.2.mem ((c.tc : Thread Cert.BBwdIdeal.nD Cert.BBwdIdeal.τ).loc Cert.BBwdIdeal.main_arg4) = m ((c.tc : Thread Cert.BBwdIdeal.nD Cert.BBwdIdeal.τ).loc Cert.BBwdIdeal.main_arg4)
          ∧ r.2.mem ((c.tc : Thread Cert.BBwdIdeal.nD Cert.BBwdIdeal.τ).loc Cert.BBwdIdeal.main_arg5) = m ((c.tc : Thread Cert.BBwdIdeal.nD Cert.BBwdIdeal.τ).loc Cert.BBwdIdeal.main_arg5)
          ∧ r.2.mem ((c.tc : Thread Cert.BBwdIdeal.nD Cert.BBwdIdeal.τ).loc Cert.BBwdIdeal.main_arg6) = m ((c.tc : Thread Cert.BBwdIdeal.nD Cert.BBwdIdeal.τ).loc Cert.BBwdIdeal.main_arg6)
          ∧ r.2.mem ((c.tc : Thread Cert.BBwdIdeal.nD Cert.BBwdIdeal.τ).loc Cert.BBwdIdeal.main_arg7) = m ((c.tc : Thread Cert.BBwdIdeal.nD Cert.BBwdIdeal.τ).loc Cert.BBwdIdeal.main_arg7))
      ∧ θ_run (Cert.BBwdRefIdeal.defs (F := Ideal)) (onTc (τ := Cert.BBwdRefIdeal.τ) (Cert.BBwdRefIdeal.main (F := Ideal))) ⟨m', fun _ => 0, g'⟩ (fun r => ∀ c : Dev Cert.BBwdRefIdeal.nD,
          r.2.mem ((c.tc : Thread Cert.BBwdRefIdeal.nD Cert.BBwdRefIdeal.τ).loc Cert.BBwdRefIdeal.main_v238) = v0 c
          ∧ r.2.mem ((c.tc : Thread Cert.BBwdRefIdeal.nD Cert.BBwdRefIdeal.τ).loc Cert.BBwdRefIdeal.main_v239) = v1 c
          ∧ r.2.mem ((c.tc : Thread Cert.BBwdRefIdeal.nD Cert.BBwdRefIdeal.τ).loc Cert.BBwdRefIdeal.main_v240) = v2 c
          ∧ r.2.mem ((c.tc : Thread Cert.BBwdRefIdeal.nD Cert.BBwdRefIdeal.τ).loc Cert.BBwdRefIdeal.main_v241) = v3 c
          ∧ r.2.mem ((c.tc : Thread Cert.BBwdRefIdeal.nD Cert.BBwdRefIdeal.τ).loc Cert.BBwdRefIdeal.main_v242) = v4 c
          ∧ r.2.mem ((c.tc : Thread Cert.BBwdRefIdeal.nD Cert.BBwdRefIdeal.τ).loc Cert.BBwdRefIdeal.main_v243) = v5 c
          ∧ r.2.mem ((c.tc : Thread Cert.BBwdRefIdeal.nD Cert.BBwdRefIdeal.τ).loc Cert.BBwdRefIdeal.main_v244) = v6 c
          ∧ r.2.mem ((c.tc : Thread Cert.BBwdRefIdeal.nD Cert.BBwdRefIdeal.τ).loc Cert.BBwdRefIdeal.main_arg0) = m' ((c.tc : Thread Cert.BBwdRefIdeal.nD Cert.BBwdRefIdeal.τ).loc Cert.BBwdRefIdeal.main_arg0)
          ∧ r.2.mem ((c.tc : Thread Cert.BBwdRefIdeal.nD Cert.BBwdRefIdeal.τ).loc Cert.BBwdRefIdeal.main_arg1) = m' ((c.tc : Thread Cert.BBwdRefIdeal.nD Cert.BBwdRefIdeal.τ).loc Cert.BBwdRefIdeal.main_arg1)
          ∧ r.2.mem ((c.tc : Thread Cert.BBwdRefIdeal.nD Cert.BBwdRefIdeal.τ).loc Cert.BBwdRefIdeal.main_arg2) = m' ((c.tc : Thread Cert.BBwdRefIdeal.nD Cert.BBwdRefIdeal.τ).loc Cert.BBwdRefIdeal.main_arg2)
          ∧ r.2.mem ((c.tc : Thread Cert.BBwdRefIdeal.nD Cert.BBwdRefIdeal.τ).loc Cert.BBwdRefIdeal.main_arg3) = m' ((c.tc : Thread Cert.BBwdRefIdeal.nD Cert.BBwdRefIdeal.τ).loc Cert.BBwdRefIdeal.main_arg3)
          ∧ r.2.mem ((c.tc : Thread Cert.BBwdRefIdeal.nD Cert.BBwdRefIdeal.τ).loc Cert.BBwdRefIdeal.main_arg4) = m' ((c.tc : Thread Cert.BBwdRefIdeal.nD Cert.BBwdRefIdeal.τ).loc Cert.BBwdRefIdeal.main_arg4)
          ∧ r.2.mem ((c.tc : Thread Cert.BBwdRefIdeal.nD Cert.BBwdRefIdeal.τ).loc Cert.BBwdRefIdeal.main_arg5) = m' ((c.tc : Thread Cert.BBwdRefIdeal.nD Cert.BBwdRefIdeal.τ).loc Cert.BBwdRefIdeal.main_arg5)
          ∧ r.2.mem ((c.tc : Thread Cert.BBwdRefIdeal.nD Cert.BBwdRefIdeal.τ).loc Cert.BBwdRefIdeal.main_arg6) = m' ((c.tc : Thread Cert.BBwdRefIdeal.nD Cert.BBwdRefIdeal.τ).loc Cert.BBwdRefIdeal.main_arg6)
          ∧ r.2.mem ((c.tc : Thread Cert.BBwdRefIdeal.nD Cert.BBwdRefIdeal.τ).loc Cert.BBwdRefIdeal.main_arg7) = m' ((c.tc : Thread Cert.BBwdRefIdeal.nD Cert.BBwdRefIdeal.τ).loc Cert.BBwdRefIdeal.main_arg7))

def preserves_AFwd_AFwdIdeal : Prop :=
  True

def algebraic_AFwdIdeal_AFwdRefIdeal [hAFwdIdeal : Cert.AFwdIdeal.Facts] [hAFwdRefIdeal : Cert.AFwdRefIdeal.Facts] : Prop :=
  ∀ (m : (ℓ : Loc Cert.AFwdIdeal.nD Cert.AFwdIdeal.τ Cert.AFwdIdeal.sig) → Buf (Elt Ideal) ℓ) (g : Dev Cert.AFwdIdeal.nD → PrngReg)
    (m' : (ℓ : Loc Cert.AFwdRefIdeal.nD Cert.AFwdRefIdeal.τ Cert.AFwdRefIdeal.sig) → Buf (Elt Ideal) ℓ) (g' : Dev Cert.AFwdRefIdeal.nD → PrngReg), Pre_AFwdIdeal m →
    (∀ c : Dev Cert.AFwdIdeal.nD,
      m' ((c.tc : Thread Cert.AFwdRefIdeal.nD Cert.AFwdRefIdeal.τ).loc Cert.AFwdRefIdeal.main_arg0) = m ((c.tc : Thread Cert.AFwdIdeal.nD Cert.AFwdIdeal.τ).loc Cert.AFwdIdeal.main_arg0)
      ∧ m' ((c.tc : Thread Cert.AFwdRefIdeal.nD Cert.AFwdRefIdeal.τ).loc Cert.AFwdRefIdeal.main_arg1) = m ((c.tc : Thread Cert.AFwdIdeal.nD Cert.AFwdIdeal.τ).loc Cert.AFwdIdeal.main_arg1)
      ∧ m' ((c.tc : Thread Cert.AFwdRefIdeal.nD Cert.AFwdRefIdeal.τ).loc Cert.AFwdRefIdeal.main_arg2) = m ((c.tc : Thread Cert.AFwdIdeal.nD Cert.AFwdIdeal.τ).loc Cert.AFwdIdeal.main_arg2)
      ∧ m' ((c.tc : Thread Cert.AFwdRefIdeal.nD Cert.AFwdRefIdeal.τ).loc Cert.AFwdRefIdeal.main_arg3) = m ((c.tc : Thread Cert.AFwdIdeal.nD Cert.AFwdIdeal.τ).loc Cert.AFwdIdeal.main_arg3)
      ∧ m' ((c.tc : Thread Cert.AFwdRefIdeal.nD Cert.AFwdRefIdeal.τ).loc Cert.AFwdRefIdeal.main_arg4) = m ((c.tc : Thread Cert.AFwdIdeal.nD Cert.AFwdIdeal.τ).loc Cert.AFwdIdeal.main_arg4)
      ∧ m' ((c.tc : Thread Cert.AFwdRefIdeal.nD Cert.AFwdRefIdeal.τ).loc Cert.AFwdRefIdeal.main_arg5) = m ((c.tc : Thread Cert.AFwdIdeal.nD Cert.AFwdIdeal.τ).loc Cert.AFwdIdeal.main_arg5)
      ∧ m' ((c.tc : Thread Cert.AFwdRefIdeal.nD Cert.AFwdRefIdeal.τ).loc Cert.AFwdRefIdeal.main_arg6) = m ((c.tc : Thread Cert.AFwdIdeal.nD Cert.AFwdIdeal.τ).loc Cert.AFwdIdeal.main_arg6)
      ∧ m' ((c.tc : Thread Cert.AFwdRefIdeal.nD Cert.AFwdRefIdeal.τ).loc Cert.AFwdRefIdeal.main_arg7) = m ((c.tc : Thread Cert.AFwdIdeal.nD Cert.AFwdIdeal.τ).loc Cert.AFwdIdeal.main_arg7)
      ∧ m' ((c.tc : Thread Cert.AFwdRefIdeal.nD Cert.AFwdRefIdeal.τ).loc Cert.AFwdRefIdeal.main_arg8) = m ((c.tc : Thread Cert.AFwdIdeal.nD Cert.AFwdIdeal.τ).loc Cert.AFwdIdeal.main_arg8)) →
    ∃ (v0 : (c : Dev Cert.AFwdIdeal.nD) → Buf (Elt Ideal) ((c.tc : Thread Cert.AFwdIdeal.nD Cert.AFwdIdeal.τ).loc Cert.AFwdIdeal.main_v8_0)) (v1 : (c : Dev Cert.AFwdIdeal.nD) → Buf (Elt Ideal) ((c.tc : Thread Cert.AFwdIdeal.nD Cert.AFwdIdeal.τ).loc Cert.AFwdIdeal.main_v8_1)) (v2 : (c : Dev Cert.AFwdIdeal.nD) → Buf (Elt Ideal) ((c.tc : Thread Cert.AFwdIdeal.nD Cert.AFwdIdeal.τ).loc Cert.AFwdIdeal.main_v8_3)) (v3 : (c : Dev Cert.AFwdIdeal.nD) → Buf (Elt Ideal) ((c.tc : Thread Cert.AFwdIdeal.nD Cert.AFwdIdeal.τ).loc Cert.AFwdIdeal.main_v8_4)) (v4 : (c : Dev Cert.AFwdIdeal.nD) → Buf (Elt Ideal) ((c.tc : Thread Cert.AFwdIdeal.nD Cert.AFwdIdeal.τ).loc Cert.AFwdIdeal.main_v8_5)) (v5 : (c : Dev Cert.AFwdIdeal.nD) → Buf (Elt Ideal) ((c.tc : Thread Cert.AFwdIdeal.nD Cert.AFwdIdeal.τ).loc Cert.AFwdIdeal.main_v8_6)) (v6 : (c : Dev Cert.AFwdIdeal.nD) → Buf (Elt Ideal) ((c.tc : Thread Cert.AFwdIdeal.nD Cert.AFwdIdeal.τ).loc Cert.AFwdIdeal.main_v8_7)),
      θ_run (Cert.AFwdIdeal.defs (F := Ideal)) (onTc (τ := Cert.AFwdIdeal.τ) (Cert.AFwdIdeal.main (F := Ideal))) ⟨m, fun _ => 0, g⟩ (fun r => ∀ c : Dev Cert.AFwdIdeal.nD,
          r.2.mem ((c.tc : Thread Cert.AFwdIdeal.nD Cert.AFwdIdeal.τ).loc Cert.AFwdIdeal.main_v8_0) = v0 c
          ∧ r.2.mem ((c.tc : Thread Cert.AFwdIdeal.nD Cert.AFwdIdeal.τ).loc Cert.AFwdIdeal.main_v8_1) = v1 c
          ∧ r.2.mem ((c.tc : Thread Cert.AFwdIdeal.nD Cert.AFwdIdeal.τ).loc Cert.AFwdIdeal.main_v8_3) = v2 c
          ∧ r.2.mem ((c.tc : Thread Cert.AFwdIdeal.nD Cert.AFwdIdeal.τ).loc Cert.AFwdIdeal.main_v8_4) = v3 c
          ∧ r.2.mem ((c.tc : Thread Cert.AFwdIdeal.nD Cert.AFwdIdeal.τ).loc Cert.AFwdIdeal.main_v8_5) = v4 c
          ∧ r.2.mem ((c.tc : Thread Cert.AFwdIdeal.nD Cert.AFwdIdeal.τ).loc Cert.AFwdIdeal.main_v8_6) = v5 c
          ∧ r.2.mem ((c.tc : Thread Cert.AFwdIdeal.nD Cert.AFwdIdeal.τ).loc Cert.AFwdIdeal.main_v8_7) = v6 c
          ∧ r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
          ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
          ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
          ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
          ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
          ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
          ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
          ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7)
          ∧ r.2.mem ((c.tc : Thread Cert.AFwdIdeal.nD Cert.AFwdIdeal.τ).loc Cert.AFwdIdeal.main_arg8) = m ((c.tc : Thread Cert.AFwdIdeal.nD Cert.AFwdIdeal.τ).loc Cert.AFwdIdeal.main_arg8))
      ∧ θ_run (Cert.AFwdRefIdeal.defs (F := Ideal)) (onTc (τ := Cert.AFwdRefIdeal.τ) (Cert.AFwdRefIdeal.main (F := Ideal))) ⟨m', fun _ => 0, g'⟩ (fun r => ∀ c : Dev Cert.AFwdRefIdeal.nD,
          r.2.mem ((c.tc : Thread Cert.AFwdRefIdeal.nD Cert.AFwdRefIdeal.τ).loc Cert.AFwdRefIdeal.main_v97) = v0 c
          ∧ r.2.mem ((c.tc : Thread Cert.AFwdRefIdeal.nD Cert.AFwdRefIdeal.τ).loc Cert.AFwdRefIdeal.main_v98) = v1 c
          ∧ r.2.mem ((c.tc : Thread Cert.AFwdRefIdeal.nD Cert.AFwdRefIdeal.τ).loc Cert.AFwdRefIdeal.main_v99) = v2 c
          ∧ r.2.mem ((c.tc : Thread Cert.AFwdRefIdeal.nD Cert.AFwdRefIdeal.τ).loc Cert.AFwdRefIdeal.main_v102) = v3 c
          ∧ r.2.mem ((c.tc : Thread Cert.AFwdRefIdeal.nD Cert.AFwdRefIdeal.τ).loc Cert.AFwdRefIdeal.main_v103) = v4 c
          ∧ r.2.mem ((c.tc : Thread Cert.AFwdRefIdeal.nD Cert.AFwdRefIdeal.τ).loc Cert.AFwdRefIdeal.main_v104) = v5 c
          ∧ r.2.mem ((c.tc : Thread Cert.AFwdRefIdeal.nD Cert.AFwdRefIdeal.τ).loc Cert.AFwdRefIdeal.main_v83) = v6 c
          ∧ r.2.mem ((c.tc : Thread Cert.AFwdRefIdeal.nD Cert.AFwdRefIdeal.τ).loc Cert.AFwdRefIdeal.main_arg0) = m' ((c.tc : Thread Cert.AFwdRefIdeal.nD Cert.AFwdRefIdeal.τ).loc Cert.AFwdRefIdeal.main_arg0)
          ∧ r.2.mem ((c.tc : Thread Cert.AFwdRefIdeal.nD Cert.AFwdRefIdeal.τ).loc Cert.AFwdRefIdeal.main_arg1) = m' ((c.tc : Thread Cert.AFwdRefIdeal.nD Cert.AFwdRefIdeal.τ).loc Cert.AFwdRefIdeal.main_arg1)
          ∧ r.2.mem ((c.tc : Thread Cert.AFwdRefIdeal.nD Cert.AFwdRefIdeal.τ).loc Cert.AFwdRefIdeal.main_arg2) = m' ((c.tc : Thread Cert.AFwdRefIdeal.nD Cert.AFwdRefIdeal.τ).loc Cert.AFwdRefIdeal.main_arg2)
          ∧ r.2.mem ((c.tc : Thread Cert.AFwdRefIdeal.nD Cert.AFwdRefIdeal.τ).loc Cert.AFwdRefIdeal.main_arg3) = m' ((c.tc : Thread Cert.AFwdRefIdeal.nD Cert.AFwdRefIdeal.τ).loc Cert.AFwdRefIdeal.main_arg3)
          ∧ r.2.mem ((c.tc : Thread Cert.AFwdRefIdeal.nD Cert.AFwdRefIdeal.τ).loc Cert.AFwdRefIdeal.main_arg4) = m' ((c.tc : Thread Cert.AFwdRefIdeal.nD Cert.AFwdRefIdeal.τ).loc Cert.AFwdRefIdeal.main_arg4)
          ∧ r.2.mem ((c.tc : Thread Cert.AFwdRefIdeal.nD Cert.AFwdRefIdeal.τ).loc Cert.AFwdRefIdeal.main_arg5) = m' ((c.tc : Thread Cert.AFwdRefIdeal.nD Cert.AFwdRefIdeal.τ).loc Cert.AFwdRefIdeal.main_arg5)
          ∧ r.2.mem ((c.tc : Thread Cert.AFwdRefIdeal.nD Cert.AFwdRefIdeal.τ).loc Cert.AFwdRefIdeal.main_arg6) = m' ((c.tc : Thread Cert.AFwdRefIdeal.nD Cert.AFwdRefIdeal.τ).loc Cert.AFwdRefIdeal.main_arg6)
          ∧ r.2.mem ((c.tc : Thread Cert.AFwdRefIdeal.nD Cert.AFwdRefIdeal.τ).loc Cert.AFwdRefIdeal.main_arg7) = m' ((c.tc : Thread Cert.AFwdRefIdeal.nD Cert.AFwdRefIdeal.τ).loc Cert.AFwdRefIdeal.main_arg7)
          ∧ r.2.mem ((c.tc : Thread Cert.AFwdRefIdeal.nD Cert.AFwdRefIdeal.τ).loc Cert.AFwdRefIdeal.main_arg8) = m' ((c.tc : Thread Cert.AFwdRefIdeal.nD Cert.AFwdRefIdeal.τ).loc Cert.AFwdRefIdeal.main_arg8))

def preserves_BFwd_BFwdIdeal : Prop :=
  True

def algebraic_BFwdIdeal_BFwdRefIdeal_pre_bf_finite [hBFwdIdeal : Cert.BFwdIdeal.Facts] [hBFwdRefIdeal : Cert.BFwdRefIdeal.Facts] [hPre_bf_finite : Cert.Pre_bf_finite.Facts] : Prop :=
  ∀ (m : (ℓ : Loc Cert.BFwdIdeal.nD Cert.BFwdIdeal.τ Cert.BFwdIdeal.sig) → Buf (Elt Ideal) ℓ) (g : Dev Cert.BFwdIdeal.nD → PrngReg)
    (m' : (ℓ : Loc Cert.BFwdRefIdeal.nD Cert.BFwdRefIdeal.τ Cert.BFwdRefIdeal.sig) → Buf (Elt Ideal) ℓ) (g' : Dev Cert.BFwdRefIdeal.nD → PrngReg), Pre_BFwdIdeal_bf_finite m →
    (∀ c : Dev Cert.BFwdIdeal.nD,
      m' ((c.tc : Thread Cert.BFwdRefIdeal.nD Cert.BFwdRefIdeal.τ).loc Cert.BFwdRefIdeal.main_arg0) = m ((c.tc : Thread Cert.BFwdIdeal.nD Cert.BFwdIdeal.τ).loc Cert.BFwdIdeal.main_arg0)
      ∧ m' ((c.tc : Thread Cert.BFwdRefIdeal.nD Cert.BFwdRefIdeal.τ).loc Cert.BFwdRefIdeal.main_arg1) = m ((c.tc : Thread Cert.BFwdIdeal.nD Cert.BFwdIdeal.τ).loc Cert.BFwdIdeal.main_arg1)
      ∧ m' ((c.tc : Thread Cert.BFwdRefIdeal.nD Cert.BFwdRefIdeal.τ).loc Cert.BFwdRefIdeal.main_arg2) = m ((c.tc : Thread Cert.BFwdIdeal.nD Cert.BFwdIdeal.τ).loc Cert.BFwdIdeal.main_arg2)
      ∧ m' ((c.tc : Thread Cert.BFwdRefIdeal.nD Cert.BFwdRefIdeal.τ).loc Cert.BFwdRefIdeal.main_arg3) = m ((c.tc : Thread Cert.BFwdIdeal.nD Cert.BFwdIdeal.τ).loc Cert.BFwdIdeal.main_arg3)
      ∧ m' ((c.tc : Thread Cert.BFwdRefIdeal.nD Cert.BFwdRefIdeal.τ).loc Cert.BFwdRefIdeal.main_arg4) = m ((c.tc : Thread Cert.BFwdIdeal.nD Cert.BFwdIdeal.τ).loc Cert.BFwdIdeal.main_arg4)
      ∧ m' ((c.tc : Thread Cert.BFwdRefIdeal.nD Cert.BFwdRefIdeal.τ).loc Cert.BFwdRefIdeal.main_arg5) = m ((c.tc : Thread Cert.BFwdIdeal.nD Cert.BFwdIdeal.τ).loc Cert.BFwdIdeal.main_arg5)
      ∧ m' ((c.tc : Thread Cert.BFwdRefIdeal.nD Cert.BFwdRefIdeal.τ).loc Cert.BFwdRefIdeal.main_arg6) = m ((c.tc : Thread Cert.BFwdIdeal.nD Cert.BFwdIdeal.τ).loc Cert.BFwdIdeal.main_arg6)) →
    ∃ (v0 : (c : Dev Cert.BFwdIdeal.nD) → Buf (Elt Ideal) ((c.tc : Thread Cert.BFwdIdeal.nD Cert.BFwdIdeal.τ).loc Cert.BFwdIdeal.main_v6_0)) (v1 : (c : Dev Cert.BFwdIdeal.nD) → Buf (Elt Ideal) ((c.tc : Thread Cert.BFwdIdeal.nD Cert.BFwdIdeal.τ).loc Cert.BFwdIdeal.main_v6_1)) (v2 : (c : Dev Cert.BFwdIdeal.nD) → Buf (Elt Ideal) ((c.tc : Thread Cert.BFwdIdeal.nD Cert.BFwdIdeal.τ).loc Cert.BFwdIdeal.main_v6_2)) (v3 : (c : Dev Cert.BFwdIdeal.nD) → Buf (Elt Ideal) ((c.tc : Thread Cert.BFwdIdeal.nD Cert.BFwdIdeal.τ).loc Cert.BFwdIdeal.main_v6_3)) (v4 : (c : Dev Cert.BFwdIdeal.nD) → Buf (Elt Ideal) ((c.tc : Thread Cert.BFwdIdeal.nD Cert.BFwdIdeal.τ).loc Cert.BFwdIdeal.main_v6_4)),
      θ_run (Cert.BFwdIdeal.defs (F := Ideal)) (onTc (τ := Cert.BFwdIdeal.τ) (Cert.BFwdIdeal.main (F := Ideal))) ⟨m, fun _ => 0, g⟩ (fun r => ∀ c : Dev Cert.BFwdIdeal.nD,
          r.2.mem ((c.tc : Thread Cert.BFwdIdeal.nD Cert.BFwdIdeal.τ).loc Cert.BFwdIdeal.main_v6_0) = v0 c
          ∧ r.2.mem ((c.tc : Thread Cert.BFwdIdeal.nD Cert.BFwdIdeal.τ).loc Cert.BFwdIdeal.main_v6_1) = v1 c
          ∧ r.2.mem ((c.tc : Thread Cert.BFwdIdeal.nD Cert.BFwdIdeal.τ).loc Cert.BFwdIdeal.main_v6_2) = v2 c
          ∧ r.2.mem ((c.tc : Thread Cert.BFwdIdeal.nD Cert.BFwdIdeal.τ).loc Cert.BFwdIdeal.main_v6_3) = v3 c
          ∧ r.2.mem ((c.tc : Thread Cert.BFwdIdeal.nD Cert.BFwdIdeal.τ).loc Cert.BFwdIdeal.main_v6_4) = v4 c
          ∧ r.2.mem ((c.tc : Thread Cert.BFwdIdeal.nD Cert.BFwdIdeal.τ).loc Cert.BFwdIdeal.main_arg0) = m ((c.tc : Thread Cert.BFwdIdeal.nD Cert.BFwdIdeal.τ).loc Cert.BFwdIdeal.main_arg0)
          ∧ r.2.mem ((c.tc : Thread Cert.BFwdIdeal.nD Cert.BFwdIdeal.τ).loc Cert.BFwdIdeal.main_arg1) = m ((c.tc : Thread Cert.BFwdIdeal.nD Cert.BFwdIdeal.τ).loc Cert.BFwdIdeal.main_arg1)
          ∧ r.2.mem ((c.tc : Thread Cert.BFwdIdeal.nD Cert.BFwdIdeal.τ).loc Cert.BFwdIdeal.main_arg2) = m ((c.tc : Thread Cert.BFwdIdeal.nD Cert.BFwdIdeal.τ).loc Cert.BFwdIdeal.main_arg2)
          ∧ r.2.mem ((c.tc : Thread Cert.BFwdIdeal.nD Cert.BFwdIdeal.τ).loc Cert.BFwdIdeal.main_arg3) = m ((c.tc : Thread Cert.BFwdIdeal.nD Cert.BFwdIdeal.τ).loc Cert.BFwdIdeal.main_arg3)
          ∧ r.2.mem ((c.tc : Thread Cert.BFwdIdeal.nD Cert.BFwdIdeal.τ).loc Cert.BFwdIdeal.main_arg4) = m ((c.tc : Thread Cert.BFwdIdeal.nD Cert.BFwdIdeal.τ).loc Cert.BFwdIdeal.main_arg4)
          ∧ r.2.mem ((c.tc : Thread Cert.BFwdIdeal.nD Cert.BFwdIdeal.τ).loc Cert.BFwdIdeal.main_arg5) = m ((c.tc : Thread Cert.BFwdIdeal.nD Cert.BFwdIdeal.τ).loc Cert.BFwdIdeal.main_arg5)
          ∧ r.2.mem ((c.tc : Thread Cert.BFwdIdeal.nD Cert.BFwdIdeal.τ).loc Cert.BFwdIdeal.main_arg6) = m ((c.tc : Thread Cert.BFwdIdeal.nD Cert.BFwdIdeal.τ).loc Cert.BFwdIdeal.main_arg6))
      ∧ θ_run (Cert.BFwdRefIdeal.defs (F := Ideal)) (onTc (τ := Cert.BFwdRefIdeal.τ) (Cert.BFwdRefIdeal.main (F := Ideal))) ⟨m', fun _ => 0, g'⟩ (fun r => ∀ c : Dev Cert.BFwdRefIdeal.nD,
          r.2.mem ((c.tc : Thread Cert.BFwdRefIdeal.nD Cert.BFwdRefIdeal.τ).loc Cert.BFwdRefIdeal.main_v107) = v0 c
          ∧ r.2.mem ((c.tc : Thread Cert.BFwdRefIdeal.nD Cert.BFwdRefIdeal.τ).loc Cert.BFwdRefIdeal.main_v108) = v1 c
          ∧ r.2.mem ((c.tc : Thread Cert.BFwdRefIdeal.nD Cert.BFwdRefIdeal.τ).loc Cert.BFwdRefIdeal.main_v110) = v2 c
          ∧ r.2.mem ((c.tc : Thread Cert.BFwdRefIdeal.nD Cert.BFwdRefIdeal.τ).loc Cert.BFwdRefIdeal.main_v111) = v3 c
          ∧ r.2.mem ((c.tc : Thread Cert.BFwdRefIdeal.nD Cert.BFwdRefIdeal.τ).loc Cert.BFwdRefIdeal.main_v93) = v4 c
          ∧ r.2.mem ((c.tc : Thread Cert.BFwdRefIdeal.nD Cert.BFwdRefIdeal.τ).loc Cert.BFwdRefIdeal.main_arg0) = m' ((c.tc : Thread Cert.BFwdRefIdeal.nD Cert.BFwdRefIdeal.τ).loc Cert.BFwdRefIdeal.main_arg0)
          ∧ r.2.mem ((c.tc : Thread Cert.BFwdRefIdeal.nD Cert.BFwdRefIdeal.τ).loc Cert.BFwdRefIdeal.main_arg1) = m' ((c.tc : Thread Cert.BFwdRefIdeal.nD Cert.BFwdRefIdeal.τ).loc Cert.BFwdRefIdeal.main_arg1)
          ∧ r.2.mem ((c.tc : Thread Cert.BFwdRefIdeal.nD Cert.BFwdRefIdeal.τ).loc Cert.BFwdRefIdeal.main_arg2) = m' ((c.tc : Thread Cert.BFwdRefIdeal.nD Cert.BFwdRefIdeal.τ).loc Cert.BFwdRefIdeal.main_arg2)
          ∧ r.2.mem ((c.tc : Thread Cert.BFwdRefIdeal.nD Cert.BFwdRefIdeal.τ).loc Cert.BFwdRefIdeal.main_arg3) = m' ((c.tc : Thread Cert.BFwdRefIdeal.nD Cert.BFwdRefIdeal.τ).loc Cert.BFwdRefIdeal.main_arg3)
          ∧ r.2.mem ((c.tc : Thread Cert.BFwdRefIdeal.nD Cert.BFwdRefIdeal.τ).loc Cert.BFwdRefIdeal.main_arg4) = m' ((c.tc : Thread Cert.BFwdRefIdeal.nD Cert.BFwdRefIdeal.τ).loc Cert.BFwdRefIdeal.main_arg4)
          ∧ r.2.mem ((c.tc : Thread Cert.BFwdRefIdeal.nD Cert.BFwdRefIdeal.τ).loc Cert.BFwdRefIdeal.main_arg5) = m' ((c.tc : Thread Cert.BFwdRefIdeal.nD Cert.BFwdRefIdeal.τ).loc Cert.BFwdRefIdeal.main_arg5)
          ∧ r.2.mem ((c.tc : Thread Cert.BFwdRefIdeal.nD Cert.BFwdRefIdeal.τ).loc Cert.BFwdRefIdeal.main_arg6) = m' ((c.tc : Thread Cert.BFwdRefIdeal.nD Cert.BFwdRefIdeal.τ).loc Cert.BFwdRefIdeal.main_arg6))

def Claim : Prop :=
  ∃ (hFBwd : Cert.FBwd.Facts) (hFBwdIdeal : Cert.FBwdIdeal.Facts) (hFBwdRefIdeal : Cert.FBwdRefIdeal.Facts) (hFGrad : Cert.FGrad.Facts) (hFGradIdeal : Cert.FGradIdeal.Facts) (hFGradRefIdeal : Cert.FGradRefIdeal.Facts) (hFFwd : Cert.FFwd.Facts) (hFFwdIdeal : Cert.FFwdIdeal.Facts) (hFFwdRefIdeal : Cert.FFwdRefIdeal.Facts) (hAIn : Cert.AIn.Facts) (hAInIdeal : Cert.AInIdeal.Facts) (hAInRefIdeal : Cert.AInRefIdeal.Facts) (hAOut : Cert.AOut.Facts) (hAOutIdeal : Cert.AOutIdeal.Facts) (hAOutRefIdeal : Cert.AOutRefIdeal.Facts) (hBGrad : Cert.BGrad.Facts) (hBGradIdeal : Cert.BGradIdeal.Facts) (hBGradRefIdeal : Cert.BGradRefIdeal.Facts) (hBBwd : Cert.BBwd.Facts) (hBBwdIdeal : Cert.BBwdIdeal.Facts) (hBBwdRefIdeal : Cert.BBwdRefIdeal.Facts) (hAFwd : Cert.AFwd.Facts) (hAFwdIdeal : Cert.AFwdIdeal.Facts) (hAFwdRefIdeal : Cert.AFwdRefIdeal.Facts) (hBFwd : Cert.BFwd.Facts) (hBFwdIdeal : Cert.BFwdIdeal.Facts) (hBFwdRefIdeal : Cert.BFwdRefIdeal.Facts) (hPre_f_finite : Cert.Pre_f_finite.Facts) (hPre_ff_finite : Cert.Pre_ff_finite.Facts) (hPre_b_finite : Cert.Pre_b_finite.Facts) (hPre_bf_finite : Cert.Pre_bf_finite.Facts),
    quiescent_FBwd (hFBwd := hFBwd)
    ∧ quiescent_FBwdIdeal (hFBwdIdeal := hFBwdIdeal)
    ∧ quiescent_FBwdIdeal_pre_f_finite (hFBwdIdeal := hFBwdIdeal) (hPre_f_finite := hPre_f_finite)
    ∧ quiescent_FBwdRefIdeal (hFBwdRefIdeal := hFBwdRefIdeal)
    ∧ quiescent_FBwdRefIdeal_pre_f_finite (hFBwdRefIdeal := hFBwdRefIdeal) (hPre_f_finite := hPre_f_finite)
    ∧ quiescent_FGrad (hFGrad := hFGrad)
    ∧ quiescent_FGradIdeal (hFGradIdeal := hFGradIdeal)
    ∧ quiescent_FGradRefIdeal (hFGradRefIdeal := hFGradRefIdeal)
    ∧ quiescent_FFwd (hFFwd := hFFwd)
    ∧ quiescent_FFwdIdeal (hFFwdIdeal := hFFwdIdeal)
    ∧ quiescent_FFwdIdeal_pre_ff_finite (hFFwdIdeal := hFFwdIdeal) (hPre_ff_finite := hPre_ff_finite)
    ∧ quiescent_FFwdRefIdeal (hFFwdRefIdeal := hFFwdRefIdeal)
    ∧ quiescent_FFwdRefIdeal_pre_ff_finite (hFFwdRefIdeal := hFFwdRefIdeal) (hPre_ff_finite := hPre_ff_finite)
    ∧ quiescent_AIn (hAIn := hAIn)
    ∧ quiescent_AInIdeal (hAInIdeal := hAInIdeal)
    ∧ quiescent_AInRefIdeal (hAInRefIdeal := hAInRefIdeal)
    ∧ quiescent_AOut (hAOut := hAOut)
    ∧ quiescent_AOutIdeal (hAOutIdeal := hAOutIdeal)
    ∧ quiescent_AOutRefIdeal (hAOutRefIdeal := hAOutRefIdeal)
    ∧ quiescent_BGrad (hBGrad := hBGrad)
    ∧ quiescent_BGradIdeal (hBGradIdeal := hBGradIdeal)
    ∧ quiescent_BGradRefIdeal (hBGradRefIdeal := hBGradRefIdeal)
    ∧ quiescent_BBwd (hBBwd := hBBwd)
    ∧ quiescent_BBwdIdeal (hBBwdIdeal := hBBwdIdeal)
    ∧ quiescent_BBwdIdeal_pre_b_finite (hBBwdIdeal := hBBwdIdeal) (hPre_b_finite := hPre_b_finite)
    ∧ quiescent_BBwdRefIdeal (hBBwdRefIdeal := hBBwdRefIdeal)
    ∧ quiescent_BBwdRefIdeal_pre_b_finite (hBBwdRefIdeal := hBBwdRefIdeal) (hPre_b_finite := hPre_b_finite)
    ∧ quiescent_AFwd (hAFwd := hAFwd)
    ∧ quiescent_AFwdIdeal (hAFwdIdeal := hAFwdIdeal)
    ∧ quiescent_AFwdRefIdeal (hAFwdRefIdeal := hAFwdRefIdeal)
    ∧ quiescent_BFwd (hBFwd := hBFwd)
    ∧ quiescent_BFwdIdeal (hBFwdIdeal := hBFwdIdeal)
    ∧ quiescent_BFwdIdeal_pre_bf_finite (hBFwdIdeal := hBFwdIdeal) (hPre_bf_finite := hPre_bf_finite)
    ∧ quiescent_BFwdRefIdeal (hBFwdRefIdeal := hBFwdRefIdeal)
    ∧ quiescent_BFwdRefIdeal_pre_bf_finite (hBFwdRefIdeal := hBFwdRefIdeal) (hPre_bf_finite := hPre_bf_finite)
    ∧ preserves_FBwd_FBwdIdeal
    ∧ algebraic_FBwdIdeal_FBwdRefIdeal_pre_f_finite (hFBwdIdeal := hFBwdIdeal) (hFBwdRefIdeal := hFBwdRefIdeal) (hPre_f_finite := hPre_f_finite)
    ∧ preserves_FGrad_FGradIdeal
    ∧ algebraic_FGradIdeal_FGradRefIdeal (hFGradIdeal := hFGradIdeal) (hFGradRefIdeal := hFGradRefIdeal)
    ∧ preserves_FFwd_FFwdIdeal
    ∧ algebraic_FFwdIdeal_FFwdRefIdeal_pre_ff_finite (hFFwdIdeal := hFFwdIdeal) (hFFwdRefIdeal := hFFwdRefIdeal) (hPre_ff_finite := hPre_ff_finite)
    ∧ preserves_AIn_AInIdeal
    ∧ algebraic_AInIdeal_AInRefIdeal (hAInIdeal := hAInIdeal) (hAInRefIdeal := hAInRefIdeal)
    ∧ preserves_AOut_AOutIdeal
    ∧ algebraic_AOutIdeal_AOutRefIdeal (hAOutIdeal := hAOutIdeal) (hAOutRefIdeal := hAOutRefIdeal)
    ∧ preserves_BGrad_BGradIdeal
    ∧ algebraic_BGradIdeal_BGradRefIdeal (hBGradIdeal := hBGradIdeal) (hBGradRefIdeal := hBGradRefIdeal)
    ∧ preserves_BBwd_BBwdIdeal
    ∧ algebraic_BBwdIdeal_BBwdRefIdeal_pre_b_finite (hBBwdIdeal := hBBwdIdeal) (hBBwdRefIdeal := hBBwdRefIdeal) (hPre_b_finite := hPre_b_finite)
    ∧ preserves_AFwd_AFwdIdeal
    ∧ algebraic_AFwdIdeal_AFwdRefIdeal (hAFwdIdeal := hAFwdIdeal) (hAFwdRefIdeal := hAFwdRefIdeal)
    ∧ preserves_BFwd_BFwdIdeal
    ∧ algebraic_BFwdIdeal_BFwdRefIdeal_pre_bf_finite (hBFwdIdeal := hBFwdIdeal) (hBFwdRefIdeal := hBFwdRefIdeal) (hPre_bf_finite := hPre_bf_finite)
-- ==== Pre_b_finite.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_arg7 : FVec F S8192x1024 .f32) (main_v29 : IVec S_ 1) (main_v32 : IVec S1024 1) (main_c_12 : IVec S_ 1) : IVec S_ 1 :=
  let main_v33 : IVec S_ 1 := (fun x v => Host.reduce IntOp.andi x v reducesTo_S1024_S_d0 h_S_) main_v32 main_c_12
  let main_v34 : IVec S_ 1 := andi main_v29 main_v33
  let main_v35 : FVec F S8192x1024 .f32 := Host.absf main_arg7
  let main_cst_13 : FVec F S_ .f32 := constant S_ .f32 0x7F800000#32
  let main_v36 : FVec F S8192x1024 .f32 := broadcastInDim S8192x1024 ![] bcast_S_S8192x1024 main_cst_13
  let main_v37 : IVec S8192x1024 1 := cmpf .olt main_v35 main_v36
  let main_c_14 : IVec S_ 1 := constantI S_ 1 1#1
  let main_v38 : IVec S_ 1 := (fun x v => Host.reduce IntOp.andi x v reducesTo_S8192x1024_S_d0_1 h_S_) main_v37 main_c_14
  let main_v39 : IVec S_ 1 := andi main_v34 main_v38
  main_v39

def fn_part1 {F : FTy → Type} [FloatOps F] (main_arg4 : FVec F S1024 .f32) (main_arg5 : FVec F S1024x1024 .f32) (main_arg6 : FVec F S1024 .f32) (main_arg7 : FVec F S8192x1024 .f32) (main_v14 : IVec S_ 1) (main_v15 : FVec F S4x256x256 .f32) (main_cst_5 : FVec F S_ .f32) : IVec S_ 1 :=
  let main_v16 : FVec F S4x256x256 .f32 := broadcastInDim S4x256x256 ![] bcast_S_S4x256x256 main_cst_5
  let main_v17 : IVec S4x256x256 1 := cmpf .olt main_v15 main_v16
  let main_c_6 : IVec S_ 1 := constantI S_ 1 1#1
  let main_v18 : IVec S_ 1 := (fun x v => Host.reduce IntOp.andi x v reducesTo_S4x256x256_S_d0_1_2 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S1024x1024 .f32 := Host.absf main_arg5
  let main_cst_9 : FVec F S_ .f32 := constant S_ .f32 0x7F800000#32
  let main_v26 : FVec F S1024x1024 .f32 := broadcastInDim S1024x1024 ![] bcast_S_S1024x1024 main_cst_9
  let main_v27 : IVec S1024x1024 1 := cmpf .olt main_v25 main_v26
  let main_c_10 : IVec S_ 1 := constantI S_ 1 1#1
  let main_v28 : IVec S_ 1 := (fun x v => Host.reduce IntOp.andi x v reducesTo_S1024x1024_S_d0_1 h_S_) main_v27 main_c_10
  let main_v29 : IVec S_ 1 := andi main_v24 main_v28
  let main_v30 : FVec F S1024 .f32 := Host.absf main_arg6
  let main_cst_11 : FVec F S_ .f32 := constant S_ .f32 0x7F800000#32
  let main_v31 : FVec F S1024 .f32 := broadcastInDim S1024 ![] bcast_S_S1024 main_cst_11
  let main_v32 : IVec S1024 1 := cmpf .olt main_v30 main_v31
  let main_c_12 : IVec S_ 1 := constantI S_ 1 1#1
  fn_part2 (F := F) main_arg7 main_v29 main_v32 main_c_12

def fn {F : FTy → Type} [FloatOps F] (main_arg0 : FVec F S8192x1024 .f32) (main_arg1 : FVec F S1024 .f32) (main_arg2 : FVec F S1024x1024 .f32) (main_arg3 : FVec F S4x256x256 .f32) (main_arg4 : FVec F S1024 .f32) (main_arg5 : FVec F S1024x1024 .f32) (main_arg6 : FVec F S1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x1024 .f32 := Host.absf main_arg2
  let main_cst_3 : FVec F S_ .f32 := constant S_ .f32 0x7F800000#32
  let main_v11 : FVec F S1024x1024 .f32 := broadcastInDim S1024x1024 ![] bcast_S_S1024x1024 main_cst_3
  let main_v12 : IVec S1024x1024 1 := cmpf .olt main_v10 main_v11
  let main_c_4 : IVec S_ 1 := constantI S_ 1 1#1
  let main_v13 : IVec S_ 1 := (fun x v => Host.reduce IntOp.andi x v reducesTo_S1024x1024_S_d0_1 h_S_) main_v12 main_c_4
  let main_v14 : IVec S_ 1 := andi main_v9 main_v13
  let main_v15 : FVec F S4x256x256 .f32 := Host.absf main_arg3
  let main_cst_5 : FVec F S_ .f32 := constant S_ .f32 0x7F800000#32
  fn_part1 (F := F) main_arg4 main_arg5 main_arg6 main_arg7 main_v14 main_v15 main_cst_5
-- ==== Pre_bf_finite.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024 .f32) (main_arg2 : FVec F S1024x1024 .f32) (main_arg3 : FVec F S4x256x256 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x1024 .f32 := Host.absf main_arg2
  let main_cst_3 : FVec F S_ .f32 := constant S_ .f32 0x7F800000#32
  let main_v11 : FVec F S1024x1024 .f32 := broadcastInDim S1024x1024 ![] bcast_S_S1024x1024 main_cst_3
  let main_v12 : IVec S1024x1024 1 := cmpf .olt main_v10 main_v11
  let main_c_4 : IVec S_ 1 := constantI S_ 1 1#1
  let main_v13 : IVec S_ 1 := (fun x v => Host.reduce IntOp.andi x v reducesTo_S1024x1024_S_d0_1 h_S_) main_v12 main_c_4
  let main_v14 : IVec S_ 1 := andi main_v9 main_v13
  main_v14
-- ==== Pre_f_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v29 : IVec S_ 1) (main_v32 : IVec S8192x1024 1) (main_c_12 : IVec S_ 1) : IVec S_ 1 :=
  let main_v33 : IVec S_ 1 := (fun x v => Host.reduce IntOp.andi x v reducesTo_S8192x1024_S_d0_1 h_S_) main_v32 main_c_12
  let main_v34 : IVec S_ 1 := andi main_v29 main_v33
  main_v34

def fn_part1 {F : FTy → Type} [FloatOps F] (main_arg4 : FVec F S2816x1024 .f32) (main_arg5 : FVec F S1024 .f32) (main_arg6 : FVec F S8192x1024 .f32) (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  let main_v20 : FVec F S2816x1024 .f32 := Host.absf main_arg4
  let main_cst_7 : FVec F S_ .f32 := constant S_ .f32 0x7F800000#32
  let main_v21 : FVec F S2816x1024 .f32 := broadcastInDim S2816x1024 ![] bcast_S_S2816x1024 main_cst_7
  let main_v22 : IVec S2816x1024 1 := cmpf .olt main_v20 main_v21
  let main_c_8 : IVec S_ 1 := constantI S_ 1 1#1
  let main_v23 : IVec S_ 1 := (fun x v => Host.reduce IntOp.andi x v reducesTo_S2816x1024_S_d0_1 h_S_) main_v22 main_c_8
  let main_v24 : IVec S_ 1 := andi main_v19 main_v23
  let main_v25 : FVec F S1024 .f32 := Host.absf main_arg5
  let main_cst_9 : FVec F S_ .f32 := constant S_ .f32 0x7F800000#32
  let main_v26 : FVec F S1024 .f32 := broadcastInDim S1024 ![] bcast_S_S1024 main_cst_9
  let main_v27 : IVec S1024 1 := cmpf .olt main_v25 main_v26
  let main_c_10 : IVec S_ 1 := constantI S_ 1 1#1
  let main_v28 : IVec S_ 1 := (fun x v => Host.reduce IntOp.andi x v reducesTo_S1024_S_d0 h_S_) main_v27 main_c_10
  let main_v29 : IVec S_ 1 := andi main_v24 main_v28
  let main_v30 : FVec F S8192x1024 .f32 := Host.absf main_arg6
  let main_cst_11 : FVec F S_ .f32 := constant S_ .f32 0x7F800000#32
  let main_v31 : FVec F S8192x1024 .f32 := broadcastInDim S8192x1024 ![] bcast_S_S8192x1024 main_cst_11
  let main_v32 : IVec S8192x1024 1 := cmpf .olt main_v30 main_v31
  let main_c_12 : IVec S_ 1 := constantI S_ 1 1#1
  fn_part2 (F := F) main_v29 main_v32 main_c_12

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x2816 .f32 := Host.absf main_arg2
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S1024x2816 .f32 := Host.absf main_arg3
  let main_cst_5 : FVec F S_ .f32 := constant S_ .f32 0x7F800000#32
  fn_part1 (F := F) main_arg4 main_arg5 main_arg6 main_v14 main_v15 main_cst_5
-- ==== Pre_ff_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  main_v19

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x2816 .f32 := Host.absf main_arg2
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S1024x2816 .f32 := Host.absf main_arg3
  let main_cst_5 : FVec F S_ .f32 := constant S_ .f32 0x7F800000#32
  fn_part1 (F := F) main_v14 main_v15 main_cst_5
-- ==== FBwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8448 : Shape := ⟨2, ![8192, 8448]⟩
abbrev S8x128 : Shape := ⟨2, ![8, 128]⟩
abbrev S256x1024 : Shape := ⟨2, ![256, 1024]⟩
abbrev S256x5632 : Shape := ⟨2, ![256, 5632]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S256x2816 : Shape := ⟨2, ![256, 2816]⟩

abbrev nBuf : Space → Nat
  | .hbm => 74
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x8448, .f32⟩
  | .hbm, ⟨58, _⟩ => ⟨S8192x8448, .bf16⟩
  | .hbm, ⟨59, _⟩ => ⟨S2816x1024, .f32⟩
  | .hbm, ⟨60, _⟩ => ⟨S2816x1024, .bf16⟩
  | .hbm, ⟨61, _⟩ => ⟨S2816x1024, .f32⟩
  | .hbm, ⟨62, _⟩ => ⟨S2816x1024, .bf16⟩
  | .hbm, ⟨63, _⟩ => ⟨S2816x1024, .bf16⟩
  | .hbm, ⟨64, _⟩ => ⟨S8192x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S8x128, .f32⟩
  | .hbm, ⟨69, _⟩ => ⟨S8192x1024, .f32⟩
  | .hbm, ⟨70, _⟩ => ⟨S8192x1024, .bf16⟩
  | .hbm, ⟨71, _⟩ => ⟨S8192x8448, .bf16⟩
  | .hbm, ⟨72, _⟩ => ⟨S1x1024, .f32⟩
  | .hbm, ⟨73, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x5632, .bf16⟩
  | .local _ .vmem, ⟨18, _⟩ => ⟨S256x5632, .bf16⟩
  | .local _ .vmem, ⟨19, _⟩ => ⟨S1x1024, .f32⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_v17_2 : Ref sig .tc := ⟨.hbm, 42, rfl⟩
abbrev main_call1_cst_1 : Ref sig .tc := ⟨.hbm, 43, rfl⟩
abbrev main_call1_v6 : Ref sig .tc := ⟨.hbm, 44, rfl⟩
abbrev main_call1_v7 : Ref sig .tc := ⟨.hbm, 45, rfl⟩
abbrev main_v17_1 : Ref sig .tc := ⟨.hbm, 46, rfl⟩
abbrev main_v17_0 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_3 : Ref sig .tc := ⟨.hbm, 67, rfl⟩
abbrev main_v33 : Ref sig .tc := ⟨.hbm, 68, rfl⟩
abbrev main_v34_0 : Ref sig .tc := ⟨.hbm, 69, rfl⟩
abbrev main_v34_1 : Ref sig .tc := ⟨.hbm, 70, rfl⟩
abbrev main_v34_2 : Ref sig .tc := ⟨.hbm, 71, rfl⟩
abbrev main_v34_3 : Ref sig .tc := ⟨.hbm, 72, rfl⟩
abbrev main_v34_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FBwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1x1024 : Shape := ⟨2, ![1, 1024]⟩
abbrev S8192x8448 : Shape := ⟨2, ![8192, 8448]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S8192x1024, .f32⟩
  | 7 => ⟨S_, .f32⟩
  | 8 => ⟨S8192x2816, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S_, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S_, .f32⟩
  | 80 => ⟨S1024, .f32⟩
  | 81 => ⟨S8192x1024, .f32⟩
  | 82 => ⟨S_, .f32⟩
  | 83 => ⟨S8192, .f32⟩
  | 84 => ⟨S8192x1, .f32⟩
  | 85 => ⟨S8192x1024, .f32⟩
  | 86 => ⟨S8192x1024, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x2816, .f32⟩
  | 99 => ⟨S8192x2816, .f32⟩
  | 100 => ⟨S8192x2816, .f32⟩
  | 101 => ⟨S8192x2816, .f32⟩
  | 102 => ⟨S8192x2816, .f32⟩
  | 103 => ⟨S8192x2816, .f32⟩
  | 104 => ⟨S8192x2816, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .bf16⟩
  | 7 => ⟨S8192x8448, .f32⟩
  | 8 => ⟨S8192x8448, .bf16⟩
  | 9 => ⟨S1x1024, .f32⟩
  | 10 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_14 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]
-- ==== FGrad.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x8448 : Shape := ⟨2, ![8192, 8448]⟩
abbrev S8x1056x1024 : Shape := ⟨3, ![8, 1056, 1024]⟩
abbrev S2048x1408 : Shape := ⟨2, ![2048, 1408]⟩
abbrev S2048x1024 : Shape := ⟨2, ![2048, 1024]⟩
abbrev S4x352x1024 : Shape := ⟨3, ![4, 352, 1024]⟩
abbrev S1408x1024 : Shape := ⟨2, ![1408, 1024]⟩

abbrev nBuf : Space → Nat
  | .hbm => 34
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S1024x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x8448, .f32⟩
  | .hbm, ⟨30, _⟩ => ⟨S8192x8448, .bf16⟩
  | .hbm, ⟨31, _⟩ => ⟨S8192x1024, .bf16⟩
  | .hbm, ⟨32, _⟩ => ⟨S8192x1024, .bf16⟩
  | .hbm, ⟨33, _⟩ => ⟨S8x1056x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S4x352x1024, .bf16⟩
  | .local _ .vmem, ⟨7, _⟩ => ⟨S4x352x1024, .bf16⟩
  | .local _ .vmem, ⟨8, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 4], ![false, false]⟩

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c3_i32 : BitVec 32 := 3#32
  let v1 : BitVec 32 := Scalar.select v0 arg1 c3_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg0 c4_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FGradRefIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8x352x1024 : Shape := ⟨3, ![8, 352, 1024]⟩
abbrev S8x1056x1024 : Shape := ⟨3, ![8, 1056, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S1024x2816, .f32⟩
  | .hbm, ⟨23, _⟩ => ⟨S2816x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S2816x1024, .f32⟩
  | .hbm, ⟨32, _⟩ => ⟨S1024x2816, .f32⟩
  | .hbm, ⟨33, _⟩ => ⟨S2816x1024, .f32⟩
  | .hbm, ⟨34, _⟩ => ⟨S1024x2816, .f32⟩
  | .hbm, ⟨35, _⟩ => ⟨S2816x1024, .f32⟩
  | .hbm, ⟨36, _⟩ => ⟨S2816x1024, .f32⟩
  | .hbm, ⟨37, _⟩ => ⟨S8x352x1024, .f32⟩
  | .hbm, ⟨38, _⟩ => ⟨S8x352x1024, .f32⟩
  | .hbm, ⟨39, _⟩ => ⟨S8x352x1024, .f32⟩
  | .hbm, ⟨40, _⟩ => ⟨S8x1056x1024, .f32⟩
  | .hbm, ⟨41, _⟩ => ⟨S8x1056x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== FFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x8448 : Shape := ⟨2, ![8192, 8448]⟩
abbrev S256x1024 : Shape := ⟨2, ![256, 1024]⟩
abbrev S256x8448 : Shape := ⟨2, ![256, 8448]⟩
abbrev S256 : Shape := ⟨1, ![256]⟩
abbrev S256x1 : Shape := ⟨2, ![256, 1]⟩
abbrev S256x2816 : Shape := ⟨2, ![256, 2816]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x8448, .bf16⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x8448, .bf16⟩
  | .local _ .vmem, ⟨12, _⟩ => ⟨S256x8448, .bf16⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x8448 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x8448 : Shape := ⟨2, ![8192, 8448]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S8192x8448, .f32⟩
  | .hbm, ⟨66, _⟩ => ⟨S8192x8448, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== AIn.lean ====
abbrev S8192x1024 : Shape := ⟨2, ![8192, 1024]⟩
abbrev S8192x4096 : Shape := ⟨2, ![8192, 4096]⟩
abbrev S_ : Shape := ⟨0, ![]⟩
abbrev S8x128 : Shape := ⟨2, ![8, 128]⟩
abbrev S8x512x1024 : Shape := ⟨3, ![8, 512, 1024]⟩
abbrev S2048x1024 : Shape := ⟨2, ![2048, 1024]⟩
abbrev S2x512x1024 : Shape := ⟨3, ![2, 512, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x4096, .bf16⟩
  | .hbm, ⟨3, _⟩ => ⟨S8192x1024, .bf16⟩
  | .hbm, ⟨4, _⟩ => ⟨S_, .f32⟩
  | .hbm, ⟨5, _⟩ => ⟨S8x128, .f32⟩
  | .hbm, ⟨6, _⟩ => ⟨S8x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AInRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S8x512x1024 : Shape := ⟨3, ![8, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S8x512x1024, .f32⟩
  | .hbm, ⟨9, _⟩ => ⟨S8x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AOut.lean ====
abbrev S8x768x1024 : Shape := ⟨3, ![8, 768, 1024]⟩
abbrev S8192x2048 : Shape := ⟨2, ![8192, 2048]⟩
abbrev S8192x1024 : Shape := ⟨2, ![8192, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x768x1024, .f32⟩
  | .hbm, ⟨1, _⟩ => ⟨S8192x2048, .f32⟩
  | .hbm, ⟨2, _⟩ => ⟨S8192x1024, .f32⟩
  | .hbm, ⟨3, _⟩ => ⟨S8x768x1024, .bf16⟩
  | .hbm, ⟨4, _⟩ => ⟨S8192x2048, .bf16⟩
  | .hbm, ⟨5, _⟩ => ⟨S8192x1024, .bf16⟩
  | .hbm, ⟨6, _⟩ => ⟨S8x768x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S4x256x1024, .bf16⟩
  | .local _ .vmem, ⟨6, _⟩ => ⟨S1024x1024, .f32⟩
  | _, _ => ⟨S8x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AOutRefIdeal.lean ====
abbrev S8x768x1024 : Shape := ⟨3, ![8, 768, 1024]⟩
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S8x512x1024 : Shape := ⟨3, ![8, 512, 1024]⟩
abbrev S8x256x1024 : Shape := ⟨3, ![8, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x768x1024, .f32⟩
  | .hbm, ⟨1, _⟩ => ⟨S8192x2048, .f32⟩
  | .hbm, ⟨2, _⟩ => ⟨S8192x1024, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S8x512x1024, .f32⟩
  | .hbm, ⟨9, _⟩ => ⟨S8x256x1024, .f32⟩
  | .hbm, ⟨10, _⟩ => ⟨S8x768x1024, .f32⟩
  | .hbm, ⟨11, _⟩ => ⟨S8x768x1024, .bf16⟩
  | _, _ => ⟨S8x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== BGrad.lean ====
abbrev S8192x1024 : Shape := ⟨2, ![8192, 1024]⟩
abbrev S8x256x1024 : Shape := ⟨3, ![8, 256, 1024]⟩
abbrev S4x256x256 : Shape := ⟨3, ![4, 256, 256]⟩
abbrev S1024x1024 : Shape := ⟨2, ![1024, 1024]⟩
abbrev S1x256x256 : Shape := ⟨3, ![1, 256, 256]⟩
abbrev S256x256 : Shape := ⟨2, ![256, 256]⟩
abbrev S1024x256 : Shape := ⟨2, ![1024, 256]⟩
abbrev S8x128x1024 : Shape := ⟨3, ![8, 128, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8x256x1024, .bf16⟩
  | .hbm, ⟨13, _⟩ => ⟨S4x256x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S8x256x1024, .bf16⟩
  | .local _ .vmem, ⟨13, _⟩ => ⟨S4x256x256, .f32⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v67 : BitVec 1 := Scalar.cmpi .eq arg0 c7_i32
  let v68 : BitVec 32 := Scalar.extui v67
  let c0_i32_55 : BitVec 32 := 0#32
  let v69 : BitVec 1 := Scalar.cmpi .ne v68 c0_i32_55
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== BGradRefIdeal.lean ====
abbrev S8192x1024 : Shape := ⟨2, ![8192, 1024]⟩
abbrev S_ : Shape := ⟨0, ![]⟩
abbrev S1024x1024 : Shape := ⟨2, ![1024, 1024]⟩
abbrev S4x256x256 : Shape := ⟨3, ![4, 256, 256]⟩
abbrev S8192x4x256 : Shape := ⟨3, ![8192, 4, 256]⟩
abbrev S4x256x8192 : Shape := ⟨3, ![4, 256, 8192]⟩
abbrev S8x128x1024 : Shape := ⟨3, ![8, 128, 1024]⟩
abbrev S8x256x1024 : Shape := ⟨3, ![8, 256, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S4x256x256, .f32⟩
  | .hbm, ⟨12, _⟩ => ⟨S8192x1024, .f32⟩
  | .hbm, ⟨13, _⟩ => ⟨S8192x1024, .f32⟩
  | .hbm, ⟨14, _⟩ => ⟨S8192x4x256, .f32⟩
  | .hbm, ⟨15, _⟩ => ⟨S4x256x8192, .f32⟩
  | .hbm, ⟨16, _⟩ => ⟨S8192x4x256, .f32⟩
  | .hbm, ⟨17, _⟩ => ⟨S8192x4x256, .f32⟩
  | .hbm, ⟨18, _⟩ => ⟨S4x256x8192, .f32⟩
  | .hbm, ⟨19, _⟩ => ⟨S4x256x256, .f32⟩
  | .hbm, ⟨20, _⟩ => ⟨S4x256x256, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S8x128x1024, .f32⟩
  | .hbm, ⟨26, _⟩ => ⟨S8x128x1024, .f32⟩
  | .hbm, ⟨27, _⟩ => ⟨S8x256x1024, .f32⟩
  | .hbm, ⟨28, _⟩ => ⟨S8x256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== BBwd.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8193x1024 : Shape := ⟨2, ![8193, 1024]⟩
abbrev S8193x256 : Shape := ⟨2, ![8193, 256]⟩
abbrev S1x256 : Shape := ⟨2, ![1, 256]⟩
abbrev S8194x256 : Shape := ⟨2, ![8194, 256]⟩
abbrev S8192x256 : Shape := ⟨2, ![8192, 256]⟩
abbrev S3x256 : Shape := ⟨2, ![3, 256]⟩
abbrev S8196x256 : Shape := ⟨2, ![8196, 256]⟩
abbrev S7x256 : Shape := ⟨2, ![7, 256]⟩
abbrev S8200x256 : Shape := ⟨2, ![8200, 256]⟩
abbrev S15x256 : Shape := ⟨2, ![15, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S8x128 : Shape := ⟨2, ![8, 128]⟩
abbrev S512x1024 : Shape := ⟨2, ![512, 1024]⟩
abbrev S16x1024 : Shape := ⟨2, ![16, 1024]⟩
abbrev S528x1024 : Shape := ⟨2, ![528, 1024]⟩
abbrev S528 : Shape := ⟨1, ![528]⟩
abbrev S528x1 : Shape := ⟨2, ![528, 1]⟩
abbrev S528x256 : Shape := ⟨2, ![528, 256]⟩
abbrev S1x256x256 : Shape := ⟨3, ![1, 256, 256]⟩
abbrev S256x256 : Shape := ⟨2, ![256, 256]⟩
abbrev S512x256 : Shape := ⟨2, ![512, 256]⟩
abbrev S256 : Shape := ⟨1, ![256]⟩
abbrev S512 : Shape := ⟨1, ![512]⟩
abbrev S512x1 : Shape := ⟨2, ![512, 1]⟩

abbrev nBuf : Space → Nat
  | .hbm => 137
  | .vmem => 32
  | .smem => 0
  | _ => 0

abbrev hbmTy0_0 (i : Nat) : BufTy := match i % 128 with
  | 0 => ⟨S8192x1024, .f32⟩
  | 1 => ⟨S1024, .f32⟩
  | 2 => ⟨S1024x1024, .f32⟩
  | 3 => ⟨S4x256x256, .f32⟩
  | 4 => ⟨S1024, .f32⟩
  | 5 => ⟨S1024x1024, .f32⟩
  | 6 => ⟨S1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S_, .f32⟩
  | 26 => ⟨S1x1024, .f32⟩
  | 27 => ⟨S_, .f32⟩
  | 28 => ⟨S_, .f32⟩
  | 29 => ⟨S8192x1024, .f32⟩
  | 30 => ⟨S8193x1024, .f32⟩
  | 31 => ⟨S8192, .i32⟩
  | 32 => ⟨S8193x256, .f32⟩
  | 33 => ⟨S_, .f32⟩
  | 34 => ⟨S1x256, .f32⟩
  | 35 => ⟨S8194x256, .f32⟩
  | 36 => ⟨S8192x256, .f32⟩
  | 37 => ⟨S8192x256, .f32⟩
  | 38 => ⟨S8192x256, .f32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .f32⟩
  | 46 => ⟨S8192x1, .f32⟩
  | 47 => ⟨S8192x256, .f32⟩
  | 48 => ⟨S8192x256, .f32⟩
  | 49 => ⟨S8192x256, .f32⟩
  | 50 => ⟨S8192x256, .f32⟩
  | 51 => ⟨S8193x256, .f32⟩
  | 52 => ⟨S_, .f32⟩
  | 53 => ⟨S3x256, .f32⟩
  | 54 => ⟨S8196x256, .f32⟩
  | 55 => ⟨S8192x256, .f32⟩
  | 56 => ⟨S8192x256, .f32⟩
  | 57 => ⟨S8192x256, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S8192x1, .f32⟩
  | 66 => ⟨S8192x256, .f32⟩
  | 67 => ⟨S8192x256, .f32⟩
  | 68 => ⟨S8192x256, .f32⟩
  | 69 => ⟨S8192x256, .f32⟩
  | 70 => ⟨S8193x256, .f32⟩
  | 71 => ⟨S_, .f32⟩
  | 72 => ⟨S7x256, .f32⟩
  | 73 => ⟨S8200x256, .f32⟩
  | 74 => ⟨S8192x256, .f32⟩
  | 75 => ⟨S8192x256, .f32⟩
  | 76 => ⟨S8192x256, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S8192x1, .f32⟩
  | 85 => ⟨S8192x256, .f32⟩
  | 86 => ⟨S8192x256, .f32⟩
  | 87 => ⟨S8192x256, .f32⟩
  | 88 => ⟨S8192x256, .f32⟩
  | 89 => ⟨S8193x256, .f32⟩
  | 90 => ⟨S_, .f32⟩
  | 91 => ⟨S15x256, .f32⟩
  | 92 => ⟨S8208x256, .f32⟩
  | 93 => ⟨S8192x256, .f32⟩
  | 94 => ⟨S8192x256, .f32⟩
  | 95 => ⟨S8192x256, .f32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .f32⟩
  | 103 => ⟨S8192x1, .f32⟩
  | 104 => ⟨S8192x256, .f32⟩
  | 105 => ⟨S8192x256, .f32⟩
  | 106 => ⟨S8192x256, .f32⟩
  | 107 => ⟨S8192x256, .f32⟩
  | 108 => ⟨S8192x1x256, .f32⟩
  | 109 => ⟨S8192x1x256, .f32⟩
  | 110 => ⟨S8192x1x256, .f32⟩
  | 111 => ⟨S8192x1x256, .f32⟩
  | 112 => ⟨S8192x4x256, .f32⟩
  | 113 => ⟨S4x256x8192, .f32⟩
  | 114 => ⟨S8192x4x256, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S1024x1024, .bf16⟩
  | 121 => ⟨S1024x1024, .bf16⟩
  | 122 => ⟨S8192x1024, .f32⟩
  | 123 => ⟨S8192x1024, .bf16⟩
  | 124 => ⟨S1x1024, .f32⟩
  | 125 => ⟨S4x256x256, .bf16⟩
  | 126 => ⟨S1x1024, .f32⟩
  | 127 => ⟨S1x1024, .f32⟩
  | _ => ⟨S8192x1024, .f32⟩

abbrev hbmTy0_1 (i : Nat) : BufTy := match i % 128 with
  | 0 => ⟨S_, .f32⟩
  | 1 => ⟨S8x128, .f32⟩
  | 2 => ⟨S8192x1024, .f32⟩
  | 3 => ⟨S8192x1024, .bf16⟩
  | 4 => ⟨S8192x1024, .bf16⟩
  | 5 => ⟨S8192x1024, .bf16⟩
  | 6 => ⟨S1x1024, .f32⟩
  | 7 => ⟨S1x1024, .f32⟩
  | 8 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S1x1024, .f32⟩
  | .local _ .vmem, ⟨15, _⟩ => ⟨S1024x1024, .bf16⟩
  | .local _ .vmem, ⟨16, _⟩ => ⟨S4x256x256, .bf16⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_call0_call0_cst : Ref sig .tc := ⟨.hbm, 27, rfl⟩
abbrev main_call0_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_14 : Ref sig .tc := ⟨.hbm, 128, rfl⟩
abbrev main_v102 : Ref sig .tc := ⟨.hbm, 129, rfl⟩
abbrev main_v103_0 : Ref sig .tc := ⟨.hbm, 130, rfl⟩
abbrev main_v103_1 : Ref sig .tc := ⟨.hbm, 131, rfl⟩
abbrev main_v103_2 : Ref sig .tc := ⟨.hbm, 132, rfl⟩
abbrev main_v103_3 : Ref sig .tc := ⟨.hbm, 133, rfl⟩
abbrev main_v103_4 : Ref sig .tc := ⟨.hbm, 134, rfl⟩
abbrev main_v103_5 : Ref sig .tc := ⟨.hbm, 135, rfl⟩
abbrev main_v103_6 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== BBwdRefIdeal.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8193x1024 : Shape := ⟨2, ![8193, 1024]⟩
abbrev S8193x256 : Shape := ⟨2, ![8193, 256]⟩
abbrev S1x256 : Shape := ⟨2, ![1, 256]⟩
abbrev S8194x256 : Shape := ⟨2, ![8194, 256]⟩
abbrev S8192x256 : Shape := ⟨2, ![8192, 256]⟩
abbrev S3x256 : Shape := ⟨2, ![3, 256]⟩
abbrev S8196x256 : Shape := ⟨2, ![8196, 256]⟩
abbrev S7x256 : Shape := ⟨2, ![7, 256]⟩
abbrev S8200x256 : Shape := ⟨2, ![8200, 256]⟩
abbrev S15x256 : Shape := ⟨2, ![15, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S4x8192x256 : Shape := ⟨3, ![4, 8192, 256]⟩

abbrev nBuf : Space → Nat
  | .hbm => 312
  | .vmem => 0
  | .smem => 0
  | _ => 0

abbrev hbmTy0_0 (i : Nat) : BufTy := match i % 128 with
  | 0 => ⟨S8192x1024, .f32⟩
  | 1 => ⟨S1024, .f32⟩
  | 2 => ⟨S1024x1024, .f32⟩
  | 3 => ⟨S4x256x256, .f32⟩
  | 4 => ⟨S1024, .f32⟩
  | 5 => ⟨S1024x1024, .f32⟩
  | 6 => ⟨S1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S1x1024, .f32⟩
  | 34 => ⟨S_, .f32⟩
  | 35 => ⟨S_, .f32⟩
  | 36 => ⟨S8192x1024, .f32⟩
  | 37 => ⟨S8193x1024, .f32⟩
  | 38 => ⟨S_, .f32⟩
  | 39 => ⟨S1x1024, .f32⟩
  | 40 => ⟨S8192, .i32⟩
  | 41 => ⟨S8193x256, .f32⟩
  | 42 => ⟨S_, .f32⟩
  | 43 => ⟨S1x256, .f32⟩
  | 44 => ⟨S8194x256, .f32⟩
  | 45 => ⟨S_, .f32⟩
  | 46 => ⟨S1x256, .f32⟩
  | 47 => ⟨S8192x256, .f32⟩
  | 48 => ⟨S8192x256, .f32⟩
  | 49 => ⟨S8192x256, .f32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .f32⟩
  | 57 => ⟨S8192x1, .f32⟩
  | 58 => ⟨S8192x256, .f32⟩
  | 59 => ⟨S8192x256, .f32⟩
  | 60 => ⟨S8192x256, .f32⟩
  | 61 => ⟨S8192x256, .f32⟩
  | 62 => ⟨S8193x256, .f32⟩
  | 63 => ⟨S_, .f32⟩
  | 64 => ⟨S3x256, .f32⟩
  | 65 => ⟨S8196x256, .f32⟩
  | 66 => ⟨S_, .f32⟩
  | 67 => ⟨S3x256, .f32⟩
  | 68 => ⟨S8192x256, .f32⟩
  | 69 => ⟨S8192x256, .f32⟩
  | 70 => ⟨S8192x256, .f32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .f32⟩
  | 78 => ⟨S8192x1, .f32⟩
  | 79 => ⟨S8192x256, .f32⟩
  | 80 => ⟨S8192x256, .f32⟩
  | 81 => ⟨S8192x256, .f32⟩
  | 82 => ⟨S8192x256, .f32⟩
  | 83 => ⟨S8193x256, .f32⟩
  | 84 => ⟨S_, .f32⟩
  | 85 => ⟨S7x256, .f32⟩
  | 86 => ⟨S8200x256, .f32⟩
  | 87 => ⟨S_, .f32⟩
  | 88 => ⟨S7x256, .f32⟩
  | 89 => ⟨S8192x256, .f32⟩
  | 90 => ⟨S8192x256, .f32⟩
  | 91 => ⟨S8192x256, .f32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S8192, .f32⟩
  | 99 => ⟨S8192x1, .f32⟩
  | 100 => ⟨S8192x256, .f32⟩
  | 101 => ⟨S8192x256, .f32⟩
  | 102 => ⟨S8192x256, .f32⟩
  | 103 => ⟨S8192x256, .f32⟩
  | 104 => ⟨S8193x256, .f32⟩
  | 105 => ⟨S_, .f32⟩
  | 106 => ⟨S15x256, .f32⟩
  | 107 => ⟨S8208x256, .f32⟩
  | 108 => ⟨S_, .f32⟩
  | 109 => ⟨S15x256, .f32⟩
  | 110 => ⟨S8192x256, .f32⟩
  | 111 => ⟨S8192x256, .f32⟩
  | 112 => ⟨S8192x256, .f32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S8192, .f32⟩
  | 120 => ⟨S8192x1, .f32⟩
  | 121 => ⟨S8192x256, .f32⟩
  | 122 => ⟨S8192x256, .f32⟩
  | 123 => ⟨S8192x256, .f32⟩
  | 124 => ⟨S8192x256, .f32⟩
  | 125 => ⟨S8192x1x256, .f32⟩
  | 126 => ⟨S8192x1x256, .f32⟩
  | 127 => ⟨S8192x1x256, .f32⟩
  | _ => ⟨S8192x1024, .f32⟩

abbrev hbmTy0_1 (i : Nat) : BufTy := match i % 128 with
  | 0 => ⟨S8192x1x256, .f32⟩
  | 1 => ⟨S8192x4x256, .f32⟩
  | 2 => ⟨S4x256x8192, .f32⟩
  | 3 => ⟨S8192x4x256, .f32⟩
  | 4 => ⟨S8192x1024, .f32⟩
  | 5 => ⟨S8192x1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S8192x1024, .f32⟩
  | 39 => ⟨S_, .f32⟩
  | 40 => ⟨S1024, .f32⟩
  | 41 => ⟨S8192x1024, .f32⟩
  | 42 => ⟨S_, .f32⟩
  | 43 => ⟨S8192, .f32⟩
  | 44 => ⟨S8192x1, .f32⟩
  | 45 => ⟨S8192x1024, .f32⟩
  | 46 => ⟨S8192x1024, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S1024, .f32⟩
  | 67 => ⟨S8192x4x256, .f32⟩
  | 68 => ⟨S4x256x8192, .f32⟩
  | 69 => ⟨S4x8192x256, .f32⟩
  | 70 => ⟨S8192x4x256, .f32⟩
  | 71 => ⟨S8192x1x256, .f32⟩
  | 72 => ⟨S8192x256, .f32⟩
  | 73 => ⟨S8192x1x256, .f32⟩
  | 74 => ⟨S8192x256, .f32⟩
  | 75 => ⟨S8192x1x256, .f32⟩
  | 76 => ⟨S8192x256, .f32⟩
  | 77 => ⟨S8192x1x256, .f32⟩
  | 78 => ⟨S8192x256, .f32⟩
  | 79 => ⟨S8192x256, .f32⟩
  | 80 => ⟨S_, .f32⟩
  | 81 => ⟨S8192x1024, .f32⟩
  | 82 => ⟨S8192x256, .f32⟩
  | 83 => ⟨S8192x256, .f32⟩
  | 84 => ⟨S8192x256, .f32⟩
  | 85 => ⟨S_, .f32⟩
  | 86 => ⟨S8208x256, .f32⟩
  | 87 => ⟨S_, .f32⟩
  | 88 => ⟨S8193x256, .f32⟩
  | 89 => ⟨S15x256, .f32⟩
  | 90 => ⟨S8193x256, .f32⟩
  | 91 => ⟨S8193x256, .f32⟩
  | 92 => ⟨S_, .f32⟩
  | 93 => ⟨S8193x1024, .f32⟩
  | 94 => ⟨S8192x256, .f32⟩
  | 95 => ⟨S_, .f32⟩
  | 96 => ⟨S8192x1024, .f32⟩
  | 97 => ⟨S8192x1024, .f32⟩
  | 98 => ⟨S8192x256, .f32⟩
  | 99 => ⟨S8192x256, .f32⟩
  | 100 => ⟨S8192x256, .f32⟩
  | 101 => ⟨S_, .f32⟩
  | 102 => ⟨S8200x256, .f32⟩
  | 103 => ⟨S_, .f32⟩
  | 104 => ⟨S8193x256, .f32⟩
  | 105 => ⟨S7x256, .f32⟩
  | 106 => ⟨S8193x256, .f32⟩
  | 107 => ⟨S8193x256, .f32⟩
  | 108 => ⟨S_, .f32⟩
  | 109 => ⟨S8193x1024, .f32⟩
  | 110 => ⟨S8193x1024, .f32⟩
  | 111 => ⟨S8192x256, .f32⟩
  | 112 => ⟨S_, .f32⟩
  | 113 => ⟨S8192x1024, .f32⟩
  | 114 => ⟨S8192x1024, .f32⟩
  | 115 => ⟨S8192x256, .f32⟩
  | 116 => ⟨S8192x256, .f32⟩
  | 117 => ⟨S8192x256, .f32⟩
  | 118 => ⟨S_, .f32⟩
  | 119 => ⟨S8196x256, .f32⟩
  | 120 => ⟨S_, .f32⟩
  | 121 => ⟨S8193x256, .f32⟩
  | 122 => ⟨S3x256, .f32⟩
  | 123 => ⟨S8193x256, .f32⟩
  | 124 => ⟨S8193x256, .f32⟩
  | 125 => ⟨S_, .f32⟩
  | 126 => ⟨S8193x1024, .f32⟩
  | 127 => ⟨S8193x1024, .f32⟩
  | _ => ⟨S8192x1024, .f32⟩

abbrev hbmTy0_2 (i : Nat) : BufTy := match i % 128 with
  | 0 => ⟨S8192x256, .f32⟩
  | 1 => ⟨S_, .f32⟩
  | 2 => ⟨S8192x1024, .f32⟩
  | 3 => ⟨S8192x1024, .f32⟩
  | 4 => ⟨S8192x256, .f32⟩
  | 5 => ⟨S8192x256, .f32⟩
  | 6 => ⟨S8192x256, .f32⟩
  | 7 => ⟨S_, .f32⟩
  | 8 => ⟨S8194x256, .f32⟩
  | 9 => ⟨S_, .f32⟩
  | 10 => ⟨S8193x256, .f32⟩
  | 11 => ⟨S1x256, .f32⟩
  | 12 => ⟨S8193x256, .f32⟩
  | 13 => ⟨S8193x256, .f32⟩
  | 14 => ⟨S_, .f32⟩
  | 15 => ⟨S8193x1024, .f32⟩
  | 16 => ⟨S8193x1024, .f32⟩
  | 17 => ⟨S1x1024, .f32⟩
  | 18 => ⟨S8192x1024, .f32⟩
  | 19 => ⟨S_, .f32⟩
  | 20 => ⟨S_, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S8192x1024, .f32⟩
  | 33 => ⟨S_, .f32⟩
  | 34 => ⟨S8192, .f32⟩
  | 35 => ⟨S8192x1, .f32⟩
  | 36 => ⟨S8192x1024, .f32⟩
  | 37 => ⟨S8192x1024, .f32⟩
  | 38 => ⟨S8192x1024, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .bf16⟩
  | 51 => ⟨S8192x1024, .bf16⟩
  | 52 => ⟨S8192x1024, .bf16⟩
  | 53 => ⟨S1x1024, .f32⟩
  | 54 => ⟨S1x1024, .f32⟩
  | 55 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_call0_call0_cst : Ref sig .tc := ⟨.hbm, 34, rfl⟩
abbrev main_call0_call0_v0 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_cst_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_c_20 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_21 : Ref sig .tc := ⟨.hbm, 140, rfl⟩
abbrev main_v107 : Ref sig .tc := ⟨.hbm, 141, rfl⟩
abbrev main_v108 : Ref sig .tc := ⟨.hbm, 142, rfl⟩
abbrev main_cst_22 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_24 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_25 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_26 : Ref sig .tc := ⟨.hbm, 167, rfl⟩
abbrev main_v129 : Ref sig .tc := ⟨.hbm, 168, rfl⟩
abbrev main_v130 : Ref sig .tc := ⟨.hbm, 169, rfl⟩
abbrev main_cst_27 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_28 : Ref sig .tc := ⟨.hbm, 176, rfl⟩
abbrev main_v136 : Ref sig .tc := ⟨.hbm, 177, rfl⟩
abbrev main_v137 : Ref sig .tc := ⟨.hbm, 178, rfl⟩
abbrev main_cst_29 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_30 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_32 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_33 : Ref sig .tc := ⟨.hbm, 213, rfl⟩
abbrev main_v168 : Ref sig .tc := ⟨.hbm, 214, rfl⟩
abbrev main_cst_34 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_35 : Ref sig .tc := ⟨.hbm, 220, rfl⟩
abbrev main_v173 : Ref sig .tc := ⟨.hbm, 221, rfl⟩
abbrev main_v174 : Ref sig .tc := ⟨.hbm, 222, rfl⟩
abbrev main_cst_36 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_37 : Ref sig .tc := ⟨.hbm, 229, rfl⟩
abbrev main_v180 : Ref sig .tc := ⟨.hbm, 230, rfl⟩
abbrev main_cst_38 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_cst_39 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_cst_40 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_41 : Ref sig .tc := ⟨.hbm, 246, rfl⟩
abbrev main_v193 : Ref sig .tc := ⟨.hbm, 247, rfl⟩
abbrev main_cst_42 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_43 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_44 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_45 : Ref sig .tc := ⟨.hbm, 263, rfl⟩
abbrev main_v206 : Ref sig .tc := ⟨.hbm, 264, rfl⟩
abbrev main_cst_46 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_47 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_call1_call0_cst : Ref sig .tc := ⟨.hbm, 275, rfl⟩
abbrev main_call1_call0_v0 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_cst_48 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_cst_49 : Ref sig .tc := ⟨.hbm, 286, rfl⟩
abbrev main_v223 : Ref sig .tc := ⟨.hbm, 287, rfl⟩
abbrev main_v224 : Ref sig .tc := ⟨.hbm, 288, rfl⟩
abbrev main_cst_50 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_cst_51 : Ref sig .tc := ⟨.hbm, 296, rfl⟩
abbrev main_v231 : Ref sig .tc := ⟨.hbm, 297, rfl⟩
abbrev main_v232 : Ref sig .tc := ⟨.hbm, 298, rfl⟩
abbrev main_cst_52 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩

abbrev nD : Nat := 1
abbrev τ : Topo := Topo.v7x

variable {F : FTy → Type} [FloatOps F]
-- ==== AFwd.lean ====
abbrev S8192x1024 : Shape := ⟨2, ![8192, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S4096x1024 : Shape := ⟨2, ![4096, 1024]⟩
abbrev S1x1024 : Shape := ⟨2, ![1, 1024]⟩
abbrev S1x2048 : Shape := ⟨2, ![1, 2048]⟩
abbrev S128x8 : Shape := ⟨2, ![128, 8]⟩
abbrev S8192x4096 : Shape := ⟨2, ![8192, 4096]⟩
abbrev S8192x2048 : Shape := ⟨2, ![8192, 2048]⟩
abbrev S8192x128 : Shape := ⟨2, ![8192, 128]⟩
abbrev S512x1024 : Shape := ⟨2, ![512, 1024]⟩
abbrev S512x4096 : Shape := ⟨2, ![512, 4096]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x256 : Shape := ⟨2, ![128, 256]⟩
abbrev S128x1 : Shape := ⟨2, ![128, 1]⟩

abbrev nBuf : Space → Nat
  | .hbm => 25
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S2048x1024, .f32⟩
  | .hbm, ⟨8, _⟩ => ⟨S1024, .f32⟩
  | .hbm, ⟨9, _⟩ => ⟨S4096x1024, .f32⟩
  | .hbm, ⟨10, _⟩ => ⟨S4096x1024, .bf16⟩
  | .hbm, ⟨11, _⟩ => ⟨S2048x1024, .bf16⟩
  | .hbm, ⟨12, _⟩ => ⟨S1x1024, .f32⟩
  | .hbm, ⟨13, _⟩ => ⟨S1x2048, .f32⟩
  | .hbm, ⟨14, _⟩ => ⟨S1x2048, .f32⟩
  | .hbm, ⟨15, _⟩ => ⟨S128x8, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S8192x4096, .bf16⟩
  | .hbm, ⟨20, _⟩ => ⟨S8192x2048, .bf16⟩
  | .hbm, ⟨21, _⟩ => ⟨S8192x2048, .bf16⟩
  | .hbm, ⟨22, _⟩ => ⟨S8192x128, .f32⟩
  | .hbm, ⟨23, _⟩ => ⟨S8192x2048, .bf16⟩
  | .hbm, ⟨24, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x128, .f32⟩
  | .local _ .vmem, ⟨21, _⟩ => ⟨S512x128, .f32⟩
  | .local _ .vmem, ⟨22, _⟩ => ⟨S512x2048, .bf16⟩
  | .local _ .vmem, ⟨23, _⟩ => ⟨S512x2048, .bf16⟩
  | .local _ .vmem, ⟨24, _⟩ => ⟨S512x1024, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== AFwdRefIdeal.lean ====
abbrev S8192x1024 : Shape := ⟨2, ![8192, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x2048 : Shape := ⟨2, ![8192, 2048]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S8192x128 : Shape := ⟨2, ![8192, 128]⟩

abbrev nBuf : Space → Nat
  | .hbm => 145
  | .vmem => 0
  | .smem => 0
  | _ => 0

abbrev hbmTy0_0 (i : Nat) : BufTy := match i % 128 with
  | 0 => ⟨S8192x1024, .f32⟩
  | 1 => ⟨S1024, .f32⟩
  | 2 => ⟨S1024x4096, .f32⟩
  | 3 => ⟨S2048, .f32⟩
  | 4 => ⟨S2048, .f32⟩
  | 5 => ⟨S8x128x128, .f32⟩
  | 6 => ⟨S8x128, .f32⟩
  | 7 => ⟨S2048x1024, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x4096, .f32⟩
  | 26 => ⟨S_, .f32⟩
  | 27 => ⟨S8192x4096, .f32⟩
  | 28 => ⟨S8192x4096, .f32⟩
  | 29 => ⟨S8192x4096, .f32⟩
  | 30 => ⟨S_, .f32⟩
  | 31 => ⟨S8192x4096, .f32⟩
  | 32 => ⟨S8192x4096, .f32⟩
  | 33 => ⟨S8192x4096, .f32⟩
  | 34 => ⟨S8192x4096, .f32⟩
  | 35 => ⟨S8192x2048, .f32⟩
  | 36 => ⟨S8192x2048, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x2048, .f32⟩
  | 44 => ⟨S8192x2048, .f32⟩
  | 45 => ⟨S8192x2048, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S_, .f32⟩
  | 57 => ⟨S8192x4096, .f32⟩
  | 58 => ⟨S8192x4096, .f32⟩
  | 59 => ⟨S8192x4096, .f32⟩
  | 60 => ⟨S_, .f32⟩
  | 61 => ⟨S8192x4096, .f32⟩
  | 62 => ⟨S8192x4096, .f32⟩
  | 63 => ⟨S8192x4096, .f32⟩
  | 64 => ⟨S8192x4096, .f32⟩
  | 65 => ⟨S8192x2048, .f32⟩
  | 66 => ⟨S8192x2048, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S8192x2048, .f32⟩
  | 74 => ⟨S8192x2048, .f32⟩
  | 75 => ⟨S8192x2048, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x1, .f32⟩
  | 86 => ⟨S8192x2048, .f32⟩
  | 87 => ⟨S8192x2048, .f32⟩
  | 88 => ⟨S1x2048, .f32⟩
  | 89 => ⟨S8192x2048, .f32⟩
  | 90 => ⟨S8192x2048, .f32⟩
  | 91 => ⟨S1x2048, .f32⟩
  | 92 => ⟨S8192x2048, .f32⟩
  | 93 => ⟨S8192x2048, .f32⟩
  | 94 => ⟨S64x128x8x256, .f32⟩
  | 95 => ⟨S64x128x8x256, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S1x128x128, .i1⟩
  | 108 => ⟨S_, .f32⟩
  | 109 => ⟨S8x128x128, .f32⟩
  | 110 => ⟨S8x128x128, .i1⟩
  | 111 => ⟨S8x128x128, .f32⟩
  | 112 => ⟨S8x64x256x128, .f32⟩
  | 113 => ⟨S64x128x8x256, .f32⟩
  | 114 => ⟨S128x8, .f32⟩
  | 115 => ⟨S1x128x8x1, .f32⟩
  | 116 => ⟨S64x128x8x256, .f32⟩
  | 117 => ⟨S64x128x8x256, .f32⟩
  | 118 => ⟨S64x128x8x256, .f32⟩
  | 119 => ⟨S8192x2048, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1024, .f32⟩

abbrev hbmTy0_1 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x1024, .f32⟩
  | 5 => ⟨S8192x1024, .f32⟩
  | 6 => ⟨S1x1024, .f32⟩
  | 7 => ⟨S8192x1024, .f32⟩
  | 8 => ⟨S8192x1024, .f32⟩
  | 9 => ⟨S8192x1024, .f32⟩
  | 10 => ⟨S8192x1024, .bf16⟩
  | 11 => ⟨S8192x2048, .bf16⟩
  | 12 => ⟨S8192x2048, .f32⟩
  | 13 => ⟨S8192x2048, .f32⟩
  | 14 => ⟨S8192x2048, .bf16⟩
  | 15 => ⟨S8192x128, .f32⟩
  | 16 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c : Ref sig .tc := ⟨.hbm, 96, rfl⟩
abbrev main_v70 : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_c_0 : Ref sig .tc := ⟨.hbm, 104, rfl⟩
abbrev main_call0_v5 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_call1_v0 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_cst_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]
-- ==== BFwd.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S528 : Shape := ⟨1, ![528]⟩
abbrev S528x1 : Shape := ⟨2, ![528, 1]⟩
abbrev S528x256 : Shape := ⟨2, ![528, 256]⟩
abbrev S512x256 : Shape := ⟨2, ![512, 256]⟩
abbrev S528x768 : Shape := ⟨2, ![528, 768]⟩
abbrev S528x512 : Shape := ⟨2, ![528, 512]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S4x256x256, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== BFwdRefIdeal.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8193x1024 : Shape := ⟨2, ![8193, 1024]⟩
abbrev S8193x256 : Shape := ⟨2, ![8193, 256]⟩
abbrev S1x256 : Shape := ⟨2, ![1, 256]⟩
abbrev S8194x256 : Shape := ⟨2, ![8194, 256]⟩
abbrev S8192x256 : Shape := ⟨2, ![8192, 256]⟩
abbrev S3x256 : Shape := ⟨2, ![3, 256]⟩
abbrev S8196x256 : Shape := ⟨2, ![8196, 256]⟩
abbrev S7x256 : Shape := ⟨2, ![7, 256]⟩
abbrev S8200x256 : Shape := ⟨2, ![8200, 256]⟩
abbrev S15x256 : Shape := ⟨2, ![15, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x8192 : Shape := ⟨3, ![4, 256, 8192]⟩

abbrev nBuf : Space → Nat
  | .hbm => 140
  | .vmem => 0
  | .smem => 0
  | _ => 0

abbrev hbmTy0_0 (i : Nat) : BufTy := match i % 128 with
  | 0 => ⟨S8192x1024, .f32⟩
  | 1 => ⟨S1024, .f32⟩
  | 2 => ⟨S1024x1024, .f32⟩
  | 3 => ⟨S4x256x256, .f32⟩
  | 4 => ⟨S1024, .f32⟩
  | 5 => ⟨S1024x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S_, .f32⟩
  | 25 => ⟨S1x1024, .f32⟩
  | 26 => ⟨S_, .f32⟩
  | 27 => ⟨S_, .f32⟩
  | 28 => ⟨S8192x1024, .f32⟩
  | 29 => ⟨S8193x1024, .f32⟩
  | 30 => ⟨S8192, .i32⟩
  | 31 => ⟨S8193x256, .f32⟩
  | 32 => ⟨S_, .f32⟩
  | 33 => ⟨S1x256, .f32⟩
  | 34 => ⟨S8194x256, .f32⟩
  | 35 => ⟨S8192x256, .f32⟩
  | 36 => ⟨S8192x256, .f32⟩
  | 37 => ⟨S8192x256, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S8192x1, .f32⟩
  | 46 => ⟨S8192x256, .f32⟩
  | 47 => ⟨S8192x256, .f32⟩
  | 48 => ⟨S8192x256, .f32⟩
  | 49 => ⟨S8192x256, .f32⟩
  | 50 => ⟨S8193x256, .f32⟩
  | 51 => ⟨S_, .f32⟩
  | 52 => ⟨S3x256, .f32⟩
  | 53 => ⟨S8196x256, .f32⟩
  | 54 => ⟨S8192x256, .f32⟩
  | 55 => ⟨S8192x256, .f32⟩
  | 56 => ⟨S8192x256, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S8192x1, .f32⟩
  | 65 => ⟨S8192x256, .f32⟩
  | 66 => ⟨S8192x256, .f32⟩
  | 67 => ⟨S8192x256, .f32⟩
  | 68 => ⟨S8192x256, .f32⟩
  | 69 => ⟨S8193x256, .f32⟩
  | 70 => ⟨S_, .f32⟩
  | 71 => ⟨S7x256, .f32⟩
  | 72 => ⟨S8200x256, .f32⟩
  | 73 => ⟨S8192x256, .f32⟩
  | 74 => ⟨S8192x256, .f32⟩
  | 75 => ⟨S8192x256, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .f32⟩
  | 83 => ⟨S8192x1, .f32⟩
  | 84 => ⟨S8192x256, .f32⟩
  | 85 => ⟨S8192x256, .f32⟩
  | 86 => ⟨S8192x256, .f32⟩
  | 87 => ⟨S8192x256, .f32⟩
  | 88 => ⟨S8193x256, .f32⟩
  | 89 => ⟨S_, .f32⟩
  | 90 => ⟨S15x256, .f32⟩
  | 91 => ⟨S8208x256, .f32⟩
  | 92 => ⟨S8192x256, .f32⟩
  | 93 => ⟨S8192x256, .f32⟩
  | 94 => ⟨S8192x256, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S8192x1, .f32⟩
  | 103 => ⟨S8192x256, .f32⟩
  | 104 => ⟨S8192x256, .f32⟩
  | 105 => ⟨S8192x256, .f32⟩
  | 106 => ⟨S8192x256, .f32⟩
  | 107 => ⟨S8192x1x256, .f32⟩
  | 108 => ⟨S8192x1x256, .f32⟩
  | 109 => ⟨S8192x1x256, .f32⟩
  | 110 => ⟨S8192x1x256, .f32⟩
  | 111 => ⟨S8192x4x256, .f32⟩
  | 112 => ⟨S4x256x8192, .f32⟩
  | 113 => ⟨S8192x4x256, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S8192x1, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S8192x1024, .f32⟩
  | 8 => ⟨S8192x1024, .bf16⟩
  | 9 => ⟨S8192x1024, .f32⟩
  | 10 => ⟨S8192x1024, .bf16⟩
  | 11 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_call0_call0_cst : Ref sig .tc := ⟨.hbm, 26, rfl⟩
abbrev main_call0_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩

abbrev nD : Nat := 1
abbrev τ : Topo := Topo.v7x

variable {F : FTy → Type} [FloatOps F]
-- ==== Proof.Spec.lean ====
/-
  The row functions that the kernels and the references are compared through, over the extended reals.
-/
module

public import Idealize.ShloMosaic.PureOps.Ideal.Laws
public import Mathlib.Logic.Equiv.Fin.Basic

@[expose] public section

noncomputable section

namespace Cert.Spec

open Idealize.ShloMosaic

/-- The width of a model row, 1024, as both programs spell it. -/
abbrev cD : EReal := Ideal.ofBits .f32 0x44800000#32
/-- The epsilon of the norms, as both programs spell it. -/
abbrev cE : EReal := Ideal.ofBits .f32 0x358637BD#32

/-- The reciprocal root mean square of a row. -/
def rinv (N : EReal) {n : ℕ} (x : Fin n → EReal) : EReal := Ideal.rsqrt (Ideal.div (∑ k, x k * x k) N + cE)

/-- The gradient of an RMS norm with gain `g` at the row `x` towards `x`, for the cotangent `dy`. -/
def rmsBack (N : EReal) {n : ℕ} (x g dy : Fin n → EReal) (k : Fin n) : EReal :=
  rinv N x * (dy k * g k - x k * rinv N x * Ideal.div (∑ j, dy j * g j * (x j * rinv N x)) N)

/-- One row's term of an RMS norm's gradient towards its gain. -/
def rmsGain (N : EReal) {n : ℕ} (x dy : Fin n → EReal) (k : Fin n) : EReal := dy k * (x k * rinv N x)

/-- A sum over 256 rows, taken as eight sums of every eighth row. -/
theorem sum256 (p : Fin 256 → EReal) :
    ∑ r, p r = ∑ a : Fin 8, (p ⟨0 + a, by omega⟩ + p ⟨0 + (8 + a), by omega⟩ + p ⟨16 + a, by omega⟩ + p ⟨16 + (8 + a), by omega⟩ + p ⟨32 + a, by omega⟩ + p ⟨32 + (8 + a), by omega⟩ + p ⟨48 + a, by omega⟩ + p ⟨48 + (8 + a), by omega⟩ + p ⟨64 + a, by omega⟩ + p ⟨64 + (8 + a), by omega⟩ + p ⟨80 + a, by omega⟩ + p ⟨80 + (8 + a), by omega⟩ + p ⟨96 + a, by omega⟩ + p ⟨96 + (8 + a), by omega⟩ + p ⟨112 + a, by omega⟩ + p ⟨112 + (8 + a), by omega⟩ + p ⟨128 + a, by omega⟩ + p ⟨128 + (8 + a), by omega⟩ + p ⟨144 + a, by omega⟩ + p ⟨144 + (8 + a), by omega⟩ + p ⟨160 + a, by omega⟩ + p ⟨160 + (8 + a), by omega⟩ + p ⟨176 + a, by omega⟩ + p ⟨176 + (8 + a), by omega⟩ + p ⟨192 + a, by omega⟩ + p ⟨192 + (8 + a), by omega⟩ + p ⟨208 + a, by omega⟩ + p ⟨208 + (8 + a), by omega⟩ + p ⟨224 + a, by omega⟩ + p ⟨224 + (8 + a), by omega⟩ + p ⟨240 + a, by omega⟩ + p ⟨240 + (8 + a), by omega⟩) := by
  rw [← (finProdFinEquiv (m := 32) (n := 8)).sum_comp p, Fintype.sum_prod_type_right]
  refine Finset.sum_congr rfl fun a _ => ?_
  simp only [Fin.sum_univ_succ, Fin.sum_univ_zero, finProdFinEquiv]
  simp [add_assoc]
  repeat' apply congrArg₂ HAdd.hAdd
  all_goals first | rfl | exact congrArg p (Fin.ext (by simp only []; omega))

end Cert.Spec

end
-- ==== Proof.FKernel.lean ====
/-
  What one grid point of the SwiGLU gradient's kernel leaves in each output block, as a row function of its input blocks.
-/
module

public import proofs.«01_k».proof.Proof.Gen.FBwdIdeal.Value
public import proofs.«01_k».proof.Proof.Spec
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.FBwdIdeal.Blocks

open Cert.FBwdIdeal Cert.FBwdIdeal.Gen Idealize.ShloMosaic Idealize.ShloMosaic.TcCoe Idealize.SL.Sem Cert.Spec

variable (m : (ℓ : Loc nD τ sig) → Buf (Elt Ideal) ℓ)

/-- The block of `df`: the post-norm's gradient, row by row. -/
def dfBlk (f dx2 : S256x1024.Idx → EReal) (g : S1x1024.Idx → EReal) (y : S256x1024.Idx) : EReal :=
  rmsBack cD (fun k => f (ix2 (y 0) k)) (fun k => g (ix2 0 k)) (fun k => dx2 (ix2 (y 0) k)) (y 1)

/-- The block of `da` beside `db`: `df` times the down projection's transpose, times what the forward pass saved. -/
def dabBlk (D : S256x1024.Idx → EReal) (wd : S2816x1024.Idx → EReal) (ab : S256x5632.Idx → EReal) (y : S256x5632.Idx) : EReal :=
  (∑ j, D (ix2 (y 0) j) * wd (ix2 ⟨(y 1).val % 2816, Nat.mod_lt _ (by decide)⟩ j)) * ab y

/-- The block of the cotangent of the pre-norm's output. -/
def dhBlk (D : S256x1024.Idx → EReal) (wd wg wu : S2816x1024.Idx → EReal) (ab : S256x5632.Idx → EReal) (y : S256x1024.Idx) : EReal :=
  (∑ k : Fin 2816, (∑ j, D (ix2 (y 0) j) * wd (ix2 k j)) * ab (ix2 (y 0) ⟨k.val, by omega⟩) * wg (ix2 k (y 1))) +
    ∑ k : Fin 2816, (∑ j, D (ix2 (y 0) j) * wd (ix2 k j)) * ab (ix2 (y 0) ⟨2816 + k.val, by omega⟩) * wu (ix2 k (y 1))

/-- The block of `dx`: the residual's cotangent plus the pre-norm's gradient. -/
def dxBlk (dx2 x : S256x1024.Idx → EReal) (g : S1x1024.Idx → EReal) (H : S256x1024.Idx → EReal) (y : S256x1024.Idx) : EReal :=
  dx2 y + rmsBack cD (fun k => x (ix2 (y 0) k)) (fun k => g (ix2 0 k)) (fun k => H (ix2 (y 0) k)) (y 1)

/-- One block's sum of a norm's gain terms. -/
def gainBlk (x dy : S256x1024.Idx → EReal) (y : S1x1024.Idx) : EReal :=
  ∑ r : Fin 256, rmsGain cD (fun k => x (ix2 r k)) (fun k => dy (ix2 r k)) (y 1)

/-- What the first point leaves of `df`. -/
theorem df_A (c : Dev nD) (t : Fin cfg0.N) (h0 : t.val % 32 = 0) (y) :
    (outsAt0 m c t.val t.isLt).2.1 y = dfBlk (iblk m c 1 t) (iblk m c 0 t) (iblk m c 8 t) y := by
  rw [outsAt0_A m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  unfold dfBlk
  canon_tiles x h
  all_goals
    open_payloads
    pointwise [rmsBack, rinv]
    blk_point []

/-- What the first point leaves of `da` and `db`. -/
theorem dab_A (c : Dev nD) (t : Fin cfg0.N) (h0 : t.val % 32 = 0) (y) :
    (outsAt0 m c t.val t.isLt).2.2.1 y = dabBlk (dfBlk (iblk m c 1 t) (iblk m c 0 t) (iblk m c 8 t)) (iblk m c 7 t) (X0_3 m c t) y := by
  rw [outsAt0_A m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  rw [View.readCov_eq_canon', show View.canon (s := S256x1024) (e := .bf16) _ = dfBlk b1 b0 b8 from ?h]
  case h =>
    funext y
    canon_tiles x h
    all_goals
      open_payloads
      pointwise [rmsBack, rinv, dfBlk]
      blk_point []
  generalize dfBlk b1 b0 b8 = D
  canon_tiles x h
  all_goals
    open_payloads
    pointwise [dabBlk]
    blk_point []

/-- What the first point leaves of `dx`. -/
theorem dx_A (c : Dev nD) (t : Fin cfg0.N) (h0 : t.val % 32 = 0) (y) :
    (outsAt0 m c t.val t.isLt).1 y = dxBlk (iblk m c 0 t) (iblk m c 2 t) (iblk m c 4 t) (dhBlk (dfBlk (iblk m c 1 t) (iblk m c 0 t) (iblk m c 8 t)) (iblk m c 7 t) (iblk m c 5 t) (iblk m c 6 t) (X0_3 m c t)) y := by
  rw [outsAt0_A m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  rw [View.readCov_eq_canon', show View.canon (s := S256x1024) (e := .bf16) _ = dfBlk b1 b0 b8 from ?h]
  case h =>
    funext y
    canon_tiles x h
    all_goals
      open_payloads
      pointwise [rmsBack, rinv, dfBlk]
      blk_point []
  generalize dfBlk b1 b0 b8 = D
  simp only [k0_pay101, k0_pay104, k0_pay105, k0_pay106]
  rw [show k0_pay98 _ _ _ _ = dhBlk D b7 b5 b6 b3 from ?h]
  case h =>
    funext y
    pointwise [k0_pay98, k0_pay97, k0_pay96, k0_pay95, k0_pay94, k0_pay93, k0_pay92, dhBlk]
  generalize dhBlk D b7 b5 b6 b3 = H
  canon_tiles x h
  all_goals
    open_payloads
    pointwise [dxBlk, rmsBack, rinv]
    blk_point []

/-- What the first point leaves of the post-norm's gain gradient. -/
theorem post_A (c : Dev nD) (t : Fin cfg0.N) (h0 : t.val % 32 = 0) (y) :
    (outsAt0 m c t.val t.isLt).2.2.2.1 y = gainBlk (iblk m c 1 t) (iblk m c 0 t) y := by
  rw [outsAt0_A m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  open_payloads
  pointwise [gainBlk, sum256, rmsGain, rinv]

/-- What the first point leaves of the pre-norm's gain gradient. -/
theorem pre_A (c : Dev nD) (t : Fin cfg0.N) (h0 : t.val % 32 = 0) (y) :
    (outsAt0 m c t.val t.isLt).2.2.2.2 y = gainBlk (iblk m c 2 t) (dhBlk (dfBlk (iblk m c 1 t) (iblk m c 0 t) (iblk m c 8 t)) (iblk m c 7 t) (iblk m c 5 t) (iblk m c 6 t) (X0_3 m c t)) y := by
  rw [outsAt0_A m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  rw [View.readCov_eq_canon', show View.canon (s := S256x1024) (e := .bf16) _ = dfBlk b1 b0 b8 from ?h]
  case h =>
    funext y
    canon_tiles x h
    all_goals
      open_payloads
      pointwise [rmsBack, rinv, dfBlk]
      blk_point []
  generalize dfBlk b1 b0 b8 = D
  simp only [k0_pay101, k0_pay104, k0_pay105, k0_pay106]
  rw [show k0_pay98 _ _ _ _ = dhBlk D b7 b5 b6 b3 from ?h]
  case h =>
    funext y
    pointwise [k0_pay98, k0_pay97, k0_pay96, k0_pay95, k0_pay94, k0_pay93, k0_pay92, dhBlk]
  generalize dhBlk D b7 b5 b6 b3 = H
  open_payloads
  pointwise [gainBlk, sum256, rmsGain, rinv]

/-- What a later point leaves of `df`. -/
theorem df_B (c : Dev nD) (t : Fin cfg0.N) (h0 : ¬t.val % 32 = 0) (y) :
    (outsAt0 m c t.val t.isLt).2.1 y = dfBlk (iblk m c 1 t) (iblk m c 0 t) (iblk m c 8 t) y := by
  rw [outsAt0_B m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  unfold dfBlk
  canon_tiles x h
  all_goals
    open_payloads
    pointwise [rmsBack, rinv]
    blk_point []

/-- What a later point leaves of `da` and `db`. -/
theorem dab_B (c : Dev nD) (t : Fin cfg0.N) (h0 : ¬t.val % 32 = 0) (y) :
    (outsAt0 m c t.val t.isLt).2.2.1 y = dabBlk (dfBlk (iblk m c 1 t) (iblk m c 0 t) (iblk m c 8 t)) (iblk m c 7 t) (X0_3 m c t) y := by
  rw [outsAt0_B m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  rw [View.readCov_eq_canon', show View.canon (s := S256x1024) (e := .bf16) _ = dfBlk b1 b0 b8 from ?h]
  case h =>
    funext y
    canon_tiles x h
    all_goals
      open_payloads
      pointwise [rmsBack, rinv, dfBlk]
      blk_point []
  generalize dfBlk b1 b0 b8 = D
  canon_tiles x h
  all_goals
    open_payloads
    pointwise [dabBlk]
    blk_point []

/-- What a later point leaves of `dx`. -/
theorem dx_B (c : Dev nD) (t : Fin cfg0.N) (h0 : ¬t.val % 32 = 0) (y) :
    (outsAt0 m c t.val t.isLt).1 y = dxBlk (iblk m c 0 t) (iblk m c 2 t) (iblk m c 4 t) (dhBlk (dfBlk (iblk m c 1 t) (iblk m c 0 t) (iblk m c 8 t)) (iblk m c 7 t) (iblk m c 5 t) (iblk m c 6 t) (X0_3 m c t)) y := by
  rw [outsAt0_B m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  rw [View.readCov_eq_canon', show View.canon (s := S256x1024) (e := .bf16) _ = dfBlk b1 b0 b8 from ?h]
  case h =>
    funext y
    canon_tiles x h
    all_goals
      open_payloads
      pointwise [rmsBack, rinv, dfBlk]
      blk_point []
  generalize dfBlk b1 b0 b8 = D
  simp only [k0_pay101, k0_pay104, k0_pay105, k0_pay106]
  rw [show k0_pay98 _ _ _ _ = dhBlk D b7 b5 b6 b3 from ?h]
  case h =>
    funext y
    pointwise [k0_pay98, k0_pay97, k0_pay96, k0_pay95, k0_pay94, k0_pay93, k0_pay92, dhBlk]
  generalize dhBlk D b7 b5 b6 b3 = H
  canon_tiles x h
  all_goals
    open_payloads
    pointwise [dxBlk, rmsBack, rinv]
    blk_point []

/-- What a later point leaves of the post-norm's gain gradient. -/
theorem post_B (c : Dev nD) (t : Fin cfg0.N) (h0 : ¬t.val % 32 = 0) (y) :
    (outsAt0 m c t.val t.isLt).2.2.2.1 y = (outsAt0 m c (t.val - 1) (Nat.lt_of_le_of_lt (Nat.sub_le _ _) t.isLt)).2.2.2.1 y + gainBlk (iblk m c 1 t) (iblk m c 0 t) y := by
  rw [outsAt0_B m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  open_payloads
  pointwise [gainBlk, sum256, rmsGain, rinv]

/-- What a later point leaves of the pre-norm's gain gradient. -/
theorem pre_B (c : Dev nD) (t : Fin cfg0.N) (h0 : ¬t.val % 32 = 0) (y) :
    (outsAt0 m c t.val t.isLt).2.2.2.2 y = (outsAt0 m c (t.val - 1) (Nat.lt_of_le_of_lt (Nat.sub_le _ _) t.isLt)).2.2.2.2 y + gainBlk (iblk m c 2 t) (dhBlk (dfBlk (iblk m c 1 t) (iblk m c 0 t) (iblk m c 8 t)) (iblk m c 7 t) (iblk m c 5 t) (iblk m c 6 t) (X0_3 m c t)) y := by
  rw [outsAt0_B m c t h0]
  generalize iblk m c 0 t = b0
  generalize iblk m c 1 t = b1
  generalize iblk m c 2 t = b2
  generalize iblk m c 4 t = b4
  generalize iblk m c 5 t = b5
  generalize iblk m c 6 t = b6
  generalize iblk m c 7 t = b7
  generalize iblk m c 8 t = b8
  generalize X0_3 m c t = b3
  frame_open
  simp (disch := decide) only [↓ View.readCov_skip, ↓ View.readCov_cons_toLoadRect, ↓ View.readCov_fill]
  frame_out
  rw [View.readCov_eq_canon', show View.canon (s := S256x1024) (e := .bf16) _ = dfBlk b1 b0 b8 from ?h]
  case h =>
    funext y
    canon_tiles x h
    all_goals
      open_payloads
      pointwise [rmsBack, rinv, dfBlk]
      blk_point []
  generalize dfBlk b1 b0 b8 = D
  simp only [k0_pay101, k0_pay104, k0_pay105, k0_pay106]
  rw [show k0_pay98 _ _ _ _ = dhBlk D b7 b5 b6 b3 from ?h]
  case h =>
    funext y
    pointwise [k0_pay98, k0_pay97, k0_pay96, k0_pay95, k0_pay94, k0_pay93, k0_pay92, dhBlk]
  generalize dhBlk D b7 b5 b6 b3 = H
  open_payloads
  pointwise [gainBlk, sum256, rmsGain, rinv]

end Cert.FBwdIdeal.Blocks

end
-- ==== Proof.Reals.lean ====
/-
  Real values among the extended reals: closure under the operations of both programs, the constants, and the
  gradient of an RMS norm in the two forms that the programs compute it in.
-/
module

public import proofs.«01_k».proof.Proof.Spec

@[expose] public section

noncomputable section

namespace Cert.Spec

open Idealize.ShloMosaic

/-- The value is a real number. -/
def IsR (v : EReal) : Prop := ∃ r : ℝ, v = r

theorem isR_coe (r : ℝ) : IsR r := ⟨r, rfl⟩
theorem isR_zero : IsR 0 := ⟨0, rfl⟩
theorem isR_one : IsR 1 := ⟨1, rfl⟩
theorem IsR.add {a b : EReal} : IsR a → IsR b → IsR (a + b) := by rintro ⟨a, rfl⟩ ⟨b, rfl⟩; exact ⟨a + b, rfl⟩
theorem IsR.sub {a b : EReal} : IsR a → IsR b → IsR (a - b) := by rintro ⟨a, rfl⟩ ⟨b, rfl⟩; exact ⟨a - b, rfl⟩
theorem IsR.neg {a : EReal} : IsR a → IsR (-a) := by rintro ⟨a, rfl⟩; exact ⟨-a, rfl⟩
theorem IsR.mul {a b : EReal} : IsR a → IsR b → IsR (a * b) := by
  rintro ⟨a, rfl⟩ ⟨b, rfl⟩; exact ⟨a * b, (EReal.coe_mul a b).symm⟩

/-- A row of real values is the image of a row of reals. -/
theorem lift {ι : Type} {f : ι → EReal} (h : ∀ i, IsR (f i)) : ∃ f' : ι → ℝ, f = fun i => (f' i : EReal) :=
  ⟨fun i => (h i).choose, funext fun i => (h i).choose_spec⟩

/-- The sum of reals, taken among the extended reals. -/
theorem coe_sum {ι : Type} [Fintype ι] (f : ι → ℝ) : ((∑ i, f i : ℝ) : EReal) = ∑ i, (f i : EReal) := by
  classical
  have h : ∀ s : Finset ι, ((∑ i ∈ s, f i : ℝ) : EReal) = ∑ i ∈ s, (f i : EReal) := fun s => by
    induction s using Finset.induction_on with
    | empty => rfl
    | insert a s ha ih => rw [Finset.sum_insert ha, Finset.sum_insert ha, EReal.coe_add, ih]
  exact h _

theorem IsR.sum {ι : Type} [Fintype ι] {f : ι → EReal} (h : ∀ i, IsR (f i)) : IsR (∑ i, f i) := by
  obtain ⟨f, rfl⟩ := lift h; exact ⟨_, (coe_sum f).symm⟩

theorem IsR.exp {a : EReal} : IsR a → IsR (Ideal.exp a) := by rintro ⟨a, rfl⟩; exact ⟨_, Ideal.exp_coe a⟩
theorem IsR.logistic {a : EReal} : IsR a → IsR (Ideal.logistic a) := by
  rintro ⟨a, rfl⟩; exact ⟨_, Ideal.logistic_coe a⟩

/-- The norms' width is the real 1024. -/
theorem cD_eq : cD = ((1024 : ℝ) : EReal) := by
  simp [cD, Ideal.ofBits, Ideal.ieee, -EReal.coe_mul]; norm_num
/-- The norms' epsilon is a positive real. -/
theorem cE_pos : ∃ e : ℝ, 0 < e ∧ cE = (e : EReal) := by
  refine ⟨_, ?_, by simp [cE, Ideal.ofBits, Ideal.ieee, -EReal.coe_mul]; rfl⟩
  norm_num
/-- The constant −1/2. -/
theorem mhalf_eq : Ideal.ofBits .f32 0xBF000000#32 = ((-1/2 : ℝ) : EReal) := by
  simp [Ideal.ofBits, Ideal.ieee, -EReal.coe_mul]; norm_num

/-- Division of a real by the width. -/
theorem IsR.div_cD {a : EReal} : IsR a → IsR (Ideal.div a cD) := by
  rintro ⟨a, rfl⟩; rw [cD_eq, Ideal.div_coe (by norm_num)]; exact ⟨_, (EReal.coe_mul _ _).symm⟩

/-- The reciprocal root mean square of a real row: a root of `1 / a` for the positive real `a` under the root. -/
theorem rinv_real {n : ℕ} (x : Fin n → ℝ) : ∃ r a : ℝ, 0 < a ∧ r * r = 1 / a ∧
    Ideal.div (∑ k, (x k : EReal) * (x k : EReal)) cD + cE = (a : EReal) ∧ rinv cD (fun k => (x k : EReal)) = (r : EReal) := by
  obtain ⟨e, he, hE⟩ := cE_pos
  have hs : 0 ≤ ∑ k, x k * x k := Finset.sum_nonneg fun k _ => mul_self_nonneg _
  have ha : 0 < (∑ k, x k * x k) * (1 / 1024) + e := by positivity
  have hA : Ideal.div (∑ k, (x k : EReal) * (x k : EReal)) cD + cE = (((∑ k, x k * x k) * (1 / 1024) + e : ℝ) : EReal) := by
    rw [hE, cD_eq, Ideal.div_coe (by norm_num)]; simp only [← EReal.coe_mul, ← coe_sum, ← EReal.coe_add]
  refine ⟨(Real.sqrt ((∑ k, x k * x k) * (1 / 1024) + e))⁻¹, _, ha, ?_, hA, ?_⟩
  · rw [← mul_inv, Real.mul_self_sqrt ha.le]; simp only [one_div]
  · rw [rinv, hA, Ideal.rsqrt_coe, if_neg (not_lt.mpr ha.le), if_neg ha.ne']

theorem IsR.rinv {n : ℕ} {x : Fin n → EReal} (h : ∀ k, IsR (x k)) : IsR (rinv cD x) := by
  obtain ⟨x, rfl⟩ := lift h; obtain ⟨r, a, -, -, -, hr⟩ := rinv_real x; exact ⟨r, hr⟩

theorem IsR.rmsBack {n : ℕ} {x g dy : Fin n → EReal} (hx : ∀ k, IsR (x k)) (hg : ∀ k, IsR (g k)) (hy : ∀ k, IsR (dy k)) (k : Fin n) :
    IsR (rmsBack cD x g dy k) :=
  (IsR.rinv hx).mul (((hy k).mul (hg k)).sub (((hx k).mul (IsR.rinv hx)).mul
    (IsR.div_cD (IsR.sum fun j => ((hy j).mul (hg j)).mul ((hx j).mul (IsR.rinv hx))))))

/-- The coefficient that the transposed RMS norm multiplies its row by, twice: the cotangent of the mean square. -/
def rmsCoef {n : ℕ} (x dxh : Fin n → EReal) : EReal :=
  Ideal.div ((∑ j, x j * dxh j) * (Ideal.ofBits .f32 0xBF000000#32 * Ideal.div (rinv cD x) (Ideal.div (∑ k, x k * x k) cD + cE))) cD

theorem IsR.rmsCoef {n : ℕ} {x dxh : Fin n → EReal} (hx : ∀ k, IsR (x k)) (hy : ∀ k, IsR (dxh k)) : IsR (rmsCoef x dxh) := by
  obtain ⟨x, rfl⟩ := lift hx
  obtain ⟨r, a, ha, -, hA, hr⟩ := rinv_real x
  rw [Spec.rmsCoef, hr, hA, mhalf_eq, Ideal.div_coe ha.ne']
  exact IsR.div_cD ((IsR.sum fun j => (isR_coe _).mul (hy j)).mul ((isR_coe _).mul ((isR_coe _).mul (isR_coe _))))

/-- The transposed RMS norm's three terms are the kernel's closed form, at real rows. -/
theorem rms_vjp {n : ℕ} {x g dy : Fin n → EReal} (hx : ∀ k, IsR (x k)) (hg : ∀ k, IsR (g k)) (hy : ∀ k, IsR (dy k)) (k : Fin n) :
    dy k * g k * rinv cD x + x k * rmsCoef x (fun j => dy j * g j) + rmsCoef x (fun j => dy j * g j) * x k = rmsBack cD x g dy k := by
  obtain ⟨x, rfl⟩ := lift hx
  obtain ⟨g, rfl⟩ := lift hg
  obtain ⟨dy, rfl⟩ := lift hy
  obtain ⟨r, a, ha, hra, hA, hr⟩ := rinv_real x
  simp only [rmsCoef, rmsBack, hr, hA, mhalf_eq]
  simp only [cD_eq, Ideal.div_coe ha.ne', Ideal.div_coe (show (1024 : ℝ) ≠ 0 by norm_num)]
  simp only [← EReal.coe_mul, ← coe_sum, ← EReal.coe_add, ← EReal.coe_sub]
  congr 1
  have e : ∑ j, dy j * g j * (x j * r) = (∑ j, x j * (dy j * g j)) * r := by
    rw [Finset.sum_mul]; exact Finset.sum_congr rfl fun j _ => by ring
  rw [e]
  generalize ∑ j, x j * (dy j * g j) = Q
  rw [← hra]; ring

end Cert.Spec

end
-- ==== Proof.FRef.lean ====
/-
  The stages of the SwiGLU block's gradient as the reference computes them, read at an index and brought to the row
  functions that the kernel computes.
-/
module

public import proofs.«01_k».proof.Proof.Gen.FBwdRefIdeal.Read
public import proofs.«01_k».proof.Proof.Reals
public import Idealize.ShloMosaic.Lib.Pointwise
public import Idealize.ShloMosaic.Lib.Claim

@[expose] public section

set_option maxRecDepth 16384

noncomputable section

namespace Cert.FBwdRefIdeal.Stages

open Cert.FBwdRefIdeal Cert.FBwdRefIdeal.Gen Cert.FBwdRefIdeal.Read Idealize.ShloMosaic Idealize.ShloMosaic.TcCoe Idealize.SL.Sem Cert.Spec

variable (x0 x6 : S8192x1024.Idx → EReal) (x1 x5 : S1024.Idx → EReal) (x2 x3 : S1024x2816.Idx → EReal) (x4 : S2816x1024.Idx → EReal)

/-- The normed input. -/
theorem v17_at (i : Fin 8192) (k : Fin 1024) :
    val_main_v17 (F := Ideal) x0 x1 (ix2 i k) = x0 (ix2 i k) * rinv cD (fun j => x0 (ix2 i j)) * x1 (ix1 k) := by
  pointwise [val_main_v17, val_main_v14, val_main_v13, val_main_v9, val_main_v8, val_main_v6, val_main_v4, val_main_v3, val_main_v2, val_main_cst_1, val_main_v5, val_main_cst_2, val_main_v7, val_main_cst_3, val_main_v16, val_main_v15, rinv]

/-- The gate. -/
theorem v19_at (i : Fin 8192) (k : Fin 2816) :
    val_main_v19 (F := Ideal) x0 x1 x2 (ix2 i k) = ∑ j, val_main_v17 (F := Ideal) x0 x1 (ix2 i j) * x2 (ix2 j k) := by
  pointwise [val_main_v19, val_main_v0, val_main_cst, val_main_v18]

/-- The up projection. -/
theorem v21_at (i : Fin 8192) (k : Fin 2816) :
    val_main_v21 (F := Ideal) x0 x1 x3 (ix2 i k) = ∑ j, val_main_v17 (F := Ideal) x0 x1 (ix2 i j) * x3 (ix2 j k) := by
  pointwise [val_main_v21, val_main_v0, val_main_cst, val_main_v20]

/-- The gated product. -/
theorem v23_at (i : Fin 8192) (k : Fin 2816) :
    val_main_v23 (F := Ideal) x0 x1 x2 x3 (ix2 i k) = val_main_v19 (F := Ideal) x0 x1 x2 (ix2 i k) *
      Ideal.logistic (val_main_v19 (F := Ideal) x0 x1 x2 (ix2 i k)) * val_main_v21 (F := Ideal) x0 x1 x3 (ix2 i k) := by
  pointwise [val_main_v23, val_main_v22_0, val_main_v22_2, val_main_call0_v3, val_main_call0_v1, val_main_call0_v0, val_main_call0_v2, val_main_call0_cst, val_main_call0_v4, val_main_call0_cst_0, Ideal.logistic]

/-- The down projection. -/
theorem v25_at (i : Fin 8192) (k : Fin 1024) :
    val_main_v25 (F := Ideal) x0 x1 x2 x3 x4 (ix2 i k) = ∑ j, val_main_v23 (F := Ideal) x0 x1 x2 x3 (ix2 i j) * x4 (ix2 j k) := by
  pointwise [val_main_v25, val_main_v1, val_main_cst_0, val_main_v24]

/-- The cotangent of the down projection, as the transposed norm spells it. -/
theorem v63_at (i : Fin 8192) (k : Fin 1024) :
    val_main_v63 (F := Ideal) x0 x1 x2 x3 x4 x5 x6 (ix2 i k) =
      x6 (ix2 i k) * x5 (ix1 k) * rinv cD (fun j => val_main_v25 (F := Ideal) x0 x1 x2 x3 x4 (ix2 i j)) +
        val_main_v25 (F := Ideal) x0 x1 x2 x3 x4 (ix2 i k) *
          rmsCoef (fun j => val_main_v25 (F := Ideal) x0 x1 x2 x3 x4 (ix2 i j)) (fun j => x6 (ix2 i j) * x5 (ix1 j)) +
        rmsCoef (fun j => val_main_v25 (F := Ideal) x0 x1 x2 x3 x4 (ix2 i j)) (fun j => x6 (ix2 i j) * x5 (ix1 j)) *
          val_main_v25 (F := Ideal) x0 x1 x2 x3 x4 (ix2 i k) := by
  pointwise [val_main_v63, val_main_v61, val_main_v54, val_main_v48, val_main_v43, val_main_v47, val_main_v39, val_main_v53, val_main_v33, val_main_v32, val_main_v30, val_main_v28, val_main_v27, val_main_v26, val_main_cst_5, val_main_v29, val_main_cst_6, val_main_v31, val_main_cst_7, val_main_v60, val_main_v59, val_main_v58, val_main_v57, val_main_v55, val_main_v36, val_main_v34, val_main_v35, val_main_cst_8, val_main_v52, val_main_v51, val_main_v50, val_main_cst_11, val_main_v56, val_main_cst_12, val_main_cst_13, val_main_v62, rinv, rmsCoef, Fin.sum_univ_one, cD, cE]

/-- The cotangent of the gated product. -/
theorem v64_at (i : Fin 8192) (k : Fin 2816) :
    val_main_v64 (F := Ideal) x0 x1 x2 x3 x4 x5 x6 (ix2 i k) =
      ∑ j, val_main_v63 (F := Ideal) x0 x1 x2 x3 x4 x5 x6 (ix2 i j) * x4 (ix2 k j) := by
  pointwise [val_main_v64]

/-- The cotangent of the up projection. -/
theorem v65_at (i : Fin 8192) (k : Fin 2816) :
    val_main_v65 (F := Ideal) x0 x1 x2 x3 x4 x5 x6 (ix2 i k) =
      val_main_v19 (F := Ideal) x0 x1 x2 (ix2 i k) * Ideal.logistic (val_main_v19 (F := Ideal) x0 x1 x2 (ix2 i k)) *
        val_main_v64 (F := Ideal) x0 x1 x2 x3 x4 x5 x6 (ix2 i k) := by
  pointwise [val_main_v65, val_main_v22_0, val_main_v22_2, val_main_call0_v3, val_main_call0_v1, val_main_call0_v0, val_main_call0_v2, val_main_call0_cst, val_main_call0_v4, val_main_call0_cst_0, Ideal.logistic]

/-- The cotangent of the gate. -/
theorem v67_at (i : Fin 8192) (k : Fin 2816) :
    val_main_v67 (F := Ideal) x0 x1 x2 x3 x4 x5 x6 (ix2 i k) =
      val_main_v64 (F := Ideal) x0 x1 x2 x3 x4 x5 x6 (ix2 i k) * val_main_v21 (F := Ideal) x0 x1 x3 (ix2 i k) *
          Ideal.logistic (val_main_v19 (F := Ideal) x0 x1 x2 (ix2 i k)) +
        val_main_v19 (F := Ideal) x0 x1 x2 (ix2 i k) *
            (val_main_v64 (F := Ideal) x0 x1 x2 x3 x4 x5 x6 (ix2 i k) * val_main_v21 (F := Ideal) x0 x1 x3 (ix2 i k)) *
          (Ideal.logistic (val_main_v19 (F := Ideal) x0 x1 x2 (ix2 i k)) *
            (1 - Ideal.logistic (val_main_v19 (F := Ideal) x0 x1 x2 (ix2 i k)))) := by
  pointwise [val_main_v67, val_main_call1_v1, val_main_v66, val_main_v22_2, val_main_call0_v3, val_main_call0_v1, val_main_call0_v0, val_main_call0_v2, val_main_call0_cst, val_main_call0_v4, val_main_call0_cst_0, val_main_call1_v2, val_main_v22_1, val_main_call0_v7, val_main_call0_v6, val_main_call0_cst_1, val_main_call1_v0, Ideal.logistic]

/-- The cotangent of the normed input. -/
theorem v70_at (i : Fin 8192) (k : Fin 1024) :
    val_main_v70 (F := Ideal) x0 x1 x2 x3 x4 x5 x6 (ix2 i k) =
      (∑ j, val_main_v65 (F := Ideal) x0 x1 x2 x3 x4 x5 x6 (ix2 i j) * x3 (ix2 k j)) +
        ∑ j, val_main_v67 (F := Ideal) x0 x1 x2 x3 x4 x5 x6 (ix2 i j) * x2 (ix2 k j) := by
  pointwise [val_main_v70, val_main_v68, val_main_v69]

/-- The cotangent of the block's input, as the transposed norm spells it. -/
theorem v91_at (i : Fin 8192) (k : Fin 1024) :
    val_main_v91 (F := Ideal) x0 x1 x2 x3 x4 x5 x6 (ix2 i k) =
      x6 (ix2 i k) + val_main_v70 (F := Ideal) x0 x1 x2 x3 x4 x5 x6 (ix2 i k) * x1 (ix1 k) * rinv cD (fun j => x0 (ix2 i j)) +
        x0 (ix2 i k) *
          rmsCoef (fun j => x0 (ix2 i j)) (fun j => val_main_v70 (F := Ideal) x0 x1 x2 x3 x4 x5 x6 (ix2 i j) * x1 (ix1 j)) +
        rmsCoef (fun j => x0 (ix2 i j)) (fun j => val_main_v70 (F := Ideal) x0 x1 x2 x3 x4 x5 x6 (ix2 i j) * x1 (ix1 j)) *
          x0 (ix2 i k) := by
  pointwise [val_main_v91, val_main_v89, val_main_v82, val_main_v81, val_main_v75, val_main_v74, val_main_v15, val_main_v80, val_main_v9, val_main_v8, val_main_v6, val_main_v4, val_main_v3, val_main_v2, val_main_cst_1, val_main_v5, val_main_cst_2, val_main_v7, val_main_cst_3, val_main_v88, val_main_v87, val_main_v86, val_main_v85, val_main_v83, val_main_v12, val_main_v10, val_main_v11, val_main_cst_4, val_main_v79, val_main_v78, val_main_v77, val_main_cst_16, val_main_v84, val_main_cst_17, val_main_cst_18, val_main_v90, rinv, rmsCoef, Fin.sum_univ_one, cD, cE]

/-- The gradient of the post-norm's gain. -/
theorem v95_at (k : Fin 1024) :
    val_main_v95 (F := Ideal) x0 x1 x2 x3 x4 x6 (ix2 0 k) =
      ∑ i : Fin 8192, rmsGain cD (fun j => val_main_v25 (F := Ideal) x0 x1 x2 x3 x4 (ix2 i j)) (fun j => x6 (ix2 i j)) k := by
  pointwise [val_main_v95, val_main_v49, val_main_v46, val_main_v45, val_main_v44, val_main_v38, val_main_v37, val_main_v33, val_main_v32, val_main_v30, val_main_v28, val_main_v27, val_main_v26, val_main_cst_5, val_main_v29, val_main_cst_6, val_main_v31, val_main_cst_7, val_main_v43, val_main_cst_9, val_main_cst_10, rinv, rmsGain, Fin.sum_univ_one, cD, cE]
  exact Finset.sum_congr rfl fun i _ => mul_comm _ _

/-- The gradient of the pre-norm's gain. -/
theorem v96_at (k : Fin 1024) :
    val_main_v96 (F := Ideal) x0 x1 x2 x3 x4 x5 x6 (ix2 0 k) =
      ∑ i : Fin 8192, rmsGain cD (fun j => x0 (ix2 i j)) (fun j => val_main_v70 (F := Ideal) x0 x1 x2 x3 x4 x5 x6 (ix2 i j)) k := by
  pointwise [val_main_v96, val_main_v76, val_main_v73, val_main_v72, val_main_v71, val_main_v14, val_main_v13, val_main_v9, val_main_v8, val_main_v6, val_main_v4, val_main_v3, val_main_v2, val_main_cst_1, val_main_v5, val_main_cst_2, val_main_v7, val_main_cst_3, val_main_cst_14, val_main_cst_15, rinv, rmsGain, Fin.sum_univ_one, cD, cE]
  exact Finset.sum_congr rfl fun i _ => mul_comm _ _

/-- The gate's cotangent, where the results keep it. -/
theorem v94_gate (i : Fin 8192) (k : Fin 2816) :
    val_main_v94 (F := Ideal) x0 x1 x2 x3 x4 x5 x6 (ix2 i ⟨k.val, by omega⟩) = val_main_v67 (F := Ideal) x0 x1 x2 x3 x4 x5 x6 (ix2 i k) := by
  pointwise [val_main_v94, val_main_v93]

/-- The up projection's cotangent, where the results keep it. -/
theorem v94_up (i : Fin 8192) (k : Fin 2816) :
    val_main_v94 (F := Ideal) x0 x1 x2 x3 x4 x5 x6 (ix2 i ⟨2816 + k.val, by omega⟩) =
      val_main_v65 (F := Ideal) x0 x1 x2 x3 x4 x5 x6 (ix2 i k) := by
  pointwise [val_main_v94, val_main_v93]

/-- The gated product, where the results keep it. -/
theorem v94_s (i : Fin 8192) (k : Fin 2816) :
    val_main_v94 (F := Ideal) x0 x1 x2 x3 x4 x5 x6 (ix2 i ⟨5632 + k.val, by omega⟩) = val_main_v23 (F := Ideal) x0 x1 x2 x3 (ix2 i k) := by
  pointwise [val_main_v94, val_main_v93]
  rw [dif_neg (by omega), dif_neg (by omega), show (⟨5632 + k.val - 2816 - 2816, by omega⟩ : Fin 2816) = k from Fin.ext (by simp only []; omega)]

end Cert.FBwdRefIdeal.Stages

end
-- ==== Proof.FHost.lean ====
/-
  What the host of the SwiGLU gradient's program hands to the kernel, read at an index: the reference's own stages.
-/
module

public import proofs.«01_k».proof.Proof.Gen.FBwdIdeal.Value
public import proofs.«01_k».proof.Proof.FRef
public import Idealize.ShloMosaic.Lib.StableHlo.ReadAt
public import Idealize.ShloMosaic.Lib.Pipeline.ValueKit
public import Idealize.ShloMosaic.Lib.Claim
public import Idealize.ShloMosaic.Lib.Pointwise

@[expose] public section

set_option maxRecDepth 16384

noncomputable section

namespace Cert.FBwdIdeal.Host

open Cert.FBwdIdeal Cert.FBwdIdeal.Gen Cert.FBwdRefIdeal.Read Idealize.ShloMosaic Idealize.ShloMosaic.TcCoe Idealize.SL.Sem Cert.Spec

variable (m : (ℓ : Loc nD τ sig) → Buf (Elt Ideal) ℓ) (c : Dev nD)

/-- The block's input. -/
abbrev a0 : S8192x1024.Idx → EReal := m ((c : Thread nD τ).loc main_arg0)
/-- The pre-norm's gain. -/
abbrev a1 : S1024.Idx → EReal := m ((c : Thread nD τ).loc main_arg1)
/-- The gate's weight. -/
abbrev a2 : S1024x2816.Idx → EReal := m ((c : Thread nD τ).loc main_arg2)
/-- The up projection's weight. -/
abbrev a3 : S1024x2816.Idx → EReal := m ((c : Thread nD τ).loc main_arg3)
/-- The down projection's weight. -/
abbrev a4 : S2816x1024.Idx → EReal := m ((c : Thread nD τ).loc main_arg4)
/-- The post-norm's gain. -/
abbrev a5 : S1024.Idx → EReal := m ((c : Thread nD τ).loc main_arg5)
/-- The cotangent. -/
abbrev a6 : S8192x1024.Idx → EReal := m ((c : Thread nD τ).loc main_arg6)

/-- The down projection that the forward pass saved. -/
theorem v30_at (i : Fin 8192) (k : Fin 1024) :
    (V m c main_v30 : S8192x1024.Idx → EReal) (ix2 i k) =
      val_main_v25 (F := Ideal) (a0 m c) (a1 m c) (a2 m c) (a3 m c) (a4 m c) (ix2 i k) := by
  unfold V
  after_reads_at
  pointwise [val_main_v25, val_main_v1, val_main_cst_0, val_main_v24, val_main_v23, val_main_v21, val_main_v0, val_main_cst, val_main_v20, val_main_v17, val_main_v14, val_main_v13, val_main_v9, val_main_v8, val_main_v6, val_main_v4, val_main_v3, val_main_v2, val_main_cst_1, val_main_v5, val_main_cst_2, val_main_v7, val_main_cst_3, val_main_v16, val_main_v15, val_main_v22_0, val_main_v19, val_main_v18, val_main_v22_2, val_main_call0_v3, val_main_call0_v1, val_main_call0_v0, val_main_call0_v2, val_main_call0_cst, val_main_call0_v4, val_main_call0_cst_0]

/-- The saved factor of `da`. -/
theorem v24_gate (i : Fin 8192) (k : Fin 2816) :
    (V m c main_v24 : S8192x8448.Idx → EReal) (ix2 i ⟨k.val, by omega⟩) =
      1 * val_main_v21 (F := Ideal) (a0 m c) (a1 m c) (a3 m c) (ix2 i k) *
          Ideal.logistic (val_main_v19 (F := Ideal) (a0 m c) (a1 m c) (a2 m c) (ix2 i k)) +
        val_main_v19 (F := Ideal) (a0 m c) (a1 m c) (a2 m c) (ix2 i k) *
            (1 * val_main_v21 (F := Ideal) (a0 m c) (a1 m c) (a3 m c) (ix2 i k)) *
          (Ideal.logistic (val_main_v19 (F := Ideal) (a0 m c) (a1 m c) (a2 m c) (ix2 i k)) *
            (1 - Ideal.logistic (val_main_v19 (F := Ideal) (a0 m c) (a1 m c) (a2 m c) (ix2 i k)))) := by
  unfold V
  after_reads_at
  after_reads_at
  pointwise [val_main_v19, val_main_v0, val_main_cst, val_main_v18, val_main_v17, val_main_v14, val_main_v13, val_main_v9, val_main_v8, val_main_v6, val_main_v4, val_main_v3, val_main_v2, val_main_cst_1, val_main_v5, val_main_cst_2, val_main_v7, val_main_cst_3, val_main_v16, val_main_v15, val_main_v21, val_main_v20, Ideal.logistic]

/-- The saved factor of `db`. -/
theorem v24_up (i : Fin 8192) (k : Fin 2816) :
    (V m c main_v24 : S8192x8448.Idx → EReal) (ix2 i ⟨2816 + k.val, by omega⟩) =
      val_main_v19 (F := Ideal) (a0 m c) (a1 m c) (a2 m c) (ix2 i k) *
          Ideal.logistic (val_main_v19 (F := Ideal) (a0 m c) (a1 m c) (a2 m c) (ix2 i k)) * 1 := by
  unfold V
  after_reads_at
  after_reads_at
  pointwise [val_main_v19, val_main_v0, val_main_cst, val_main_v18, val_main_v17, val_main_v14, val_main_v13, val_main_v9, val_main_v8, val_main_v6, val_main_v4, val_main_v3, val_main_v2, val_main_cst_1, val_main_v5, val_main_cst_2, val_main_v7, val_main_cst_3, val_main_v16, val_main_v15, Ideal.logistic]

/-- The gated product beside them. -/
theorem v24_s (i : Fin 8192) (k : Fin 2816) :
    (V m c main_v24 : S8192x8448.Idx → EReal) (ix2 i ⟨5632 + k.val, by omega⟩) =
      val_main_v23 (F := Ideal) (a0 m c) (a1 m c) (a2 m c) (a3 m c) (ix2 i k) := by
  unfold V
  after_reads_at
  rw [dif_neg (by omega), dif_neg (by omega), show (⟨5632 + k.val - 2816 - 2816, by omega⟩ : Fin 2816) = k from Fin.ext (by simp only []; omega)]
  after_reads_at
  pointwise [val_main_v23, val_main_v21, val_main_v0, val_main_cst, val_main_v20, val_main_v17, val_main_v14, val_main_v13, val_main_v9, val_main_v8, val_main_v6, val_main_v4, val_main_v3, val_main_v2, val_main_cst_1, val_main_v5, val_main_cst_2, val_main_v7, val_main_cst_3, val_main_v16, val_main_v15, val_main_v22_0, val_main_v19, val_main_v18, val_main_v22_2, val_main_call0_v3, val_main_call0_v1, val_main_call0_v0, val_main_call0_v2, val_main_call0_cst, val_main_call0_v4, val_main_call0_cst_0, Ideal.logistic]

/-- The gated product in the array that the launch writes over. -/
theorem v34_s (i : Fin 8192) (k : Fin 2816) :
    (V m c main_v34_2 : S8192x8448.Idx → EReal) (ix2 i ⟨5632 + k.val, by omega⟩) =
      val_main_v23 (F := Ideal) (a0 m c) (a1 m c) (a2 m c) (a3 m c) (ix2 i k) := by
  unfold V
  after_reads_at
  pointwise [id]
  rw [dif_neg (by omega), dif_neg (by omega), show (⟨5632 + k.val - 2816 - 2816, by omega⟩ : Fin 2816) = k from Fin.ext (by simp only []; omega)]
  after_reads_at
  pointwise [val_main_v23, val_main_v21, val_main_v0, val_main_cst, val_main_v20, val_main_v17, val_main_v14, val_main_v13, val_main_v9, val_main_v8, val_main_v6, val_main_v4, val_main_v3, val_main_v2, val_main_cst_1, val_main_v5, val_main_cst_2, val_main_v7, val_main_cst_3, val_main_v16, val_main_v15, val_main_v22_0, val_main_v19, val_main_v18, val_main_v22_2, val_main_call0_v3, val_main_call0_v1, val_main_call0_v0, val_main_call0_v2, val_main_call0_cst, val_main_call0_v4, val_main_call0_cst_0, Ideal.logistic]

/-- The pre-norm's gain, laid out as a row. -/
theorem v31_at (k : Fin 1024) : (V m c main_v31 : S1x1024.Idx → EReal) (ix2 0 k) = a1 m c (ix1 k) := by
  unfold V
  after_reads_at
/-- The post-norm's gain, laid out as a row. -/
theorem v32_at (k : Fin 1024) : (V m c main_v32 : S1x1024.Idx → EReal) (ix2 0 k) = a5 m c (ix1 k) := by
  unfold V
  after_reads_at
/-- The gate's weight, transposed. -/
theorem v26_at (k : Fin 2816) (j : Fin 1024) : (V m c main_v26 : S2816x1024.Idx → EReal) (ix2 k j) = a2 m c (ix2 j k) := by
  unfold V
  after_reads_at
/-- The up projection's weight, transposed. -/
theorem v28_at (k : Fin 2816) (j : Fin 1024) : (V m c main_v28 : S2816x1024.Idx → EReal) (ix2 k j) = a3 m c (ix2 j k) := by
  unfold V
  after_reads_at
/-- The down projection's weight. -/
theorem v29_at (k : Fin 2816) (j : Fin 1024) : (V m c main_v29 : S2816x1024.Idx → EReal) (ix2 k j) = a4 m c (ix2 k j) := by
  unfold V
  after_reads_at

end Cert.FBwdIdeal.Host

end
-- ==== Proof.FReal.lean ====
/-
  The reference's stages of the SwiGLU block's gradient are real numbers where its arguments are, and there they are
  what the kernel computes from what the forward pass saved.
-/
module

public import proofs.«01_k».proof.Proof.FRef

@[expose] public section

set_option maxRecDepth 16384

noncomputable section

namespace Cert.FBwdRefIdeal.Stages

open Cert.FBwdRefIdeal Cert.FBwdRefIdeal.Gen Cert.FBwdRefIdeal.Read Idealize.ShloMosaic Idealize.ShloMosaic.TcCoe Idealize.SL.Sem Cert.Spec

/-- The gate's gradient is linear in its cotangent. -/
theorem gate_vjp {d a b s : EReal} (hd : IsR d) (ha : IsR a) (hb : IsR b) (hs : IsR s) :
    d * (1 * b * s + a * (1 * b) * (s * (1 - s))) = d * b * s + a * (d * b) * (s * (1 - s)) := by
  obtain ⟨d, rfl⟩ := hd
  obtain ⟨a, rfl⟩ := ha
  obtain ⟨b, rfl⟩ := hb
  obtain ⟨s, rfl⟩ := hs
  simp only [one_mul]
  rw [← EReal.coe_one]
  simp only [← EReal.coe_mul, ← EReal.coe_sub, ← EReal.coe_add]
  congr 1; ring

variable {x0 x6 : S8192x1024.Idx → EReal} {x1 x5 : S1024.Idx → EReal} {x2 x3 : S1024x2816.Idx → EReal} {x4 : S2816x1024.Idx → EReal}
  (h0 : ∀ i, IsR (x0 i)) (h1 : ∀ i, IsR (x1 i)) (h2 : ∀ i, IsR (x2 i)) (h3 : ∀ i, IsR (x3 i)) (h4 : ∀ i, IsR (x4 i))
  (h5 : ∀ i, IsR (x5 i)) (h6 : ∀ i, IsR (x6 i))

include h0 h1 in
theorem v17_real (i : Fin 8192) (k : Fin 1024) : IsR (val_main_v17 (F := Ideal) x0 x1 (ix2 i k)) := by
  rw [v17_at]; exact ((h0 _).mul (IsR.rinv fun j => h0 _)).mul (h1 _)
include h0 h1 h2 in
theorem v19_real (i : Fin 8192) (k : Fin 2816) : IsR (val_main_v19 (F := Ideal) x0 x1 x2 (ix2 i k)) := by
  rw [v19_at]; exact IsR.sum fun j => (v17_real h0 h1 _ _).mul (h2 _)
include h0 h1 h3 in
theorem v21_real (i : Fin 8192) (k : Fin 2816) : IsR (val_main_v21 (F := Ideal) x0 x1 x3 (ix2 i k)) := by
  rw [v21_at]; exact IsR.sum fun j => (v17_real h0 h1 _ _).mul (h3 _)
include h0 h1 h2 h3 in
theorem v23_real (i : Fin 8192) (k : Fin 2816) : IsR (val_main_v23 (F := Ideal) x0 x1 x2 x3 (ix2 i k)) := by
  rw [v23_at]; exact ((v19_real h0 h1 h2 _ _).mul (v19_real h0 h1 h2 _ _).logistic).mul (v21_real h0 h1 h3 _ _)
include h0 h1 h2 h3 h4 in
theorem v25_real (i : Fin 8192) (k : Fin 1024) : IsR (val_main_v25 (F := Ideal) x0 x1 x2 x3 x4 (ix2 i k)) := by
  rw [v25_at]; exact IsR.sum fun j => (v23_real h0 h1 h2 h3 _ _).mul (h4 _)

include h0 h1 h2 h3 h4 h5 h6 in
/-- The cotangent of the down projection is the kernel's closed form. -/
theorem v63_eq (i : Fin 8192) (k : Fin 1024) :
    val_main_v63 (F := Ideal) x0 x1 x2 x3 x4 x5 x6 (ix2 i k) =
      rmsBack cD (fun j => val_main_v25 (F := Ideal) x0 x1 x2 x3 x4 (ix2 i j)) (fun j => x5 (ix1 j)) (fun j => x6 (ix2 i j)) k := by
  rw [v63_at]
  exact rms_vjp (fun j => v25_real h0 h1 h2 h3 h4 _ _) (fun j => h5 _) (fun j => h6 _) k

include h0 h1 h2 h3 h4 h5 h6 in
theorem v63_real (i : Fin 8192) (k : Fin 1024) : IsR (val_main_v63 (F := Ideal) x0 x1 x2 x3 x4 x5 x6 (ix2 i k)) := by
  rw [v63_eq h0 h1 h2 h3 h4 h5 h6]
  exact IsR.rmsBack (fun j => v25_real h0 h1 h2 h3 h4 _ _) (fun j => h5 _) (fun j => h6 _) k

include h0 h1 h2 h3 h4 h5 h6 in
theorem v64_real (i : Fin 8192) (k : Fin 2816) : IsR (val_main_v64 (F := Ideal) x0 x1 x2 x3 x4 x5 x6 (ix2 i k)) := by
  rw [v64_at]; exact IsR.sum fun j => (v63_real h0 h1 h2 h3 h4 h5 h6 _ _).mul (h4 _)

include h0 h1 h2 h3 h4 h5 h6 in
/-- The cotangent of the gate is the saved factor times the cotangent of the product. -/
theorem v67_eq (i : Fin 8192) (k : Fin 2816) :
    val_main_v67 (F := Ideal) x0 x1 x2 x3 x4 x5 x6 (ix2 i k) =
      (∑ j, val_main_v63 (F := Ideal) x0 x1 x2 x3 x4 x5 x6 (ix2 i j) * x4 (ix2 k j)) *
        (1 * val_main_v21 (F := Ideal) x0 x1 x3 (ix2 i k) * Ideal.logistic (val_main_v19 (F := Ideal) x0 x1 x2 (ix2 i k)) +
          val_main_v19 (F := Ideal) x0 x1 x2 (ix2 i k) * (1 * val_main_v21 (F := Ideal) x0 x1 x3 (ix2 i k)) *
            (Ideal.logistic (val_main_v19 (F := Ideal) x0 x1 x2 (ix2 i k)) *
              (1 - Ideal.logistic (val_main_v19 (F := Ideal) x0 x1 x2 (ix2 i k))))) := by
  rw [v67_at, ← v64_at]
  exact (gate_vjp (v64_real h0 h1 h2 h3 h4 h5 h6 _ _) (v19_real h0 h1 h2 _ _) (v21_real h0 h1 h3 _ _) (v19_real h0 h1 h2 _ _).logistic).symm

/-- The cotangent of the up projection is the saved factor times the cotangent of the product. -/
theorem v65_eq (i : Fin 8192) (k : Fin 2816) :
    val_main_v65 (F := Ideal) x0 x1 x2 x3 x4 x5 x6 (ix2 i k) =
      (∑ j, val_main_v63 (F := Ideal) x0 x1 x2 x3 x4 x5 x6 (ix2 i j) * x4 (ix2 k j)) *
        (val_main_v19 (F := Ideal) x0 x1 x2 (ix2 i k) * Ideal.logistic (val_main_v19 (F := Ideal) x0 x1 x2 (ix2 i k)) * 1) := by
  rw [v65_at, ← v64_at, mul_one, mul_comm]

include h0 h1 h2 h3 h4 h5 h6 in
theorem v70_real (i : Fin 8192) (k : Fin 1024) : IsR (val_main_v70 (F := Ideal) x0 x1 x2 x3 x4 x5 x6 (ix2 i k)) := by
  have s : ∀ j, IsR (Ideal.logistic (val_main_v19 (F := Ideal) x0 x1 x2 (ix2 i j))) := fun j => (v19_real h0 h1 h2 _ _).logistic
  rw [v70_at]
  refine (IsR.sum fun j => IsR.mul ?_ (h3 _)).add (IsR.sum fun j => IsR.mul ?_ (h2 _))
  · rw [v65_at]; exact ((v19_real h0 h1 h2 _ _).mul (s j)).mul (v64_real h0 h1 h2 h3 h4 h5 h6 _ _)
  · have d := (v64_real h0 h1 h2 h3 h4 h5 h6 i j).mul (v21_real h0 h1 h3 i j)
    rw [v67_at]
    exact (d.mul (s j)).add (((v19_real h0 h1 h2 _ _).mul d).mul ((s j).mul (isR_one.sub (s j))))

include h0 h1 h2 h3 h4 h5 h6 in
/-- The cotangent of the block's input is the residual's plus the kernel's closed form. -/
theorem v91_eq (i : Fin 8192) (k : Fin 1024) :
    val_main_v91 (F := Ideal) x0 x1 x2 x3 x4 x5 x6 (ix2 i k) =
      x6 (ix2 i k) + rmsBack cD (fun j => x0 (ix2 i j)) (fun j => x1 (ix1 j))
        (fun j => val_main_v70 (F := Ideal) x0 x1 x2 x3 x4 x5 x6 (ix2 i j)) k := by
  rw [v91_at, ← rms_vjp (fun j => h0 _) (fun j => h1 _) (fun j => v70_real h0 h1 h2 h3 h4 h5 h6 _ _) k, add_assoc, add_assoc, add_assoc]

end Cert.FBwdRefIdeal.Stages

end
-- ==== Proof.FBlocks.lean ====
/-
  One grid point's blocks of the SwiGLU gradient are the reference's stages at the point's 256 rows.
-/
module

public import proofs.«01_k».proof.Proof.FKernel
public import proofs.«01_k».proof.Proof.FHost
public import proofs.«01_k».proof.Proof.FReal

@[expose] public section

set_option maxRecDepth 16384

noncomputable section

namespace Cert.FBwdIdeal.Blocks

open Cert.FBwdIdeal Cert.FBwdIdeal.Gen Cert.FBwdIdeal.Host Cert.FBwdRefIdeal.Read Cert.FBwdRefIdeal.Stages
open Idealize.ShloMosaic Idealize.ShloMosaic.TcCoe Idealize.SL.Sem Cert.Spec

variable (m : (ℓ : Loc nD τ sig) → Buf (Elt Ideal) ℓ) (c : Dev nD)

/-- All windows' block indices, by the grid point. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![t.val, 0] ∧ win0_12.index t = ![0, 0] ∧ win0_13.index t = ![0, 0] :=
  (by decide +kernel : ∀ t : Fin grid0.N, _)

/-- Row `r` of point `t`'s block is this row of the array. -/
def row (t : Fin cfg0.N) (r : Fin 256) : Fin 8192 := ⟨t.val * 256 + r.val, by have := t.isLt; have : cfg0.N = 32 := N_0; omega⟩

theorem b0_at (t : Fin cfg0.N) (r : Fin 256) (k : Fin 1024) :
    (iblk m c 0 t : S256x1024.Idx → EReal) (ix2 r k) = a6 m c (ix2 (row t r) k) := by
  unfold row; blk_ext [iblk, V, idx t]
theorem b1_at (t : Fin cfg0.N) (r : Fin 256) (k : Fin 1024) :
    (iblk m c 1 t : S256x1024.Idx → EReal) (ix2 r k) =
      val_main_v25 (F := Ideal) (a0 m c) (a1 m c) (a2 m c) (a3 m c) (a4 m c) (ix2 (row t r) k) := by
  rw [← v30_at]; unfold row; blk_ext [iblk, idx t]
theorem b2_at (t : Fin cfg0.N) (r : Fin 256) (k : Fin 1024) :
    (iblk m c 2 t : S256x1024.Idx → EReal) (ix2 r k) = a0 m c (ix2 (row t r) k) := by
  unfold row; blk_ext [iblk, V, idx t]
theorem b4_at (t : Fin cfg0.N) (k : Fin 1024) : (iblk m c 4 t : S1x1024.Idx → EReal) (ix2 0 k) = a1 m c (ix1 k) := by
  rw [← v31_at]; blk_ext [iblk, idx t]
theorem b8_at (t : Fin cfg0.N) (k : Fin 1024) : (iblk m c 8 t : S1x1024.Idx → EReal) (ix2 0 k) = a5 m c (ix1 k) := by
  rw [← v32_at]; blk_ext [iblk, idx t]
theorem b5_at (t : Fin cfg0.N) (k : Fin 2816) (j : Fin 1024) :
    (iblk m c 5 t : S2816x1024.Idx → EReal) (ix2 k j) = a2 m c (ix2 j k) := by
  rw [← v26_at]; blk_ext [iblk, idx t]
theorem b6_at (t : Fin cfg0.N) (k : Fin 2816) (j : Fin 1024) :
    (iblk m c 6 t : S2816x1024.Idx → EReal) (ix2 k j) = a3 m c (ix2 j k) := by
  rw [← v28_at]; blk_ext [iblk, idx t]
theorem b7_at (t : Fin cfg0.N) (k : Fin 2816) (j : Fin 1024) :
    (iblk m c 7 t : S2816x1024.Idx → EReal) (ix2 k j) = a4 m c (ix2 k j) := by
  rw [← v29_at]; blk_ext [iblk, idx t]
theorem b3_at (t : Fin cfg0.N) (r : Fin 256) (j : Fin 5632) :
    (X0_3 m c t : S256x5632.Idx → EReal) (ix2 r j) = (V m c main_v24 : S8192x8448.Idx → EReal) (ix2 (row t r) ⟨j.val, by omega⟩) := by
  unfold row X0_3 Pipeline.Window.fill
  rw [dif_pos (moved0_3 t _)]
  blk_ext [iblk, idx t]

end Cert.FBwdIdeal.Blocks

end
-- ==== Proof.FFinal.lean ====
/-
  The SwiGLU gradient's result arrays are the reference's, for real arguments.
-/
module

public import proofs.«01_k».proof.Proof.FBlocks

@[expose] public section

set_option maxRecDepth 16384

noncomputable section

namespace Cert.FBwdIdeal.Blocks

open Cert.FBwdIdeal Cert.FBwdIdeal.Gen Cert.FBwdIdeal.Value Cert.FBwdIdeal.Host Cert.FBwdRefIdeal.Read Cert.FBwdRefIdeal.Stages
open Idealize.ShloMosaic Idealize.ShloMosaic.TcCoe Idealize.SL.Sem Cert.Spec

variable {m : (ℓ : Loc nD τ sig) → Buf (Elt Ideal) ℓ} {c : Dev nD}
  (h0 : ∀ i, IsR (a0 m c i)) (h1 : ∀ i, IsR (a1 m c i)) (h2 : ∀ i, IsR (a2 m c i)) (h3 : ∀ i, IsR (a3 m c i)) (h4 : ∀ i, IsR (a4 m c i))
  (h5 : ∀ i, IsR (a5 m c i)) (h6 : ∀ i, IsR (a6 m c i))

/-- The block of `dx` at a position. -/
theorem dxBlk_at (dx2 x : S256x1024.Idx → EReal) (g : S1x1024.Idx → EReal) (H : S256x1024.Idx → EReal) (r : Fin 256) (k : Fin 1024) :
    dxBlk dx2 x g H (ix2 r k) =
      dx2 (ix2 r k) + rmsBack cD (fun k => x (ix2 r k)) (fun k => g (ix2 0 k)) (fun k => H (ix2 r k)) k := rfl

/-- The block of the concatenated cotangents at a position. -/
theorem dabBlk_at (D : S256x1024.Idx → EReal) (wd : S2816x1024.Idx → EReal) (ab : S256x5632.Idx → EReal) (r : Fin 256) (k : Fin 5632) :
    dabBlk D wd ab (ix2 r k) = (∑ j, D (ix2 r j) * wd (ix2 ⟨k.val % 2816, Nat.mod_lt _ (by decide)⟩ j)) * ab (ix2 r k) := rfl

/-- The block of `df` at a position. -/
theorem dfBlk_at (f dx2 : S256x1024.Idx → EReal) (g : S1x1024.Idx → EReal) (r : Fin 256) (k : Fin 1024) :
    dfBlk f dx2 g (ix2 r k) = rmsBack cD (fun k => f (ix2 r k)) (fun k => g (ix2 0 k)) (fun k => dx2 (ix2 r k)) k := rfl

include h0 h1 h2 h3 h4 h5 h6

/-- The block of `df` is the reference's cotangent of the down projection. -/
theorem df_ref (t : Fin cfg0.N) (r : Fin 256) (k : Fin 1024) :
    dfBlk (iblk m c 1 t) (iblk m c 0 t) (iblk m c 8 t) (ix2 r k) =
      val_main_v63 (F := Ideal) (a0 m c) (a1 m c) (a2 m c) (a3 m c) (a4 m c) (a5 m c) (a6 m c) (ix2 (row t r) k) := by
  rw [v63_eq h0 h1 h2 h3 h4 h5 h6, dfBlk_at]
  simp only [b0_at, b1_at, b8_at]

/-- The block of the gate's cotangent is the reference's. -/
theorem da_ref (t : Fin cfg0.N) (r : Fin 256) (k : Fin 2816) :
    (∑ j, dfBlk (iblk m c 1 t) (iblk m c 0 t) (iblk m c 8 t) (ix2 r j) * iblk m c 7 t (ix2 k j)) * X0_3 m c t (ix2 r ⟨k.val, by omega⟩) =
      val_main_v67 (F := Ideal) (a0 m c) (a1 m c) (a2 m c) (a3 m c) (a4 m c) (a5 m c) (a6 m c) (ix2 (row t r) k) := by
  rw [v67_eq h0 h1 h2 h3 h4 h5 h6, b3_at, v24_gate]
  simp only [df_ref h0 h1 h2 h3 h4 h5 h6, b7_at]

/-- The block of the up projection's cotangent is the reference's. -/
theorem db_ref (t : Fin cfg0.N) (r : Fin 256) (k : Fin 2816) :
    (∑ j, dfBlk (iblk m c 1 t) (iblk m c 0 t) (iblk m c 8 t) (ix2 r j) * iblk m c 7 t (ix2 k j)) *
        X0_3 m c t (ix2 r ⟨2816 + k.val, by omega⟩) =
      val_main_v65 (F := Ideal) (a0 m c) (a1 m c) (a2 m c) (a3 m c) (a4 m c) (a5 m c) (a6 m c) (ix2 (row t r) k) := by
  rw [v65_eq, b3_at, v24_up]
  simp only [df_ref h0 h1 h2 h3 h4 h5 h6, b7_at]

/-- The block of the normed input's cotangent is the reference's. -/
theorem dh_ref (t : Fin cfg0.N) (r : Fin 256) (k : Fin 1024) :
    dhBlk (dfBlk (iblk m c 1 t) (iblk m c 0 t) (iblk m c 8 t)) (iblk m c 7 t) (iblk m c 5 t) (iblk m c 6 t) (X0_3 m c t) (ix2 r k) =
      val_main_v70 (F := Ideal) (a0 m c) (a1 m c) (a2 m c) (a3 m c) (a4 m c) (a5 m c) (a6 m c) (ix2 (row t r) k) := by
  rw [v70_at, add_comm]
  show _ + _ = _
  congr 1
  · refine Finset.sum_congr rfl fun j _ => ?_
    rw [← da_ref h0 h1 h2 h3 h4 h5 h6, ← b5_at m c t]
    rfl
  · refine Finset.sum_congr rfl fun j _ => ?_
    rw [← db_ref h0 h1 h2 h3 h4 h5 h6, ← b6_at m c t]
    rfl

/-- The block of `dx` is the reference's. -/
theorem dx_ref (t : Fin cfg0.N) (r : Fin 256) (k : Fin 1024) :
    dxBlk (iblk m c 0 t) (iblk m c 2 t) (iblk m c 4 t) (dhBlk (dfBlk (iblk m c 1 t) (iblk m c 0 t) (iblk m c 8 t)) (iblk m c 7 t)
        (iblk m c 5 t) (iblk m c 6 t) (X0_3 m c t)) (ix2 r k) =
      val_main_v91 (F := Ideal) (a0 m c) (a1 m c) (a2 m c) (a3 m c) (a4 m c) (a5 m c) (a6 m c) (ix2 (row t r) k) := by
  rw [v91_eq h0 h1 h2 h3 h4 h5 h6, dxBlk_at]
  simp only [dh_ref h0 h1 h2 h3 h4 h5 h6, b0_at, b2_at, b4_at]

/-- The kernel's `dx` is the reference's. -/
theorem final9 : (dats m 0 c).arrAt 9 cfg0.N =
    val_main_v91 (F := Ideal) (a0 m c) (a1 m c) (a2 m c) (a3 m c) (a4 m c) (a5 m c) (a6 m c) := by
  refine (dats m 0 c).arrAt_eq_of_covers 9 _ (by decide +kernel) fun t _ y => ?_
  have hN : cfg0.N = 32 := N_0
  have e : ∀ z, (outsAt0 m c t.val t.isLt).1 z = dxBlk (iblk m c 0 t) (iblk m c 2 t) (iblk m c 4 t) (dhBlk (dfBlk (iblk m c 1 t)
      (iblk m c 0 t) (iblk m c 8 t)) (iblk m c 7 t) (iblk m c 5 t) (iblk m c 6 t) (X0_3 m c t)) z := fun z => by
    rcases em (t.val % 32 = 0) with h | h
    · exact dx_A m c t h z
    · exact dx_B m c t h z
  blk_simp
  rw [after0_9, e]
  refine Eq.trans ?_ ((dx_ref h0 h1 h2 h3 h4 h5 h6 t (y 0) (y 1)).trans ?_)
  · congr 1
    exact (ix2_eta y).symm
  · unfold row; blk_point [idx t]

/-- The kernel's cotangent of the down projection is the reference's. -/
theorem final10 : (dats m 0 c).arrAt 10 cfg0.N =
    val_main_v92 (F := Ideal) (a0 m c) (a1 m c) (a2 m c) (a3 m c) (a4 m c) (a5 m c) (a6 m c) := by
  refine (dats m 0 c).arrAt_eq_of_covers 10 _ (by decide +kernel) fun t _ y => ?_
  have hN : cfg0.N = 32 := N_0
  have e : ∀ z, (outsAt0 m c t.val t.isLt).2.1 z = dfBlk (iblk m c 1 t) (iblk m c 0 t) (iblk m c 8 t) z := fun z => by
    rcases em (t.val % 32 = 0) with h | h
    · exact df_A m c t h z
    · exact df_B m c t h z
  blk_simp
  rw [after0_10, e]
  refine Eq.trans ?_ ((df_ref h0 h1 h2 h3 h4 h5 h6 t (y 0) (y 1)).trans ?_)
  · congr 1
    exact (ix2_eta y).symm
  · pointwise [val_main_v92]
    unfold row; blk_point [idx t]

/-- The kernel's concatenated cotangents of the gate and the up projection, and the gated product it keeps beside them,
    are the reference's. -/
theorem final11 : (dats m 0 c).arrAt 11 cfg0.N =
    val_main_v94 (F := Ideal) (a0 m c) (a1 m c) (a2 m c) (a3 m c) (a4 m c) (a5 m c) (a6 m c) := by
  refine (dats m 0 c).arrAt_eq_of_coversWhere_of_agree 11 _ (fun β => β 1 = 0) (by decide +kernel) (fun t _ y => ?_) (fun j hj => ?_)
  · have hN : cfg0.N = 32 := N_0
    have e : ∀ z, (outsAt0 m c t.val t.isLt).2.2.1 z =
        dabBlk (dfBlk (iblk m c 1 t) (iblk m c 0 t) (iblk m c 8 t)) (iblk m c 7 t) (X0_3 m c t) z := fun z => by
      rcases em (t.val % 32 = 0) with h | h
      · exact dab_A m c t h z
      · exact dab_B m c t h z
    blk_simp
    rw [after0_11, e]
    have hy : ∀ z : S256x5632.Idx, dabBlk (dfBlk (iblk m c 1 t) (iblk m c 0 t) (iblk m c 8 t)) (iblk m c 7 t) (X0_3 m c t) z =
        val_main_v94 (F := Ideal) (a0 m c) (a1 m c) (a2 m c) (a3 m c) (a4 m c) (a5 m c) (a6 m c)
          (ix2 (row t (z 0)) ⟨(z 1).val, lt_trans (show (z 1).val < 5632 from (z 1).isLt) (by decide)⟩) := fun z => by
      obtain ⟨r, k, rfl⟩ : ∃ (r : Fin 256) (k : Fin 5632), z = ix2 r k := ⟨z 0, z 1, eq_ix2 z⟩
      rw [dabBlk_at]
      by_cases hk : k.val < 2816
      · obtain ⟨q, rfl⟩ : ∃ q : Fin 2816, k = ⟨q.val, lt_trans q.isLt (by decide)⟩ := ⟨⟨k.val, hk⟩, rfl⟩
        rw [show (⟨q.val % 2816, Nat.mod_lt _ (by decide)⟩ : Fin 2816) = q from Fin.ext (Nat.mod_eq_of_lt hk), da_ref h0 h1 h2 h3 h4 h5 h6]
        exact (v94_gate ..).symm
      · obtain ⟨q, rfl⟩ : ∃ q : Fin 2816, k = ⟨2816 + q.val, Nat.add_lt_add_left q.isLt 2816⟩ := ⟨⟨k.val - 2816, by omega⟩, Fin.ext (by simp only []; omega)⟩
        rw [show (⟨(2816 + q.val) % 2816, Nat.mod_lt _ (by decide)⟩ : Fin 2816) = q from Fin.ext (by simp only []; omega),
          db_ref h0 h1 h2 h3 h4 h5 h6]
        exact (v94_up ..).symm
    rw [hy]
    unfold row; blk_point [idx t]
  · rw [A_eq]
    blk_simp [Pipeline.Window.cell_apply] at hj
    obtain ⟨i, k, rfl⟩ : ∃ (i : Fin 8192) (k : Fin 8448), j = ix2 i k := ⟨j 0, j 1, eq_ix2 j⟩
    change ¬k.val / 5632 = 0 at hj
    obtain ⟨q, rfl⟩ : ∃ q : Fin 2816, k = ⟨5632 + q.val, Nat.add_lt_add_left q.isLt 5632⟩ := ⟨⟨k.val - 5632, by omega⟩, Fin.ext (by simp only []; omega)⟩
    exact (v34_s m c i q).trans (v94_s ..).symm

omit h0 h1 h2 h3 h4 h5 h6 in
/-- The points' rows are all the rows. -/
theorem sum_rows (G : Fin 8192 → EReal) : ∑ t : Fin cfg0.N, ∑ r : Fin 256, G (row t r) = ∑ i, G i :=
  Fin.sum_mul_add_congr fun t r hl => rfl

/-- The kernel's gradient of the post-norm's gain is the reference's. -/
theorem final12 : (dats m 0 c).arrAt 12 cfg0.N =
    val_main_v95 (F := Ideal) (a0 m c) (a1 m c) (a2 m c) (a3 m c) (a4 m c) (a6 m c) := by
  refine (dats m 0 c).arrAt_eq_of_covers 12 _ (by decide +kernel) fun t hf y => ?_
  have hN : cfg0.N = 32 := N_0
  have ht : t.val % 32 = 31 := (flush0_12 t).mp hf
  have hg : ∀ s z, gainBlk (iblk m c 1 s) (iblk m c 0 s) z = ∑ r : Fin 256, rmsGain cD
      (fun j => val_main_v25 (F := Ideal) (a0 m c) (a1 m c) (a2 m c) (a3 m c) (a4 m c) (ix2 (row s r) j))
      (fun j => a6 m c (ix2 (row s r) j)) (z 1) := fun s z => by simp only [gainBlk, b0_at, b1_at]
  have e := fun z => Pipeline.eq_sum_fin_of_reset_step_apply_last (fun n h => (outsAt0 m c n h).2.2.2.1) 32 (fun _ => 0)
    (fun s z => gainBlk (iblk m c 1 s) (iblk m c 0 s) z)
    (fun s h z => by rw [post_A m c s h, zero_add]) (fun s h z => post_B m c s h z) (le_of_eq N_0) t (by have := t.isLt; have : cfg0.grid.N = 32 := N_0; omega) z
  blk_simp
  rw [after0_12, e, zero_add]
  simp only [hg]
  rw [sum_rows fun i => rmsGain cD (fun j => val_main_v25 (F := Ideal) (a0 m c) (a1 m c) (a2 m c) (a3 m c) (a4 m c) (ix2 i j))
      (fun j => a6 m c (ix2 i j)) (y 1)]
  refine ((v95_at _ _ _ _ _ _ (y 1)).symm.trans ?_)
  blk_point [idx t]

/-- The kernel's gradient of the pre-norm's gain is the reference's. -/
theorem final13 : (dats m 0 c).arrAt 13 cfg0.N =
    val_main_v96 (F := Ideal) (a0 m c) (a1 m c) (a2 m c) (a3 m c) (a4 m c) (a5 m c) (a6 m c) := by
  refine (dats m 0 c).arrAt_eq_of_covers 13 _ (by decide +kernel) fun t hf y => ?_
  have hN : cfg0.N = 32 := N_0
  have ht : t.val % 32 = 31 := (flush0_13 t).mp hf
  have e := fun z => Pipeline.eq_sum_fin_of_reset_step_apply_last (fun n h => (outsAt0 m c n h).2.2.2.2) 32 (fun _ => 0)
    (fun s z => gainBlk (iblk m c 2 s) (dhBlk (dfBlk (iblk m c 1 s) (iblk m c 0 s) (iblk m c 8 s)) (iblk m c 7 s) (iblk m c 5 s)
      (iblk m c 6 s) (X0_3 m c s)) z)
    (fun s h z => by rw [pre_A m c s h, zero_add]) (fun s h z => pre_B m c s h z) (le_of_eq N_0) t (by have := t.isLt; have : cfg0.grid.N = 32 := N_0; omega) z
  blk_simp
  rw [after0_13, e, zero_add]
  simp only [gainBlk, dh_ref h0 h1 h2 h3 h4 h5 h6, b2_at]
  rw [sum_rows fun i => rmsGain cD (fun j => a0 m c (ix2 i j))
      (fun j => val_main_v70 (F := Ideal) (a0 m c) (a1 m c) (a2 m c) (a3 m c) (a4 m c) (a5 m c) (a6 m c) (ix2 i j)) (y 1)]
  refine ((v96_at _ _ _ _ _ _ _ (y 1)).symm.trans ?_)
  blk_point [idx t]

end Cert.FBwdIdeal.Blocks

end
-- ==== Proof.Finite.lean ====
/-
  What the preconditions say of the ideal arrays: every entry is a real number.
-/
module

public import proofs.«01_k».proof.Proof.Reals
public import proofs.«01_k».proof.Proof.Gen.Pre_f_finite
public import proofs.«01_k».proof.Proof.Gen.Pre_ff_finite
public import proofs.«01_k».proof.Proof.Gen.Pre_b_finite
public import Idealize.ShloMosaic.Lib.ReduceAll
public import Idealize.ShloMosaic.Lib.Pointwise

@[expose] public section

noncomputable section

namespace Cert.Spec

open Idealize.ShloMosaic

/-- An extended real whose absolute value compares below the pattern of infinity is a real number. -/
theorem isR_of_lt {v : EReal} (h : Ideal.cmp .olt (max v (-v)) (Ideal.ofBits .f32 0x7F800000#32) = 1#1) : IsR v := by
  have hi : Ideal.ofBits .f32 0x7F800000#32 = ⊤ := by simp [Ideal.ofBits, Ideal.ieee]
  rw [hi, Ideal.cmp] at h
  induction v using EReal.rec with
  | coe r => exact ⟨r, rfl⟩
  | bot => simp at h
  | top => simp at h

/-- `jnp.all(jnp.abs(x) < jnp.inf)` says that every entry of `x` is a real number. -/
theorem isR_of_all {s t u : Shape} {axes : List (Fin s.rank)} [Subsingleton t.Idx] (x : FVec Ideal s .f32)
    (b : FVec Ideal s .f32) (hb : ∀ i, b i = Ideal.ofBits .f32 0x7F800000#32) (init : IVec u 1)
    (h : s.ReducesTo axes t) (hu : 0 < u.numel) (j : t.Idx)
    (e : Host.reduce IntOp.andi (cmpf .olt (Host.absf x) b) init h hu j = 1#1) (i : s.Idx) : IsR (x i) := by
  have := Host.reduce_andi_all _ init h hu j e i
  refine isR_of_lt ?_
  rw [← hb i]
  exact this

theorem and_one {a b : BitVec 1} (h : IntOp.andi a b = 1#1) : a = 1#1 ∧ b = 1#1 := by
  revert h; revert a b; decide

/-- The precondition of the SwiGLU gradient: all seven arrays are real. -/
theorem f_real (x0 x6 : FVec Ideal Cert.Pre_f_finite.S8192x1024 .f32) (x1 x5 : FVec Ideal Cert.Pre_f_finite.S1024 .f32)
    (x2 x3 : FVec Ideal Cert.Pre_f_finite.S1024x2816 .f32) (x4 : FVec Ideal Cert.Pre_f_finite.S2816x1024 .f32)
    (h : Cert.Pre_f_finite.fn (F := Ideal) x0 x1 x2 x3 x4 x5 x6 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧
      ∀ i, IsR (x6 i) := by
  have : Subsingleton Cert.Pre_f_finite.S_.Idx := ⟨fun a b => funext fun k => absurd k.isLt (by decide +revert)⟩
  have e := congrFun h fun k => k.elim0
  simp only [Cert.Pre_f_finite.fn, Cert.Pre_f_finite.fn_part1, Cert.Pre_f_finite.fn_part2, andi] at e
  obtain ⟨e, h6⟩ := and_one e
  obtain ⟨e, h5⟩ := and_one e
  obtain ⟨e, h4⟩ := and_one e
  obtain ⟨e, h3⟩ := and_one e
  obtain ⟨e, h2⟩ := and_one e
  obtain ⟨e, h1⟩ := and_one e
  obtain ⟨e, h0⟩ := and_one e
  exact ⟨isR_of_all _ _ (fun _ => rfl) _ _ _ _ h0, isR_of_all _ _ (fun _ => rfl) _ _ _ _ h1, isR_of_all _ _ (fun _ => rfl) _ _ _ _ h2,
    isR_of_all _ _ (fun _ => rfl) _ _ _ _ h3, isR_of_all _ _ (fun _ => rfl) _ _ _ _ h4, isR_of_all _ _ (fun _ => rfl) _ _ _ _ h5,
    isR_of_all _ _ (fun _ => rfl) _ _ _ _ h6⟩

/-- The precondition of the SwiGLU block's forward pass: the four arrays that the saved factors take are real. -/
theorem ff_real (x0 : FVec Ideal Cert.Pre_ff_finite.S8192x1024 .f32) (x1 x5 : FVec Ideal Cert.Pre_ff_finite.S1024 .f32)
    (x2 x3 : FVec Ideal Cert.Pre_ff_finite.S1024x2816 .f32) (x4 : FVec Ideal Cert.Pre_ff_finite.S2816x1024 .f32)
    (h : Cert.Pre_ff_finite.fn (F := Ideal) x0 x1 x2 x3 x4 x5 = fun _ => 1#1) :
    (∀ i, IsR (x0 i)) ∧ (∀ i, IsR (x1 i)) ∧ (∀ i, IsR (x2 i)) ∧ (∀ i, IsR (x3 i)) := by
  have : Subsingleton Cert.Pre_ff_finite.S_.Idx := ⟨fun a b => funext fun k => absurd k.isLt (by decide +revert)⟩
  have e := congrFun h fun k => k.elim0
  simp only [Cert.Pre_ff_finite.fn, Cert.Pre_ff_finite.fn_part1, andi] at e
  obtain ⟨e, h3⟩ := and_one e
  obtain ⟨e, h2⟩ := and_one e
  obtain ⟨e, h1⟩ := and_one e
  obtain ⟨e, h0⟩ := and_one e
  exact ⟨isR_of_all _ _ (fun _ => rfl) _ _ _ _ h0, isR_of_all _ _ (fun _ => rfl) _ _ _ _ h1, isR_of_all _ _ (fun _ => rfl) _ _ _ _ h2,
    isR_of_all _ _ (fun _ => rfl) _ _ _ _ h3⟩

/-- The precondition of mixer B's gradient: all eight arrays are real. -/
theorem b_real (x0 x7 : FVec Ideal Cert.Pre_b_finite.S8192x1024 .f32) (x1 x4 x6 : FVec Ideal Cert.Pre_b_finite.S1024 .f32)
    (x2 x5 : FVec Ideal Cert.Pre_b_finite.S1024x1024 .f32) (x3 : FVec Ideal Cert.Pre_b_finite.S4x256x256 .f32)
    (h : Cert.Pre_b_finite.fn (F := Ideal) x0 x1 x2 x3 x4 x5 x6 x7 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧
      (∀ i, IsR (x6 i)) ∧ ∀ i, IsR (x7 i) := by
  have : Subsingleton Cert.Pre_b_finite.S_.Idx := ⟨fun a b => funext fun k => absurd k.isLt (by decide +revert)⟩
  have e := congrFun h fun k => k.elim0
  simp only [Cert.Pre_b_finite.fn, Cert.Pre_b_finite.fn_part1, Cert.Pre_b_finite.fn_part2, andi] at e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨e, h1⟩ := and_one e
  obtain ⟨e, h0⟩ := and_one e
  exact ⟨isR_of_all _ _ (fun _ => rfl) _ _ _ _ h0, isR_of_all _ _ (fun _ => rfl) _ _ _ _ h1, isR_of_all _ _ (fun _ => rfl) _ _ _ _ h2,
    isR_of_all _ _ (fun _ => rfl) _ _ _ _ h3, isR_of_all _ _ (fun _ => rfl) _ _ _ _ h4, isR_of_all _ _ (fun _ => rfl) _ _ _ _ h5,
    isR_of_all _ _ (fun _ => rfl) _ _ _ _ h6, isR_of_all _ _ (fun _ => rfl) _ _ _ _ h7⟩

end Cert.Spec

end
-- ==== Proof.FPair.lean ====
/-
  The SwiGLU block's gradient: the kernel computes what the reference computes.
-/
module

public import proofs.«01_k».proof.Defs
public import proofs.«01_k».proof.Proof.FFinal
public import proofs.«01_k».proof.Proof.Finite
public import proofs.«01_k».proof.Proof.Gen.FBwdIdeal.Value
public import proofs.«01_k».proof.Proof.Gen.FBwdRefIdeal.Run
public import Idealize.ShloMosaic.Lib.Claim

@[expose] public section

set_option maxRecDepth 16384

noncomputable section

namespace Cert.FPair

open Idealize.ShloMosaic Idealize.ShloMosaic.TcCoe Idealize.SL.Sem Cert.Spec Cert.FBwdRefIdeal.Read Cert.FBwdIdeal.Blocks

/-- For finite arguments the two programs leave the same five results and their arguments unchanged. -/
theorem algebraic : Cert.algebraic_FBwdIdeal_FBwdRefIdeal_pre_f_finite := by
  pair_intro
  · run_from Cert.FBwdIdeal.Value.run_blocks m g
  · refine (θ_run _ _ _).mono (fun r h c => ?_) (Cert.FBwdRefIdeal.Value.run m' g')
    obtain ⟨e0, e1, e2, e3, e4, e5, e6⟩ := hagree c
    obtain ⟨h0, h1, h2, h3, h4, h5, h6⟩ := f_real _ _ _ _ _ _ _ (hpre c)
    replace e0 : StableHlo.launchContents m' c (Proc.devRef .tc Cert.FBwdRefIdeal.main_arg0) = Cert.FBwdIdeal.Host.a0 m c := e0
    replace e1 : StableHlo.launchContents m' c (Proc.devRef .tc Cert.FBwdRefIdeal.main_arg1) = Cert.FBwdIdeal.Host.a1 m c := e1
    replace e2 : StableHlo.launchContents m' c (Proc.devRef .tc Cert.FBwdRefIdeal.main_arg2) = Cert.FBwdIdeal.Host.a2 m c := e2
    replace e3 : StableHlo.launchContents m' c (Proc.devRef .tc Cert.FBwdRefIdeal.main_arg3) = Cert.FBwdIdeal.Host.a3 m c := e3
    replace e4 : StableHlo.launchContents m' c (Proc.devRef .tc Cert.FBwdRefIdeal.main_arg4) = Cert.FBwdIdeal.Host.a4 m c := e4
    replace e5 : StableHlo.launchContents m' c (Proc.devRef .tc Cert.FBwdRefIdeal.main_arg5) = Cert.FBwdIdeal.Host.a5 m c := e5
    replace e6 : StableHlo.launchContents m' c (Proc.devRef .tc Cert.FBwdRefIdeal.main_arg6) = Cert.FBwdIdeal.Host.a6 m c := e6
    obtain ⟨r91, r92, r94, r95, r96, rest⟩ := h c
    refine ⟨r91.trans ?_, r92.trans ?_, r94.trans ?_, r95.trans ?_, r96.trans ?_, rest⟩
    · refine (val_main_v91_eq (F := Ideal) _).trans (Eq.trans ?_ (final9 h0 h1 h2 h3 h4 h5 h6).symm)
      rw [e0, e1, e2, e3, e4, e5, e6]
    · refine (val_main_v92_eq (F := Ideal) _).trans (Eq.trans ?_ (final10 h0 h1 h2 h3 h4 h5 h6).symm)
      rw [e0, e1, e2, e3, e4, e5, e6]
    · refine (val_main_v94_eq (F := Ideal) _).trans (Eq.trans ?_ (final11 h0 h1 h2 h3 h4 h5 h6).symm)
      rw [e0, e1, e2, e3, e4, e5, e6]
    · refine (val_main_v95_eq (F := Ideal) _).trans (Eq.trans ?_ (final12 h0 h1 h2 h3 h4 h5 h6).symm)
      rw [e0, e1, e2, e3, e4, e6]
    · refine (val_main_v96_eq (F := Ideal) _).trans (Eq.trans ?_ (final13 h0 h1 h2 h3 h4 h5 h6).symm)
      rw [e0, e1, e2, e3, e4, e5, e6]

end Cert.FPair

end
-- ==== Proof.WKernel.lean ====
/-
  What one grid point of the three SwiGLU weight gradients' kernel leaves in the accumulator and in the output block.
-/
module

public import proofs.«01_k».proof.Proof.Gen.FGradIdeal.Frame
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.FGradIdeal.Blocks

open Cert.FGradIdeal Cert.FGradIdeal.Gen Idealize.ShloMosaic Idealize.ShloMosaic.TcCoe Idealize.SL.Sem

variable (m : (ℓ : Loc nD τ sig) → Buf (Elt Ideal) ℓ)

/-- One grid point's product: the left block's columns against the right block's. -/
def tnBlk (l : S2048x1408.Idx → EReal) (r : S2048x1024.Idx → EReal) (y : S1408x1024.Idx) : EReal :=
  ∑ k : Fin 2048, l (ix2 k (y 0)) * r (ix2 k (y 1))

/-- A block's first point, of the first two weights, starts the accumulator. -/
theorem sc_A (c : Dev nD) (t : Fin cfg0.N) (h0 : t.val % 4 = 0) (h1 : t.val < 16) (h2 : ¬16 ≤ t.val) (h3 : ¬t.val % 4 = 3) (y) :
    (outsAt0 m c t.val t.isLt).2 y = tnBlk (iblk m c 0 t) (iblk m c 1 t) y := by
  rw [outsAt0_A m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]

/-- A block's middle point, of the first two weights, adds to the accumulator. -/
theorem sc_B (c : Dev nD) (t : Fin cfg0.N) (h0 : ¬t.val % 4 = 0) (h1 : t.val < 16) (h2 : ¬16 ≤ t.val) (h3 : ¬t.val % 4 = 3) (y) :
    (outsAt0 m c t.val t.isLt).2 y = (outsAt0 m c (t.val - 1) (Nat.lt_of_le_of_lt (Nat.sub_le _ _) t.isLt)).2 y + tnBlk (iblk m c 0 t) (iblk m c 1 t) y := by
  rw [outsAt0_B m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]
  exact congrArg (· + _) (congrFun ((Memref.isWhole_whole cc0_scratch0).read_unread _) y)

/-- A block's last point, of the first two weights, adds to the accumulator. -/
theorem sc_C (c : Dev nD) (t : Fin cfg0.N) (h0 : ¬t.val % 4 = 0) (h1 : t.val < 16) (h2 : ¬16 ≤ t.val) (h3 : t.val % 4 = 3) (y) :
    (outsAt0 m c t.val t.isLt).2 y = (outsAt0 m c (t.val - 1) (Nat.lt_of_le_of_lt (Nat.sub_le _ _) t.isLt)).2 y + tnBlk (iblk m c 0 t) (iblk m c 1 t) y := by
  rw [outsAt0_C m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]
  exact congrArg (· + _) (congrFun ((Memref.isWhole_whole cc0_scratch0).read_unread _) y)

/-- A block's first point, of the third weight, starts the accumulator. -/
theorem sc_D (c : Dev nD) (t : Fin cfg0.N) (h0 : t.val % 4 = 0) (h1 : ¬t.val < 16) (h2 : 16 ≤ t.val) (h3 : ¬t.val % 4 = 3) (y) :
    (outsAt0 m c t.val t.isLt).2 y = tnBlk (iblk m c 0 t) (iblk m c 2 t) y := by
  rw [outsAt0_D m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]

/-- A block's middle point, of the third weight, adds to the accumulator. -/
theorem sc_E (c : Dev nD) (t : Fin cfg0.N) (h0 : ¬t.val % 4 = 0) (h1 : ¬t.val < 16) (h2 : 16 ≤ t.val) (h3 : ¬t.val % 4 = 3) (y) :
    (outsAt0 m c t.val t.isLt).2 y = (outsAt0 m c (t.val - 1) (Nat.lt_of_le_of_lt (Nat.sub_le _ _) t.isLt)).2 y + tnBlk (iblk m c 0 t) (iblk m c 2 t) y := by
  rw [outsAt0_E m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]
  exact congrArg (· + _) (congrFun ((Memref.isWhole_whole cc0_scratch0).read_unread _) y)

/-- A block's last point, of the third weight, adds to the accumulator. -/
theorem sc_F (c : Dev nD) (t : Fin cfg0.N) (h0 : ¬t.val % 4 = 0) (h1 : ¬t.val < 16) (h2 : 16 ≤ t.val) (h3 : t.val % 4 = 3) (y) :
    (outsAt0 m c t.val t.isLt).2 y = (outsAt0 m c (t.val - 1) (Nat.lt_of_le_of_lt (Nat.sub_le _ _) t.isLt)).2 y + tnBlk (iblk m c 0 t) (iblk m c 2 t) y := by
  rw [outsAt0_F m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]
  exact congrArg (· + _) (congrFun ((Memref.isWhole_whole cc0_scratch0).read_unread _) y)

/-- A block's last point, of the first two weights, writes the accumulator out. -/
theorem out_C (c : Dev nD) (t : Fin cfg0.N) (h0 : ¬t.val % 4 = 0) (h1 : t.val < 16) (h2 : ¬16 ≤ t.val) (h3 : t.val % 4 = 3) (a : Fin 4) (b : Fin 352) (d : Fin 1024) :
    (outsAt0 m c t.val t.isLt).1 (ix3 a b d) = (outsAt0 m c t.val t.isLt).2 (ix2 ⟨a.val * 352 + b.val, by omega⟩ d) := by
  rw [outsAt0_C m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]

/-- A block's last point, of the third weight, writes the accumulator out. -/
theorem out_F (c : Dev nD) (t : Fin cfg0.N) (h0 : ¬t.val % 4 = 0) (h1 : ¬t.val < 16) (h2 : 16 ≤ t.val) (h3 : t.val % 4 = 3) (a : Fin 4) (b : Fin 352) (d : Fin 1024) :
    (outsAt0 m c t.val t.isLt).1 (ix3 a b d) = (outsAt0 m c t.val t.isLt).2 (ix2 ⟨a.val * 352 + b.val, by omega⟩ d) := by
  rw [outsAt0_F m c t h0 h1 h2 h3]
  generalize iblk m c 0 t = b0
  generalize iblk m c 1 t = b1
  generalize iblk m c 2 t = b2
  frame_open
  simp (disch := decide) only [↓ View.readCov_skip, ↓ View.readCov_cons_toLoadRect, ↓ View.readCov_fill]
  frame_out
  open_payloads
  pointwise [tnBlk]

end Cert.FGradIdeal.Blocks

end
-- ==== Proof.WHost.lean ====
/-
  The three SwiGLU weight gradients as the reference computes them, and what the host hands to the kernel, read at an index.
-/
module

public import proofs.«01_k».proof.Proof.Gen.FGradRefIdeal.Read
public import proofs.«01_k».proof.Proof.Gen.FGradIdeal.Frame
public import Idealize.ShloMosaic.Lib.Pipeline.Value
public import Idealize.ShloMosaic.Lib.StableHlo.ReadAt
public import Idealize.ShloMosaic.Lib.Pipeline.ValueKit
public import Idealize.ShloMosaic.Lib.Claim
public import Idealize.ShloMosaic.Lib.Pointwise

@[expose] public section

set_option maxRecDepth 16384

noncomputable section

namespace Cert.FGradRefIdeal.Stages

open Cert.FGradRefIdeal Cert.FGradRefIdeal.Gen Cert.FGradRefIdeal.Read Idealize.ShloMosaic Idealize.ShloMosaic.TcCoe Idealize.SL.Sem

variable (x0 x4 : S8192x1024.Idx → EReal) (x1 x2 : S1024x2816.Idx → EReal) (x3 : S2816x1024.Idx → EReal)

/-- A row of the gate's gradient, in its device's slice. -/
theorem v21_gate (q : Fin 8) (j : Fin 352) (k : Fin 1024) :
    val_main_v21 (F := Ideal) x0 x1 x2 x3 x4 (ix3 q ⟨j.val, by omega⟩ k) =
      ∑ t : Fin 8192, val_main_v10 (F := Ideal) x0 x1 x2 x3 x4 (ix2 t ⟨q.val * 352 + j.val, by omega⟩) * x0 (ix2 t k) := by
  pointwise [val_main_v21, val_main_v20, val_main_v17, val_main_v15, val_main_v14, val_main_v13]

/-- A row of the up projection's gradient, in its device's slice. -/
theorem v21_up (q : Fin 8) (j : Fin 352) (k : Fin 1024) :
    val_main_v21 (F := Ideal) x0 x1 x2 x3 x4 (ix3 q ⟨352 + j.val, by omega⟩ k) =
      ∑ t : Fin 8192, val_main_v8 (F := Ideal) x0 x1 x3 x4 (ix2 t ⟨q.val * 352 + j.val, by omega⟩) * x0 (ix2 t k) := by
  pointwise [val_main_v21, val_main_v20, val_main_v18, val_main_v16, val_main_v12, val_main_v11]

/-- A row of the down projection's gradient, in its device's slice. -/
theorem v21_down (q : Fin 8) (j : Fin 352) (k : Fin 1024) :
    val_main_v21 (F := Ideal) x0 x1 x2 x3 x4 (ix3 q ⟨704 + j.val, by omega⟩ k) =
      ∑ t : Fin 8192, val_main_v3 (F := Ideal) x0 x1 x2 (ix2 t ⟨q.val * 352 + j.val, by omega⟩) * x4 (ix2 t k) := by
  pointwise [val_main_v21, val_main_v20, val_main_v19, val_main_v6, val_main_v5]
  rw [dif_neg (by omega), dif_neg (by omega)]
  refine Finset.sum_congr rfl fun t _ => ?_
  rw [mul_comm, show (⟨q.val * 352 + (704 + j.val - 352 - 352), by omega⟩ : Fin 2816) = ⟨q.val * 352 + j.val, by omega⟩ from Fin.ext (by simp only []; omega)]

end Cert.FGradRefIdeal.Stages

namespace Cert.FGradIdeal.Host

open Cert.FGradIdeal Cert.FGradIdeal.Gen Cert.FGradRefIdeal.Read Idealize.ShloMosaic Idealize.ShloMosaic.TcCoe Idealize.SL.Sem

variable (m : (ℓ : Loc nD τ sig) → Buf (Elt Ideal) ℓ) (c : Dev nD)

/-- The normed input. -/
abbrev a0 : S8192x1024.Idx → EReal := m ((c : Thread nD τ).loc main_arg0)
/-- The gate's weight. -/
abbrev a1 : S1024x2816.Idx → EReal := m ((c : Thread nD τ).loc main_arg1)
/-- The up projection's weight. -/
abbrev a2 : S1024x2816.Idx → EReal := m ((c : Thread nD τ).loc main_arg2)
/-- The down projection's weight. -/
abbrev a3 : S2816x1024.Idx → EReal := m ((c : Thread nD τ).loc main_arg3)
/-- The cotangent. -/
abbrev a4 : S8192x1024.Idx → EReal := m ((c : Thread nD τ).loc main_arg4)

/-- The normed input, as the kernel takes it. -/
theorem v11_at (i : Fin 8192) (k : Fin 1024) : (V m c main_v11 : S8192x1024.Idx → EReal) (ix2 i k) = a0 m c (ix2 i k) := by
  unfold V
  after_reads_at
/-- The cotangent, as the kernel takes it. -/
theorem v12_at (i : Fin 8192) (k : Fin 1024) : (V m c main_v12 : S8192x1024.Idx → EReal) (ix2 i k) = a4 m c (ix2 i k) := by
  unfold V
  after_reads_at
/-- The gate's cotangent. -/
theorem v10_gate (i : Fin 8192) (k : Fin 2816) :
    (V m c main_v10 : S8192x8448.Idx → EReal) (ix2 i ⟨k.val, by omega⟩) =
      val_main_v10 (F := Ideal) (a0 m c) (a1 m c) (a2 m c) (a3 m c) (a4 m c) (ix2 i k) := by
  unfold V
  after_reads_at
  after_reads_at
  pointwise [val_main_v10, val_main_call1_v1, val_main_v9, val_main_v1, val_main_v7, val_main_v2_2, val_main_call0_v3, val_main_call0_v1, val_main_call0_v0, val_main_v0, val_main_call0_v2, val_main_call0_cst, val_main_call0_v4, val_main_call0_cst_0, val_main_call1_v2, val_main_v2_1, val_main_call0_v7, val_main_call0_v6, val_main_call0_cst_1, val_main_call1_v0]
/-- The up projection's cotangent. -/
theorem v10_up (i : Fin 8192) (k : Fin 2816) :
    (V m c main_v10 : S8192x8448.Idx → EReal) (ix2 i ⟨2816 + k.val, by omega⟩) =
      val_main_v8 (F := Ideal) (a0 m c) (a1 m c) (a3 m c) (a4 m c) (ix2 i k) := by
  unfold V
  after_reads_at
  after_reads_at
  pointwise [val_main_v8, val_main_v7, val_main_v2_0, val_main_v0, val_main_v2_2, val_main_call0_v3, val_main_call0_v1, val_main_call0_v0, val_main_call0_v2, val_main_call0_cst, val_main_call0_v4, val_main_call0_cst_0]
/-- The gated product. -/
theorem v10_s (i : Fin 8192) (k : Fin 2816) :
    (V m c main_v10 : S8192x8448.Idx → EReal) (ix2 i ⟨5632 + k.val, by omega⟩) =
      val_main_v3 (F := Ideal) (a0 m c) (a1 m c) (a2 m c) (ix2 i k) := by
  unfold V
  after_reads_at
  rw [dif_neg (by omega), dif_neg (by omega), show (⟨5632 + k.val - 2816 - 2816, by omega⟩ : Fin 2816) = k from Fin.ext (by simp only []; omega)]
  after_reads_at
  pointwise [val_main_v3, val_main_v1, val_main_v2_0, val_main_v0, val_main_v2_2, val_main_call0_v3, val_main_call0_v1, val_main_call0_v0, val_main_call0_v2, val_main_call0_cst, val_main_call0_v4, val_main_call0_cst_0]

/-- The run: the result is the output window's final array, and the arguments are as they were. -/
theorem run_result (ρ : Dev nD → PrngReg) : θ_run defs (onTc (τ := τ) (main (F := Ideal))) ⟨m, fun _ => 0, ρ⟩ fun r => ∀ c : Dev nD,
      r.2.mem ((c : Thread nD τ).loc main_v13) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m ρ)
  exact ⟨(h c).1 3,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.FGradIdeal.Host

end
-- ==== Proof.WFinal.lean ====
/-
  The three SwiGLU weight gradients: the kernel's final array is the reference's result.
-/
module

public import proofs.«01_k».proof.Defs
public import proofs.«01_k».proof.Proof.WKernel
public import proofs.«01_k».proof.Proof.WHost
public import proofs.«01_k».proof.Proof.Gen.FGradRefIdeal.Run

@[expose] public section

set_option maxRecDepth 16384

noncomputable section

namespace Cert.FGradIdeal.Blocks

open Cert.FGradIdeal Cert.FGradIdeal.Gen Cert.FGradIdeal.Host Cert.FGradRefIdeal.Read Cert.FGradRefIdeal.Stages
open Idealize.ShloMosaic Idealize.ShloMosaic.TcCoe Idealize.SL.Sem

variable (m : (ℓ : Loc nD τ sig) → Buf (Elt Ideal) ℓ) (c : Dev nD)

/-- The block indices of the windows that a point uses, by the grid point. -/
theorem idx : ∀ t : Fin cfg0.N, win0_0.index t = ![t.val % 4, t.val / 4] ∧ (t.val < 16 → win0_1.index t = ![t.val % 4, 0]) ∧
    (16 ≤ t.val → win0_2.index t = ![t.val % 4, 0]) ∧ win0_3.index t = ![t.val / 4 % 2, t.val / 4 / 2, 0] :=
  (by decide +kernel : ∀ t : Fin grid0.N, _)

/-- Row `r` of point `t`'s blocks is this row of the arrays. -/
def row (t : Fin cfg0.N) (r : Fin 2048) : Fin 8192 := ⟨t.val % 4 * 2048 + r.val, by omega⟩
/-- Column `j` of point `t`'s left block is this column of the saved activations and cotangents. -/
def col (t : Fin cfg0.N) (j : Fin 1408) : Fin 8448 :=
  ⟨t.val / 4 * 1408 + j.val, by have := t.isLt; have : cfg0.N = 24 := N_0; omega⟩

/-- The saved activations and cotangents, as the kernel takes them. -/
abbrev acts : S8192x8448.Idx → EReal := V m c main_v10

theorem b0_at (t : Fin cfg0.N) (r : Fin 2048) (j : Fin 1408) :
    (iblk m c 0 t : S2048x1408.Idx → EReal) (ix2 r j) = acts m c (ix2 (row t r) (col t j)) := by
  unfold row col; blk_ext [iblk, (idx t).1]
theorem b1_at (t : Fin cfg0.N) (ht : t.val < 16) (r : Fin 2048) (k : Fin 1024) :
    (iblk m c 1 t : S2048x1024.Idx → EReal) (ix2 r k) = a0 m c (ix2 (row t r) k) := by
  rw [← v11_at]; unfold row; blk_ext [iblk, (idx t).2.1 ht]
theorem b2_at (t : Fin cfg0.N) (ht : 16 ≤ t.val) (r : Fin 2048) (k : Fin 1024) :
    (iblk m c 2 t : S2048x1024.Idx → EReal) (ix2 r k) = a4 m c (ix2 (row t r) k) := by
  rw [← v12_at]; unfold row; blk_ext [iblk, (idx t).2.2.1 ht]

/-- What one grid point adds to the accumulator. -/
def term (t : Fin cfg0.N) (z : S1408x1024.Idx) : EReal :=
  if t.val < 16 then tnBlk (iblk m c 0 t) (iblk m c 1 t) z else tnBlk (iblk m c 0 t) (iblk m c 2 t) z

theorem post_first (t : Fin cfg0.N) (h : t.val % 4 = 0) (z) : (outsAt0 m c t.val t.isLt).2 z = 0 + term m c t z := by
  unfold term
  rw [zero_add]
  rcases Nat.lt_or_ge t.val 16 with hl | hl
  · rw [if_pos hl, sc_A m c t h hl (by omega) (by omega)]
  · rw [if_neg (by omega), sc_D m c t h (by omega) hl (by omega)]

theorem post_next (t : Fin cfg0.N) (h : ¬t.val % 4 = 0) (z) : (outsAt0 m c t.val t.isLt).2 z =
    (outsAt0 m c (t.val - 1) (Nat.lt_of_le_of_lt (Nat.sub_le _ _) t.isLt)).2 z + term m c t z := by
  unfold term
  rcases Nat.lt_or_ge t.val 16 with hl | hl <;> rcases em (t.val % 4 = 3) with h3 | h3
  · rw [if_pos hl, sc_C m c t h hl (by omega) h3]
  · rw [if_pos hl, sc_B m c t h hl (by omega) h3]
  · rw [if_neg (by omega), sc_F m c t h (by omega) hl h3]
  · rw [if_neg (by omega), sc_E m c t h (by omega) hl h3]

/-- What a block's last point finds in the accumulator: the four points' terms. -/
theorem acc_last (t : Fin cfg0.N) (h : t.val % 4 = 3) (z) : (outsAt0 m c t.val t.isLt).2 z =
    ∑ s : Fin 4, term m c ⟨4 * (t.val / 4) + s.val, Pipeline.run_point_lt_of_flush t h s⟩ z := by
  rw [Pipeline.eq_sum_fin_of_reset_step_apply_of_flush (fun n h => (outsAt0 m c n h).2) 4 (fun _ => 0) (term m c)
    (post_first m c) (post_next m c) t h z, zero_add]

/-- For the first two weights that is the column of cotangents against the normed input, over all rows. -/
theorem acc_low (t : Fin cfg0.N) (h : t.val % 4 = 3) (hl : t.val < 16) (j : Fin 1408) (k : Fin 1024) :
    (outsAt0 m c t.val t.isLt).2 (ix2 j k) =
      ∑ i : Fin 8192, acts m c (ix2 i (col t j)) * a0 m c (ix2 i k) := by
  have e (s : Fin 4) : term m c ⟨4 * (t.val / 4) + s.val, Pipeline.run_point_lt_of_flush t h s⟩ (ix2 j k) =
      ∑ r : Fin 2048, acts m c (ix2 ⟨s.val * 2048 + r.val, by omega⟩ (col t j)) * a0 m c (ix2 ⟨s.val * 2048 + r.val, by omega⟩ k) := by
    unfold term
    rw [if_pos (by simp only []; omega)]
    unfold tnBlk
    refine Finset.sum_congr rfl fun r _ => ?_
    refine (congrArg₂ (fun x y : EReal => x * y) (b0_at m c _ r j) (b1_at m c _ (by simp only []; omega) r k)).trans ?_
    rw [show row ⟨4 * (t.val / 4) + s.val, Pipeline.run_point_lt_of_flush t h s⟩ r = ⟨s.val * 2048 + r.val, by omega⟩ from
        Fin.ext (by unfold row; simp only []; omega),
      show col ⟨4 * (t.val / 4) + s.val, Pipeline.run_point_lt_of_flush t h s⟩ j = col t j from
        Fin.ext (by unfold col; simp only []; omega)]
  rw [acc_last m c t h, Finset.sum_congr rfl fun s _ => e s]
  exact Fin.sum_mul_add_congr fun s r hl => rfl

/-- For the third weight it is the column of activations against the output's cotangent, over all rows. -/
theorem acc_high (t : Fin cfg0.N) (h : t.val % 4 = 3) (hl : 16 ≤ t.val) (j : Fin 1408) (k : Fin 1024) :
    (outsAt0 m c t.val t.isLt).2 (ix2 j k) =
      ∑ i : Fin 8192, acts m c (ix2 i (col t j)) * a4 m c (ix2 i k) := by
  have e (s : Fin 4) : term m c ⟨4 * (t.val / 4) + s.val, Pipeline.run_point_lt_of_flush t h s⟩ (ix2 j k) =
      ∑ r : Fin 2048, acts m c (ix2 ⟨s.val * 2048 + r.val, by omega⟩ (col t j)) * a4 m c (ix2 ⟨s.val * 2048 + r.val, by omega⟩ k) := by
    unfold term
    rw [if_neg (by simp only []; omega)]
    unfold tnBlk
    refine Finset.sum_congr rfl fun r _ => ?_
    refine (congrArg₂ (fun x y : EReal => x * y) (b0_at m c _ r j) (b2_at m c _ (by simp only []; omega) r k)).trans ?_
    rw [show row ⟨4 * (t.val / 4) + s.val, Pipeline.run_point_lt_of_flush t h s⟩ r = ⟨s.val * 2048 + r.val, by omega⟩ from
        Fin.ext (by unfold row; simp only []; omega),
      show col ⟨4 * (t.val / 4) + s.val, Pipeline.run_point_lt_of_flush t h s⟩ j = col t j from
        Fin.ext (by unfold col; simp only []; omega)]
  rw [acc_last m c t h, Finset.sum_congr rfl fun s _ => e s]
  exact Fin.sum_mul_add_congr fun s r hl => rfl

/-- A last point of the gate's blocks has accumulated the reference's rows. -/
theorem acc_gate (t : Fin cfg0.N) (h : t.val % 4 = 3) (h8 : t.val < 8) (a : Fin 4) (b : Fin 352) (d : Fin 1024) :
    (outsAt0 m c t.val t.isLt).2 (ix2 ⟨a.val * 352 + b.val, by omega⟩ d) =
      val_main_v21 (F := Ideal) (a0 m c) (a1 m c) (a2 m c) (a3 m c) (a4 m c)
        (ix3 ⟨4 * (t.val / 4 % 2) + a.val, by omega⟩ ⟨b.val, by omega⟩ d) := by
  have hN : cfg0.N = 24 := N_0
  have hi := t.isLt
  rw [acc_low m c t h (by omega), v21_gate]
  refine Finset.sum_congr rfl fun i _ => ?_
  rw [← v10_gate m c]
  exact congrArg (fun j => acts m c (ix2 i j) * _) (Fin.ext (by unfold col; simp only []; omega))

/-- A last point of the up projection's blocks has accumulated the reference's rows. -/
theorem acc_up (t : Fin cfg0.N) (h : t.val % 4 = 3) (h8 : 8 ≤ t.val) (hl : t.val < 16) (a : Fin 4) (b : Fin 352) (d : Fin 1024) :
    (outsAt0 m c t.val t.isLt).2 (ix2 ⟨a.val * 352 + b.val, by omega⟩ d) =
      val_main_v21 (F := Ideal) (a0 m c) (a1 m c) (a2 m c) (a3 m c) (a4 m c)
        (ix3 ⟨4 * (t.val / 4 % 2) + a.val, by omega⟩ ⟨352 + b.val, by omega⟩ d) := by
  have hN : cfg0.N = 24 := N_0
  have hi := t.isLt
  rw [acc_low m c t h hl, v21_up]
  refine Finset.sum_congr rfl fun i _ => ?_
  rw [← v10_up m c]
  exact congrArg (fun j => acts m c (ix2 i j) * _) (Fin.ext (by unfold col; simp only []; omega))

/-- A last point of the down projection's blocks has accumulated the reference's rows. -/
theorem acc_down (t : Fin cfg0.N) (h : t.val % 4 = 3) (hl : 16 ≤ t.val) (a : Fin 4) (b : Fin 352) (d : Fin 1024) :
    (outsAt0 m c t.val t.isLt).2 (ix2 ⟨a.val * 352 + b.val, by omega⟩ d) =
      val_main_v21 (F := Ideal) (a0 m c) (a1 m c) (a2 m c) (a3 m c) (a4 m c)
        (ix3 ⟨4 * (t.val / 4 % 2) + a.val, by omega⟩ ⟨704 + b.val, by omega⟩ d) := by
  have hN : cfg0.N = 24 := N_0
  have hi := t.isLt
  rw [acc_high m c t h hl, v21_down]
  refine Finset.sum_congr rfl fun i _ => ?_
  rw [← v10_s m c]
  exact congrArg (fun j => acts m c (ix2 i j) * _) (Fin.ext (by unfold col; simp only []; omega))

/-- The kernel's three weight gradients are the reference's. -/
theorem final3 : (dats m 0 c).arrAt 3 cfg0.N =
    val_main_v21 (F := Ideal) (a0 m c) (a1 m c) (a2 m c) (a3 m c) (a4 m c) := by
  refine (dats m 0 c).arrAt_eq_of_covers 3 _ (by decide +kernel) fun t hf y => ?_
  have hN : cfg0.N = 24 := N_0
  have ht : t.val % 4 = 3 := (flush0_3 t).mp hf
  blk_simp
  rw [after0_3]
  have hi : t.val < 24 := lt_of_lt_of_eq t.isLt hN
  obtain ⟨a, b, d, rfl⟩ : ∃ (a : Fin 4) (b : Fin 352) (d : Fin 1024), y = (ix3 a b d : S4x352x1024.Idx) :=
    ⟨y 0, y 1, y 2, (ix3_eta y).symm⟩
  rcases Nat.lt_or_ge t.val 16 with hl | hl
  · rw [out_C m c t (by omega) hl (by omega) ht]
    rcases Nat.lt_or_ge t.val 8 with h8 | h8
    · refine (acc_gate m c t ht h8 a b d).trans ?_
      blk_point [(idx t).2.2.2]
    · refine (acc_up m c t ht h8 hl a b d).trans ?_
      blk_point [(idx t).2.2.2]
  · rw [out_F m c t (by omega) (by omega) hl ht]
    refine (acc_down m c t ht hl a b d).trans ?_
    blk_point [(idx t).2.2.2]

end Cert.FGradIdeal.Blocks

end
-- ==== Proof.WPair.lean ====
/-
  The three SwiGLU weight gradients: the kernel computes what the reference computes.
-/
module

public import proofs.«01_k».proof.Defs
public import proofs.«01_k».proof.Proof.WFinal
public import Idealize.ShloMosaic.Lib.Claim

@[expose] public section

set_option maxRecDepth 16384

noncomputable section

namespace Cert.WPair

open Idealize.ShloMosaic Idealize.ShloMosaic.TcCoe Idealize.SL.Sem Cert.FGradRefIdeal.Read Cert.FGradIdeal.Blocks

/-- For all arguments the two programs leave the same weight gradients and their arguments unchanged. -/
theorem algebraic : Cert.algebraic_FGradIdeal_FGradRefIdeal := by
  pair_intro
  · run_from Cert.FGradIdeal.Host.run_result m g
  · refine (θ_run _ _ _).mono (fun r h c => ?_) (Cert.FGradRefIdeal.Value.run m' g')
    obtain ⟨e0, e1, e2, e3, e4⟩ := hagree c
    replace e0 : m' ((c.tc : Thread Cert.FGradRefIdeal.nD Cert.FGradRefIdeal.τ).loc Cert.FGradRefIdeal.main_arg0) = Cert.FGradIdeal.Host.a0 m c := e0
    replace e1 : m' ((c.tc : Thread Cert.FGradRefIdeal.nD Cert.FGradRefIdeal.τ).loc Cert.FGradRefIdeal.main_arg1) = Cert.FGradIdeal.Host.a1 m c := e1
    replace e2 : m' ((c.tc : Thread Cert.FGradRefIdeal.nD Cert.FGradRefIdeal.τ).loc Cert.FGradRefIdeal.main_arg2) = Cert.FGradIdeal.Host.a2 m c := e2
    replace e3 : m' ((c.tc : Thread Cert.FGradRefIdeal.nD Cert.FGradRefIdeal.τ).loc Cert.FGradRefIdeal.main_arg3) = Cert.FGradIdeal.Host.a3 m c := e3
    replace e4 : m' ((c.tc : Thread Cert.FGradRefIdeal.nD Cert.FGradRefIdeal.τ).loc Cert.FGradRefIdeal.main_arg4) = Cert.FGradIdeal.Host.a4 m c := e4
    obtain ⟨r21, rest⟩ := h c
    refine ⟨r21.trans ?_, rest⟩
    refine (val_main_v21_eq (F := Ideal) m' c).trans (Eq.trans ?_ (final3 m c).symm)
    rw [e0, e1, e2, e3, e4]

end Cert.WPair

end
-- ==== Proof.GKernel.lean ====
/-
  What one grid point of the SwiGLU block's forward kernel leaves in each output block, as a function of its input blocks.
-/
module

public import proofs.«01_k».proof.Proof.Gen.FFwdIdeal.Value
public import proofs.«01_k».proof.Proof.Spec
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.FFwdIdeal.Blocks

open Cert.FFwdIdeal Cert.FFwdIdeal.Gen Idealize.ShloMosaic Idealize.ShloMosaic.TcCoe Idealize.SL.Sem Cert.Spec

/-- A normed block: each row times its reciprocal root mean square and the gain. -/
def normBlk (x : S256x1024.Idx → EReal) (g : S1x1024.Idx → EReal) (y : S256x1024.Idx) : EReal :=
  x y * rinv cD (fun k => x (ix2 (y 0) k)) * g (ix2 0 (y 1))

/-- A block of rows times a transposed weight. -/
def projBlk (H : S256x1024.Idx → EReal) (w : S2816x1024.Idx → EReal) (y : S256x2816.Idx) : EReal :=
  ∑ j : Fin 1024, H (ix2 (y 0) j) * w (ix2 (y 1) j)

/-- The block of the gated product. -/
def prodBlk (A B : S256x2816.Idx → EReal) (y : S256x2816.Idx) : EReal := A y * Ideal.logistic (A y) * B y

/-- The block of the down projection. -/
def downBlk (S : S256x2816.Idx → EReal) (w : S2816x1024.Idx → EReal) (y : S256x1024.Idx) : EReal :=
  ∑ k : Fin 2816, S (ix2 (y 0) k) * w (ix2 k (y 1))

variable (x0 : S256x1024.Idx → EReal) (x1 x5 : S1x1024.Idx → EReal) (x2 x3 x4 : S2816x1024.Idx → EReal)

theorem h_at (y) : (k0_pay3 (F := Ideal) x0 x1 : S256x1024.Idx → EReal) y = normBlk x0 x1 y := by
  open_payloads
  pointwise [normBlk, rinv]

theorem a_at : (k0_pay4 (F := Ideal) x0 x1 x2 : S256x2816.Idx → EReal) = projBlk (normBlk x0 x1) x2 := by
  funext y
  rw [k0_pay4, show k0_pay3 (F := Ideal) x0 x1 = normBlk x0 x1 from funext (h_at x0 x1)]
  generalize normBlk x0 x1 = H
  pointwise [projBlk]

theorem b_at : (k0_pay5 (F := Ideal) x0 x1 x3 : S256x2816.Idx → EReal) = projBlk (normBlk x0 x1) x3 := by
  funext y
  rw [k0_pay5, show k0_pay3 (F := Ideal) x0 x1 = normBlk x0 x1 from funext (h_at x0 x1)]
  generalize normBlk x0 x1 = H
  pointwise [projBlk]

theorem s_at : (k0_pay10 (F := Ideal) x0 x1 x2 x3 : S256x2816.Idx → EReal) =
    prodBlk (projBlk (normBlk x0 x1) x2) (projBlk (normBlk x0 x1) x3) := by
  funext y
  simp only [k0_pay10, k0_pay7, k0_pay6, a_at, b_at]
  generalize projBlk _ _ = A
  generalize projBlk _ _ = B
  pointwise [prodBlk]

/-- The normed input. -/
theorem out7 (y) : out0_7 (F := Ideal) x0 x1 x2 x3 x4 x5 y = normBlk x0 x1 y := by
  rw [← h_at]
  unfold_out out0_7
  frame_out

/-- The down projection. -/
theorem out9 (y) : out0_9 (F := Ideal) x0 x1 x2 x3 x4 x5 y =
    downBlk (prodBlk (projBlk (normBlk x0 x1) x2) (projBlk (normBlk x0 x1) x3)) x4 y := by
  rw [← s_at]
  unfold_out out0_9
  frame_out
  generalize k0_pay10 (F := Ideal) _ _ _ _ = S
  open_payloads
  pointwise [downBlk]

/-- The block with its residual. -/
def addBlk (x N : S256x1024.Idx → EReal) (y : S256x1024.Idx) : EReal := x y + N y

/-- The block's output. -/
theorem out6 (y) : out0_6 (F := Ideal) x0 x1 x2 x3 x4 x5 y =
    addBlk x0 (normBlk (downBlk (prodBlk (projBlk (normBlk x0 x1) x2) (projBlk (normBlk x0 x1) x3)) x4) x5) y := by
  rw [← s_at]
  unfold_out out0_6
  frame_out
  generalize k0_pay10 (F := Ideal) _ _ _ _ = S
  open_payloads
  pointwise [addBlk, normBlk, rinv, downBlk]

/-- The saved factors of the gate's and the up projection's cotangents, and the gated product. -/
def actsBlk (A B : S256x2816.Idx → EReal) (y : S256x8448.Idx) : EReal :=
  let z : S256x2816.Idx := ix2 (y 0) ⟨(y 1).val % 2816, Nat.mod_lt _ (by decide)⟩
  if (y 1).val < 2816 then B z * (Ideal.logistic (A z) + A z * Ideal.logistic (A z) * (1 - Ideal.logistic (A z)))
  else if (y 1).val < 5632 then A z * Ideal.logistic (A z) else prodBlk A B z

/-- What the forward pass saves for its gradients. -/
theorem out8 (y) : out0_8 (F := Ideal) x0 x1 x2 x3 x4 x5 y =
    actsBlk (projBlk (normBlk x0 x1) x2) (projBlk (normBlk x0 x1) x3) y := by
  unfold_out out0_8
  frame_out
  simp only [k0_pay8, k0_pay9, k0_pay10, k0_pay7, k0_pay6, a_at, b_at]
  generalize projBlk _ _ = A
  generalize projBlk _ _ = B
  canon_tiles x h
  all_goals
    have hz : (ix2 (y 0) ⟨(y 1).val % 2816, Nat.mod_lt _ (by decide)⟩ : S256x2816.Idx) = x := by
      refine funext fun a => Fin.ext ?_
      match a with
      | ⟨0, _⟩ => exact h0
      | ⟨1, _⟩ => show (y 1).val % 2816 = (x 1).val; omega
    unfold actsBlk
    simp only [hz]
    first
      | rw [if_pos (by omega)]
      | rw [if_neg (by omega), if_pos (by omega)]
      | rw [if_neg (by omega), if_neg (by omega)]
    pointwise [prodBlk]

end Cert.FFwdIdeal.Blocks

end
-- ==== Proof.GRef.lean ====
/-
  The stages of the SwiGLU block's forward pass as the reference computes them, and what the host hands to the kernel.
-/
module

public import proofs.«01_k».proof.Proof.Gen.FFwdRefIdeal.Read
public import proofs.«01_k».proof.Proof.GKernel
public import proofs.«01_k».proof.Proof.FReal
public import Idealize.ShloMosaic.Lib.StableHlo.ReadAt

@[expose] public section

set_option maxRecDepth 16384

noncomputable section

namespace Cert.FFwdRefIdeal.Stages

open Cert.FFwdRefIdeal Cert.FFwdRefIdeal.Gen Cert.FFwdRefIdeal.Read Idealize.ShloMosaic Idealize.ShloMosaic.TcCoe Idealize.SL.Sem Cert.Spec

variable (x0 : S8192x1024.Idx → EReal) (x1 x5 : S1024.Idx → EReal) (x2 x3 : S1024x2816.Idx → EReal) (x4 : S2816x1024.Idx → EReal)

/-- The normed input. -/
theorem v12_at (i : Fin 8192) (k : Fin 1024) :
    val_main_v12 (F := Ideal) x0 x1 (ix2 i k) = x0 (ix2 i k) * rinv cD (fun j => x0 (ix2 i j)) * x1 (ix1 k) := by
  pointwise [val_main_v12, val_main_v9, val_main_v8, val_main_v7, val_main_v6, val_main_v4, val_main_v2, val_main_v1, val_main_v0, val_main_cst, val_main_v3, val_main_cst_0, val_main_v5, val_main_cst_1, val_main_v11, val_main_v10, rinv]

/-- The gate. -/
theorem v13_at (i : Fin 8192) (k : Fin 2816) :
    val_main_v13 (F := Ideal) x0 x1 x2 (ix2 i k) = ∑ j, val_main_v12 (F := Ideal) x0 x1 (ix2 i j) * x2 (ix2 j k) := by
  pointwise [val_main_v13]

/-- The up projection. -/
theorem v14_at (i : Fin 8192) (k : Fin 2816) :
    val_main_v14 (F := Ideal) x0 x1 x3 (ix2 i k) = ∑ j, val_main_v12 (F := Ideal) x0 x1 (ix2 i j) * x3 (ix2 j k) := by
  pointwise [val_main_v14]

/-- The gated product. -/
theorem v16_at (i : Fin 8192) (k : Fin 2816) :
    val_main_v16 (F := Ideal) x0 x1 x2 x3 (ix2 i k) = val_main_v13 (F := Ideal) x0 x1 x2 (ix2 i k) *
      Ideal.logistic (val_main_v13 (F := Ideal) x0 x1 x2 (ix2 i k)) * val_main_v14 (F := Ideal) x0 x1 x3 (ix2 i k) := by
  pointwise [val_main_v16, val_main_v15_0, val_main_v15_2, val_main_call0_v3, val_main_call0_v1, val_main_call0_v0, val_main_call0_v2, val_main_call0_cst, val_main_call0_v4, val_main_call0_cst_0, Ideal.logistic]

/-- The down projection. -/
theorem v21_at (i : Fin 8192) (k : Fin 1024) :
    val_main_v21 (F := Ideal) x0 x1 x2 x3 x4 (ix2 i k) = ∑ j, val_main_v16 (F := Ideal) x0 x1 x2 x3 (ix2 i j) * x4 (ix2 j k) := by
  pointwise [val_main_v21]

/-- The block's output. -/
theorem v35_at (i : Fin 8192) (k : Fin 1024) :
    val_main_v35 (F := Ideal) x0 x1 x2 x3 x4 x5 (ix2 i k) = x0 (ix2 i k) + val_main_v21 (F := Ideal) x0 x1 x2 x3 x4 (ix2 i k) *
      rinv cD (fun j => val_main_v21 (F := Ideal) x0 x1 x2 x3 x4 (ix2 i j)) * x5 (ix1 k) := by
  pointwise [val_main_v35, val_main_v34, val_main_v31, val_main_v30, val_main_v29, val_main_v28, val_main_v26, val_main_v24, val_main_v23, val_main_v22, val_main_cst_3, val_main_v25, val_main_cst_4, val_main_v27, val_main_cst_5, val_main_v33, val_main_v32, rinv]

/-- The saved factor of the gate's cotangent, as the transposed product spells it. -/
theorem v38_gate (i : Fin 8192) (k : Fin 2816) :
    val_main_v38 (F := Ideal) x0 x1 x2 x3 (ix2 i ⟨k.val, by omega⟩) =
      1 * val_main_v14 (F := Ideal) x0 x1 x3 (ix2 i k) * Ideal.logistic (val_main_v13 (F := Ideal) x0 x1 x2 (ix2 i k)) +
        val_main_v13 (F := Ideal) x0 x1 x2 (ix2 i k) * (1 * val_main_v14 (F := Ideal) x0 x1 x3 (ix2 i k)) *
          (Ideal.logistic (val_main_v13 (F := Ideal) x0 x1 x2 (ix2 i k)) *
            (1 - Ideal.logistic (val_main_v13 (F := Ideal) x0 x1 x2 (ix2 i k)))) := by
  pointwise [val_main_v38, val_main_v37, val_main_v16, val_main_v15_0, val_main_v15_2, val_main_call0_v3, val_main_call0_v1, val_main_call0_v0, val_main_call0_v2, val_main_call0_cst, val_main_call0_v4, val_main_call0_cst_0, val_main_v18, val_main_v17, val_main_cst_2, val_main_v20, val_main_call1_v1, val_main_v19, val_main_call1_v2, val_main_v15_1, val_main_call0_v7, val_main_call0_v6, val_main_call0_cst_1, val_main_call1_v0, Ideal.logistic]

/-- The saved factor of the up projection's cotangent. -/
theorem v38_up (i : Fin 8192) (k : Fin 2816) :
    val_main_v38 (F := Ideal) x0 x1 x2 x3 (ix2 i ⟨2816 + k.val, by omega⟩) =
      val_main_v13 (F := Ideal) x0 x1 x2 (ix2 i k) * Ideal.logistic (val_main_v13 (F := Ideal) x0 x1 x2 (ix2 i k)) * 1 := by
  pointwise [val_main_v38, val_main_v37, val_main_v16, val_main_v15_0, val_main_v15_2, val_main_call0_v3, val_main_call0_v1, val_main_call0_v0, val_main_call0_v2, val_main_call0_cst, val_main_call0_v4, val_main_call0_cst_0, val_main_v18, val_main_v17, val_main_cst_2, val_main_v20, val_main_call1_v1, val_main_v19, val_main_call1_v2, val_main_v15_1, val_main_call0_v7, val_main_call0_v6, val_main_call0_cst_1, val_main_call1_v0, Ideal.logistic]

/-- The saved gated product. -/
theorem v38_s (i : Fin 8192) (k : Fin 2816) :
    val_main_v38 (F := Ideal) x0 x1 x2 x3 (ix2 i ⟨5632 + k.val, by omega⟩) = val_main_v16 (F := Ideal) x0 x1 x2 x3 (ix2 i k) := by
  pointwise [val_main_v38, val_main_v37]
  rw [dif_neg (by omega), dif_neg (by omega), show (⟨5632 + k.val - 2816 - 2816, by omega⟩ : Fin 2816) = k from Fin.ext (by simp only []; omega)]

/-- The gate's saved factor, as the kernel spells it. -/
theorem gate_factor {a b s : EReal} (ha : IsR a) (hb : IsR b) (hs : IsR s) :
    b * (s + a * s * (1 - s)) = 1 * b * s + a * (1 * b) * (s * (1 - s)) := by
  obtain ⟨a, rfl⟩ := ha
  obtain ⟨b, rfl⟩ := hb
  obtain ⟨s, rfl⟩ := hs
  simp only [one_mul]
  rw [← EReal.coe_one]
  simp only [← EReal.coe_mul, ← EReal.coe_sub, ← EReal.coe_add]
  congr 1; ring

variable {x0 x1 x2 x3} (h0 : ∀ i, IsR (x0 i)) (h1 : ∀ i, IsR (x1 i)) (h2 : ∀ i, IsR (x2 i)) (h3 : ∀ i, IsR (x3 i))
include h0 h1

theorem v12_real (i : Fin 8192) (k : Fin 1024) : IsR (val_main_v12 (F := Ideal) x0 x1 (ix2 i k)) := by
  rw [v12_at]; exact ((h0 _).mul (IsR.rinv fun j => h0 _)).mul (h1 _)
include h2 in
theorem v13_real (i : Fin 8192) (k : Fin 2816) : IsR (val_main_v13 (F := Ideal) x0 x1 x2 (ix2 i k)) := by
  rw [v13_at]; exact IsR.sum fun j => (v12_real h0 h1 _ _).mul (h2 _)
include h3 in
theorem v14_real (i : Fin 8192) (k : Fin 2816) : IsR (val_main_v14 (F := Ideal) x0 x1 x3 (ix2 i k)) := by
  rw [v14_at]; exact IsR.sum fun j => (v12_real h0 h1 _ _).mul (h3 _)

end Cert.FFwdRefIdeal.Stages

namespace Cert.FFwdIdeal.Blocks

open Cert.FFwdIdeal Cert.FFwdIdeal.Gen Cert.FFwdRefIdeal.Read Cert.FFwdRefIdeal.Stages Idealize.ShloMosaic Idealize.ShloMosaic.TcCoe
open Idealize.SL.Sem Cert.Spec

variable (m : (ℓ : Loc nD τ sig) → Buf (Elt Ideal) ℓ) (c : Dev nD)

/-- The block's input. -/
abbrev a0 : S8192x1024.Idx → EReal := m ((c : Thread nD τ).loc main_arg0)
/-- The pre-norm's gain. -/
abbrev a1 : S1024.Idx → EReal := m ((c : Thread nD τ).loc main_arg1)
/-- The gate's weight. -/
abbrev a2 : S1024x2816.Idx → EReal := m ((c : Thread nD τ).loc main_arg2)
/-- The up projection's weight. -/
abbrev a3 : S1024x2816.Idx → EReal := m ((c : Thread nD τ).loc main_arg3)
/-- The down projection's weight. -/
abbrev a4 : S2816x1024.Idx → EReal := m ((c : Thread nD τ).loc main_arg4)
/-- The post-norm's gain. -/
abbrev a5 : S1024.Idx → EReal := m ((c : Thread nD τ).loc main_arg5)

/-- The gate's weight, transposed. -/
theorem v1_at (k : Fin 2816) (j : Fin 1024) : (V m c main_v1 : S2816x1024.Idx → EReal) (ix2 k j) = a2 m c (ix2 j k) := by
  unfold V
  after_reads_at
/-- The up projection's weight, transposed. -/
theorem v3_at (k : Fin 2816) (j : Fin 1024) : (V m c main_v3 : S2816x1024.Idx → EReal) (ix2 k j) = a3 m c (ix2 j k) := by
  unfold V
  after_reads_at
/-- The down projection's weight. -/
theorem v4_at (k : Fin 2816) (j : Fin 1024) : (V m c main_v4 : S2816x1024.Idx → EReal) (ix2 k j) = a4 m c (ix2 k j) := by
  unfold V
  after_reads_at
/-- The pre-norm's gain, laid out as a row. -/
theorem v5_at (k : Fin 1024) : (V m c main_v5 : S1x1024.Idx → EReal) (ix2 0 k) = a1 m c (ix1 k) := by
  unfold V
  after_reads_at
/-- The post-norm's gain, laid out as a row. -/
theorem v6_at (k : Fin 1024) : (V m c main_v6 : S1x1024.Idx → EReal) (ix2 0 k) = a5 m c (ix1 k) := by
  unfold V
  after_reads_at

/-- All windows' block indices, by the grid point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] :=
  (by decide +kernel : ∀ t : Fin grid0.N, _)

/-- Row `r` of point `t`'s block is this row of the array. -/
def row (t : Fin cfg0.N) (r : Fin 256) : Fin 8192 := ⟨t.val * 256 + r.val, by have := t.isLt; have : cfg0.N = 32 := N_0; omega⟩

theorem b0_at (t : Fin cfg0.N) (r : Fin 256) (k : Fin 1024) :
    (iblk m c 0 t : S256x1024.Idx → EReal) (ix2 r k) = a0 m c (ix2 (row t r) k) := by
  unfold row; blk_ext [iblk, V, idx t]
theorem b1_at (t : Fin cfg0.N) (k : Fin 1024) : (iblk m c 1 t : S1x1024.Idx → EReal) (ix2 0 k) = a1 m c (ix1 k) := by
  rw [← v5_at]; blk_ext [iblk, idx t]
theorem b5_at (t : Fin cfg0.N) (k : Fin 1024) : (iblk m c 5 t : S1x1024.Idx → EReal) (ix2 0 k) = a5 m c (ix1 k) := by
  rw [← v6_at]; blk_ext [iblk, idx t]
theorem b2_at (t : Fin cfg0.N) (k : Fin 2816) (j : Fin 1024) :
    (iblk m c 2 t : S2816x1024.Idx → EReal) (ix2 k j) = a2 m c (ix2 j k) := by
  rw [← v1_at]; blk_ext [iblk, idx t]
theorem b3_at (t : Fin cfg0.N) (k : Fin 2816) (j : Fin 1024) :
    (iblk m c 3 t : S2816x1024.Idx → EReal) (ix2 k j) = a3 m c (ix2 j k) := by
  rw [← v3_at]; blk_ext [iblk, idx t]
theorem b4_at (t : Fin cfg0.N) (k : Fin 2816) (j : Fin 1024) :
    (iblk m c 4 t : S2816x1024.Idx → EReal) (ix2 k j) = a4 m c (ix2 k j) := by
  rw [← v4_at]; blk_ext [iblk, idx t]

/-- A normed block at a position. -/
theorem normBlk_at (x : S256x1024.Idx → EReal) (g : S1x1024.Idx → EReal) (r : Fin 256) (k : Fin 1024) :
    normBlk x g (ix2 r k) = x (ix2 r k) * rinv cD (fun k => x (ix2 r k)) * g (ix2 0 k) := rfl
/-- A block with its residual at a position. -/
theorem addBlk_at (x N : S256x1024.Idx → EReal) (y : S256x1024.Idx) : addBlk x N y = x y + N y := rfl
/-- A projected block at a position. -/
theorem projBlk_at (H : S256x1024.Idx → EReal) (w : S2816x1024.Idx → EReal) (r : Fin 256) (k : Fin 2816) :
    projBlk H w (ix2 r k) = ∑ j : Fin 1024, H (ix2 r j) * w (ix2 k j) := rfl
/-- A gated product's block at a position. -/
theorem prodBlk_at (A B : S256x2816.Idx → EReal) (y : S256x2816.Idx) : prodBlk A B y = A y * Ideal.logistic (A y) * B y := rfl
/-- A down projection's block at a position. -/
theorem downBlk_at (S : S256x2816.Idx → EReal) (w : S2816x1024.Idx → EReal) (r : Fin 256) (k : Fin 1024) :
    downBlk S w (ix2 r k) = ∑ j : Fin 2816, S (ix2 r j) * w (ix2 j k) := rfl

/-- The normed block is the reference's. -/
theorem norm_ref (t : Fin cfg0.N) (r : Fin 256) (k : Fin 1024) :
    normBlk (iblk m c 0 t) (iblk m c 1 t) (ix2 r k) = val_main_v12 (F := Ideal) (a0 m c) (a1 m c) (ix2 (row t r) k) := by
  rw [v12_at, normBlk_at]
  simp only [b0_at, b1_at]
/-- The gate's block is the reference's. -/
theorem gate_ref (t : Fin cfg0.N) (r : Fin 256) (k : Fin 2816) :
    projBlk (normBlk (iblk m c 0 t) (iblk m c 1 t)) (iblk m c 2 t) (ix2 r k) =
      val_main_v13 (F := Ideal) (a0 m c) (a1 m c) (a2 m c) (ix2 (row t r) k) := by
  rw [v13_at, projBlk_at]
  simp only [norm_ref, b2_at]
/-- The up projection's block is the reference's. -/
theorem up_ref (t : Fin cfg0.N) (r : Fin 256) (k : Fin 2816) :
    projBlk (normBlk (iblk m c 0 t) (iblk m c 1 t)) (iblk m c 3 t) (ix2 r k) =
      val_main_v14 (F := Ideal) (a0 m c) (a1 m c) (a3 m c) (ix2 (row t r) k) := by
  rw [v14_at, projBlk_at]
  simp only [norm_ref, b3_at]
/-- The gated product's block is the reference's. -/
theorem prod_ref (t : Fin cfg0.N) (r : Fin 256) (k : Fin 2816) :
    prodBlk (projBlk (normBlk (iblk m c 0 t) (iblk m c 1 t)) (iblk m c 2 t)) (projBlk (normBlk (iblk m c 0 t) (iblk m c 1 t)) (iblk m c 3 t)) (ix2 r k) =
      val_main_v16 (F := Ideal) (a0 m c) (a1 m c) (a2 m c) (a3 m c) (ix2 (row t r) k) := by
  rw [v16_at, prodBlk_at, gate_ref, up_ref]
/-- The down projection's block is the reference's. -/
theorem down_ref (t : Fin cfg0.N) (r : Fin 256) (k : Fin 1024) :
    downBlk (prodBlk (projBlk (normBlk (iblk m c 0 t) (iblk m c 1 t)) (iblk m c 2 t))
        (projBlk (normBlk (iblk m c 0 t) (iblk m c 1 t)) (iblk m c 3 t))) (iblk m c 4 t) (ix2 r k) =
      val_main_v21 (F := Ideal) (a0 m c) (a1 m c) (a2 m c) (a3 m c) (a4 m c) (ix2 (row t r) k) := by
  rw [v21_at, downBlk_at]
  simp only [prod_ref, b4_at]
/-- The output's block is the reference's. -/
theorem out_ref (t : Fin cfg0.N) (r : Fin 256) (k : Fin 1024) :
    addBlk (iblk m c 0 t) (normBlk (downBlk (prodBlk (projBlk (normBlk (iblk m c 0 t) (iblk m c 1 t)) (iblk m c 2 t))
        (projBlk (normBlk (iblk m c 0 t) (iblk m c 1 t)) (iblk m c 3 t))) (iblk m c 4 t)) (iblk m c 5 t)) (ix2 r k) =
      val_main_v35 (F := Ideal) (a0 m c) (a1 m c) (a2 m c) (a3 m c) (a4 m c) (a5 m c) (ix2 (row t r) k) := by
  rw [v35_at, addBlk_at, normBlk_at]
  simp only [down_ref, b0_at, b5_at]

end Cert.FFwdIdeal.Blocks

end
-- ==== Proof.GFinal.lean ====
/-
  The SwiGLU block's forward pass: the kernel's four result arrays are the reference's.
-/
module

public import proofs.«01_k».proof.Proof.GRef

@[expose] public section

set_option maxRecDepth 16384

noncomputable section

namespace Cert.FFwdIdeal.Blocks

open Cert.FFwdIdeal Cert.FFwdIdeal.Gen Cert.FFwdRefIdeal.Read Cert.FFwdRefIdeal.Stages Idealize.ShloMosaic Idealize.ShloMosaic.TcCoe
open Idealize.SL.Sem Cert.Spec

variable {m : (ℓ : Loc nD τ sig) → Buf (Elt Ideal) ℓ} {c : Dev nD}

/-- The block's output is the reference's. -/
theorem final6 : (dats m 0 c).arrAt 6 cfg0.N =
    val_main_v35 (F := Ideal) (a0 m c) (a1 m c) (a2 m c) (a3 m c) (a4 m c) (a5 m c) := by
  refine (dats m 0 c).arrAt_eq_of_covers 6 _ (by decide +kernel) fun t _ y => ?_
  have hN : cfg0.N = 32 := N_0
  blk_simp
  rw [after0_6, out6]
  refine Eq.trans ?_ ((out_ref m c t (y 0) (y 1)).trans ?_)
  · congr 1
    exact (ix2_eta y).symm
  · unfold row; blk_point [idx t]

/-- The normed input is the reference's. -/
theorem final7 : (dats m 0 c).arrAt 7 cfg0.N = val_main_v36 (F := Ideal) (a0 m c) (a1 m c) := by
  refine (dats m 0 c).arrAt_eq_of_covers 7 _ (by decide +kernel) fun t _ y => ?_
  have hN : cfg0.N = 32 := N_0
  blk_simp
  rw [after0_7, out7]
  refine Eq.trans ?_ ((norm_ref m c t (y 0) (y 1)).trans ?_)
  · congr 1
    exact (ix2_eta y).symm
  · pointwise [val_main_v36]
    unfold row; blk_point [idx t]

/-- The down projection is the reference's. -/
theorem final9 : (dats m 0 c).arrAt 9 cfg0.N =
    val_main_v21 (F := Ideal) (a0 m c) (a1 m c) (a2 m c) (a3 m c) (a4 m c) := by
  refine (dats m 0 c).arrAt_eq_of_covers 9 _ (by decide +kernel) fun t _ y => ?_
  have hN : cfg0.N = 32 := N_0
  blk_simp
  rw [after0_9, out9]
  refine Eq.trans ?_ ((down_ref m c t (y 0) (y 1)).trans ?_)
  · congr 1
    exact (ix2_eta y).symm
  · unfold row; blk_point [idx t]

/-- The saved block at its gate column. -/
theorem actsBlk_gate (A B : S256x2816.Idx → EReal) (r : Fin 256) (q : Fin 2816) :
    actsBlk A B (ix2 r ⟨q.val, by omega⟩) =
      B (ix2 r q) * (Ideal.logistic (A (ix2 r q)) + A (ix2 r q) * Ideal.logistic (A (ix2 r q)) * (1 - Ideal.logistic (A (ix2 r q)))) := by
  have e : (⟨q.val % 2816, Nat.mod_lt _ (by decide)⟩ : Fin 2816) = q := Fin.ext (Nat.mod_eq_of_lt q.isLt)
  unfold actsBlk
  exact (if_pos (show q.val < 2816 from q.isLt)).trans <| congrArg (fun z => B (ix2 r z) * (Ideal.logistic (A (ix2 r z)) + A (ix2 r z) * Ideal.logistic (A (ix2 r z)) * (1 - Ideal.logistic (A (ix2 r z))))) e
/-- The saved block at its up projection's column. -/
theorem actsBlk_up (A B : S256x2816.Idx → EReal) (r : Fin 256) (q : Fin 2816) :
    actsBlk A B (ix2 r ⟨2816 + q.val, by omega⟩) = A (ix2 r q) * Ideal.logistic (A (ix2 r q)) := by
  have e : (⟨(2816 + q.val) % 2816, Nat.mod_lt _ (by decide)⟩ : Fin 2816) = q := Fin.ext (by simp only []; omega)
  unfold actsBlk
  exact (if_neg (show ¬2816 + q.val < 2816 by omega)).trans <| (if_pos (show 2816 + q.val < 5632 by omega)).trans <| congrArg (fun z => A (ix2 r z) * Ideal.logistic (A (ix2 r z))) e
/-- The saved block at its gated product's column. -/
theorem actsBlk_s (A B : S256x2816.Idx → EReal) (r : Fin 256) (q : Fin 2816) :
    actsBlk A B (ix2 r ⟨5632 + q.val, by omega⟩) = prodBlk A B (ix2 r q) := by
  have e : (⟨(5632 + q.val) % 2816, Nat.mod_lt _ (by decide)⟩ : Fin 2816) = q := Fin.ext (by simp only []; omega)
  unfold actsBlk
  exact (if_neg (show ¬5632 + q.val < 2816 by omega)).trans <| (if_neg (show ¬5632 + q.val < 5632 by omega)).trans <| congrArg (fun z => prodBlk A B (ix2 r z)) e

/-- What the forward pass saves is the reference's, for real arguments. -/
theorem final8 (h0 : ∀ i, IsR (a0 m c i)) (h1 : ∀ i, IsR (a1 m c i)) (h2 : ∀ i, IsR (a2 m c i)) (h3 : ∀ i, IsR (a3 m c i)) :
    (dats m 0 c).arrAt 8 cfg0.N = val_main_v38 (F := Ideal) (a0 m c) (a1 m c) (a2 m c) (a3 m c) := by
  refine (dats m 0 c).arrAt_eq_of_covers 8 _ (by decide +kernel) fun t _ y => ?_
  have hN : cfg0.N = 32 := N_0
  have hy : ∀ z : S256x8448.Idx, actsBlk (projBlk (normBlk (iblk m c 0 t) (iblk m c 1 t)) (iblk m c 2 t))
      (projBlk (normBlk (iblk m c 0 t) (iblk m c 1 t)) (iblk m c 3 t)) z =
        val_main_v38 (F := Ideal) (a0 m c) (a1 m c) (a2 m c) (a3 m c) (ix2 (row t (z 0)) (z 1)) := fun z => by
    obtain ⟨r, k, rfl⟩ : ∃ (r : Fin 256) (k : Fin 8448), z = ix2 r k := ⟨z 0, z 1, eq_ix2 z⟩
    change _ = val_main_v38 (F := Ideal) (a0 m c) (a1 m c) (a2 m c) (a3 m c) (ix2 (row t r) k)
    by_cases hk : k.val < 2816
    · obtain ⟨q, rfl⟩ : ∃ q : Fin 2816, k = ⟨q.val, lt_trans q.isLt (by decide)⟩ := ⟨⟨k.val, hk⟩, rfl⟩
      rw [actsBlk_gate, v38_gate, gate_ref, up_ref]
      exact gate_factor (v13_real h0 h1 h2 _ _) (v14_real h0 h1 h3 _ _) (v13_real h0 h1 h2 _ _).logistic
    · by_cases hk' : k.val < 5632
      · obtain ⟨q, rfl⟩ : ∃ q : Fin 2816, k = ⟨2816 + q.val, lt_trans (Nat.add_lt_add_left q.isLt 2816) (by decide)⟩ := ⟨⟨k.val - 2816, by omega⟩, Fin.ext (by simp only []; omega)⟩
        rw [actsBlk_up, v38_up, gate_ref, mul_one]
      · obtain ⟨q, rfl⟩ : ∃ q : Fin 2816, k = ⟨5632 + q.val, Nat.add_lt_add_left q.isLt 5632⟩ := ⟨⟨k.val - 5632, by omega⟩, Fin.ext (by simp only []; omega)⟩
        rw [actsBlk_s, v38_s, prod_ref]
  blk_simp
  rw [after0_8, out8, hy]
  unfold row; blk_point [idx t]

end Cert.FFwdIdeal.Blocks

end
-- ==== Proof.GPair.lean ====
/-
  The SwiGLU block's forward pass: the kernel computes what the reference computes.
-/
module

public import proofs.«01_k».proof.Defs
public import proofs.«01_k».proof.Proof.GFinal
public import proofs.«01_k».proof.Proof.Finite
public import proofs.«01_k».proof.Proof.Gen.FFwdIdeal.Value
public import proofs.«01_k».proof.Proof.Gen.FFwdRefIdeal.Run
public import Idealize.ShloMosaic.Lib.Claim

@[expose] public section

set_option maxRecDepth 16384

noncomputable section

namespace Cert.GPair

open Idealize.ShloMosaic Idealize.ShloMosaic.TcCoe Idealize.SL.Sem Cert.Spec Cert.FFwdRefIdeal.Read Cert.FFwdIdeal.Blocks

/-- For finite arguments the two programs leave the same four results and their arguments unchanged. -/
theorem algebraic : Cert.algebraic_FFwdIdeal_FFwdRefIdeal_pre_ff_finite := by
  pair_intro
  · run_from Cert.FFwdIdeal.Value.run_blocks m g
  · refine (θ_run _ _ _).mono (fun r h c => ?_) (Cert.FFwdRefIdeal.Value.run m' g')
    obtain ⟨e0, e1, e2, e3, e4, e5⟩ := hagree c
    obtain ⟨h0, h1, h2, h3⟩ := ff_real _ _ _ _ _ _ (hpre c)
    replace e0 : m' ((c.tc : Thread _ _).loc Cert.FFwdRefIdeal.main_arg0) = a0 m c := e0
    replace e1 : m' ((c.tc : Thread _ _).loc Cert.FFwdRefIdeal.main_arg1) = a1 m c := e1
    replace e2 : m' ((c.tc : Thread _ _).loc Cert.FFwdRefIdeal.main_arg2) = a2 m c := e2
    replace e3 : m' ((c.tc : Thread _ _).loc Cert.FFwdRefIdeal.main_arg3) = a3 m c := e3
    replace e4 : m' ((c.tc : Thread _ _).loc Cert.FFwdRefIdeal.main_arg4) = a4 m c := e4
    replace e5 : m' ((c.tc : Thread _ _).loc Cert.FFwdRefIdeal.main_arg5) = a5 m c := e5
    obtain ⟨r35, r36, r38, r21, rest⟩ := h c
    refine ⟨r35.trans ?_, r36.trans ?_, r38.trans ?_, r21.trans ?_, rest⟩
    · refine (val_main_v35_eq (F := Ideal) m' c).trans (Eq.trans ?_ final6.symm)
      rw [e0, e1, e2, e3, e4, e5]
    · refine (val_main_v36_eq (F := Ideal) _ _).trans (Eq.trans ?_ final7.symm)
      rw [e0, e1]
    · refine (val_main_v38_eq (F := Ideal) m' c).trans (Eq.trans ?_ (final8 h0 h1 h2 h3).symm)
      rw [e0, e1, e2, e3]
    · refine (val_main_v21_eq (F := Ideal) _ _ _ _ _).trans (Eq.trans ?_ final9.symm)
      rw [e0, e1, e2, e3, e4]

end Cert.GPair

end
-- ==== Proof.IPair.lean ====
/-
  The gradient of mixer A's input projection: the kernel computes what the reference computes.
-/
module

public import proofs.«01_k».proof.Defs
public import proofs.«01_k».proof.Proof.Gen.AInIdeal.Value
public import proofs.«01_k».proof.Proof.Gen.AInRefIdeal.Run
public import proofs.«01_k».proof.Proof.Gen.AInRefIdeal.Read
public import Idealize.ShloMosaic.Lib.StableHlo.ReadAt
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.AInIdeal.Blocks

open Cert.AInIdeal Cert.AInIdeal.Gen Cert.AInRefIdeal.Read Idealize.ShloMosaic Idealize.ShloMosaic.TcCoe Idealize.SL.Sem

variable (m : (ℓ : Loc nD τ sig) → Buf (Elt Ideal) ℓ) (c : Dev nD)

/-- The normed input, the right factor. -/
abbrev right : S8192x1024.Idx → EReal := m ((c : Thread nD τ).loc main_arg0)
/-- The cotangent of the product, the left factor. -/
abbrev left : S8192x4096.Idx → EReal := m ((c : Thread nD τ).loc main_arg1)

/-- One grid point's product: the left block's columns against the right block's. -/
def tnBlk (l r : S2048x1024.Idx → EReal) (y : S1024x1024.Idx) : EReal :=
  ∑ k : Fin 2048, l (ix2 k (y 0)) * r (ix2 k (y 1))

/-- A block's first point starts the accumulator. -/
theorem post_first (t : Fin cfg0.N) (h : t.val % 4 = 0) (y) :
    (outsAt0 m c t.val t.isLt).2 y = 0 + tnBlk (iblk m c 0 t) (iblk m c 1 t) y := by
  rw [outsAt0_A m c t h (by omega), zero_add]
  generalize iblk m c 0 t = b0
  generalize iblk m c 1 t = b1
  frame_open
  simp (disch := decide) only [↓ View.readCov_skip, ↓ View.readCov_cons_toLoadRect, ↓ View.readCov_fill]
  frame_out
  open_payloads
  pointwise [tnBlk]

/-- Any other point adds to it. -/
theorem post_next (t : Fin cfg0.N) (h : ¬t.val % 4 = 0) (y) : (outsAt0 m c t.val t.isLt).2 y =
    (outsAt0 m c (t.val - 1) (Nat.lt_of_le_of_lt (Nat.sub_le _ _) t.isLt)).2 y + tnBlk (iblk m c 0 t) (iblk m c 1 t) y := by
  rcases em (t.val % 4 = 3) with h3 | h3 <;> [rw [outsAt0_C m c t h h3]; rw [outsAt0_B m c t h h3]]
  all_goals
    generalize iblk m c 0 t = b0
    generalize iblk m c 1 t = b1
    frame_open
    simp (disch := decide) only [↓ View.readCov_skip, ↓ View.readCov_cons_toLoadRect, ↓ View.readCov_fill]
    frame_out
    open_payloads
    pointwise [tnBlk]
    exact congrArg (· + _) (congrFun ((Memref.isWhole_whole cc0_scratch0).read_unread _) y)

/-- A block's last point writes the accumulator out, by owning device. -/
theorem out_last (t : Fin cfg0.N) (h : t.val % 4 = 3) (a : Fin 2) (b : Fin 512) (d : Fin 1024) :
    (outsAt0 m c t.val t.isLt).1 (ix3 a b d) = (outsAt0 m c t.val t.isLt).2 (ix2 ⟨a.val * 512 + b.val, by omega⟩ d) := by
  rw [outsAt0_C m c t (by omega) h]
  generalize iblk m c 0 t = b0
  generalize iblk m c 1 t = b1
  frame_open
  simp (disch := decide) only [↓ View.readCov_skip, ↓ View.readCov_cons_toLoadRect, ↓ View.readCov_fill]
  frame_out
  open_payloads
  pointwise [tnBlk]

/-- The windows' block indices, by the grid point. -/
theorem idx : ∀ t : Fin cfg0.N, win0_0.index t = ![t.val % 4, t.val / 4] ∧ win0_1.index t = ![t.val % 4, 0] ∧
    win0_2.index t = ![t.val / 4, 0, 0] :=
  (by decide +kernel : ∀ t : Fin grid0.N, _)

/-- Row `r` of point `t`'s blocks is this row of the arrays. -/
def row (t : Fin cfg0.N) (r : Fin 2048) : Fin 8192 := ⟨t.val % 4 * 2048 + r.val, by omega⟩
/-- Column `j` of point `t`'s left block is this column of the left array. -/
def col (t : Fin cfg0.N) (j : Fin 1024) : Fin 4096 :=
  ⟨t.val / 4 * 1024 + j.val, by have := t.isLt; have : cfg0.N = 16 := N_0; omega⟩

theorem l_at (i : Fin 8192) (k : Fin 4096) : (V m c main_v0 : S8192x4096.Idx → EReal) (ix2 i k) = left m c (ix2 i k) := by
  unfold V; after_reads_at
theorem r_at (i : Fin 8192) (k : Fin 1024) : (V m c main_v1 : S8192x1024.Idx → EReal) (ix2 i k) = right m c (ix2 i k) := by
  unfold V; after_reads_at
theorem b0_at (t : Fin cfg0.N) (r : Fin 2048) (j : Fin 1024) :
    (iblk m c 0 t : S2048x1024.Idx → EReal) (ix2 r j) = left m c (ix2 (row t r) (col t j)) := by
  rw [← l_at]; unfold row col; blk_ext [iblk, (idx t).1]
theorem b1_at (t : Fin cfg0.N) (r : Fin 2048) (k : Fin 1024) :
    (iblk m c 1 t : S2048x1024.Idx → EReal) (ix2 r k) = right m c (ix2 (row t r) k) := by
  rw [← r_at]; unfold row; blk_ext [iblk, (idx t).2.1]

/-- What a block's last point finds in the accumulator: the product over all rows. -/
theorem acc_last (t : Fin cfg0.N) (h : t.val % 4 = 3) (j k : Fin 1024) : (outsAt0 m c t.val t.isLt).2 (ix2 j k) =
    ∑ i : Fin 8192, left m c (ix2 i (col t j)) * right m c (ix2 i k) := by
  have e (s : Fin 4) : tnBlk (iblk m c 0 ⟨4 * (t.val / 4) + s.val, Pipeline.run_point_lt_of_flush t h s⟩)
      (iblk m c 1 ⟨4 * (t.val / 4) + s.val, Pipeline.run_point_lt_of_flush t h s⟩) (ix2 j k) =
      ∑ r : Fin 2048, left m c (ix2 ⟨s.val * 2048 + r.val, by omega⟩ (col t j)) * right m c (ix2 ⟨s.val * 2048 + r.val, by omega⟩ k) := by
    refine Finset.sum_congr rfl fun r _ => ?_
    refine (congrArg₂ (fun x y : EReal => x * y) (b0_at m c _ r j) (b1_at m c _ r k)).trans ?_
    rw [show row ⟨4 * (t.val / 4) + s.val, Pipeline.run_point_lt_of_flush t h s⟩ r = ⟨s.val * 2048 + r.val, by omega⟩ from
        Fin.ext (by unfold row; simp only []; omega),
      show col ⟨4 * (t.val / 4) + s.val, Pipeline.run_point_lt_of_flush t h s⟩ j = col t j from
        Fin.ext (by unfold col; simp only []; omega)]
  rw [Pipeline.eq_sum_fin_of_reset_step_apply_of_flush (fun n h => (outsAt0 m c n h).2) 4 (fun _ => 0)
    (fun t => tnBlk (iblk m c 0 t) (iblk m c 1 t)) (post_first m c) (post_next m c) t h (ix2 j k), zero_add,
    Finset.sum_congr rfl fun s _ => e s]
  exact Fin.sum_mul_add_congr fun s r hl => rfl

/-- A row of the reference's gradient, in its device's slice. -/
theorem ref_at (q : Fin 8) (j : Fin 512) (k : Fin 1024) :
    val_main_v6 (F := Ideal) (right m c) (left m c) (ix3 q ⟨j.val, by omega⟩ k) =
      ∑ i : Fin 8192, left m c (ix2 i ⟨q.val * 512 + j.val, by omega⟩) * right m c (ix2 i k) := by
  pointwise [val_main_v6, val_main_v5, val_main_v4, val_main_v3, val_main_v2]

/-- What a block's last point writes out is the reference's rows. -/
theorem out_ref (t : Fin cfg0.N) (h : t.val % 4 = 3) (a : Fin 2) (b : Fin 512) (d : Fin 1024) :
    (outsAt0 m c t.val t.isLt).1 (ix3 a b d) =
      val_main_v6 (F := Ideal) (right m c) (left m c) (ix3 ⟨2 * (t.val / 4) + a.val, by have := t.isLt; have : cfg0.N = 16 := N_0; omega⟩ ⟨b.val, by omega⟩ d) := by
  rw [out_last m c t h, acc_last m c t h, ref_at]
  exact Finset.sum_congr rfl fun i _ => congrArg (fun j => left m c (ix2 i j) * _) (Fin.ext (by unfold col; simp only []; omega))

/-- The kernel's gradient is the reference's. -/
theorem final2 : (dats m 0 c).arrAt 2 cfg0.N = val_main_v6 (F := Ideal) (right m c) (left m c) := by
  refine (dats m 0 c).arrAt_eq_of_covers 2 _ (by decide +kernel) fun t hf y => ?_
  have hN : cfg0.N = 16 := N_0
  have ht : t.val % 4 = 3 := (flush0_2 t).mp hf
  have hi : t.val < 16 := lt_of_lt_of_eq t.isLt hN
  blk_simp
  rw [after0_2]
  obtain ⟨a, b, d, rfl⟩ : ∃ (a : Fin 2) (b : Fin 512) (d : Fin 1024), y = (ix3 a b d : S2x512x1024.Idx) :=
    ⟨y 0, y 1, y 2, (ix3_eta y).symm⟩
  refine (out_ref m c t ht a b d).trans ?_
  blk_point [(idx t).2.2]

end Cert.AInIdeal.Blocks

namespace Cert.IPair

open Idealize.ShloMosaic Idealize.ShloMosaic.TcCoe Idealize.SL.Sem Cert.AInRefIdeal.Read Cert.AInIdeal.Blocks

/-- For all arguments the two programs leave the same gradient and their arguments unchanged. -/
theorem algebraic : Cert.algebraic_AInIdeal_AInRefIdeal := by
  pair_intro
  · run_from Cert.AInIdeal.Value.run_blocks m g
  · refine (θ_run _ _ _).mono (fun r h c => ?_) (Cert.AInRefIdeal.Value.run m' g')
    obtain ⟨e0, e1⟩ := hagree c
    replace e0 : m' ((c.tc : Thread _ _).loc Cert.AInRefIdeal.main_arg0) = right m c := e0
    replace e1 : m' ((c.tc : Thread _ _).loc Cert.AInRefIdeal.main_arg1) = left m c := e1
    obtain ⟨r6, rest⟩ := h c
    refine ⟨r6.trans ?_, rest⟩
    refine (val_main_v6_eq (F := Ideal) _ _).trans (Eq.trans ?_ (final2 m c).symm)
    rw [e0, e1]

end Cert.IPair

end
-- ==== Proof.OPair.lean ====
/-
  The gradient of mixer A's output projection, beside what the array holds already: the kernel computes what the reference computes.
-/
module

public import proofs.«01_k».proof.Defs
public import proofs.«01_k».proof.Proof.Gen.AOutIdeal.Value
public import proofs.«01_k».proof.Proof.Gen.AOutRefIdeal.Run
public import proofs.«01_k».proof.Proof.Gen.AOutRefIdeal.Read
public import Idealize.ShloMosaic.Lib.StableHlo.ReadAt
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.AOutIdeal.Blocks

open Cert.AOutIdeal Cert.AOutIdeal.Gen Cert.AOutRefIdeal.Read Idealize.ShloMosaic Idealize.ShloMosaic.TcCoe Idealize.SL.Sem

variable (m : (ℓ : Loc nD τ sig) → Buf (Elt Ideal) ℓ) (c : Dev nD)

/-- What the array of gradients holds already. -/
abbrev held : S8x768x1024.Idx → EReal := m ((c : Thread nD τ).loc main_arg0)
/-- The gated product, the left factor. -/
abbrev left : S8192x2048.Idx → EReal := m ((c : Thread nD τ).loc main_arg1)
/-- The cotangent of the product with the weight, the right factor. -/
abbrev right : S8192x1024.Idx → EReal := m ((c : Thread nD τ).loc main_arg2)

/-- One grid point's product: the left block's columns against the right block's. -/
def tnBlk (l r : S2048x1024.Idx → EReal) (y : S1024x1024.Idx) : EReal :=
  ∑ k : Fin 2048, l (ix2 k (y 0)) * r (ix2 k (y 1))

/-- A block's first point starts the accumulator. -/
theorem post_first (t : Fin cfg0.N) (h : t.val % 4 = 0) (y) :
    (outsAt0 m c t.val t.isLt).2 y = 0 + tnBlk (iblk m c 0 t) (iblk m c 1 t) y := by
  rw [outsAt0_A m c t h (by omega), zero_add]
  generalize iblk m c 0 t = b0
  generalize iblk m c 1 t = b1
  frame_open
  simp (disch := decide) only [↓ View.readCov_skip, ↓ View.readCov_cons_toLoadRect, ↓ View.readCov_fill]
  frame_out
  open_payloads
  pointwise [tnBlk]

/-- Any other point adds to it. -/
theorem post_next (t : Fin cfg0.N) (h : ¬t.val % 4 = 0) (y) : (outsAt0 m c t.val t.isLt).2 y =
    (outsAt0 m c (t.val - 1) (Nat.lt_of_le_of_lt (Nat.sub_le _ _) t.isLt)).2 y + tnBlk (iblk m c 0 t) (iblk m c 1 t) y := by
  rcases em (t.val % 4 = 3) with h3 | h3 <;> [rw [outsAt0_C m c t h h3]; rw [outsAt0_B m c t h h3]]
  all_goals
    generalize iblk m c 0 t = b0
    generalize iblk m c 1 t = b1
    frame_open
    simp (disch := decide) only [↓ View.readCov_skip, ↓ View.readCov_cons_toLoadRect, ↓ View.readCov_fill]
    frame_out
    open_payloads
    pointwise [tnBlk]
    exact congrArg (· + _) (congrFun ((Memref.isWhole_whole cc0_scratch0).read_unread _) y)

/-- A block's last point writes the accumulator out, by owning device. -/
theorem out_last (t : Fin cfg0.N) (h : t.val % 4 = 3) (a : Fin 4) (b : Fin 256) (d : Fin 1024) :
    (outsAt0 m c t.val t.isLt).1 (ix3 a b d) = (outsAt0 m c t.val t.isLt).2 (ix2 ⟨a.val * 256 + b.val, by omega⟩ d) := by
  rw [outsAt0_C m c t (by omega) h]
  generalize iblk m c 0 t = b0
  generalize iblk m c 1 t = b1
  frame_open
  simp (disch := decide) only [↓ View.readCov_skip, ↓ View.readCov_cons_toLoadRect, ↓ View.readCov_fill]
  frame_out
  open_payloads
  pointwise [tnBlk]

/-- The windows' block indices, by the grid point. -/
theorem idx : ∀ t : Fin cfg0.N, win0_0.index t = ![t.val % 4, t.val / 4] ∧ win0_1.index t = ![t.val % 4, 0] ∧
    win0_2.index t = ![t.val / 4, 2, 0] :=
  (by decide +kernel : ∀ t : Fin grid0.N, _)

/-- Row `r` of point `t`'s blocks is this row of the arrays. -/
def row (t : Fin cfg0.N) (r : Fin 2048) : Fin 8192 := ⟨t.val % 4 * 2048 + r.val, by omega⟩
/-- Column `j` of point `t`'s left block is this column of the left array. -/
def col (t : Fin cfg0.N) (j : Fin 1024) : Fin 2048 :=
  ⟨t.val / 4 * 1024 + j.val, by have := t.isLt; have : cfg0.N = 8 := N_0; omega⟩

theorem l_at (i : Fin 8192) (k : Fin 2048) : (V m c main_v1 : S8192x2048.Idx → EReal) (ix2 i k) = left m c (ix2 i k) := by
  unfold V; after_reads_at
theorem r_at (i : Fin 8192) (k : Fin 1024) : (V m c main_v2 : S8192x1024.Idx → EReal) (ix2 i k) = right m c (ix2 i k) := by
  unfold V; after_reads_at
theorem b0_at (t : Fin cfg0.N) (r : Fin 2048) (j : Fin 1024) :
    (iblk m c 0 t : S2048x1024.Idx → EReal) (ix2 r j) = left m c (ix2 (row t r) (col t j)) := by
  rw [← l_at]; unfold row col; blk_ext [iblk, (idx t).1]
theorem b1_at (t : Fin cfg0.N) (r : Fin 2048) (k : Fin 1024) :
    (iblk m c 1 t : S2048x1024.Idx → EReal) (ix2 r k) = right m c (ix2 (row t r) k) := by
  rw [← r_at]; unfold row; blk_ext [iblk, (idx t).2.1]

/-- What a block's last point finds in the accumulator: the product over all rows. -/
theorem acc_last (t : Fin cfg0.N) (h : t.val % 4 = 3) (j k : Fin 1024) : (outsAt0 m c t.val t.isLt).2 (ix2 j k) =
    ∑ i : Fin 8192, left m c (ix2 i (col t j)) * right m c (ix2 i k) := by
  have e (s : Fin 4) : tnBlk (iblk m c 0 ⟨4 * (t.val / 4) + s.val, Pipeline.run_point_lt_of_flush t h s⟩)
      (iblk m c 1 ⟨4 * (t.val / 4) + s.val, Pipeline.run_point_lt_of_flush t h s⟩) (ix2 j k) =
      ∑ r : Fin 2048, left m c (ix2 ⟨s.val * 2048 + r.val, by omega⟩ (col t j)) * right m c (ix2 ⟨s.val * 2048 + r.val, by omega⟩ k) := by
    refine Finset.sum_congr rfl fun r _ => ?_
    refine (congrArg₂ (fun x y : EReal => x * y) (b0_at m c _ r j) (b1_at m c _ r k)).trans ?_
    rw [show row ⟨4 * (t.val / 4) + s.val, Pipeline.run_point_lt_of_flush t h s⟩ r = ⟨s.val * 2048 + r.val, by omega⟩ from
        Fin.ext (by unfold row; simp only []; omega),
      show col ⟨4 * (t.val / 4) + s.val, Pipeline.run_point_lt_of_flush t h s⟩ j = col t j from
        Fin.ext (by unfold col; simp only []; omega)]
  rw [Pipeline.eq_sum_fin_of_reset_step_apply_of_flush (fun n h => (outsAt0 m c n h).2) 4 (fun _ => 0)
    (fun t => tnBlk (iblk m c 0 t) (iblk m c 1 t)) (post_first m c) (post_next m c) t h (ix2 j k), zero_add,
    Finset.sum_congr rfl fun s _ => e s]
  exact Fin.sum_mul_add_congr fun s r hl => rfl

/-- A row of the reference's gradient, in its device's slice. -/
theorem ref_at (q : Fin 8) (j : Fin 256) (k : Fin 1024) :
    val_main_v7 (F := Ideal) (held m c) (left m c) (right m c) (ix3 q ⟨512 + j.val, by omega⟩ k) =
      ∑ i : Fin 8192, left m c (ix2 i ⟨q.val * 256 + j.val, by omega⟩) * right m c (ix2 i k) := by
  pointwise [val_main_v7, val_main_v6, val_main_v5, val_main_v3, val_main_v2]
  exact Finset.sum_congr rfl fun i _ => mul_comm _ _

/-- What a block's last point writes out is the reference's rows. -/
theorem out_ref (t : Fin cfg0.N) (h : t.val % 4 = 3) (a : Fin 4) (b : Fin 256) (d : Fin 1024) :
    (outsAt0 m c t.val t.isLt).1 (ix3 a b d) =
      val_main_v7 (F := Ideal) (held m c) (left m c) (right m c) (ix3 ⟨4 * (t.val / 4) + a.val, by have := t.isLt; have : cfg0.N = 8 := N_0; omega⟩ ⟨512 + b.val, by omega⟩ d) := by
  rw [out_last m c t h, acc_last m c t h, ref_at]
  exact Finset.sum_congr rfl fun i _ => congrArg (fun j => left m c (ix2 i j) * _) (Fin.ext (by unfold col; simp only []; omega))

/-- The rows that the call leaves alone, in the array that it writes over. -/
theorem v3_at (q : Fin 8) (j : Fin 768) (k : Fin 1024) :
    (V m c main_v3 : S8x768x1024.Idx → EReal) (ix3 q j k) = held m c (ix3 q j k) := by
  unfold V
  after_reads_at
  pointwise [id]
/-- The reference keeps them. -/
theorem ref_held (q : Fin 8) (j : Fin 512) (k : Fin 1024) :
    val_main_v7 (F := Ideal) (held m c) (left m c) (right m c) (ix3 q ⟨j.val, by omega⟩ k) = held m c (ix3 q ⟨j.val, by omega⟩ k) := by
  pointwise [val_main_v7, val_main_v6, val_main_v4]

/-- The kernel's array is the reference's. -/
theorem final2 : (dats m 0 c).arrAt 2 cfg0.N = val_main_v7 (F := Ideal) (held m c) (left m c) (right m c) := by
  have hN : cfg0.N = 8 := N_0
  refine (dats m 0 c).arrAt_eq_of_coversWhere_of_agree 2 _ (fun β => β 1 = 2) (by decide +kernel) (fun t hf y => ?_) (fun j hj => ?_)
  · have ht : t.val % 4 = 3 := (flush0_2 t).mp hf
    have hi : t.val < 8 := lt_of_lt_of_eq t.isLt hN
    blk_simp
    rw [after0_2]
    obtain ⟨a, b, d, rfl⟩ : ∃ (a : Fin 4) (b : Fin 256) (d : Fin 1024), y = (ix3 a b d : S4x256x1024.Idx) :=
      ⟨y 0, y 1, y 2, (ix3_eta y).symm⟩
    refine (out_ref m c t ht a b d).trans ?_
    blk_point [(idx t).2.2]
  · rw [A_eq]
    blk_simp [Pipeline.Window.cell_apply] at hj
    obtain ⟨q, i, k, rfl⟩ : ∃ (q : Fin 8) (i : Fin 768) (k : Fin 1024), j = ix3 q i k := ⟨j 0, j 1, j 2, (ix3_eta j).symm⟩
    change ¬i.val / 256 = 2 at hj
    obtain ⟨p, rfl⟩ : ∃ p : Fin 512, i = ⟨p.val, lt_trans p.isLt (by decide)⟩ := ⟨⟨i.val, by omega⟩, rfl⟩
    exact (v3_at m c q _ k).trans (ref_held m c q p k).symm

end Cert.AOutIdeal.Blocks

namespace Cert.OPair

open Idealize.ShloMosaic Idealize.ShloMosaic.TcCoe Idealize.SL.Sem Cert.AOutRefIdeal.Read Cert.AOutIdeal.Blocks

/-- For all arguments the two programs leave the same array of gradients and their arguments unchanged. -/
theorem algebraic : Cert.algebraic_AOutIdeal_AOutRefIdeal := by
  pair_intro
  · run_from Cert.AOutIdeal.Value.run_blocks m g
  · refine (θ_run _ _ _).mono (fun r h c => ?_) (Cert.AOutRefIdeal.Value.run m' g')
    obtain ⟨e0, e1, e2⟩ := hagree c
    replace e0 : m' ((c.tc : Thread _ _).loc Cert.AOutRefIdeal.main_arg0) = held m c := e0
    replace e1 : m' ((c.tc : Thread _ _).loc Cert.AOutRefIdeal.main_arg1) = left m c := e1
    replace e2 : m' ((c.tc : Thread _ _).loc Cert.AOutRefIdeal.main_arg2) = right m c := e2
    obtain ⟨r7, rest⟩ := h c
    refine ⟨r7.trans ?_, rest⟩
    refine (val_main_v7_eq (F := Ideal) _ _ _).trans (Eq.trans ?_ (final2 m c).symm)
    rw [e0, e1, e2]

end Cert.OPair

end
-- ==== Proof.PKernel.lean ====
/-
  What one grid point of mixer B's weight gradients' kernel leaves in its accumulators and in its output blocks.
-/
module

public import proofs.«01_k».proof.Proof.Gen.BGradIdeal.Frame
public import Idealize.ShloMosaic.Lib.Pipeline.Value
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.BGradIdeal.Blocks

open Cert.BGradIdeal Cert.BGradIdeal.Gen Idealize.ShloMosaic Idealize.ShloMosaic.TcCoe Idealize.SL.Sem

variable (m : (ℓ : Loc nD τ sig) → Buf (Elt Ideal) ℓ)

/-- One grid point's product: the left block's columns against the right block's. -/
def tnBlk (l r : S1024x1024.Idx → EReal) (y : S1024x1024.Idx) : EReal :=
  ∑ k : Fin 1024, l (ix2 k (y 0)) * r (ix2 k (y 1))
/-- One grid point's grouped product: each group's columns against the same group's. -/
def grpBlk (l r : S1024x1024.Idx → EReal) (y : S4x256x256.Idx) : EReal :=
  ∑ k : Fin 1024, l (ix2 k ⟨(y 0).val * 256 + (y 1).val, by have h0 : (y 0).val < 4 := (y 0).isLt; have h1 : (y 1).val < 256 := (y 1).isLt; omega⟩) *
    r (ix2 k ⟨(y 0).val * 256 + (y 2).val, by have h0 : (y 0).val < 4 := (y 0).isLt; have h1 : (y 2).val < 256 := (y 2).isLt; omega⟩)

/-- Earlier stores do not show where a later one covers. -/
theorem canon_append_left {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact canon_append_left L' L y ⟨q, hq', hyq⟩

/-- A group's slice of the grouped product added to what was there. -/
theorem grp_piece (o : S4x256x256.Idx → EReal) (l r : S1024x1024.Idx → EReal) (z : S4x256x256.Idx) (k : Fin 4) (p q : Fin 256)
    (h0 : (z 0).val = k.val) (h1 : (z 1).val = p.val) (h2 : (z 2).val = q.val) :
    o (ix3 k p q) + ∑ x : Fin 1024, l (ix2 x ⟨k.val * 256 + p.val, by omega⟩) * r (ix2 x ⟨k.val * 256 + q.val, by omega⟩) =
      o z + grpBlk l r z := by
  obtain rfl : z = ix3 k p q := funext fun a => Fin.ext (by match a with | ⟨0, _⟩ => exact h0 | ⟨1, _⟩ => exact h1 | ⟨2, _⟩ => exact h2)
  rfl

/-- The first point starts the input projection's accumulator. -/
theorem in_first (c : Dev nD) (t : Fin cfg0.N) (h : t.val % 8 = 0) (y) :
    (outsAt0 m c t.val t.isLt).2.2.1 y = 0 + tnBlk (iblk m c 0 t) (iblk m c 1 t) y := by
  rw [outsAt0_A m c t h (by omega), zero_add]
  generalize iblk m c 0 t = b0
  generalize iblk m c 1 t = b1
  generalize iblk m c 2 t = b2
  generalize iblk m c 3 t = b3
  generalize iblk m c 4 t = b4
  generalize iblk m c 5 t = b5
  frame_open
  simp (disch := decide) only [↓ View.readCov_skip, ↓ View.readCov_cons_toLoadRect, ↓ View.readCov_fill]
  frame_out
  open_payloads
  pointwise [tnBlk]

/-- Any other point adds to it. -/
theorem in_next (c : Dev nD) (t : Fin cfg0.N) (h : ¬t.val % 8 = 0) (y) : (outsAt0 m c t.val t.isLt).2.2.1 y =
    (outsAt0 m c (t.val - 1) (Nat.lt_of_le_of_lt (Nat.sub_le _ _) t.isLt)).2.2.1 y + tnBlk (iblk m c 0 t) (iblk m c 1 t) y := by
  rcases em (t.val % 8 = 7) with h3 | h3 <;> [rw [outsAt0_C m c t h h3]; rw [outsAt0_B m c t h h3]]
  all_goals
    generalize iblk m c 0 t = b0
    generalize iblk m c 1 t = b1
    generalize iblk m c 2 t = b2
    generalize iblk m c 3 t = b3
    generalize iblk m c 4 t = b4
    generalize iblk m c 5 t = b5
    frame_open
    simp (disch := decide) only [↓ View.readCov_skip, ↓ View.readCov_cons_toLoadRect, ↓ View.readCov_fill]
    frame_out
    open_payloads
    pointwise [tnBlk]
    exact congrArg (· + _) (congrFun ((Memref.isWhole_whole cc0_scratch0).read_unread _) y)

/-- The first point starts the output projection's accumulator. -/
theorem out_first (c : Dev nD) (t : Fin cfg0.N) (h : t.val % 8 = 0) (y) :
    (outsAt0 m c t.val t.isLt).2.2.2 y = 0 + tnBlk (iblk m c 2 t) (iblk m c 3 t) y := by
  rw [outsAt0_A m c t h (by omega), zero_add]
  generalize iblk m c 0 t = b0
  generalize iblk m c 1 t = b1
  generalize iblk m c 2 t = b2
  generalize iblk m c 3 t = b3
  generalize iblk m c 4 t = b4
  generalize iblk m c 5 t = b5
  frame_open
  simp (disch := decide) only [↓ View.readCov_skip, ↓ View.readCov_cons_toLoadRect, ↓ View.readCov_fill]
  frame_out
  open_payloads
  pointwise [tnBlk]

/-- Any other point adds to it. -/
theorem out_next (c : Dev nD) (t : Fin cfg0.N) (h : ¬t.val % 8 = 0) (y) : (outsAt0 m c t.val t.isLt).2.2.2 y =
    (outsAt0 m c (t.val - 1) (Nat.lt_of_le_of_lt (Nat.sub_le _ _) t.isLt)).2.2.2 y + tnBlk (iblk m c 2 t) (iblk m c 3 t) y := by
  rcases em (t.val % 8 = 7) with h3 | h3 <;> [rw [outsAt0_C m c t h h3]; rw [outsAt0_B m c t h h3]]
  all_goals
    generalize iblk m c 0 t = b0
    generalize iblk m c 1 t = b1
    generalize iblk m c 2 t = b2
    generalize iblk m c 3 t = b3
    generalize iblk m c 4 t = b4
    generalize iblk m c 5 t = b5
    frame_open
    simp (disch := decide) only [↓ View.readCov_skip, ↓ View.readCov_cons_toLoadRect, ↓ View.readCov_fill]
    frame_out
    open_payloads
    pointwise [tnBlk]
    exact congrArg (· + _) (congrFun ((Memref.isWhole_whole cc0_scratch1).read_unread _) y)

/-- The first point starts the grouped weight's gradient. -/
theorem grp_first (c : Dev nD) (t : Fin cfg0.N) (h : t.val % 8 = 0) (y) :
    (outsAt0 m c t.val t.isLt).2.1 y = 0 + grpBlk (iblk m c 4 t) (iblk m c 5 t) y := by
  rw [outsAt0_A m c t h (by omega), zero_add]
  generalize iblk m c 0 t = b0
  generalize iblk m c 1 t = b1
  generalize iblk m c 2 t = b2
  generalize iblk m c 3 t = b3
  generalize iblk m c 4 t = b4
  generalize iblk m c 5 t = b5
  frame_open
  simp (disch := decide) only [↓ View.readCov_skip, ↓ View.readCov_cons_toLoadRect, ↓ View.readCov_fill]
  frame_out
  refine (canon_append_left [_] [_, _, _, _] y (View.cover_of_tiled_head _ _ _ rfl y)).trans ?_
  canon_tiles y h
  all_goals open_payloads
  all_goals pointwise [id]
  · exact (zero_add _).symm.trans ((grp_piece (fun _ => 0) b4 b5 _ 3 _ _ (by omega) h1 h2).trans (zero_add _))
  · exact (zero_add _).symm.trans ((grp_piece (fun _ => 0) b4 b5 _ 2 _ _ (by omega) h1 h2).trans (zero_add _))
  · exact (zero_add _).symm.trans ((grp_piece (fun _ => 0) b4 b5 _ 1 _ _ (by omega) h1 h2).trans (zero_add _))
  · refine Eq.trans ?_ ((grp_piece (fun _ => 0) b4 b5 _ 0 _ _ (by omega) h1 h2).trans (zero_add _))
    simp only [Fin.val_zero, Nat.zero_mul, Nat.zero_add, zero_add]

/-- Any other point adds to it. -/
theorem grp_next (c : Dev nD) (t : Fin cfg0.N) (h : ¬t.val % 8 = 0) (y) : (outsAt0 m c t.val t.isLt).2.1 y =
    (outsAt0 m c (t.val - 1) (Nat.lt_of_le_of_lt (Nat.sub_le _ _) t.isLt)).2.1 y + grpBlk (iblk m c 4 t) (iblk m c 5 t) y := by
  rcases em (t.val % 8 = 7) with h3 | h3 <;> [rw [outsAt0_C m c t h h3]; rw [outsAt0_B m c t h h3]]
  all_goals
    generalize iblk m c 0 t = b0
    generalize iblk m c 1 t = b1
    generalize iblk m c 2 t = b2
    generalize iblk m c 3 t = b3
    generalize iblk m c 4 t = b4
    generalize iblk m c 5 t = b5
    frame_open
    simp (disch := decide) only [↓ View.readCov_skip, ↓ View.readCov_cons_toLoadRect, ↓ View.readCov_fill]
    frame_out
    canon_tiles y h
    all_goals open_payloads
    all_goals pointwise [id]
    · exact grp_piece _ b4 b5 _ 3 _ _ (by omega) h1 h2
    · exact grp_piece _ b4 b5 _ 2 _ _ (by omega) h1 h2
    · exact grp_piece _ b4 b5 _ 1 _ _ (by omega) h1 h2
    · refine Eq.trans ?_ (grp_piece _ b4 b5 _ 0 _ _ (by omega) h1 h2)
      simp only [Fin.val_zero, Nat.zero_mul, Nat.zero_add]

/-- Two weights' gradients side by side, by owning device. -/
def winBlk (p q : S1024x1024.Idx → EReal) (y : S8x256x1024.Idx) : EReal :=
  if (y 1).val < 128 then
    p (ix2 ⟨(y 0).val * 128 + (y 1).val % 128, by have h0 : (y 0).val < 8 := (y 0).isLt; omega⟩ (y 2))
  else q (ix2 ⟨(y 0).val * 128 + (y 1).val % 128, by have h0 : (y 0).val < 8 := (y 0).isLt; omega⟩ (y 2))

/-- The last point writes both accumulators out, by owning device. -/
theorem win_last (c : Dev nD) (t : Fin cfg0.N) (h : t.val % 8 = 7) (x) :
    (outsAt0 m c t.val t.isLt).1 x = winBlk (outsAt0 m c t.val t.isLt).2.2.1 (outsAt0 m c t.val t.isLt).2.2.2 x := by
  rw [outsAt0_C m c t (by omega) h]
  generalize iblk m c 0 t = b0
  generalize iblk m c 1 t = b1
  generalize iblk m c 2 t = b2
  generalize iblk m c 3 t = b3
  generalize iblk m c 4 t = b4
  generalize iblk m c 5 t = b5
  frame_open
  simp (disch := decide) only [↓ View.readCov_skip, ↓ View.readCov_cons_toLoadRect, ↓ View.readCov_fill]
  frame_out
  generalize k0_pay7 _ b0 b1 = p
  generalize k0_pay8 _ b2 b3 = q
  canon_tiles x h
  · unfold winBlk
    rw [if_neg (by omega)]
    open_payloads
    pointwise [id]
    exact congrArg q (congrArg₂ ix2 (Fin.ext (by simp only []; omega)) (Fin.ext h2.symm))
  · unfold winBlk
    rw [if_pos (by omega)]
    open_payloads
    pointwise [id]
    exact congrArg p (congrArg₂ ix2 (Fin.ext (by simp only []; omega)) (Fin.ext h2.symm))

end Cert.BGradIdeal.Blocks

end
-- ==== Proof.PPair.lean ====
/-
  The gradients of mixer B's three weights: the kernel computes what the reference computes.
-/
module

public import proofs.«01_k».proof.Defs
public import proofs.«01_k».proof.Proof.PKernel
public import proofs.«01_k».proof.Proof.Gen.BGradIdeal.Value
public import proofs.«01_k».proof.Proof.Gen.BGradRefIdeal.Run
public import proofs.«01_k».proof.Proof.Gen.BGradRefIdeal.Read
public import Idealize.ShloMosaic.Lib.StableHlo.ReadAt

@[expose] public section

set_option maxRecDepth 16384

noncomputable section

namespace Cert.BGradIdeal.Blocks

open Cert.BGradIdeal Cert.BGradIdeal.Gen Cert.BGradRefIdeal.Read Idealize.ShloMosaic Idealize.ShloMosaic.TcCoe Idealize.SL.Sem

variable (m : (ℓ : Loc nD τ sig) → Buf (Elt Ideal) ℓ) (c : Dev nD)

/-- The normed layer input. -/
abbrev a0 : S8192x1024.Idx → EReal := m ((c : Thread nD τ).loc main_arg0)
/-- The cotangent of the input projection. -/
abbrev a1 : S8192x1024.Idx → EReal := m ((c : Thread nD τ).loc main_arg1)
/-- The mixed groups. -/
abbrev a2 : S8192x1024.Idx → EReal := m ((c : Thread nD τ).loc main_arg2)
/-- The cotangent of the output projection. -/
abbrev a3 : S8192x1024.Idx → EReal := m ((c : Thread nD τ).loc main_arg3)
/-- The pooled groups. -/
abbrev a4 : S8192x1024.Idx → EReal := m ((c : Thread nD τ).loc main_arg4)
/-- The cotangent of the grouped product. -/
abbrev a5 : S8192x1024.Idx → EReal := m ((c : Thread nD τ).loc main_arg5)

/-- Row `r` of point `t`'s blocks is this row of the arrays. -/
def row (t : Fin cfg0.N) (r : Fin 1024) : Fin 8192 :=
  ⟨t.val * 1024 + r.val, by have := t.isLt; have : cfg0.N = 8 := N_0; omega⟩

/-- The windows' block indices, by the grid point. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![0, 0, 0] ∧ win0_7.index t = ![0, 0, 0] :=
  (by decide +kernel : ∀ t : Fin grid0.N, _)

theorem v0_at (i : Fin 8192) (k : Fin 1024) : (V m c main_v0 : S8192x1024.Idx → EReal) (ix2 i k) = a0 m c (ix2 i k) := by
  unfold V; after_reads_at
theorem b0_at (t : Fin cfg0.N) (r k : Fin 1024) :
    (iblk m c 0 t : S1024x1024.Idx → EReal) (ix2 r k) = a0 m c (ix2 (row t r) k) := by
  rw [← v0_at]; unfold row; blk_ext [iblk, (idx t).1]
theorem v1_at (i : Fin 8192) (k : Fin 1024) : (V m c main_v1 : S8192x1024.Idx → EReal) (ix2 i k) = a1 m c (ix2 i k) := by
  unfold V; after_reads_at
theorem b1_at (t : Fin cfg0.N) (r k : Fin 1024) :
    (iblk m c 1 t : S1024x1024.Idx → EReal) (ix2 r k) = a1 m c (ix2 (row t r) k) := by
  rw [← v1_at]; unfold row; blk_ext [iblk, (idx t).2.1]
theorem v2_at (i : Fin 8192) (k : Fin 1024) : (V m c main_v2 : S8192x1024.Idx → EReal) (ix2 i k) = a2 m c (ix2 i k) := by
  unfold V; after_reads_at
theorem b2_at (t : Fin cfg0.N) (r k : Fin 1024) :
    (iblk m c 2 t : S1024x1024.Idx → EReal) (ix2 r k) = a2 m c (ix2 (row t r) k) := by
  rw [← v2_at]; unfold row; blk_ext [iblk, (idx t).2.2.1]
theorem v3_at (i : Fin 8192) (k : Fin 1024) : (V m c main_v3 : S8192x1024.Idx → EReal) (ix2 i k) = a3 m c (ix2 i k) := by
  unfold V; after_reads_at
theorem b3_at (t : Fin cfg0.N) (r k : Fin 1024) :
    (iblk m c 3 t : S1024x1024.Idx → EReal) (ix2 r k) = a3 m c (ix2 (row t r) k) := by
  rw [← v3_at]; unfold row; blk_ext [iblk, (idx t).2.2.2.1]
theorem v4_at (i : Fin 8192) (k : Fin 1024) : (V m c main_v4 : S8192x1024.Idx → EReal) (ix2 i k) = a4 m c (ix2 i k) := by
  unfold V; after_reads_at
theorem b4_at (t : Fin cfg0.N) (r k : Fin 1024) :
    (iblk m c 4 t : S1024x1024.Idx → EReal) (ix2 r k) = a4 m c (ix2 (row t r) k) := by
  rw [← v4_at]; unfold row; blk_ext [iblk, (idx t).2.2.2.2.1]
theorem v5_at (i : Fin 8192) (k : Fin 1024) : (V m c main_v5 : S8192x1024.Idx → EReal) (ix2 i k) = a5 m c (ix2 i k) := by
  unfold V; after_reads_at
theorem b5_at (t : Fin cfg0.N) (r k : Fin 1024) :
    (iblk m c 5 t : S1024x1024.Idx → EReal) (ix2 r k) = a5 m c (ix2 (row t r) k) := by
  rw [← v5_at]; unfold row; blk_ext [iblk, (idx t).2.2.2.2.2.1]

/-- A product's entry, over all rows. -/
def tnAll (l r : S8192x1024.Idx → EReal) (j k : Fin 1024) : EReal := ∑ i : Fin 8192, l (ix2 i j) * r (ix2 i k)

/-- The points' shares of an entry make up the whole sum. -/
theorem sum_points (l r : S8192x1024.Idx → EReal) (t : Fin cfg0.N) (h : t.val % 8 = 7) (j k : Fin 1024) :
    ∑ s : Fin 8, ∑ x : Fin 1024, l (ix2 (row ⟨8 * (t.val / 8) + s.val, Pipeline.run_point_lt_of_flush t h s⟩ x) j) *
      r (ix2 (row ⟨8 * (t.val / 8) + s.val, Pipeline.run_point_lt_of_flush t h s⟩ x) k) = tnAll l r j k := by
  have e (s : Fin 8) (x : Fin 1024) : row ⟨8 * (t.val / 8) + s.val, Pipeline.run_point_lt_of_flush t h s⟩ x =
      ⟨s.val * 1024 + x.val, by omega⟩ :=
    Fin.ext (by have := t.isLt; have : cfg0.N = 8 := N_0; unfold row; simp only []; omega)
  rw [Finset.sum_congr rfl fun s _ => Finset.sum_congr rfl fun x _ => by rw [e s x]]
  exact Fin.sum_mul_add_congr fun s r hl => rfl

/-- What the last point finds in the input projection's accumulator. -/
theorem in_last (t : Fin cfg0.N) (h : t.val % 8 = 7) (j k : Fin 1024) :
    (outsAt0 m c t.val t.isLt).2.2.1 (ix2 j k) = tnAll (a0 m c) (a1 m c) j k := by
  have e (u : Fin cfg0.N) : tnBlk (iblk m c 0 u) (iblk m c 1 u) (ix2 j k) =
      ∑ x : Fin 1024, a0 m c (ix2 (row u x) j) * a1 m c (ix2 (row u x) k) :=
    Finset.sum_congr rfl fun x _ => congrArg₂ (fun x y : EReal => x * y) (b0_at m c u x j) (b1_at m c u x k)
  rw [Pipeline.eq_sum_fin_of_reset_step_apply_of_flush (fun n h => (outsAt0 m c n h).2.2.1) 8 (fun _ => 0)
    (fun t => tnBlk (iblk m c 0 t) (iblk m c 1 t)) (in_first m c) (in_next m c) t h (ix2 j k), zero_add,
    Finset.sum_congr rfl fun s _ => e _]
  exact sum_points _ _ t h j k

/-- What the last point finds in the output projection's accumulator. -/
theorem out_last (t : Fin cfg0.N) (h : t.val % 8 = 7) (j k : Fin 1024) :
    (outsAt0 m c t.val t.isLt).2.2.2 (ix2 j k) = tnAll (a2 m c) (a3 m c) j k := by
  have e (u : Fin cfg0.N) : tnBlk (iblk m c 2 u) (iblk m c 3 u) (ix2 j k) =
      ∑ x : Fin 1024, a2 m c (ix2 (row u x) j) * a3 m c (ix2 (row u x) k) :=
    Finset.sum_congr rfl fun x _ => congrArg₂ (fun x y : EReal => x * y) (b2_at m c u x j) (b3_at m c u x k)
  rw [Pipeline.eq_sum_fin_of_reset_step_apply_of_flush (fun n h => (outsAt0 m c n h).2.2.2) 8 (fun _ => 0)
    (fun t => tnBlk (iblk m c 2 t) (iblk m c 3 t)) (out_first m c) (out_next m c) t h (ix2 j k), zero_add,
    Finset.sum_congr rfl fun s _ => e _]
  exact sum_points _ _ t h j k

/-- The grouped weight's gradient after the last point. -/
theorem grp_last (t : Fin cfg0.N) (h : t.val % 8 = 7) (g : Fin 4) (j k : Fin 256) :
    (outsAt0 m c t.val t.isLt).2.1 (ix3 g j k) =
      tnAll (a4 m c) (a5 m c) ⟨g.val * 256 + j.val, by omega⟩ ⟨g.val * 256 + k.val, by omega⟩ := by
  have e (u : Fin cfg0.N) : grpBlk (iblk m c 4 u) (iblk m c 5 u) (ix3 g j k) =
      ∑ x : Fin 1024, a4 m c (ix2 (row u x) ⟨g.val * 256 + j.val, by omega⟩) * a5 m c (ix2 (row u x) ⟨g.val * 256 + k.val, by omega⟩) :=
    Finset.sum_congr rfl fun x _ => congrArg₂ (fun x y : EReal => x * y) (b4_at m c u x _) (b5_at m c u x _)
  rw [Pipeline.eq_sum_fin_of_reset_step_apply_of_flush (fun n h => (outsAt0 m c n h).2.1) 8 (fun _ => 0)
    (fun t => grpBlk (iblk m c 4 t) (iblk m c 5 t)) (grp_first m c) (grp_next m c) t h (ix3 g j k), zero_add,
    Finset.sum_congr rfl fun s _ => e _]
  exact sum_points _ _ t h _ _

/-- The reference's first result: the input projection's rows of each device. -/
theorem ref_in (q : Fin 8) (j : Fin 128) (k : Fin 1024) :
    val_main_v19 (F := Ideal) (a0 m c) (a1 m c) (a2 m c) (a3 m c) (ix3 q ⟨j.val, by omega⟩ k) =
      tnAll (a0 m c) (a1 m c) ⟨q.val * 128 + j.val, by omega⟩ k := by
  pointwise [val_main_v19, val_main_v18, val_main_v16, val_main_v15, val_main_v14, tnAll]
  exact Finset.sum_congr rfl fun i _ => mul_comm _ _
/-- And the output projection's rows after them. -/
theorem ref_out (q : Fin 8) (j : Fin 128) (k : Fin 1024) :
    val_main_v19 (F := Ideal) (a0 m c) (a1 m c) (a2 m c) (a3 m c) (ix3 q ⟨128 + j.val, by omega⟩ k) =
      tnAll (a2 m c) (a3 m c) ⟨q.val * 128 + j.val, by omega⟩ k := by
  pointwise [val_main_v19, val_main_v18, val_main_v17, val_main_v13, val_main_v12, tnAll]
  exact Finset.sum_congr rfl fun i _ => mul_comm _ _
/-- The reference's second result. -/
theorem ref_grp (g : Fin 4) (j k : Fin 256) :
    val_main_v11 (F := Ideal) (a4 m c) (a5 m c) (ix3 g j k) =
      tnAll (a4 m c) (a5 m c) ⟨g.val * 256 + j.val, by omega⟩ ⟨g.val * 256 + k.val, by omega⟩ := by
  pointwise [val_main_v11, val_main_v10, val_main_v9, val_main_v8, val_main_v5, tnAll]
  exact Finset.sum_congr rfl fun i _ => mul_comm _ _

/-- What the last point writes out is the reference's first result. -/
theorem win_ref (t : Fin cfg0.N) (h : t.val % 8 = 7) (q : Fin 8) (j : Fin 256) (k : Fin 1024) :
    (outsAt0 m c t.val t.isLt).1 (ix3 q j k) =
      val_main_v19 (F := Ideal) (a0 m c) (a1 m c) (a2 m c) (a3 m c) (ix3 q j k) := by
  rw [win_last m c t h]
  rcases lt_or_ge j.val 128 with hj | hj
  · obtain ⟨p, rfl⟩ : ∃ p : Fin 128, j = ⟨p.val, lt_trans p.isLt (by decide)⟩ := ⟨⟨j.val, hj⟩, rfl⟩
    refine Eq.trans ?_ (ref_in m c q p k).symm
    unfold winBlk
    refine (if_pos hj).trans ((in_last m c t h _ _).trans ?_)
    exact congrArg (fun x => tnAll _ _ x k) (Fin.ext (by have := p.isLt; change q.val * 128 + p.val % 128 = q.val * 128 + p.val; omega))
  · obtain ⟨p, rfl⟩ : ∃ p : Fin 128, j = ⟨128 + p.val, Nat.add_lt_add_left p.isLt 128⟩ := ⟨⟨j.val - 128, by omega⟩, Fin.ext (by simp only []; omega)⟩
    refine Eq.trans ?_ (ref_out m c q p k).symm
    unfold winBlk
    refine (if_neg (Nat.not_lt.mpr hj)).trans ((out_last m c t h _ _).trans ?_)
    exact congrArg (fun x => tnAll _ _ x k) (Fin.ext (by have := p.isLt; change q.val * 128 + (128 + p.val) % 128 = q.val * 128 + p.val; omega))

/-- What the last point leaves of the grouped weight's gradient is the reference's second result. -/
theorem grp_ref (t : Fin cfg0.N) (h : t.val % 8 = 7) (g : Fin 4) (j k : Fin 256) :
    (outsAt0 m c t.val t.isLt).2.1 (ix3 g j k) = val_main_v11 (F := Ideal) (a4 m c) (a5 m c) (ix3 g j k) :=
  (grp_last m c t h g j k).trans (ref_grp m c g j k).symm

/-- The kernel's first array is the reference's first result. -/
theorem final6 : (dats m 0 c).arrAt 6 cfg0.N = val_main_v19 (F := Ideal) (a0 m c) (a1 m c) (a2 m c) (a3 m c) := by
  refine (dats m 0 c).arrAt_eq_of_covers 6 _ (by decide +kernel) fun t hf y => ?_
  have ht : t.val % 8 = 7 := (flush0_6 t).mp hf
  blk_simp
  rw [after0_6]
  obtain ⟨a, b, d, rfl⟩ : ∃ (a : Fin 8) (b : Fin 256) (d : Fin 1024), y = (ix3 a b d : S8x256x1024.Idx) :=
    ⟨y 0, y 1, y 2, (ix3_eta y).symm⟩
  refine (win_ref m c t ht a b d).trans ?_
  blk_point [(idx t).2.2.2.2.2.2.1]

/-- The kernel's second array is the reference's second result. -/
theorem final7 : (dats m 0 c).arrAt 7 cfg0.N = val_main_v11 (F := Ideal) (a4 m c) (a5 m c) := by
  refine (dats m 0 c).arrAt_eq_of_covers 7 _ (by decide +kernel) fun t hf y => ?_
  have ht : t.val % 8 = 7 := (flush0_7 t).mp hf
  blk_simp
  rw [after0_7]
  obtain ⟨a, b, d, rfl⟩ : ∃ (a : Fin 4) (b d : Fin 256), y = (ix3 a b d : S4x256x256.Idx) :=
    ⟨y 0, y 1, y 2, (ix3_eta y).symm⟩
  refine (grp_ref m c t ht a b d).trans ?_
  blk_point [(idx t).2.2.2.2.2.2.2]

end Cert.BGradIdeal.Blocks

namespace Cert.PPair

open Idealize.ShloMosaic Idealize.ShloMosaic.TcCoe Idealize.SL.Sem Cert.BGradRefIdeal.Read Cert.BGradIdeal.Blocks

/-- For all arguments the two programs leave the same gradients and their arguments unchanged. -/
theorem algebraic : Cert.algebraic_BGradIdeal_BGradRefIdeal := by
  pair_intro
  · run_from Cert.BGradIdeal.Value.run_blocks m g
  · refine (θ_run _ _ _).mono (fun r h c => ?_) (Cert.BGradRefIdeal.Value.run m' g')
    obtain ⟨e0, e1, e2, e3, e4, e5⟩ := hagree c
    replace e0 : m' ((c.tc : Thread _ _).loc Cert.BGradRefIdeal.main_arg0) = a0 m c := e0
    replace e1 : m' ((c.tc : Thread _ _).loc Cert.BGradRefIdeal.main_arg1) = a1 m c := e1
    replace e2 : m' ((c.tc : Thread _ _).loc Cert.BGradRefIdeal.main_arg2) = a2 m c := e2
    replace e3 : m' ((c.tc : Thread _ _).loc Cert.BGradRefIdeal.main_arg3) = a3 m c := e3
    replace e4 : m' ((c.tc : Thread _ _).loc Cert.BGradRefIdeal.main_arg4) = a4 m c := e4
    replace e5 : m' ((c.tc : Thread _ _).loc Cert.BGradRefIdeal.main_arg5) = a5 m c := e5
    obtain ⟨r19, r11, rest⟩ := h c
    refine ⟨r19.trans ?_, r11.trans ?_, rest⟩
    · refine (val_main_v19_eq (F := Ideal) _ _ _ _).trans (Eq.trans ?_ (final6 m c).symm)
      rw [e0, e1, e2, e3]
    · refine (val_main_v11_eq (F := Ideal) _ _).trans (Eq.trans ?_ (final7 m c).symm)
      rw [e4, e5]

end Cert.PPair

end
-- ==== Proof.Cumsum.lean ====
/-
  The host's running sums over the extended reals: the sum from a row to the last, and that a running sum of reals is real.
-/
module

public import proofs.«01_k».proof.Proof.Reals
public import Idealize.ShloMosaic.Lib.Pointwise
public import Idealize.ShloMosaic.Lib.Routing.OpsOne

@[expose] public section

noncomputable section

namespace Cert.Spec

open Idealize.ShloMosaic Idealize.ShloMosaic.Routing

/-- A column continued by zeros. -/
def zext {R : ℕ} {M : Type} [Zero M] (x : Fin R → M) (t : ℕ) : M := if h : t < R then x ⟨t, h⟩ else 0

theorem zext_of_lt {R : ℕ} {M : Type} [Zero M] (x : Fin R → M) (t : Fin R) : zext x t.val = x t := dif_pos t.isLt
theorem zext_of_ge {R : ℕ} {M : Type} [Zero M] (x : Fin R → M) {t : ℕ} (h : R ≤ t) : zext x t = 0 := dif_neg (Nat.not_lt.mpr h)

/-- How many rows the window of `w` rows ending at row `n` has. -/
def cnt (w n : ℕ) : EReal := (((min (w : ℤ) (n + 1) : ℤ) : ℝ) : EReal)

/-- A division of a real by a count is real. -/
theorem IsR.div_cnt {a : EReal} (w n : ℕ) (hw : 0 < w) : IsR a → IsR (Ideal.div a (cnt w n)) := by
  have h : (0 : ℝ) < ((min (w : ℤ) (n + 1) : ℤ) : ℝ) := by exact_mod_cast (show (0 : ℤ) < min (w : ℤ) (n + 1) by omega)
  rintro ⟨a, rfl⟩
  rw [cnt, Ideal.div_coe h.ne']
  exact ⟨_, (EReal.coe_mul _ _).symm⟩

/-- A fold by addition is the starting value and the sum of the terms. -/
theorem foldl_add {M : ℕ} (g : Fin M → EReal) (a : EReal) :
    (List.finRange M).foldl (fun r n => r + g n) a = a + ∑ n, g n := by
  rw [← List.sum_ofFn, List.ofFn_eq_map]
  generalize List.finRange M = l
  induction l generalizing a with
  | nil => simp
  | cons b l ih => rw [List.foldl_cons, ih, List.map_cons, List.sum_cons, add_assoc]

/-- `jnp.cumsum(axis=0, reverse=True)` of a matrix, as it prints: each row is the sum of the rows from it on. -/
theorem cumsum_rev {R C Rm1 : ℕ} (x : (⟨2, ![R, C]⟩ : Shape).Idx → EReal) (init : (⟨0, ![]⟩ : Shape).Idx → EReal) (hi : ∀ i, init i = 0)
    (h : (⟨2, ![R, C]⟩ : Shape).ReduceWindows (![R, 1] : Fin 2 → ℕ) ![1, 1] ![0, 0] ![Rm1, 0] ⟨2, ![R, C]⟩) (hu : 0 < (⟨0, ![]⟩ : Shape).numel)
    (j : Fin R) (c : Fin C) :
    Host.reduceWindowAdd (F := Ideal) (φ := .f32) ![R, 1] ![1, 1] ![0, 0] ![Rm1, 0] x init h hu (ix2 j c) =
      ∑ n ∈ Finset.range R, zext (fun i => x (ix2 i c)) (j.val + n) := by
  show Host.reduceWindow (· + ·) _ _ _ _ x (fun _ : (⟨0, ![]⟩ : Shape).Idx => init (Shape.Idx.first hu)) h (by decide) _ = _
  unfold Host.reduceWindow
  rw [hi]
  refine (foldl_add _ 0).trans ?_
  rw [zero_add, Finset.sum_range, ← Equiv.sum_comp (finCongr (numel_col R).symm)]
  refine Finset.sum_congr rfl fun n _ => ?_
  have hw0 : ((shape2 R 1).rowMajor.symm (finCongr (numel_col R).symm n) 0).val = n.val := by rw [symm_col]; rfl
  have hw1 : ((shape2 R 1).rowMajor.symm (finCongr (numel_col R).symm n) 1).val = 0 := by rw [symm_col]; rfl
  have hj := j.isLt
  have hc := c.isLt
  unfold zext
  by_cases hn : j.val + n.val < R
  · rw [dif_pos hn]
    rw [dif_pos]
    · refine congrArg x (funext fun a => Fin.ext ?_)
      match a with
      | ⟨0, _⟩ =>
        show j.val * 1 + ((shape2 R 1).rowMajor.symm (finCongr (numel_col R).symm n) 0).val - 0 = j.val + n.val
        rw [hw0]; omega
      | ⟨1, _⟩ =>
        show c.val * 1 + ((shape2 R 1).rowMajor.symm (finCongr (numel_col R).symm n) 1).val - 0 = c.val
        rw [hw1]; omega
    · intro a
      match a with
      | ⟨0, _⟩ =>
        show 0 ≤ j.val * 1 + ((shape2 R 1).rowMajor.symm (finCongr (numel_col R).symm n) 0).val ∧
          j.val * 1 + ((shape2 R 1).rowMajor.symm (finCongr (numel_col R).symm n) 0).val - 0 < R
        rw [hw0]; omega
      | ⟨1, _⟩ =>
        show 0 ≤ c.val * 1 + ((shape2 R 1).rowMajor.symm (finCongr (numel_col R).symm n) 1).val ∧
          c.val * 1 + ((shape2 R 1).rowMajor.symm (finCongr (numel_col R).symm n) 1).val - 0 < C
        rw [hw1]; omega
  · rw [dif_neg hn, dif_neg]
    intro hin
    have h0 := hin 0
    change 0 ≤ j.val * 1 + ((shape2 R 1).rowMajor.symm (finCongr (numel_col R).symm n) 0).val ∧
      j.val * 1 + ((shape2 R 1).rowMajor.symm (finCongr (numel_col R).symm n) 0).val - 0 < R at h0
    rw [hw0] at h0
    omega

/-- A window sum of reals is real. -/
theorem IsR.windowSum {s t u : Shape} (w st lo hi : Fin s.rank → ℕ) {x : s.Idx → EReal} {init : u.Idx → EReal} (hx : ∀ i, IsR (x i))
    (hi0 : ∀ i, IsR (init i)) (h : s.ReduceWindows w st lo hi t) (hu : 0 < u.numel) (j : t.Idx) :
    IsR (Host.reduceWindowAdd (F := Ideal) (φ := .f32) w st lo hi x init h hu j) := by
  show IsR (Host.reduceWindow (· + ·) _ _ _ _ x (fun _ : (⟨0, ![]⟩ : Shape).Idx => init (Shape.Idx.first hu)) h (by decide) _)
  unfold Host.reduceWindow
  refine (foldl_add _ _).symm ▸ (hi0 _).add (IsR.sum fun n => ?_)
  split
  · exact hx _
  · exact hi0 _

/-- The difference of two running sums, one `w` rows after the other, is a sum of `w` rows. -/
theorem window_of_rev {R : ℕ} (w j : ℕ) (u : Fin R → ℝ) :
    ∑ n ∈ Finset.range R, (zext u (j + n) - zext u (j + n + w)) = ∑ n ∈ Finset.range w, zext u (j + n) := by
  have e : ∑ n ∈ Finset.range R, zext u (j + n + w) = ∑ n ∈ Finset.range R, zext u (j + (w + n)) :=
    Finset.sum_congr rfl fun n _ => congrArg (zext u) (by omega)
  have z : ∑ n ∈ Finset.range w, zext u (j + (R + n)) = 0 := Finset.sum_eq_zero fun n _ => zext_of_ge u (by omega)
  have a := Finset.sum_range_add (fun n => zext u (j + n)) w R
  have b := Finset.sum_range_add (fun n => zext u (j + n)) R w
  rw [add_comm w R] at a
  rw [Finset.sum_sub_distrib, e]
  beta_reduce at a b
  linarith

/-- The same of real values among the extended reals. -/
theorem window_of_rev_real {R : ℕ} (w j : ℕ) {u : Fin R → EReal} (hu : ∀ i, IsR (u i)) :
    ∑ n ∈ Finset.range R, (zext u (j + n) - zext u (j + n + w)) = ∑ n ∈ Finset.range w, zext u (j + n) := by
  obtain ⟨u, rfl⟩ := lift hu
  have z : ∀ t, zext (fun i => (u i : EReal)) t = ((zext u t : ℝ) : EReal) := fun t => by
    unfold zext
    split <;> rfl
  simp only [z, ← EReal.coe_sub]
  have s : ∀ (f : ℕ → ℝ) (n : ℕ), ∑ k ∈ Finset.range n, ((f k : ℝ) : EReal) = ((∑ k ∈ Finset.range n, f k : ℝ) : EReal) := fun f n => by
    rw [Finset.sum_range, Finset.sum_range, coe_sum]
  rw [s, s, window_of_rev w j u]

/-- A window sum of reals is real. -/
theorem IsR.sum_zext {R : ℕ} (w j : ℕ) {u : Fin R → EReal} (hu : ∀ i, IsR (u i)) : IsR (∑ n ∈ Finset.range w, zext u (j + n)) := by
  rw [Finset.sum_range]
  refine IsR.sum fun n => ?_
  unfold zext
  split
  · exact hu _
  · exact isR_zero

end Cert.Spec

end
-- ==== Proof.BBlock.lean ====
/-
  What one grid point of mixer B's gradient's kernel leaves in each output block, as row functions of its input blocks.
-/
module

public import proofs.«01_k».proof.Proof.Gen.BBwdIdeal.Value
public import proofs.«01_k».proof.Proof.Spec
public import proofs.«01_k».proof.Proof.Cumsum
public import Idealize.ShloMosaic.Lib.Affine
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.BBwdIdeal.Blocks

open Cert.BBwdIdeal Cert.BBwdIdeal.Gen Idealize.ShloMosaic Idealize.ShloMosaic.TcCoe Idealize.SL.Sem Cert.Spec

/-- A block of 512 rows with the 16 rows after it. -/
def ext (a : S512x1024.Idx → EReal) (b : S16x1024.Idx → EReal) (y : S528x1024.Idx) : EReal :=
  if h : (y 0).val < 512 then a (ix2 ⟨(y 0).val, h⟩ (y 1))
  else b (ix2 ⟨(y 0).val - 512, by have h0 : (y 0).val < 528 := (y 0).isLt; omega⟩ (y 1))
/-- Whether the rows after the block are rows of the array: one, or zero at the last point. -/
def keep (i : grid0.Coords) : EReal := if (i 0).val < 15 then 1 else 0
/-- The post-norm's gradient, row by row. -/
def dmE (dy me : S528x1024.Idx → EReal) (g : S1x1024.Idx → EReal) (y : S528x1024.Idx) : EReal :=
  rmsBack cD (fun k => me (ix2 (y 0) k)) (fun k => g (ix2 0 k)) (fun k => dy (ix2 (y 0) k)) (y 1)
/-- Times the output projection's transpose. -/
def mixE (D : S528x1024.Idx → EReal) (wo : S1024x1024.Idx → EReal) (y : S528x1024.Idx) : EReal :=
  ∑ j, D (ix2 (y 0) j) * wo (ix2 (y 1) j)
/-- The grouped product's column, from the group and the column in it. -/
def gcol (g : Fin 4) (j : Fin 256) : Fin 1024 := ⟨g.val * 256 + j.val, by omega⟩
/-- The rows after the block are kept but at the last point. -/
theorem keep_eq (i : grid0.Coords) (x : EReal) :
    Scalar.select (Scalar.cmpi CmpIPredicate.slt (BitVec.ofNat 32 (i 0).val) 15#32) x 0 = x * keep i := by
  have h16 : (i 0).val < 16 := (i 0).isLt
  unfold keep
  generalize (i 0).val = n at h16
  rcases Nat.lt_or_ge n 15 with hi | hi
  · rw [if_pos hi, mul_one]
    exact if_pos (Affine.slt_holds (Affine.ofNat _ ⟨rfl, by omega⟩) (Affine.ofNat 15 ⟨rfl, by omega⟩) (by omega))
  · rw [if_neg (by omega), mul_zero]
    exact if_neg (Affine.slt_fails (Affine.ofNat _ ⟨rfl, by omega⟩) (Affine.ofNat 15 ⟨rfl, by omega⟩) (by omega))
/-- The cotangent of the block's rows and of the rows after it. -/
theorem pay8_eq (i : grid0.Coords) (v5 : S512x1024.Idx → EReal) (v6 : S16x1024.Idx → EReal) :
    k0_pay8 (F := Ideal) i v5 v6 = ext v5 (fun z => v6 z * keep i) := by
  funext y
  pointwise [k0_pay8, ext]
  exact congrArg (dite _ _) (funext fun h => keep_eq i _)
theorem pay9_eq (v5 : S512x1024.Idx → EReal) (v6 : S16x1024.Idx → EReal) : k0_pay9 (F := Ideal) v5 v6 = ext v5 v6 := by
  funext y
  pointwise [k0_pay9, ext]
theorem pay17_eq (v5 : S512x1024.Idx → EReal) (v6 : S16x1024.Idx → EReal) : k0_pay17 (F := Ideal) v5 v6 = ext v5 v6 := by
  funext y
  pointwise [k0_pay17, ext]
theorem pay14_eq (dy : S528x1024.Idx → EReal) (m : S512x1024.Idx → EReal) (mn : S16x1024.Idx → EReal) (g : S1x1024.Idx → EReal) :
    k0_pay14 (F := Ideal) dy g (k0_pay11 m mn) (k0_pay12 m mn) = dmE dy (ext m mn) g := by
  funext y
  pointwise [k0_pay14, k0_pay12, k0_pay11, pay9_eq, dmE, rmsBack, rinv]
theorem pay16_eq (dy : S528x1024.Idx → EReal) (m : S512x1024.Idx → EReal) (mn : S16x1024.Idx → EReal) (g : S1x1024.Idx → EReal)
    (wo : S1024x1024.Idx → EReal) :
    k0_pay16 (F := Ideal) dy g (k0_pay11 m mn) (k0_pay12 m mn) wo = mixE (dmE dy (ext m mn) g) wo := by
  rw [← pay14_eq]
  funext y
  pointwise [k0_pay16, mixE]

/-- The count as the kernel computes it. -/
theorem kernel_cnt (w c r : ℕ) (hw : w < 8192) (hc : c < 16) (hr : r < 528) :
    Scalar.sitofp (F := Ideal) .f32 (IntOp.minsi (BitVec.ofNat 32 w) (IntOp.maxsi 1#32
      (IntOp.addi (IntOp.addi (Scalar.muli (BitVec.ofNat 32 c) 512#32) (BitVec.ofNat 32 r)) 1#32))) = cnt w (c * 512 + r) := by
  have h := Affine.minsi (Affine.ofNat w ⟨rfl, by omega⟩) (Affine.maxsi (Affine.ofNat 1 ⟨rfl, by omega⟩)
    (Affine.addi (Affine.addi (Affine.muli (Affine.ofNat c ⟨rfl, by omega⟩) (Affine.ofNat 512 ⟨rfl, by omega⟩) ⟨rfl, by omega, by omega⟩)
      (Affine.ofNat r ⟨rfl, by omega⟩) ⟨rfl, by omega, by omega⟩) (Affine.ofNat 1 ⟨rfl, by omega⟩) ⟨rfl, by omega, by omega⟩) rfl)
    (e := min (w : ℤ) ((c * 512 + r : ℕ) + 1)) (by omega)
  unfold Affine.IsInt at h
  exact congrArg (fun z : ℤ => ((z : ℝ) : EReal)) h

/-- The sum of the `n` entries from `y` down. -/
def win (a : S528x256.Idx → EReal) (n : ℕ) (y : S528x256.Idx) : EReal :=
  ∑ k ∈ Finset.range n, zext (fun r => a (ix2 r (y 1))) ((y 0).val + k)

/-- A block added to itself rotated. -/
def dbl (N : BitVec 32) (b : S528x256.Idx → EReal) : S528x256.Idx → EReal := fun y => b y + dynamicRotate 0 N none b rotates_S528x256_d0 y

/-- A window of `n` rows and the same window `n` rows later make one of `2 n` rows. -/
theorem win_add {a b : S528x256.Idx → EReal} (n : ℕ) (N : BitVec 32) (hN : N.toNat = 528 - n) (h0 : 0 < n) (hn : n < 528)
    (hb : ∀ y : S528x256.Idx, (y 0).val + n ≤ 528 → b y = win a n y) (y : S528x256.Idx) (hy : (y 0).val + (n + n) ≤ 528) :
    dbl N b y = win a (n + n) y := by
  have e : dynamicRotate 0 N none b rotates_S528x256_d0 y = b (ix2 ⟨(y 0).val + n, by omega⟩ (y 1)) := by
    pointwise []
    blk_point []
  unfold dbl
  rw [e, hb y (by omega), hb _ (by show (y 0).val + n + n ≤ 528; omega)]
  unfold win
  rw [Finset.sum_range_add]
  exact congrArg _ (Finset.sum_congr rfl fun k _ => congrArg _ (Nat.add_assoc _ _ _))

theorem win_one (a : S528x256.Idx → EReal) (y : S528x256.Idx) : win a 1 y = a y := by
  unfold win
  rw [Finset.sum_range_one]
  exact (zext_of_lt _ (y 0)).trans (congrArg a (eq_ix2 y).symm)

theorem dbl_one (a) : ∀ y : S528x256.Idx, (y 0).val + (1 + 1) ≤ 528 → dbl 527#32 a y = win a 2 y :=
  win_add 1 527#32 rfl (by decide) (by decide) fun y _ => (win_one a y).symm
theorem dbl_two (a) : ∀ y : S528x256.Idx, (y 0).val + (2 + 2) ≤ 528 → dbl 526#32 (dbl 527#32 a) y = win a 4 y :=
  win_add 2 526#32 rfl (by decide) (by decide) (dbl_one a)
theorem dbl_four (a) : ∀ y : S528x256.Idx, (y 0).val + (4 + 4) ≤ 528 → dbl 524#32 (dbl 526#32 (dbl 527#32 a)) y = win a 8 y :=
  win_add 4 524#32 rfl (by decide) (by decide) (dbl_two a)
theorem dbl_eight (a) : ∀ y : S528x256.Idx, (y 0).val + (8 + 8) ≤ 528 → dbl 520#32 (dbl 524#32 (dbl 526#32 (dbl 527#32 a))) y = win a 16 y :=
  win_add 8 520#32 rfl (by decide) (by decide) (dbl_four a)

/-- A row of the block among the block's rows and the rows after it. -/
def up (z : S512x256.Idx) : S528x256.Idx := ix2 ⟨(z 0).val, Nat.lt_of_lt_of_le (z 0).isLt (by decide)⟩ (z 1)
theorem up_le (z : S512x256.Idx) (n : ℕ) (h : n ≤ 17) : (up z 0).val + n ≤ 528 := by
  have h0 : (z 0).val < 512 := (z 0).isLt
  show (z 0).val + n ≤ 528
  omega
/-- A group's cotangent divided by its counts. -/
def acc (P : S528x256.Idx → EReal) (w : ℕ) (i : grid0.Coords) (y : S528x256.Idx) : EReal := Ideal.div (P y) (cnt w ((i 0).val * 512 + (y 0).val))
/-- A group's cotangent towards what was pooled: the window sum of the divided rows, less the row itself. -/
def dpP (P : S528x256.Idx → EReal) (w : ℕ) (i : grid0.Coords) (z : S512x256.Idx) : EReal := win (acc P w i) w (up z) - P (up z)

/-- The division by the counts. -/
theorem acc_eq (P : S528x256.Idx → EReal) (w : ℕ) (hw : w < 8192) (i : grid0.Coords) (h) :
    divf (F := Ideal) (φ := .f32) P (broadcastTo S528x256 (sitofp (F := Ideal) .f32 (minsi (broadcast S528x1 (BitVec.ofNat 32 w))
      (maxsi (broadcast S528x1 1#32) (addi (addi (broadcast S528x1 (Scalar.muli (BitVec.ofNat 32 (i 0).val) 512#32))
        (iota .tc S528x1 32 [0] iota_S528x1_d0_w32)) (broadcast S528x1 1#32))))) h) = acc P w i := by
  funext y
  pointwise [acc]
  exact congrArg _ (kernel_cnt w _ _ hw (i 0).isLt (y 0).isLt)

/-- A group's cotangent. -/
def pE (W : S528x1024.Idx → EReal) (sc : S1x1024.Idx → EReal) (wg : S1x256x256.Idx → EReal) (g : Fin 4) (y : S528x256.Idx) : EReal :=
  ∑ k : Fin 256, (W (ix2 (y 0) (gcol g k)) * sc (ix2 0 (gcol g k))) * wg (ix3 0 (y 1) k)
/-- A group's product, as the kernel writes it. -/
def prod (D : S528x256.Idx → EReal) (wg : S1x256x256.Idx → EReal) : S528x256.Idx → EReal :=
  matmul (F := Ideal) (φ₁ := .bf16) (φ₂ := .bf16) dot_S528x256_S256x256_S528x256_1_1_0_0_n_n none D (shapeCast S256x256 wg shapeCasts_S1x256x256_S256x256) (constant (F := Ideal) S528x256 .f32 0x00000000#32)
/-- The first group's piece. -/
theorem pay_dp0 (W : S528x1024.Idx → EReal) (sc : S1x1024.Idx → EReal) (wg : S1x256x256.Idx → EReal) (i : grid0.Coords) (z) :
    k0_pay22 (F := Ideal) (BitVec.ofNat 32 (i 0).val) W sc wg z = dpP (pE W sc wg 0) 2 i z := by
  rw [show pE W sc wg 0 = prod (k0_pay20 (F := Ideal) W sc) wg from ?h]
  case h =>
    funext y
    pointwise [pE, k0_pay20, gcol, prod, Fin.val_zero, Nat.zero_mul, Nat.zero_add]
  simp only [k0_pay22, prod]
  generalize matmul (F := Ideal) (φ₁ := .bf16) (φ₂ := .bf16) dot_S528x256_S256x256_S528x256_1_1_0_0_n_n none _ _ _ = P
  unfold dpP
  rw [← dbl_one _ _ (up_le z _ (by decide)), ← acc_eq P 2 (by decide) i broadcasts_S528x1_S528x256]
  generalize divf (F := Ideal) (φ := .f32) P _ = A
  change shapeCast S512x256 (extractStridedSlice S512x256 ![0, 0] (subf (F := Ideal) (φ := .f32) (dbl 527#32 A) P) _) _ z = _
  generalize dbl 527#32 _ = D
  pointwise [up]
/-- The second group's piece. -/
theorem pay_dp1 (W : S528x1024.Idx → EReal) (sc : S1x1024.Idx → EReal) (wg : S1x256x256.Idx → EReal) (i : grid0.Coords) (z) :
    k0_pay28 (F := Ideal) (BitVec.ofNat 32 (i 0).val) W sc wg z = dpP (pE W sc wg 1) 4 i z := by
  rw [show pE W sc wg 1 = prod (k0_pay26 (F := Ideal) W sc) wg from ?h]
  case h =>
    funext y
    pointwise [pE, k0_pay26, gcol, prod]
  simp only [k0_pay28, prod]
  generalize matmul (F := Ideal) (φ₁ := .bf16) (φ₂ := .bf16) dot_S528x256_S256x256_S528x256_1_1_0_0_n_n none _ _ _ = P
  unfold dpP
  rw [← dbl_two _ _ (up_le z _ (by decide)), ← acc_eq P 4 (by decide) i broadcasts_S528x1_S528x256]
  generalize divf (F := Ideal) (φ := .f32) P _ = A
  change shapeCast S512x256 (extractStridedSlice S512x256 ![0, 0] (subf (F := Ideal) (φ := .f32) (dbl 526#32 (dbl 527#32 A)) P) _) _ z = _
  generalize dbl 526#32 _ = D
  pointwise [up]
/-- The third group's piece. -/
theorem pay_dp2 (W : S528x1024.Idx → EReal) (sc : S1x1024.Idx → EReal) (wg : S1x256x256.Idx → EReal) (i : grid0.Coords) (z) :
    k0_pay35 (F := Ideal) (k0_pay33 W sc wg) (k0_pay34 (BitVec.ofNat 32 (i 0).val) W sc wg) 526#32 z = dpP (pE W sc wg 2) 8 i z := by
  rw [show pE W sc wg 2 = prod (k0_pay31 (F := Ideal) W sc) wg from ?h]
  case h =>
    funext y
    pointwise [pE, k0_pay31, gcol, prod]
  simp only [k0_pay35, k0_pay34, k0_pay33, prod]
  generalize matmul (F := Ideal) (φ₁ := .bf16) (φ₂ := .bf16) dot_S528x256_S256x256_S528x256_1_1_0_0_n_n none _ _ _ = P
  unfold dpP
  rw [← dbl_four _ _ (up_le z _ (by decide)), ← acc_eq P 8 (by decide) i broadcasts_S528x1_S528x256]
  generalize divf (F := Ideal) (φ := .f32) P _ = A
  change shapeCast S512x256 (extractStridedSlice S512x256 ![0, 0] (subf (F := Ideal) (φ := .f32) (dbl 524#32 (dbl 526#32 (dbl 527#32 A))) P) _) _ z = _
  generalize dbl 524#32 _ = D
  pointwise [up]
/-- The last group's piece. -/
theorem pay_dp3 (W : S528x1024.Idx → EReal) (sc : S1x1024.Idx → EReal) (wg : S1x256x256.Idx → EReal) (i : grid0.Coords) (z) :
    k0_pay42 (F := Ideal) (k0_pay39 W sc wg) (k0_pay40 (BitVec.ofNat 32 (i 0).val)) k0_pay41 z = dpP (pE W sc wg 3) 16 i z := by
  rw [show pE W sc wg 3 = prod (k0_pay37 (F := Ideal) W sc) wg from ?h]
  case h =>
    funext y
    pointwise [pE, k0_pay37, gcol, prod]
  simp only [k0_pay42, k0_pay39, k0_pay40, k0_pay41, prod]
  generalize matmul (F := Ideal) (φ₁ := .bf16) (φ₂ := .bf16) dot_S528x256_S256x256_S528x256_1_1_0_0_n_n none _ _ _ = P
  unfold dpP
  rw [← dbl_eight _ _ (up_le z _ (by decide)), ← acc_eq P 16 (by decide) i broadcasts_S528x1_S528x256]
  generalize divf (F := Ideal) (φ := .f32) P _ = A
  change shapeCast S512x256 (extractStridedSlice S512x256 ![0, 0] (subf (F := Ideal) (φ := .f32) (dbl 520#32 (dbl 524#32 (dbl 526#32 (dbl 527#32 A)))) P) _) _ z = _
  generalize dbl 520#32 _ = D
  pointwise [up]
/-- A group's part of the scale's gradient. -/
def dsP (W P : S528x1024.Idx → EReal) (wg : S1x256x256.Idx → EReal) (g : Fin 4) (j : Fin 256) : EReal :=
  ∑ r : Fin 512, W (ix2 ⟨r.val, by omega⟩ (gcol g j)) * ∑ k : Fin 256, P (ix2 ⟨r.val, by omega⟩ (gcol g k)) * wg (ix3 0 k j)
/-- The first group's piece. -/
theorem pay_ds0 (dy : S528x1024.Idx → EReal) (m : S512x1024.Idx → EReal) (mn : S16x1024.Idx → EReal) (g : S1x1024.Idx → EReal)
    (wo : S1024x1024.Idx → EReal) (p : S512x1024.Idx → EReal) (pn : S16x1024.Idx → EReal) (wg : S1x256x256.Idx → EReal) (o : S1x256.Idx → EReal) (z) :
    k0_pay19 (F := Ideal) dy g (k0_pay11 m mn) (k0_pay12 m mn) wo p pn wg o z = o z + dsP (mixE (dmE dy (ext m mn) g) wo) (ext p pn) wg 0 (z 1) := by
  simp only [k0_pay19, pay16_eq, pay17_eq]
  pointwise [dsP, gcol, Fin.val_zero, Nat.zero_mul, Nat.zero_add]
/-- The second group's piece. -/
theorem pay_ds1 (W P : S528x1024.Idx → EReal) (wg : S1x256x256.Idx → EReal) (o : S1x256.Idx → EReal) (z) :
    k0_pay25 (F := Ideal) W (k0_pay23 P wg) (k0_pay24 o) z = o z + dsP W P wg 1 (z 1) := by
  pointwise [k0_pay25, k0_pay23, k0_pay24, k0_pay30, k0_pay29, k0_pay36, dsP, gcol]
/-- The third group's piece. -/
theorem pay_ds2 (W P : S528x1024.Idx → EReal) (wg : S1x256x256.Idx → EReal) (o : S1x256.Idx → EReal) (z) :
    k0_pay30 (F := Ideal) W (k0_pay29 P) wg o z = o z + dsP W P wg 2 (z 1) := by
  pointwise [k0_pay25, k0_pay23, k0_pay24, k0_pay30, k0_pay29, k0_pay36, dsP, gcol]
/-- The last group's piece. -/
theorem pay_ds3 (W P : S528x1024.Idx → EReal) (wg : S1x256x256.Idx → EReal) (o : S1x256.Idx → EReal) (z) :
    k0_pay36 (F := Ideal) W P wg o z = o z + dsP W P wg 3 (z 1) := by
  pointwise [k0_pay25, k0_pay23, k0_pay24, k0_pay30, k0_pay29, k0_pay36, dsP, gcol]

end Cert.BBwdIdeal.Blocks

end
-- ==== Proof.BKernel.lean ====
/-
  What one grid point of mixer B's gradient's kernel leaves in each output block, as row functions of its input blocks.
-/
module

public import proofs.«01_k».proof.Proof.BBlock
public import proofs.«01_k».proof.Proof.PKernel

@[expose] public section

set_option maxRecDepth 16384

noncomputable section

namespace Cert.BBwdIdeal.Blocks

open Cert.BBwdIdeal Cert.BBwdIdeal.Gen Idealize.ShloMosaic Idealize.ShloMosaic.TcCoe Idealize.SL.Sem Cert.Spec
open Cert.BGradIdeal.Blocks (canon_append_left)

/-- A column's group. -/
def grp (q : Fin 1024) : Fin 4 := ⟨q.val / 256, by omega⟩
/-- A column's place in its group. -/
def sub (q : Fin 1024) : Fin 256 := ⟨q.val % 256, Nat.mod_lt _ (by decide)⟩
/-- A group's weight. -/
def gsl (wg : S4x256x256.Idx → EReal) (g : Fin 4) (z : S1x256x256.Idx) : EReal := wg (ix3 g (z 1) (z 2))
/-- A block's row among the rows of the extended block. -/
def lift (r : Fin 512) : Fin 528 := ⟨r.val, by omega⟩
/-- The block of the output projection's cotangent. -/
def dmBlk (D : S528x1024.Idx → EReal) (y : S512x1024.Idx) : EReal := D (ix2 (lift (y 0)) (y 1))
/-- The block of the grouped product's cotangent. -/
def drawBlk (W : S528x1024.Idx → EReal) (sc : S1x1024.Idx → EReal) (y : S512x1024.Idx) : EReal := W (ix2 (lift (y 0)) (y 1)) * sc (ix2 0 (y 1))
/-- The block of the cotangent of what is pooled. -/
def dpBlk (W : S528x1024.Idx → EReal) (sc : S1x1024.Idx → EReal) (wg : S4x256x256.Idx → EReal) (i : grid0.Coords) (y : S512x1024.Idx) : EReal :=
  dpP (pE W sc (gsl wg (grp (y 1))) (grp (y 1))) (2 ^ ((grp (y 1)).val + 1)) i (ix2 (y 0) (sub (y 1)))
/-- The block of the cotangent of the pre-norm's output. -/
def dhBlk (P : S512x1024.Idx → EReal) (wi : S1024x1024.Idx → EReal) (y : S512x1024.Idx) : EReal := ∑ k, P (ix2 (y 0) k) * wi (ix2 (y 1) k)
/-- The block of `dx`. -/
def dxBlk (dy x : S512x1024.Idx → EReal) (g : S1x1024.Idx → EReal) (H : S512x1024.Idx → EReal) (y : S512x1024.Idx) : EReal :=
  dy y + rmsBack cD (fun k => x (ix2 (y 0) k)) (fun k => g (ix2 0 k)) (fun k => H (ix2 (y 0) k)) (y 1)
/-- One block's sum of a norm's gain terms. -/
def gainBlk (x dy : S512x1024.Idx → EReal) (y : S1x1024.Idx) : EReal :=
  ∑ r : Fin 512, rmsGain cD (fun k => x (ix2 r k)) (fun k => dy (ix2 r k)) (y 1)
/-- One block's sum of the scale's terms. -/
def dsBlk (W P : S528x1024.Idx → EReal) (wg : S4x256x256.Idx → EReal) (y : S1x1024.Idx) : EReal :=
  dsP W P (gsl wg (grp (y 1))) (grp (y 1)) (sub (y 1))

theorem grp_of {q : Fin 1024} {g : Fin 4} {j : ℕ} (hj : j < 256) (h : q.val = g.val * 256 + j) : grp q = g := Fin.ext (by show q.val / 256 = g.val; omega)
theorem sub_of {q : Fin 1024} {g : Fin 4} {j : Fin 256} (h : q.val = g.val * 256 + j.val) : sub q = j := Fin.ext (by show q.val % 256 = j.val; omega)

/-- A group's piece of the cotangent of what is pooled. -/
theorem dp_piece (W : S528x1024.Idx → EReal) (sc : S1x1024.Idx → EReal) (wg : S4x256x256.Idx → EReal) (i : grid0.Coords) (wl : S1x256x256.Idx → EReal)
    (g : Fin 4) (w : ℕ) (hw : w = 2 ^ (g.val + 1)) (hl : ∀ p q, wl (ix3 0 p q) = wg (ix3 g p q)) (z : S512x256.Idx) (y : S512x1024.Idx)
    (h0 : (y 0).val = (z 0).val) (h1 : (y 1).val = g.val * 256 + (z 1).val) : dpP (pE W sc wl g) w i z = dpBlk W sc wg i y := by
  unfold dpBlk
  rw [grp_of (z 1).isLt h1, sub_of h1, show y 0 = z 0 from Fin.ext h0, ← hw]
  have e : pE W sc wl g = pE W sc (gsl wg g) g := funext fun x => Finset.sum_congr rfl fun k _ => congrArg _ (hl _ _)
  rw [e]
  exact congrArg _ (eq_ix2 z)
/-- A group's piece of the scale's gradient. -/
theorem ds_piece (W P : S528x1024.Idx → EReal) (wg : S4x256x256.Idx → EReal) (wl : S1x256x256.Idx → EReal)
    (g : Fin 4) (hl : ∀ p q, wl (ix3 0 p q) = wg (ix3 g p q)) (z : S1x256.Idx) (y : S1x1024.Idx)
    (h1 : (y 1).val = g.val * 256 + (z 1).val) : dsP W P wl g (z 1) = dsBlk W P wg y := by
  unfold dsBlk
  rw [grp_of (z 1).isLt h1, sub_of h1]
  exact Finset.sum_congr rfl fun r _ => congrArg _ (Finset.sum_congr rfl fun k _ => congrArg _ (hl _ _))

/-- The cotangent of the rows after the block, nothing at the last point. -/
def tail (b : S16x1024.Idx → EReal) (i : grid0.Coords) (z : S16x1024.Idx) : EReal := b z * keep i
/-- The output projection's cotangent at a point's extended block. -/
def DB (i : grid0.Coords) (b0 : S512x1024.Idx → EReal) (b1 : S16x1024.Idx → EReal) (b2 : S512x1024.Idx → EReal) (b3 : S16x1024.Idx → EReal)
    (b12 : S1x1024.Idx → EReal) : S528x1024.Idx → EReal := dmE (ext b0 (tail b1 i)) (ext b2 b3) b12
/-- Its product with the output projection's transpose. -/
def WB (i : grid0.Coords) (b0 : S512x1024.Idx → EReal) (b1 : S16x1024.Idx → EReal) (b2 : S512x1024.Idx → EReal) (b3 : S16x1024.Idx → EReal)
    (b11 : S1024x1024.Idx → EReal) (b12 : S1x1024.Idx → EReal) : S528x1024.Idx → EReal := mixE (DB i b0 b1 b2 b3 b12) b11

theorem pay10_eq (v : S1x1024.Idx → EReal) : k0_pay10 (F := Ideal) v = v := by
  funext y
  pointwise [k0_pay10]
theorem pay18_eq (v : S1x1024.Idx → EReal) : k0_pay18 (F := Ideal) v = v := by
  funext y
  pointwise [k0_pay18]
theorem pay14_D (i : grid0.Coords) (b0 : S512x1024.Idx → EReal) (b1 : S16x1024.Idx → EReal) (b2 : S512x1024.Idx → EReal) (b3 : S16x1024.Idx → EReal)
    (b12 : S1x1024.Idx → EReal) :
    k0_pay14 (F := Ideal) (k0_pay8 i b0 b1) (k0_pay10 b12) (k0_pay11 b2 b3) (k0_pay12 b2 b3) = DB i b0 b1 b2 b3 b12 := by
  rw [pay10_eq, pay8_eq]
  exact pay14_eq _ _ _ _
theorem pay16_W (i : grid0.Coords) (b0 : S512x1024.Idx → EReal) (b1 : S16x1024.Idx → EReal) (b2 : S512x1024.Idx → EReal) (b3 : S16x1024.Idx → EReal)
    (b11 : S1024x1024.Idx → EReal) (b12 : S1x1024.Idx → EReal) :
    k0_pay16 (F := Ideal) (k0_pay8 i b0 b1) (k0_pay10 b12) (k0_pay11 b2 b3) (k0_pay12 b2 b3) b11 = WB i b0 b1 b2 b3 b11 b12 := by
  rw [pay10_eq, pay8_eq]
  exact pay16_eq _ _ _ _ _
theorem pay19_W (i : grid0.Coords) (b0 : S512x1024.Idx → EReal) (b1 : S16x1024.Idx → EReal) (b2 : S512x1024.Idx → EReal) (b3 : S16x1024.Idx → EReal)
    (b11 : S1024x1024.Idx → EReal) (b12 : S1x1024.Idx → EReal) (p : S512x1024.Idx → EReal) (pn : S16x1024.Idx → EReal) (wg : S1x256x256.Idx → EReal)
    (o : S1x256.Idx → EReal) (z) :
    k0_pay19 (F := Ideal) (k0_pay8 i b0 b1) (k0_pay10 b12) (k0_pay11 b2 b3) (k0_pay12 b2 b3) b11 p pn wg o z =
      o z + dsP (WB i b0 b1 b2 b3 b11 b12) (ext p pn) wg 0 (z 1) := by
  rw [pay10_eq, pay8_eq]
  exact pay_ds0 _ _ _ _ _ _ _ _ _ _

/-- A group's piece of the grouped product's cotangent. -/
theorem draw_piece (W : S528x1024.Idx → EReal) (sc : S1x1024.Idx → EReal) (g : Fin 4) (z : S512x256.Idx) (y : S512x1024.Idx)
    (h0 : (y 0).val = (z 0).val) (h1 : (y 1).val = g.val * 256 + (z 1).val) :
    W (ix2 (lift (z 0)) (gcol g (z 1))) * sc (ix2 0 (gcol g (z 1))) = drawBlk W sc y := by
  rw [show gcol g (z 1) = y 1 from Fin.ext h1.symm, show z 0 = y 0 from Fin.ext h0.symm]
  rfl
theorem pay_draw0 (W : S528x1024.Idx → EReal) (sc : S1x1024.Idx → EReal) (z) :
    k0_pay21 (F := Ideal) W sc z = W (ix2 (lift (z 0)) (gcol 0 (z 1))) * sc (ix2 0 (gcol 0 (z 1))) := by
  pointwise [k0_pay21, k0_pay20, lift, gcol, Fin.val_zero, Nat.zero_mul, Nat.zero_add]
theorem pay_draw1 (W : S528x1024.Idx → EReal) (sc : S1x1024.Idx → EReal) (z) :
    k0_pay27 (F := Ideal) W sc z = W (ix2 (lift (z 0)) (gcol 1 (z 1))) * sc (ix2 0 (gcol 1 (z 1))) := by
  pointwise [k0_pay27, k0_pay26, lift, gcol]
theorem pay_draw2 (W : S528x1024.Idx → EReal) (sc : S1x1024.Idx → EReal) (z) :
    k0_pay32 (F := Ideal) W sc z = W (ix2 (lift (z 0)) (gcol 2 (z 1))) * sc (ix2 0 (gcol 2 (z 1))) := by
  pointwise [k0_pay32, k0_pay31, lift, gcol]
theorem pay_draw3 (W : S528x1024.Idx → EReal) (sc : S1x1024.Idx → EReal) (z) :
    k0_pay38 (F := Ideal) W sc z = W (ix2 (lift (z 0)) (gcol 3 (z 1))) * sc (ix2 0 (gcol 3 (z 1))) := by
  pointwise [k0_pay38, k0_pay37, lift, gcol]

/-- A block's rows come first in the extended block. -/
theorem ext_lift (a : S512x1024.Idx → EReal) (b : S16x1024.Idx → EReal) (r : Fin 512) (h : r.val < 528) (k : Fin 1024) : ext a b (ix2 ⟨r.val, h⟩ k) = a (ix2 r k) :=
  dif_pos (show r.val < 512 from r.isLt)
/-- The post-norm's gain's sum. -/
theorem pay13_eq (i : grid0.Coords) (b0 : S512x1024.Idx → EReal) (b1 : S16x1024.Idx → EReal) (b2 : S512x1024.Idx → EReal) (b3 : S16x1024.Idx → EReal)
    (o : S1x1024.Idx → EReal) (y) : k0_pay13 (F := Ideal) i b0 b1 b2 b3 o y = o y + gainBlk b2 b0 y := by
  pointwise [k0_pay13, k0_pay12, k0_pay11, pay9_eq, pay8_eq, gainBlk, rmsGain, rinv]
  simp only [ext_lift]
  exact congrArg (o y + ·) (Finset.sum_congr rfl fun r _ => congrArg₂ (· * ·) (ext_lift _ _ r _ _) (congrArg (· * _) (ext_lift _ _ r _ _)))
/-- The pre-norm's gain's sum. -/
theorem pay3_eq (H x : S512x1024.Idx → EReal) (o : S1x1024.Idx → EReal) (y) :
    k0_pay3 (F := Ideal) H x (k0_pay46 x) k0_pay47 o y = o y + gainBlk x H y := by
  pointwise [k0_pay3, k0_pay2, k0_pay1, k0_pay46, k0_pay47, gainBlk, rmsGain, rinv]

variable (m : (ℓ : Loc nD τ sig) → Buf (Elt Ideal) ℓ) (c : Dev nD) (t : Fin cfg0.N)

/-- The output projection's cotangent at a point's extended block. -/
def DE : S528x1024.Idx → EReal := DB (grid0.coords t) (iblk m c 0 t) (iblk m c 1 t) (iblk m c 2 t) (iblk m c 3 t) (iblk m c 12 t)
/-- Its product with the output projection's transpose. -/
def WE : S528x1024.Idx → EReal :=
  WB (grid0.coords t) (iblk m c 0 t) (iblk m c 1 t) (iblk m c 2 t) (iblk m c 3 t) (iblk m c 11 t) (iblk m c 12 t)
/-- The cotangent of what is pooled, at a point's block. -/
def PE : S512x1024.Idx → EReal := dpBlk (WE m c t) (iblk m c 10 t) (iblk m c 9 t) (grid0.coords t)

/-- What a point leaves of the output projection's cotangent. -/
theorem dm_at (y) : (outsAt0 m c t.val t.isLt).2.1 y = dmBlk (DE m c t) y := by
  unfold DE
  rcases em (t.val % 16 = 0) with h | h <;> [rw [outsAt0_A m c t h]; rw [outsAt0_B m c t h]]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    generalize iblk m c 8 t = b8
    generalize iblk m c 9 t = b9
    generalize iblk m c 10 t = b10
    generalize iblk m c 11 t = b11
    generalize iblk m c 12 t = b12
    frame_open
    simp (disch := decide) only [↓ View.readCov_skip, ↓ View.readCov_cons_toLoadRect, ↓ View.readCov_fill]
    frame_out
    unfold k0_pay15
    rw [pay14_D]
    generalize DB _ _ _ _ _ _ = D
    pointwise [dmBlk, lift]

/-- What a point leaves of the grouped product's cotangent. -/
theorem draw_at (y) : (outsAt0 m c t.val t.isLt).2.2.1 y = drawBlk (WE m c t) (iblk m c 10 t) y := by
  unfold WE
  rcases em (t.val % 16 = 0) with h | h <;> [rw [outsAt0_A m c t h]; rw [outsAt0_B m c t h]]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    generalize iblk m c 8 t = b8
    generalize iblk m c 9 t = b9
    generalize iblk m c 10 t = b10
    generalize iblk m c 11 t = b11
    generalize iblk m c 12 t = b12
    frame_open
    simp (disch := decide) only [↓ View.readCov_skip, ↓ View.readCov_cons_toLoadRect, ↓ View.readCov_fill]
    frame_out
    rw [pay16_W, pay18_eq]
    generalize WB _ _ _ _ _ _ _ = W
    canon_tiles x h
    · exact (pay_draw3 _ _ _).trans (draw_piece _ _ 3 _ _ h0 h1)
    · exact (pay_draw2 _ _ _).trans (draw_piece _ _ 2 _ _ h0 h1)
    · exact (pay_draw1 _ _ _).trans (draw_piece _ _ 1 _ _ h0 h1)
    · exact (pay_draw0 _ _ _).trans (draw_piece _ _ 0 _ _ h0 (h1.trans (Nat.zero_add _).symm))

/-- What a point leaves of the cotangent of what is pooled. -/
theorem dp_at (y) : (outsAt0 m c t.val t.isLt).2.2.2.1 y = PE m c t y := by
  unfold PE WE
  rcases em (t.val % 16 = 0) with h | h <;> [rw [outsAt0_A m c t h]; rw [outsAt0_B m c t h]]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    generalize iblk m c 8 t = b8
    generalize iblk m c 9 t = b9
    generalize iblk m c 10 t = b10
    generalize iblk m c 11 t = b11
    generalize iblk m c 12 t = b12
    frame_open
    simp (disch := decide) only [↓ View.readCov_skip, ↓ View.readCov_cons_toLoadRect, ↓ View.readCov_fill]
    frame_out
    rw [pay16_W, pay18_eq]
    generalize WB _ _ _ _ _ _ _ = W
    rw [View.readCov_eq_canon', show View.canon (s := S512x1024) (e := .f32) _ = dpBlk W b10 b9 (grid0.coords t) from ?h]
    case h =>
      funext y
      canon_tiles x h
      · exact (pay_dp3 _ _ _ _ _).trans (dp_piece _ _ b9 _ _ 3 _ rfl (fun p q => by pointwise []) _ _ h0 h1)
      · exact (pay_dp2 _ _ _ _ _).trans (dp_piece _ _ b9 _ _ 2 _ rfl (fun p q => by pointwise []) _ _ h0 h1)
      · exact (pay_dp1 _ _ _ _ _).trans (dp_piece _ _ b9 _ _ 1 _ rfl (fun p q => by pointwise []) _ _ h0 h1)
      · exact (pay_dp0 _ _ _ _ _).trans (dp_piece _ _ b9 _ _ 0 _ rfl (fun p q => by pointwise []) _ _ h0 (h1.trans (Nat.zero_add _).symm))
    pointwise [k0_pay43, id]

/-- What a point leaves of `dx`. -/
theorem dx_at (y) : (outsAt0 m c t.val t.isLt).1 y = dxBlk (iblk m c 0 t) (iblk m c 4 t) (iblk m c 7 t) (dhBlk (PE m c t) (iblk m c 8 t)) y := by
  unfold PE WE
  rcases em (t.val % 16 = 0) with h | h <;> [rw [outsAt0_A m c t h]; rw [outsAt0_B m c t h]]
  all_goals
    generalize iblk m c 0 t = b0
    generalize iblk m c 1 t = b1
    generalize iblk m c 2 t = b2
    generalize iblk m c 3 t = b3
    generalize iblk m c 4 t = b4
    generalize iblk m c 5 t = b5
    generalize iblk m c 6 t = b6
    generalize iblk m c 7 t = b7
    generalize iblk m c 8 t = b8
    generalize iblk m c 9 t = b9
    generalize iblk m c 10 t = b10
    generalize iblk m c 11 t = b11
    generalize iblk m c 12 t = b12
    frame_open
    simp (disch := decide) only [↓ View.readCov_skip, ↓ View.readCov_cons_toLoadRect, ↓ View.readCov_fill]
    frame_out
    rw [pay16_W, pay18_eq]
    generalize WB _ _ _ _ _ _ _ = W
    rw [View.readCov_eq_canon', show View.canon (s := S512x1024) (e := .f32) _ = dpBlk W b10 b9 (grid0.coords t) from ?h]
    case h =>
      funext y
      canon_tiles x h
      · exact (pay_dp3 _ _ _ _ _).trans (dp_piece _ _ b9 _ _ 3 _ rfl (fun p q => by pointwise []) _ _ h0 h1)
      · exact (pay_dp2 _ _ _ _ _).trans (dp_piece _ _ b9 _ _ 2 _ rfl (fun p q => by pointwise []) _ _ h0 h1)
      · exact (pay_dp1 _ _ _ _ _).trans (dp_piece _ _ b9 _ _ 1 _ rfl (fun p q => by pointwise []) _ _ h0 h1)
      · exact (pay_dp0 _ _ _ _ _).trans (dp_piece _ _ b9 _ _ 0 _ rfl (fun p q => by pointwise []) _ _ h0 (h1.trans (Nat.zero_add _).symm))
    generalize dpBlk _ _ _ _ = P
    rw [show k0_pay44 (F := Ideal) _ b8 = dhBlk P b8 from ?h]
    case h =>
      funext y
      pointwise [k0_pay44, k0_pay43, dhBlk]
    generalize dhBlk P b8 = H
    open_payloads
    pointwise [dxBlk, rmsBack, rinv]

/-- The first point starts the post-norm's gain gradient. -/
theorem post_first (h : t.val % 16 = 0) (y) : (outsAt0 m c t.val t.isLt).2.2.2.2.1 y = 0 + gainBlk (iblk m c 2 t) (iblk m c 0 t) y := by
  rw [outsAt0_A m c t h]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize iblk m c 12 t = b12
  frame_open
  simp (disch := decide) only [↓ View.readCov_skip, ↓ View.readCov_cons_toLoadRect, ↓ View.readCov_fill]
  frame_out
  refine (pay13_eq _ _ _ _ _ _ _).trans ?_
  pointwise [k0_pay5]

/-- Any other point adds to the post-norm's gain gradient. -/
theorem post_next (h : ¬t.val % 16 = 0) (y) : (outsAt0 m c t.val t.isLt).2.2.2.2.1 y =
    (outsAt0 m c (t.val - 1) (Nat.lt_of_le_of_lt (Nat.sub_le _ _) t.isLt)).2.2.2.2.1 y + gainBlk (iblk m c 2 t) (iblk m c 0 t) y := by
  rw [outsAt0_B m c t h]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize iblk m c 12 t = b12
  frame_open
  simp (disch := decide) only [↓ View.readCov_skip, ↓ View.readCov_cons_toLoadRect, ↓ View.readCov_fill]
  frame_out
  refine (pay13_eq _ _ _ _ _ _ _).trans ?_
  pointwise [k0_pay5]

/-- The first point starts the pre-norm's gain gradient. -/
theorem pre_first (h : t.val % 16 = 0) (y) : (outsAt0 m c t.val t.isLt).2.2.2.2.2.1 y = 0 + gainBlk (iblk m c 4 t) (dhBlk (PE m c t) (iblk m c 8 t)) y := by
  unfold PE WE
  rw [outsAt0_A m c t h]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize iblk m c 12 t = b12
  frame_open
  simp (disch := decide) only [↓ View.readCov_skip, ↓ View.readCov_cons_toLoadRect, ↓ View.readCov_fill]
  frame_out
  rw [pay16_W, pay18_eq]
  generalize WB _ _ _ _ _ _ _ = W
  rw [View.readCov_eq_canon', show View.canon (s := S512x1024) (e := .f32) _ = dpBlk W b10 b9 (grid0.coords t) from ?h]
  case h =>
    funext y
    canon_tiles x h
    · exact (pay_dp3 _ _ _ _ _).trans (dp_piece _ _ b9 _ _ 3 _ rfl (fun p q => by pointwise []) _ _ h0 h1)
    · exact (pay_dp2 _ _ _ _ _).trans (dp_piece _ _ b9 _ _ 2 _ rfl (fun p q => by pointwise []) _ _ h0 h1)
    · exact (pay_dp1 _ _ _ _ _).trans (dp_piece _ _ b9 _ _ 1 _ rfl (fun p q => by pointwise []) _ _ h0 h1)
    · exact (pay_dp0 _ _ _ _ _).trans (dp_piece _ _ b9 _ _ 0 _ rfl (fun p q => by pointwise []) _ _ h0 (h1.trans (Nat.zero_add _).symm))
  generalize dpBlk _ _ _ _ = P
  rw [show k0_pay44 (F := Ideal) _ b8 = dhBlk P b8 from ?h]
  case h =>
    funext y
    pointwise [k0_pay44, k0_pay43, dhBlk]
  generalize dhBlk P b8 = H
  refine (pay3_eq _ _ _ _).trans ?_
  pointwise [k0_pay6]

/-- Any other point adds to the pre-norm's gain gradient. -/
theorem pre_next (h : ¬t.val % 16 = 0) (y) : (outsAt0 m c t.val t.isLt).2.2.2.2.2.1 y =
    (outsAt0 m c (t.val - 1) (Nat.lt_of_le_of_lt (Nat.sub_le _ _) t.isLt)).2.2.2.2.2.1 y + gainBlk (iblk m c 4 t) (dhBlk (PE m c t) (iblk m c 8 t)) y := by
  unfold PE WE
  rw [outsAt0_B m c t h]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize iblk m c 12 t = b12
  frame_open
  simp (disch := decide) only [↓ View.readCov_skip, ↓ View.readCov_cons_toLoadRect, ↓ View.readCov_fill]
  frame_out
  rw [pay16_W, pay18_eq]
  generalize WB _ _ _ _ _ _ _ = W
  rw [View.readCov_eq_canon', show View.canon (s := S512x1024) (e := .f32) _ = dpBlk W b10 b9 (grid0.coords t) from ?h]
  case h =>
    funext y
    canon_tiles x h
    · exact (pay_dp3 _ _ _ _ _).trans (dp_piece _ _ b9 _ _ 3 _ rfl (fun p q => by pointwise []) _ _ h0 h1)
    · exact (pay_dp2 _ _ _ _ _).trans (dp_piece _ _ b9 _ _ 2 _ rfl (fun p q => by pointwise []) _ _ h0 h1)
    · exact (pay_dp1 _ _ _ _ _).trans (dp_piece _ _ b9 _ _ 1 _ rfl (fun p q => by pointwise []) _ _ h0 h1)
    · exact (pay_dp0 _ _ _ _ _).trans (dp_piece _ _ b9 _ _ 0 _ rfl (fun p q => by pointwise []) _ _ h0 (h1.trans (Nat.zero_add _).symm))
  generalize dpBlk _ _ _ _ = P
  rw [show k0_pay44 (F := Ideal) _ b8 = dhBlk P b8 from ?h]
  case h =>
    funext y
    pointwise [k0_pay44, k0_pay43, dhBlk]
  generalize dhBlk P b8 = H
  refine (pay3_eq _ _ _ _).trans ?_
  pointwise [k0_pay6]

/-- The first point starts the scale's gradient. -/
theorem scale_first (h : t.val % 16 = 0) (y) : (outsAt0 m c t.val t.isLt).2.2.2.2.2.2 y = 0 + dsBlk (WE m c t) (ext (iblk m c 5 t) (iblk m c 6 t)) (iblk m c 9 t) y := by
  unfold WE
  rw [outsAt0_A m c t h]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize iblk m c 12 t = b12
  frame_open
  simp (disch := decide) only [↓ View.readCov_skip, ↓ View.readCov_cons_toLoadRect, ↓ View.readCov_fill]
  frame_out
  refine (canon_append_left [_] [_, _, _, _] y (View.cover_of_tiled_head _ _ _ rfl y)).trans ?_
  rw [pay16_W, pay17_eq]
  canon_tiles x h
  · refine (pay_ds3 _ _ _ _ _).trans (congrArg₂ (· + ·) ?_ (ds_piece _ _ b9 _ 3 (fun p q => by pointwise []) _ _ h1))
    pointwise [k0_pay7]
  · refine (pay_ds2 _ _ _ _ _).trans (congrArg₂ (· + ·) ?_ (ds_piece _ _ b9 _ 2 (fun p q => by pointwise []) _ _ h1))
    pointwise [k0_pay7]
  · refine (pay_ds1 _ _ _ _ _).trans (congrArg₂ (· + ·) ?_ (ds_piece _ _ b9 _ 1 (fun p q => by pointwise []) _ _ h1))
    pointwise [k0_pay7]
  · refine (pay19_W _ _ _ _ _ _ _ _ _ _ _ _).trans (congrArg₂ (· + ·) ?_ (ds_piece _ _ b9 _ 0 (fun p q => by pointwise []) _ _ (h1.trans (Nat.zero_add _).symm)))
    pointwise [k0_pay7]

/-- Any other point adds to the scale's gradient. -/
theorem scale_next (h : ¬t.val % 16 = 0) (y) : (outsAt0 m c t.val t.isLt).2.2.2.2.2.2 y =
    (outsAt0 m c (t.val - 1) (Nat.lt_of_le_of_lt (Nat.sub_le _ _) t.isLt)).2.2.2.2.2.2 y + dsBlk (WE m c t) (ext (iblk m c 5 t) (iblk m c 6 t)) (iblk m c 9 t) y := by
  unfold WE
  rw [outsAt0_B m c t h]
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  generalize iblk m c 9 t = b9
  generalize iblk m c 10 t = b10
  generalize iblk m c 11 t = b11
  generalize iblk m c 12 t = b12
  frame_open
  simp (disch := decide) only [↓ View.readCov_skip, ↓ View.readCov_cons_toLoadRect, ↓ View.readCov_fill]
  frame_out
  rw [pay16_W, pay17_eq]
  canon_tiles x h
  · refine (pay_ds3 _ _ _ _ _).trans (congrArg₂ (· + ·) ?_ (ds_piece _ _ b9 _ 3 (fun p q => by pointwise []) _ _ h1))
    pointwise []
    blk_point []
  · refine (pay_ds2 _ _ _ _ _).trans (congrArg₂ (· + ·) ?_ (ds_piece _ _ b9 _ 2 (fun p q => by pointwise []) _ _ h1))
    pointwise []
    blk_point []
  · refine (pay_ds1 _ _ _ _ _).trans (congrArg₂ (· + ·) ?_ (ds_piece _ _ b9 _ 1 (fun p q => by pointwise []) _ _ h1))
    pointwise []
    blk_point []
  · refine (pay19_W _ _ _ _ _ _ _ _ _ _ _ _).trans (congrArg₂ (· + ·) ?_ (ds_piece _ _ b9 _ 0 (fun p q => by pointwise []) _ _ (h1.trans (Nat.zero_add _).symm)))
    pointwise []
    blk_point []

end Cert.BBwdIdeal.Blocks

end
-- ==== Proof.BRef.lean ====
/-
  The stages of mixer B's gradient as the reference computes them, read at an index.
-/
module

public import proofs.«01_k».proof.Proof.Gen.BBwdRefIdeal.Read
public import proofs.«01_k».proof.Proof.Cumsum
public import Idealize.ShloMosaic.Lib.Pointwise
public import Idealize.ShloMosaic.Lib.Affine
public import Idealize.ShloMosaic.Lib.Claim

@[expose] public section

set_option maxRecDepth 16384

noncomputable section

namespace Cert.BBwdRefIdeal.Stages

open Cert.BBwdRefIdeal Cert.BBwdRefIdeal.Gen Cert.BBwdRefIdeal.Read Idealize.ShloMosaic Idealize.ShloMosaic.TcCoe Idealize.SL.Sem Cert.Spec

variable (x0 x7 : S8192x1024.Idx → EReal) (x1 x4 x6 : S1024.Idx → EReal) (x2 x5 : S1024x1024.Idx → EReal) (x3 : S4x256x256.Idx → EReal)

/-- The normed input. -/
theorem v16_at (i : Fin 8192) (k : Fin 1024) :
    val_main_v16 (F := Ideal) x0 x1 (ix2 i k) = x0 (ix2 i k) * rinv cD (fun j => x0 (ix2 i j)) * x1 (ix1 k) := by
  pointwise [val_main_v16, val_main_v13, val_main_v12, val_main_v8, val_main_v7, val_main_v5, val_main_v3, val_main_v2, val_main_v1, val_main_cst_0, val_main_v4, val_main_cst_1, val_main_v6, val_main_cst_2, val_main_v15, val_main_v14, rinv]

/-- The input projection. -/
theorem v18_at (i : Fin 8192) (k : Fin 1024) :
    val_main_v18 (F := Ideal) x0 x1 x2 (ix2 i k) = ∑ j, val_main_v16 (F := Ideal) x0 x1 (ix2 i j) * x2 (ix2 j k) := by
  pointwise [val_main_v18, val_main_v0, val_main_cst, val_main_v17]

/-- The output projection. -/
theorem v105_at (i : Fin 8192) (k : Fin 1024) :
    val_main_v105 (F := Ideal) x0 x1 x2 x3 x4 x5 (ix2 i k) =
      ∑ j, val_main_v100 (F := Ideal) x0 x1 x2 x3 (ix2 i j) * x4 (ix1 j) * x5 (ix2 j k) := by
  pointwise [val_main_v105, val_main_v0, val_main_cst, val_main_v104, val_main_v103, val_main_v102, val_main_v101]

/-- The cotangent of the output projection, as the transposed norm spells it. -/
theorem v143_at (i : Fin 8192) (k : Fin 1024) :
    val_main_v143 (F := Ideal) x0 x1 x2 x3 x4 x5 x6 x7 (ix2 i k) =
      x7 (ix2 i k) * x6 (ix1 k) * rinv cD (fun j => val_main_v105 (F := Ideal) x0 x1 x2 x3 x4 x5 (ix2 i j)) +
        val_main_v105 (F := Ideal) x0 x1 x2 x3 x4 x5 (ix2 i k) *
          rmsCoef (fun j => val_main_v105 (F := Ideal) x0 x1 x2 x3 x4 x5 (ix2 i j)) (fun j => x7 (ix2 i j) * x6 (ix1 j)) +
        rmsCoef (fun j => val_main_v105 (F := Ideal) x0 x1 x2 x3 x4 x5 (ix2 i j)) (fun j => x7 (ix2 i j) * x6 (ix1 j)) *
          val_main_v105 (F := Ideal) x0 x1 x2 x3 x4 x5 (ix2 i k) := by
  pointwise [val_main_v143, val_main_v141, val_main_v134, val_main_v128, val_main_v123, val_main_v127, val_main_v119, val_main_v133, val_main_v113, val_main_v112, val_main_v110, val_main_v108, val_main_v107, val_main_v106, val_main_cst_21, val_main_v109, val_main_cst_22, val_main_v111, val_main_cst_23, val_main_v140, val_main_v139, val_main_v138, val_main_v137, val_main_v135, val_main_v116, val_main_v114, val_main_v115, val_main_cst_24, val_main_v132, val_main_v131, val_main_v130, val_main_cst_27, val_main_v136, val_main_cst_28, val_main_cst_29, val_main_v142, rinv, rmsCoef, Fin.sum_univ_one, cD, cE]

/-- The cotangent of the scaled product. -/
theorem v144_at (i : Fin 8192) (k : Fin 1024) :
    val_main_v144 (F := Ideal) x0 x1 x2 x3 x4 x5 x6 x7 (ix2 i k) =
      ∑ j, val_main_v143 (F := Ideal) x0 x1 x2 x3 x4 x5 x6 x7 (ix2 i j) * x5 (ix2 k j) := by
  pointwise [val_main_v144]

/-- The cotangent of the grouped product. -/
theorem v149_at (i : Fin 8192) (k : Fin 1024) :
    val_main_v149 (F := Ideal) x0 x1 x2 x3 x4 x5 x6 x7 (ix2 i k) =
      val_main_v144 (F := Ideal) x0 x1 x2 x3 x4 x5 x6 x7 (ix2 i k) * x4 (ix1 k) := by
  pointwise [val_main_v149, val_main_v148, val_main_v101]

/-- A column, from the group and the column in it. -/
def col (g : Fin 4) (j : Fin 256) : Fin 1024 := ⟨g.val * 256 + j.val, by omega⟩

/-- The grouped product. -/
theorem v100_at (i : Fin 8192) (g : Fin 4) (j : Fin 256) :
    val_main_v100 (F := Ideal) x0 x1 x2 x3 (ix2 i (col g j)) =
      ∑ k : Fin 256, val_main_v96 (F := Ideal) x0 x1 x2 (ix3 i g k) * x3 (ix3 g k j) := by
  pointwise [val_main_v100, val_main_v0, val_main_cst, val_main_v99, val_main_v98, val_main_v97, col]
  exact Finset.sum_congr rfl fun i _ => mul_comm _ _

/-- The cotangent of what is grouped. -/
theorem v154_at (i : Fin 8192) (g : Fin 4) (j : Fin 256) :
    val_main_v154 (F := Ideal) x0 x1 x2 x3 x4 x5 x6 x7 (ix3 i g j) =
      ∑ k : Fin 256, val_main_v149 (F := Ideal) x0 x1 x2 x3 x4 x5 x6 x7 (ix2 i (col g k)) * x3 (ix3 g j k) := by
  pointwise [val_main_v154, val_main_v153, val_main_v152, val_main_v151, col]

/-- The cotangent of the normed input. -/
theorem v217_at (i : Fin 8192) (k : Fin 1024) :
    val_main_v217 (F := Ideal) x0 x1 x2 x3 x4 x5 x6 x7 (ix2 i k) =
      ∑ j, val_main_v216 (F := Ideal) x0 x1 x2 x3 x4 x5 x6 x7 (ix2 i j) * x2 (ix2 k j) := by
  pointwise [val_main_v217]

/-- The cotangent of the input, as the transposed norm spells it. -/
theorem v238_at (i : Fin 8192) (k : Fin 1024) :
    val_main_v238 (F := Ideal) x0 x1 x2 x3 x4 x5 x6 x7 (ix2 i k) =
      x7 (ix2 i k) + val_main_v217 (F := Ideal) x0 x1 x2 x3 x4 x5 x6 x7 (ix2 i k) * x1 (ix1 k) * rinv cD (fun j => x0 (ix2 i j)) +
        x0 (ix2 i k) *
          rmsCoef (fun j => x0 (ix2 i j)) (fun j => val_main_v217 (F := Ideal) x0 x1 x2 x3 x4 x5 x6 x7 (ix2 i j) * x1 (ix1 j)) +
        rmsCoef (fun j => x0 (ix2 i j)) (fun j => val_main_v217 (F := Ideal) x0 x1 x2 x3 x4 x5 x6 x7 (ix2 i j) * x1 (ix1 j)) *
          x0 (ix2 i k) := by
  pointwise [val_main_v238, val_main_v236, val_main_v229, val_main_v228, val_main_v222, val_main_v221, val_main_v14, val_main_v227, val_main_v8, val_main_v7, val_main_v5, val_main_v3, val_main_v2, val_main_v1, val_main_cst_0, val_main_v4, val_main_cst_1, val_main_v6, val_main_cst_2, val_main_v235, val_main_v234, val_main_v233, val_main_v232, val_main_v230, val_main_v11, val_main_v9, val_main_v10, val_main_cst_3, val_main_v226, val_main_v225, val_main_v224, val_main_cst_50, val_main_v231, val_main_cst_51, val_main_cst_52, val_main_v237, rinv, rmsCoef, Fin.sum_univ_one, cD, cE]

/-- The gradient of the post-norm's gain. -/
theorem v242_at (k : Fin 1024) :
    val_main_v242 (F := Ideal) x0 x1 x2 x3 x4 x5 x7 (ix2 0 k) =
      ∑ i : Fin 8192, rmsGain cD (fun j => val_main_v105 (F := Ideal) x0 x1 x2 x3 x4 x5 (ix2 i j)) (fun j => x7 (ix2 i j)) k := by
  pointwise [val_main_v242, val_main_v129, val_main_v126, val_main_v125, val_main_v124, val_main_v118, val_main_v117, val_main_v113, val_main_v112, val_main_v110, val_main_v108, val_main_v107, val_main_v106, val_main_cst_21, val_main_v109, val_main_cst_22, val_main_v111, val_main_cst_23, val_main_v123, val_main_cst_25, val_main_cst_26, rinv, rmsGain, Fin.sum_univ_one, cD, cE]
  exact Finset.sum_congr rfl fun i _ => mul_comm _ _

/-- The gradient of the pre-norm's gain. -/
theorem v243_at (k : Fin 1024) :
    val_main_v243 (F := Ideal) x0 x1 x2 x3 x4 x5 x6 x7 (ix2 0 k) =
      ∑ i : Fin 8192, rmsGain cD (fun j => x0 (ix2 i j)) (fun j => val_main_v217 (F := Ideal) x0 x1 x2 x3 x4 x5 x6 x7 (ix2 i j)) k := by
  pointwise [val_main_v243, val_main_v223, val_main_v220, val_main_v219, val_main_v218, val_main_v13, val_main_v12, val_main_v8, val_main_v7, val_main_v5, val_main_v3, val_main_v2, val_main_v1, val_main_cst_0, val_main_v4, val_main_cst_1, val_main_v6, val_main_cst_2, val_main_cst_48, val_main_cst_49, rinv, rmsGain, Fin.sum_univ_one, cD, cE]
  exact Finset.sum_congr rfl fun i _ => mul_comm _ _

/-- The gradient of the scale. -/
theorem v244_at (k : Fin 1024) :
    val_main_v244 (F := Ideal) x0 x1 x2 x3 x4 x5 x6 x7 (ix2 0 k) =
      ∑ i : Fin 8192, val_main_v144 (F := Ideal) x0 x1 x2 x3 x4 x5 x6 x7 (ix2 i k) * val_main_v100 (F := Ideal) x0 x1 x2 x3 (ix2 i k) := by
  pointwise [val_main_v244, val_main_v150, val_main_v147, val_main_v146, val_main_v145, val_main_cst_30, val_main_cst_31, Fin.sum_univ_one]
  exact Finset.sum_congr rfl fun i _ => mul_comm _ _

/-- The count as the host computes it. -/
theorem host_cnt (w r : ℕ) (hw : w < 8192) (hr : r < 8192) :
    Scalar.sitofp (F := Ideal) .f32 (IntOp.minsi (IntOp.addi (BitVec.ofNat 32 r) 1#32) (BitVec.ofNat 32 w)) = cnt w r := by
  have h := Affine.minsi (Affine.addi (Affine.ofNat r ⟨rfl, by omega⟩) (Affine.ofNat 1 ⟨rfl, by omega⟩) ⟨rfl, by omega, by omega⟩)
    (Affine.ofNat w ⟨rfl, by omega⟩) (e := min (w : ℤ) (r + 1)) (by omega)
  unfold Affine.IsInt at h
  exact congrArg (fun z : ℤ => ((z : ℝ) : EReal)) h

/-- A group's cotangent divided by its counts. -/
def ucol (g : Fin 4) (j : Fin 256) (i : Fin 8192) : EReal :=
  Ideal.div (val_main_v154 (F := Ideal) x0 x1 x2 x3 x4 x5 x6 x7 (ix3 i g j)) (cnt (2 ^ (g.val + 1)) i.val)

/-- The shares as the host spells them, a missing row's being zero. -/
theorem ucol_step (g : Fin 4) (j : Fin 256) (i : Fin 8192) (w k n : ℕ) (hw : w = 2 ^ (g.val + 1)) (hw' : w < 8192) (hk : k = n) :
    (Ideal.div (val_main_v154 (F := Ideal) x0 x1 x2 x3 x4 x5 x6 x7 (ix3 i g j))
        (FloatOps.sitofp (F := Ideal) .f32 (IntOp.minsi (IntOp.addi (BitVec.ofNat 32 i.val) 1#32) (BitVec.ofNat 32 w))) +
      if h : k < 8192 then
        -Ideal.div (val_main_v154 (F := Ideal) x0 x1 x2 x3 x4 x5 x6 x7 (ix3 ⟨k, h⟩ g j))
          (FloatOps.sitofp (F := Ideal) .f32 (IntOp.minsi (IntOp.addi (BitVec.ofNat 32 k) 1#32) (BitVec.ofNat 32 w)))
      else (0 : EReal)) =
    ucol x0 x7 x1 x4 x6 x2 x5 x3 g j i + -zext (ucol x0 x7 x1 x4 x6 x2 x5 x3 g j) n := by
  subst hk
  refine congrArg₂ (· + ·) ?_ ?_
  · rw [ucol, ← hw]
    exact congrArg _ (host_cnt w i.val hw' i.isLt)
  · unfold zext
    by_cases h : k < 8192
    · rw [dif_pos h, dif_pos h, ucol, ← hw]
      exact congrArg (fun z => -Ideal.div _ z) (host_cnt w k hw' h)
    · rw [dif_neg h, dif_neg h, neg_zero]

/-- A statement about a group, from the four groups. -/
@[elab_as_elim] theorem groups {P : Fin 4 → Prop} (h0 : P 0) (h1 : P 1) (h2 : P 2) (h3 : P 3) (g : Fin 4) : P g :=
  match g with
  | 0 => h0
  | 1 => h1
  | 2 => h2
  | 3 => h3

/-- The term of what is grouped itself. -/
theorem v202_at (i : Fin 8192) (g : Fin 4) (j : Fin 256) :
    val_main_v202 (F := Ideal) x0 x1 x2 x3 x4 x5 x6 x7 (ix2 i (col g j)) =
      -val_main_v154 (F := Ideal) x0 x1 x2 x3 x4 x5 x6 x7 (ix3 i g j) := by
  refine groups (P := fun g => val_main_v202 (F := Ideal) x0 x1 x2 x3 x4 x5 x6 x7 (ix2 i (col g j)) =
    -val_main_v154 (F := Ideal) x0 x1 x2 x3 x4 x5 x6 x7 (ix3 i g j)) ?_ ?_ ?_ ?_ g
  all_goals
    pointwise [val_main_v202, val_main_v189, val_main_v176, val_main_v164, val_main_v163, val_main_v162, val_main_v161, val_main_cst_32, val_main_v175, val_main_v174, val_main_v160, val_main_v159, val_main_cst_36, val_main_v188, val_main_v187, val_main_v158, val_main_v157, val_main_cst_40, val_main_v201, val_main_v200, val_main_v156, val_main_v155, val_main_cst_44, col]
    simp (disch := omega) only [dif_neg, false_and, not_false_eq_true, zero_add, add_zero, ↓reduceDIte]

/-- The terms of the running sum: a row's share, less the share of the row a window's width below. -/
theorem v214_at (i : Fin 8192) (g : Fin 4) (j : Fin 256) :
    val_main_v214 (F := Ideal) x0 x1 x2 x3 x4 x5 x6 x7 (ix2 i (col g j)) =
      zext (ucol x0 x7 x1 x4 x6 x2 x5 x3 g j) i.val - zext (ucol x0 x7 x1 x4 x6 x2 x5 x3 g j) (i.val + 2 ^ (g.val + 1)) := by
  have hi := i.isLt
  rw [zext_of_lt, sub_eq_add_neg]
  refine groups (P := fun g => val_main_v214 (F := Ideal) x0 x1 x2 x3 x4 x5 x6 x7 (ix2 i (col g j)) =
    ucol x0 x7 x1 x4 x6 x2 x5 x3 g j i +
      -zext (ucol x0 x7 x1 x4 x6 x2 x5 x3 g j) (i.val + 2 ^ (g.val + 1))) ?_ ?_ ?_ ?_ g
  all_goals
    pointwise [val_main_v214, val_main_v212, val_main_v199, val_main_v186, val_main_v173, val_main_v172, val_main_v169, val_main_v166, val_main_v162, val_main_v161, val_main_v165, val_main_v87, val_main_v86, val_main_v85, val_main_v83, val_main_v23, val_main_v82, val_main_c_19, val_main_v84, val_main_c_20, val_main_cst_34, val_main_v171, val_main_v168, val_main_v167, val_main_cst_33, val_main_cst_35, val_main_v185, val_main_v184, val_main_v181, val_main_v178, val_main_v160, val_main_v159, val_main_v177, val_main_v70, val_main_v69, val_main_v68, val_main_v66, val_main_v65, val_main_c_15, val_main_v67, val_main_c_16, val_main_cst_38, val_main_v183, val_main_v180, val_main_v179, val_main_cst_37, val_main_cst_39, val_main_v198, val_main_v197, val_main_v194, val_main_v191, val_main_v158, val_main_v157, val_main_v190, val_main_v53, val_main_v52, val_main_v51, val_main_v49, val_main_v48, val_main_c_11, val_main_v50, val_main_c_12, val_main_cst_42, val_main_v196, val_main_v193, val_main_v192, val_main_cst_41, val_main_cst_43, val_main_v211, val_main_v210, val_main_v207, val_main_v204, val_main_v156, val_main_v155, val_main_v203, val_main_v36, val_main_v35, val_main_v34, val_main_v32, val_main_v31, val_main_c, val_main_v33, val_main_c_8, val_main_cst_46, val_main_v209, val_main_v206, val_main_v205, val_main_cst_45, val_main_cst_47, col]
    simp (disch := omega) only [dif_neg, dif_pos, false_and, and_false, not_false_eq_true, zero_add, add_zero, ↓reduceDIte]
  · exact ucol_step x0 x7 x1 x4 x6 x2 x5 x3 0 j i 2 _ _ rfl (by decide) (by omega)
  · exact ucol_step x0 x7 x1 x4 x6 x2 x5 x3 1 j i 4 _ _ rfl (by decide) (by omega)
  · exact ucol_step x0 x7 x1 x4 x6 x2 x5 x3 2 j i 8 _ _ rfl (by decide) (by omega)
  · exact ucol_step x0 x7 x1 x4 x6 x2 x5 x3 3 j i 16 _ _ rfl (by decide) (by omega)

/-- The reverse running sum. -/
theorem v215_at (i : Fin 8192) (c : Fin 1024) :
    val_main_v215 (F := Ideal) x0 x1 x2 x3 x4 x5 x6 x7 (ix2 i c) =
      ∑ n ∈ Finset.range 8192, zext (fun r => val_main_v214 (F := Ideal) x0 x1 x2 x3 x4 x5 x6 x7 (ix2 r c)) (i.val + n) :=
  cumsum_rev (R := 8192) _ _ (fun _ => by pointwise [val_main_call1_call0_v0, val_main_call1_call0_cst]) _ _ i c

end Cert.BBwdRefIdeal.Stages

end
-- ==== Proof.BReal.lean ====
/-
  The reference's stages of mixer B's gradient are real numbers where its arguments are, and there they are what the
  kernel computes: window sums in the place of differences of running sums.
-/
module

public import proofs.«01_k».proof.Proof.BRef

@[expose] public section

set_option maxRecDepth 16384

noncomputable section

namespace Cert.BBwdRefIdeal.Stages

open Cert.BBwdRefIdeal Cert.BBwdRefIdeal.Gen Cert.BBwdRefIdeal.Read Idealize.ShloMosaic Idealize.ShloMosaic.TcCoe Idealize.SL.Sem Cert.Spec

/-- A division of a real by the host's count is real. -/
theorem div_host {a : EReal} (w : ℕ) (r : Fin 8192) (hw : w < 8192) (h0 : 0 < w) (ha : IsR a) :
    IsR (Ideal.div a (FloatOps.sitofp (F := Ideal) .f32 (IntOp.minsi (IntOp.addi (BitVec.ofNat 32 r.val) 1#32) (BitVec.ofNat 32 w)))) := by
  have e := host_cnt w r.val hw r.isLt
  rw [show FloatOps.sitofp (F := Ideal) .f32 (IntOp.minsi (IntOp.addi (BitVec.ofNat 32 r.val) 1#32) (BitVec.ofNat 32 w)) = cnt w r.val from e]
  exact ha.div_cnt w r.val h0

theorem isR_dite {p : Prop} [Decidable p] {a : p → EReal} {b : ¬p → EReal} (ha : ∀ h, IsR (a h)) (hb : ∀ h, IsR (b h)) :
    IsR (if h : p then a h else b h) := by
  split
  · exact ha _
  · exact hb _

variable {x0 x7 : S8192x1024.Idx → EReal} {x1 x4 x6 : S1024.Idx → EReal} {x2 x5 : S1024x1024.Idx → EReal} {x3 : S4x256x256.Idx → EReal}
  (h0 : ∀ i, IsR (x0 i)) (h1 : ∀ i, IsR (x1 i)) (h2 : ∀ i, IsR (x2 i)) (h3 : ∀ i, IsR (x3 i)) (h4 : ∀ i, IsR (x4 i))
  (h5 : ∀ i, IsR (x5 i)) (h6 : ∀ i, IsR (x6 i)) (h7 : ∀ i, IsR (x7 i))

include h0 h1 h2 in
theorem v18_real (i : Fin 8192) (k : Fin 1024) : IsR (val_main_v18 (F := Ideal) x0 x1 x2 (ix2 i k)) := by
  rw [v18_at]
  refine IsR.sum fun j => IsR.mul ?_ (h2 _)
  rw [v16_at]
  exact ((h0 _).mul (IsR.rinv fun j => h0 _)).mul (h1 _)
include h0 h1 h2 in
theorem v20_real (i : S8192x1024.Idx) : IsR (val_main_v20 (F := Ideal) x0 x1 x2 i) := by
  refine IsR.windowSum _ _ _ _ (fun i => ?_) (fun i => ⟨0, by pointwise [val_main_call0_call0_v0, val_main_call0_call0_cst]; exact EReal.coe_zero.symm⟩) _ _ i
  rw [eq_ix2 i]
  exact v18_real h0 h1 h2 _ _
include h0 h1 h2 in
theorem v96_real (i : Fin 8192) (g : Fin 4) (j : Fin 256) : IsR (val_main_v96 (F := Ideal) x0 x1 x2 (ix3 i g j)) := by
  induction g using groups
  all_goals
    pointwise [val_main_v96, val_main_v92, val_main_v40, val_main_v38, val_main_v30, val_main_v28, val_main_v24, val_main_v21, val_main_v19, val_main_cst_4, val_main_v29, val_main_v26, val_main_v25, val_main_cst_6, val_main_v37, val_main_v36, val_main_v35, val_main_v34, val_main_v32, val_main_v23, val_main_v31, val_main_c, val_main_v33, val_main_c_8, val_main_v39, val_main_v93, val_main_v57, val_main_v55, val_main_v47, val_main_v45, val_main_v41, val_main_v46, val_main_v43, val_main_v42, val_main_cst_9, val_main_v54, val_main_v53, val_main_v52, val_main_v51, val_main_v49, val_main_v48, val_main_c_11, val_main_v50, val_main_c_12, val_main_v56, val_main_v94, val_main_v74, val_main_v72, val_main_v64, val_main_v62, val_main_v58, val_main_v63, val_main_v60, val_main_v59, val_main_cst_13, val_main_v71, val_main_v70, val_main_v69, val_main_v68, val_main_v66, val_main_v65, val_main_c_15, val_main_v67, val_main_c_16, val_main_v73, val_main_v95, val_main_v91, val_main_v89, val_main_v81, val_main_v79, val_main_v75, val_main_v80, val_main_v77, val_main_v76, val_main_cst_17, val_main_v88, val_main_v87, val_main_v86, val_main_v85, val_main_v83, val_main_v82, val_main_c_19, val_main_v84, val_main_c_20, val_main_v90]
    refine IsR.sub ?_ (v18_real h0 h1 h2 _ _)
  · refine div_host 2 i (by omega) (by omega) (IsR.sub (v20_real h0 h1 h2 _) ?_)
    exact isR_dite (fun _ => isR_zero) fun _ => isR_dite (fun _ => isR_zero) fun _ => v20_real h0 h1 h2 _
  · refine div_host 4 i (by omega) (by omega) (IsR.sub (v20_real h0 h1 h2 _) ?_)
    exact isR_dite (fun _ => isR_zero) fun _ => isR_dite (fun _ => isR_zero) fun _ => v20_real h0 h1 h2 _
  · refine div_host 8 i (by omega) (by omega) (IsR.sub (v20_real h0 h1 h2 _) ?_)
    exact isR_dite (fun _ => isR_zero) fun _ => isR_dite (fun _ => isR_zero) fun _ => v20_real h0 h1 h2 _
  · refine div_host 16 i (by omega) (by omega) (IsR.sub (v20_real h0 h1 h2 _) ?_)
    exact isR_dite (fun _ => isR_zero) fun _ => isR_dite (fun _ => isR_zero) fun _ => v20_real h0 h1 h2 _
include h0 h1 h2 h3 in
theorem v100_real (i : Fin 8192) (g : Fin 4) (j : Fin 256) : IsR (val_main_v100 (F := Ideal) x0 x1 x2 x3 (ix2 i (col g j))) := by
  rw [v100_at]; exact IsR.sum fun k => (v96_real h0 h1 h2 _ _ _).mul (h3 _)

/-- A column's group and its place in the group. -/
theorem exists_col (x : Fin 1024) : ∃ g j, x = col g j :=
  ⟨⟨x.val / 256, by omega⟩, ⟨x.val % 256, by omega⟩, Fin.ext (by simp only [col]; omega)⟩

include h0 h1 h2 h3 h4 h5 in
theorem v105_real (i : Fin 8192) (k : Fin 1024) : IsR (val_main_v105 (F := Ideal) x0 x1 x2 x3 x4 x5 (ix2 i k)) := by
  rw [v105_at]
  refine IsR.sum fun j => (IsR.mul ?_ (h4 _)).mul (h5 _)
  obtain ⟨g, j, rfl⟩ := exists_col j
  exact v100_real h0 h1 h2 h3 _ _ _

include h0 h1 h2 h3 h4 h5 h6 h7

/-- The cotangent of the output projection is the kernel's closed form. -/
theorem v143_eq (i : Fin 8192) (k : Fin 1024) :
    val_main_v143 (F := Ideal) x0 x1 x2 x3 x4 x5 x6 x7 (ix2 i k) =
      rmsBack cD (fun j => val_main_v105 (F := Ideal) x0 x1 x2 x3 x4 x5 (ix2 i j)) (fun j => x6 (ix1 j)) (fun j => x7 (ix2 i j)) k := by
  rw [v143_at]
  exact rms_vjp (fun j => v105_real h0 h1 h2 h3 h4 h5 _ _) (fun j => h6 _) (fun j => h7 _) k
theorem v143_real (i : Fin 8192) (k : Fin 1024) : IsR (val_main_v143 (F := Ideal) x0 x1 x2 x3 x4 x5 x6 x7 (ix2 i k)) := by
  rw [v143_eq h0 h1 h2 h3 h4 h5 h6 h7]
  exact IsR.rmsBack (fun j => v105_real h0 h1 h2 h3 h4 h5 _ _) (fun j => h6 _) (fun j => h7 _) k
theorem v144_real (i : Fin 8192) (k : Fin 1024) : IsR (val_main_v144 (F := Ideal) x0 x1 x2 x3 x4 x5 x6 x7 (ix2 i k)) := by
  rw [v144_at]; exact IsR.sum fun j => (v143_real h0 h1 h2 h3 h4 h5 h6 h7 _ _).mul (h5 _)
theorem v154_real (i : Fin 8192) (g : Fin 4) (j : Fin 256) : IsR (val_main_v154 (F := Ideal) x0 x1 x2 x3 x4 x5 x6 x7 (ix3 i g j)) := by
  rw [v154_at]
  refine IsR.sum fun k => IsR.mul ?_ (h3 _)
  rw [v149_at]
  exact (v144_real h0 h1 h2 h3 h4 h5 h6 h7 _ _).mul (h4 _)
theorem ucol_real (g : Fin 4) (j : Fin 256) (i : Fin 8192) : IsR (ucol x0 x7 x1 x4 x6 x2 x5 x3 g j i) :=
  (v154_real h0 h1 h2 h3 h4 h5 h6 h7 i g j).div_cnt _ _ (Nat.pow_pos (by decide))

/-- The cotangent of what is pooled: the window's sum of shares, less the row itself. -/
theorem v216_eq (i : Fin 8192) (g : Fin 4) (j : Fin 256) :
    val_main_v216 (F := Ideal) x0 x1 x2 x3 x4 x5 x6 x7 (ix2 i (col g j)) =
      (∑ n ∈ Finset.range (2 ^ (g.val + 1)), zext (ucol x0 x7 x1 x4 x6 x2 x5 x3 g j) (i.val + n)) -
        val_main_v154 (F := Ideal) x0 x1 x2 x3 x4 x5 x6 x7 (ix3 i g j) := by
  show val_main_v202 (F := Ideal) x0 x1 x2 x3 x4 x5 x6 x7 (ix2 i (col g j)) + val_main_v215 (F := Ideal) x0 x1 x2 x3 x4 x5 x6 x7 (ix2 i (col g j)) = _
  rw [v202_at, v215_at, sub_eq_add_neg, add_comm]
  refine congrArg (· + _) ((Finset.sum_congr rfl fun n _ => ?_).trans
    (window_of_rev_real (2 ^ (g.val + 1)) i.val (ucol_real h0 h1 h2 h3 h4 h5 h6 h7 g j)))
  simp only [v214_at]
  rcases Nat.lt_or_ge (i.val + n) 8192 with h | h
  · exact dif_pos h
  · rw [zext_of_ge _ h, zext_of_ge _ h, zext_of_ge _ (le_trans h (Nat.le_add_right _ _)), sub_zero]

theorem v216_real (i : Fin 8192) (k : Fin 1024) : IsR (val_main_v216 (F := Ideal) x0 x1 x2 x3 x4 x5 x6 x7 (ix2 i k)) := by
  obtain ⟨g, j, rfl⟩ := exists_col k
  rw [v216_eq h0 h1 h2 h3 h4 h5 h6 h7]
  exact (IsR.sum_zext _ _ (ucol_real h0 h1 h2 h3 h4 h5 h6 h7 g j)).sub (v154_real h0 h1 h2 h3 h4 h5 h6 h7 i g j)
theorem v217_real (i : Fin 8192) (k : Fin 1024) : IsR (val_main_v217 (F := Ideal) x0 x1 x2 x3 x4 x5 x6 x7 (ix2 i k)) := by
  rw [v217_at]; exact IsR.sum fun j => (v216_real h0 h1 h2 h3 h4 h5 h6 h7 _ _).mul (h2 _)

/-- The cotangent of the mixer's input is the residual's plus the kernel's closed form. -/
theorem v238_eq (i : Fin 8192) (k : Fin 1024) :
    val_main_v238 (F := Ideal) x0 x1 x2 x3 x4 x5 x6 x7 (ix2 i k) =
      x7 (ix2 i k) + rmsBack cD (fun j => x0 (ix2 i j)) (fun j => x1 (ix1 j))
        (fun j => val_main_v217 (F := Ideal) x0 x1 x2 x3 x4 x5 x6 x7 (ix2 i j)) k := by
  rw [v238_at, ← rms_vjp (fun j => h0 _) (fun j => h1 _) (fun j => v217_real h0 h1 h2 h3 h4 h5 h6 h7 _ _) k, add_assoc, add_assoc, add_assoc]

end Cert.BBwdRefIdeal.Stages

end
-- ==== Proof.BHost.lean ====
/-
  What the host of mixer B's gradient hands to the kernel, read at an index: the reference's own stages.
-/
module

public import proofs.«01_k».proof.Proof.Gen.BBwdIdeal.Value
public import proofs.«01_k».proof.Proof.BReal
public import Idealize.ShloMosaic.Lib.StableHlo.ReadAt
public import Idealize.ShloMosaic.Lib.Pipeline.ValueKit
public import Idealize.ShloMosaic.Lib.Claim
public import Idealize.ShloMosaic.Lib.Pointwise

@[expose] public section

set_option maxRecDepth 16384

noncomputable section

namespace Cert.BBwdIdeal.Host

open Cert.BBwdIdeal Cert.BBwdIdeal.Gen Cert.BBwdRefIdeal.Read Cert.BBwdRefIdeal.Stages
open Idealize.ShloMosaic Idealize.ShloMosaic.TcCoe Idealize.SL.Sem Cert.Spec

variable (m : (ℓ : Loc nD τ sig) → Buf (Elt Ideal) ℓ) (c : Dev nD)

/-- The mixer's input. -/
abbrev a0 : S8192x1024.Idx → EReal := m ((c : Thread nD τ).loc main_arg0)
/-- The pre-norm's gain. -/
abbrev a1 : S1024.Idx → EReal := m ((c : Thread nD τ).loc main_arg1)
/-- The input projection's weight. -/
abbrev a2 : S1024x1024.Idx → EReal := m ((c : Thread nD τ).loc main_arg2)
/-- The groups' weights. -/
abbrev a3 : S4x256x256.Idx → EReal := m ((c : Thread nD τ).loc main_arg3)
/-- The scale. -/
abbrev a4 : S1024.Idx → EReal := m ((c : Thread nD τ).loc main_arg4)
/-- The output projection's weight. -/
abbrev a5 : S1024x1024.Idx → EReal := m ((c : Thread nD τ).loc main_arg5)
/-- The post-norm's gain. -/
abbrev a6 : S1024.Idx → EReal := m ((c : Thread nD τ).loc main_arg6)
/-- The cotangent. -/
abbrev a7 : S8192x1024.Idx → EReal := m ((c : Thread nD τ).loc main_arg7)

/-- Adding the zeros changes nothing. -/
theorem v18_v17 (x0 : S8192x1024.Idx → EReal) (x1 : S1024.Idx → EReal) (x2 : S1024x1024.Idx → EReal) :
    val_main_v18 (F := Ideal) x0 x1 x2 = val_main_v17 (F := Ideal) x0 x1 x2 := by
  funext i
  exact (congrArg (val_main_v17 (F := Ideal) x0 x1 x2 i + ·) (by pointwise [val_main_v0, val_main_cst])).trans (add_zero _)

/-- What the host has computed before it puts the four groups together. -/
abbrev U := StableHlo.upto [hostOps0, hostOps0_1, hostOps0_2].flatten (fun b => m (c, b)) 104

set_option maxHeartbeats 1600000 in
/-- The four groups, as the forward pass saved them. -/
theorem groups_at (i : Fin 8192) (z : Fin 1) (j : Fin 256) :
    (U m c (Proc.tc.devRef main_v82) : S8192x1x256.Idx → EReal) (ix3 i z j) = val_main_v96 (F := Ideal) (a0 m c) (a1 m c) (a2 m c) (ix3 i 0 j) ∧
    (U m c (Proc.tc.devRef main_v83) : S8192x1x256.Idx → EReal) (ix3 i z j) = val_main_v96 (F := Ideal) (a0 m c) (a1 m c) (a2 m c) (ix3 i 1 j) ∧
    (U m c (Proc.tc.devRef main_v84) : S8192x1x256.Idx → EReal) (ix3 i z j) = val_main_v96 (F := Ideal) (a0 m c) (a1 m c) (a2 m c) (ix3 i 2 j) ∧
    (U m c (Proc.tc.devRef main_v85) : S8192x1x256.Idx → EReal) (ix3 i z j) = val_main_v96 (F := Ideal) (a0 m c) (a1 m c) (a2 m c) (ix3 i 3 j) := by
  refine ⟨?_, ?_, ?_, ?_⟩
  all_goals
    unfold U
    iterate 3 after_reads_at
    pointwise [val_main_v96, val_main_v92, val_main_v40, val_main_v38, val_main_v30, val_main_v28, val_main_v24, val_main_v21, val_main_v19, val_main_cst_4, val_main_v29, val_main_v26, val_main_v25, val_main_cst_6, val_main_v37, val_main_v36, val_main_v35, val_main_v34, val_main_v32, val_main_v23, val_main_v31, val_main_c, val_main_v33, val_main_c_8, val_main_v39, val_main_v18, val_main_v0, val_main_cst, val_main_v93, val_main_v57, val_main_v55, val_main_v47, val_main_v45, val_main_v41, val_main_v46, val_main_v43, val_main_v42, val_main_cst_9, val_main_v54, val_main_v53, val_main_v52, val_main_v51, val_main_v49, val_main_v48, val_main_c_11, val_main_v50, val_main_c_12, val_main_v56, val_main_v94, val_main_v74, val_main_v72, val_main_v64, val_main_v62, val_main_v58, val_main_v63, val_main_v60, val_main_v59, val_main_cst_13, val_main_v71, val_main_v70, val_main_v69, val_main_v68, val_main_v66, val_main_v65, val_main_c_15, val_main_v67, val_main_c_16, val_main_v73, val_main_v95, val_main_v91, val_main_v89, val_main_v81, val_main_v79, val_main_v75, val_main_v80, val_main_v77, val_main_v76, val_main_cst_17, val_main_v88, val_main_v87, val_main_v86, val_main_v85, val_main_v83, val_main_v82, val_main_c_19, val_main_v84, val_main_c_20, val_main_v90]
    simp only [val_main_v20, v18_v17]
    refine congrArg₂ (fun a b => a - b) rfl ?_
    pointwise [val_main_v17, val_main_v16, val_main_v13, val_main_v12, val_main_v8, val_main_v7, val_main_v5, val_main_v3, val_main_v2, val_main_v1, val_main_cst_0, val_main_v4, val_main_cst_1, val_main_v6, val_main_cst_2, val_main_v15, val_main_v14]

/-- The four groups put together: column `q` of group `p`. -/
theorem pick (i : Fin 8192) (g : Fin 4) (j q : Fin 256) (p : ℕ) (hp : p = g.val) (hq : q = j) :
    (if h : p < 1 then (U m c (Proc.tc.devRef main_v82) : S8192x1x256.Idx → EReal) (ix3 i ⟨p, h⟩ q)
      else if h : p - 1 < 1 then (U m c (Proc.tc.devRef main_v83) : S8192x1x256.Idx → EReal) (ix3 i ⟨p - 1, h⟩ q)
      else if h : p - 1 - 1 < 1 then (U m c (Proc.tc.devRef main_v84) : S8192x1x256.Idx → EReal) (ix3 i ⟨p - 1 - 1, h⟩ q)
      else (U m c (Proc.tc.devRef main_v85) : S8192x1x256.Idx → EReal) (ix3 i ⟨p - 1 - 1 - 1, by omega⟩ q)) =
    val_main_v96 (F := Ideal) (a0 m c) (a1 m c) (a2 m c) (ix3 i g j) := by
  subst hp hq
  induction g using groups
  · exact (dif_pos (by decide)).trans (groups_at m c i _ q).1
  · exact (dif_neg (by decide)).trans ((dif_pos (by decide)).trans (groups_at m c i _ q).2.1)
  · exact (dif_neg (by decide)).trans ((dif_neg (by decide)).trans ((dif_pos (by decide)).trans (groups_at m c i _ q).2.2.1))
  · exact (dif_neg (by decide)).trans ((dif_neg (by decide)).trans ((dif_neg (by decide)).trans (groups_at m c i _ q).2.2.2))

set_option maxHeartbeats 1600000 in
/-- What is grouped, a row's groups side by side. -/
theorem v97_at (i : Fin 8192) (g : Fin 4) (j : Fin 256) :
    (V m c main_v97 : S8192x1024.Idx → EReal) (ix2 i (col g j)) = val_main_v96 (F := Ideal) (a0 m c) (a1 m c) (a2 m c) (ix3 i g j) := by
  unfold V col
  after_reads_at
  exact pick m c i g j ⟨(g.val * 256 + j.val) % 256, by omega⟩ ((g.val * 256 + j.val) / 256) (by omega) (Fin.ext (by simp only []; omega))

set_option maxHeartbeats 1600000 in
/-- The output projection, as the forward pass saved it. -/
theorem v93_at (i : Fin 8192) (k : Fin 1024) :
    (V m c main_v93 : S8192x1024.Idx → EReal) (ix2 i k) =
      val_main_v105 (F := Ideal) (a0 m c) (a1 m c) (a2 m c) (a3 m c) (a4 m c) (a5 m c) (ix2 i k) := by
  unfold V
  after_reads_at
  rw [v105_at]
  refine Finset.sum_congr rfl fun x _ => congrArg (· * _) (congrArg (· * _) ?_)
  obtain ⟨g, j, rfl⟩ := exists_col x
  rw [v100_at]
  refine Finset.sum_congr rfl fun k _ => ?_
  rw [mul_comm]
  refine congrArg₂ (· * ·) (pick m c i g k _ _ (by simp only [col]; omega) rfl) (congrArg (a3 m c) ?_)
  exact congrArg₂ (fun p q => ix3 p k q) (Fin.ext (by simp only [col]; omega)) (Fin.ext (by simp only [col]; omega))

/-- The pre-norm's gain, laid out as a row. -/
theorem v98_at (k : Fin 1024) : (V m c main_v98 : S1x1024.Idx → EReal) (ix2 0 k) = a1 m c (ix1 k) := by
  unfold V
  after_reads_at
/-- The scale, laid out as a row. -/
theorem v100_row (k : Fin 1024) : (V m c main_v100 : S1x1024.Idx → EReal) (ix2 0 k) = a4 m c (ix1 k) := by
  unfold V
  after_reads_at
/-- The post-norm's gain, laid out as a row. -/
theorem v101_at (k : Fin 1024) : (V m c main_v101 : S1x1024.Idx → EReal) (ix2 0 k) = a6 m c (ix1 k) := by
  unfold V
  after_reads_at
/-- The input projection's weight. -/
theorem v94_at (k j : Fin 1024) : (V m c main_v94 : S1024x1024.Idx → EReal) (ix2 k j) = a2 m c (ix2 k j) := by
  unfold V
  after_reads_at
/-- The output projection's weight. -/
theorem v95_at (k j : Fin 1024) : (V m c main_v95 : S1024x1024.Idx → EReal) (ix2 k j) = a5 m c (ix2 k j) := by
  unfold V
  after_reads_at
/-- The groups' weights. -/
theorem v99_at (g : Fin 4) (k j : Fin 256) : (V m c main_v99 : S4x256x256.Idx → EReal) (ix3 g k j) = a3 m c (ix3 g k j) := by
  unfold V
  after_reads_at

end Cert.BBwdIdeal.Host

end
-- ==== Proof.BRows.lean ====
/-
  One grid point's blocks of mixer B's gradient are the reference's stages at the point's 512 rows and the 16 after them.
-/
module

public import proofs.«01_k».proof.Proof.BKernel
public import proofs.«01_k».proof.Proof.BHost

@[expose] public section

set_option maxRecDepth 16384

noncomputable section

namespace Cert.BBwdIdeal.Blocks

open Cert.BBwdIdeal Cert.BBwdIdeal.Gen Cert.BBwdIdeal.Host Cert.BBwdRefIdeal.Read Cert.BBwdRefIdeal.Stages
open Idealize.ShloMosaic Idealize.ShloMosaic.TcCoe Idealize.SL.Sem Cert.Spec

section
variable (m : (ℓ : Loc nD τ sig) → Buf (Elt Ideal) ℓ) (c : Dev nD)

/-- All windows' block indices, by the grid point. -/
theorem idx : ∀ t : Fin cfg0.N, win0_0.index t = ![t.val, 0] ∧ win0_2.index t = ![t.val, 0] ∧
    win0_4.index t = ![t.val, 0] ∧ win0_5.index t = ![t.val, 0] ∧ win0_7.index t = ![0, 0] ∧ win0_8.index t = ![0, 0] ∧
    win0_9.index t = ![0, 0, 0] ∧ win0_10.index t = ![0, 0] ∧ win0_11.index t = ![0, 0] ∧ win0_12.index t = ![0, 0] ∧
    win0_13.index t = ![t.val, 0] ∧ win0_14.index t = ![t.val, 0] ∧ win0_15.index t = ![t.val, 0] ∧ win0_16.index t = ![t.val, 0] ∧
    win0_17.index t = ![0, 0] ∧ win0_18.index t = ![0, 0] ∧ win0_19.index t = ![0, 0] :=
  (by decide +kernel : ∀ t : Fin grid0.N, _)
/-- The block indices of the rows after the block, at every point but the last. -/
theorem idx_after : ∀ t : Fin cfg0.N, t.val < 15 → win0_1.index t = ![(t.val + 1) * 32, 0] ∧ win0_3.index t = ![(t.val + 1) * 32, 0] :=
  (by decide +kernel : ∀ t : Fin grid0.N, _)
/-- The grid's coordinate is the point. -/
theorem coord : ∀ t : Fin cfg0.N, ((grid0.coords t) 0).val = t.val := (by decide +kernel : ∀ t : Fin grid0.N, _)

theorem t_lt (t : Fin cfg0.N) : t.val < 16 := lt_of_lt_of_eq t.isLt N_0

/-- Row `r` of point `t`'s block is this row of the array. -/
def row (t : Fin cfg0.N) (r : Fin 512) : Fin 8192 := ⟨t.val * 512 + r.val, by have := t_lt t; omega⟩

theorem b0_at (t : Fin cfg0.N) (r : Fin 512) (k : Fin 1024) :
    (iblk m c 0 t : S512x1024.Idx → EReal) (ix2 r k) = a7 m c (ix2 (row t r) k) := by
  unfold row; blk_ext [iblk, V, idx t]
theorem b2_at (t : Fin cfg0.N) (r : Fin 512) (k : Fin 1024) :
    (iblk m c 2 t : S512x1024.Idx → EReal) (ix2 r k) =
      val_main_v105 (F := Ideal) (a0 m c) (a1 m c) (a2 m c) (a3 m c) (a4 m c) (a5 m c) (ix2 (row t r) k) := by
  rw [← v93_at]; unfold row; blk_ext [iblk, idx t]
theorem b4_at (t : Fin cfg0.N) (r : Fin 512) (k : Fin 1024) :
    (iblk m c 4 t : S512x1024.Idx → EReal) (ix2 r k) = a0 m c (ix2 (row t r) k) := by
  unfold row; blk_ext [iblk, V, idx t]
theorem b5_at (t : Fin cfg0.N) (r : Fin 512) (g : Fin 4) (j : Fin 256) :
    (iblk m c 5 t : S512x1024.Idx → EReal) (ix2 r (col g j)) =
      val_main_v96 (F := Ideal) (a0 m c) (a1 m c) (a2 m c) (ix3 (row t r) g j) := by
  rw [← v97_at]; generalize col g j = k; unfold row; blk_ext [iblk, idx t]
theorem b1_at (t : Fin cfg0.N) (ht : t.val < 15) (r : Fin 16) (k : Fin 1024) :
    (iblk m c 1 t : S16x1024.Idx → EReal) (ix2 r k) = a7 m c (ix2 ⟨t.val * 512 + (512 + r.val), by omega⟩ k) := by
  blk_ext [iblk, V, idx_after t ht]
theorem b3_at (t : Fin cfg0.N) (ht : t.val < 15) (r : Fin 16) (k : Fin 1024) :
    (iblk m c 3 t : S16x1024.Idx → EReal) (ix2 r k) =
      val_main_v105 (F := Ideal) (a0 m c) (a1 m c) (a2 m c) (a3 m c) (a4 m c) (a5 m c) (ix2 ⟨t.val * 512 + (512 + r.val), by omega⟩ k) := by
  rw [← v93_at]; blk_ext [iblk, idx_after t ht]
theorem b7_at (t : Fin cfg0.N) (k : Fin 1024) : (iblk m c 7 t : S1x1024.Idx → EReal) (ix2 0 k) = a1 m c (ix1 k) := by
  rw [← v98_at]; blk_ext [iblk, idx t]
theorem b8_at (t : Fin cfg0.N) (k j : Fin 1024) : (iblk m c 8 t : S1024x1024.Idx → EReal) (ix2 k j) = a2 m c (ix2 k j) := by
  rw [← v94_at]; blk_ext [iblk, idx t]
theorem b9_at (t : Fin cfg0.N) (g : Fin 4) (k j : Fin 256) : (iblk m c 9 t : S4x256x256.Idx → EReal) (ix3 g k j) = a3 m c (ix3 g k j) := by
  rw [← v99_at]; blk_ext [iblk, idx t]
theorem b10_at (t : Fin cfg0.N) (k : Fin 1024) : (iblk m c 10 t : S1x1024.Idx → EReal) (ix2 0 k) = a4 m c (ix1 k) := by
  rw [← v100_row]; blk_ext [iblk, idx t]
theorem b11_at (t : Fin cfg0.N) (k j : Fin 1024) : (iblk m c 11 t : S1024x1024.Idx → EReal) (ix2 k j) = a5 m c (ix2 k j) := by
  rw [← v95_at]; blk_ext [iblk, idx t]
theorem b12_at (t : Fin cfg0.N) (k : Fin 1024) : (iblk m c 12 t : S1x1024.Idx → EReal) (ix2 0 k) = a6 m c (ix1 k) := by
  rw [← v101_at]; blk_ext [iblk, idx t]

/-- The cotangent at the rows of the extended block: the array's rows, continued by zeros. -/
theorem dy_at (t : Fin cfg0.N) (r : Fin 528) (k : Fin 1024) :
    ext (iblk m c 0 t) (tail (iblk m c 1 t) (grid0.coords t)) (ix2 r k) = zext (fun i => a7 m c (ix2 i k)) (t.val * 512 + r.val) := by
  have ht := t_lt t
  rcases Nat.lt_or_ge r.val 512 with h | h
  · refine (dif_pos (show r.val < 512 from h)).trans ((b0_at m c t ⟨r.val, h⟩ k).trans ?_)
    exact (zext_of_lt (fun i => a7 m c (ix2 i k)) (row t ⟨r.val, h⟩)).symm
  · refine (dif_neg (show ¬r.val < 512 by omega)).trans ?_
    unfold tail keep
    rw [coord]
    rcases Nat.lt_or_ge t.val 15 with h15 | h15
    · rw [if_pos h15, mul_one]
      refine (b1_at m c t h15 ⟨r.val - 512, by omega⟩ k).trans ?_
      refine Eq.trans ?_ (zext_of_lt (fun i => a7 m c (ix2 i k)) ⟨t.val * 512 + r.val, by omega⟩).symm
      exact congrArg (fun i => a7 m c (ix2 i k)) (Fin.ext (by simp only []; omega))
    · rw [if_neg (by omega), mul_zero, zext_of_ge _ (by omega)]

/-- The saved output projection at the rows of the extended block that the array has. -/
theorem me_at (t : Fin cfg0.N) (r : Fin 528) (h : t.val * 512 + r.val < 8192) (k : Fin 1024) :
    ext (iblk m c 2 t) (iblk m c 3 t) (ix2 r k) =
      val_main_v105 (F := Ideal) (a0 m c) (a1 m c) (a2 m c) (a3 m c) (a4 m c) (a5 m c) (ix2 ⟨t.val * 512 + r.val, h⟩ k) := by
  rcases Nat.lt_or_ge r.val 512 with h5 | h5
  · exact (dif_pos (show r.val < 512 from h5)).trans (b2_at m c t ⟨r.val, h5⟩ k)
  · refine (dif_neg (show ¬r.val < 512 by omega)).trans ((b3_at m c t (by omega) ⟨r.val - 512, by omega⟩ k).trans ?_)
    exact congrArg (fun i => val_main_v105 (F := Ideal) (a0 m c) (a1 m c) (a2 m c) (a3 m c) (a4 m c) (a5 m c) (ix2 i k)) (Fin.ext (by simp only []; omega))

end

variable {m : (ℓ : Loc nD τ sig) → Buf (Elt Ideal) ℓ} {c : Dev nD}
  (h0 : ∀ i, IsR (a0 m c i)) (h1 : ∀ i, IsR (a1 m c i)) (h2 : ∀ i, IsR (a2 m c i)) (h3 : ∀ i, IsR (a3 m c i)) (h4 : ∀ i, IsR (a4 m c i))
  (h5 : ∀ i, IsR (a5 m c i)) (h6 : ∀ i, IsR (a6 m c i)) (h7 : ∀ i, IsR (a7 m c i))

/-- An extended sequence at a place that it has. -/
theorem zext_in {R : ℕ} (x : Fin R → EReal) {t : ℕ} (h : t < R) : zext x t = x ⟨t, h⟩ := dif_pos h
/-- A quotient of zero by the width is zero. -/
theorem zero_div_cD : Ideal.div 0 cD = 0 := by
  rw [cD_eq, Ideal.div_coe (by norm_num), zero_mul]
/-- A quotient of zero by a count is zero. -/
theorem zero_div_cnt (w n : ℕ) (hw : 0 < w) : Ideal.div 0 (cnt w n) = 0 := by
  have h : (0 : ℝ) < ((min (w : ℤ) (n + 1) : ℤ) : ℝ) := by exact_mod_cast (show (0 : ℤ) < min (w : ℤ) (n + 1) by omega)
  rw [cnt, Ideal.div_coe h.ne', zero_mul]
/-- The norm's gradient of a zero cotangent is zero. -/
theorem rmsBack_zero {n : ℕ} (x g : Fin n → EReal) (k : Fin n) : rmsBack cD x g (fun _ => 0) k = 0 := by
  simp only [rmsBack, zero_mul, Finset.sum_const_zero, zero_div_cD, mul_zero, sub_zero]

include h0 h1 h2 h3 h4 h5 h6 h7

/-- The output projection's cotangent at the rows of the extended block. -/
theorem DE_at (t : Fin cfg0.N) (r : Fin 528) (k : Fin 1024) :
    DE m c t (ix2 r k) = zext (fun i => val_main_v143 (F := Ideal) (a0 m c) (a1 m c) (a2 m c) (a3 m c) (a4 m c) (a5 m c) (a6 m c) (a7 m c) (ix2 i k))
      (t.val * 512 + r.val) := by
  have e : DE m c t (ix2 r k) = rmsBack cD (fun j => ext (iblk m c 2 t) (iblk m c 3 t) (ix2 r j)) (fun j => iblk m c 12 t (ix2 0 j))
      (fun j => ext (iblk m c 0 t) (tail (iblk m c 1 t) (grid0.coords t)) (ix2 r j)) k := rfl
  rw [e]
  simp only [dy_at, b12_at]
  rcases Nat.lt_or_ge (t.val * 512 + r.val) 8192 with h | h
  · simp only [me_at m c t r h]
    rw [zext_in _ h]
    refine Eq.trans ?_ (v143_eq h0 h1 h2 h3 h4 h5 h6 h7 ⟨_, h⟩ k).symm
    exact congrArg (fun f => rmsBack cD _ _ f k) (funext fun j => dif_pos h)
  · simp only [zext_of_ge _ h]
    exact rmsBack_zero _ _ _

/-- The scaled product's cotangent at the rows of the extended block. -/
theorem WE_at (t : Fin cfg0.N) (r : Fin 528) (k : Fin 1024) :
    WE m c t (ix2 r k) = zext (fun i => val_main_v144 (F := Ideal) (a0 m c) (a1 m c) (a2 m c) (a3 m c) (a4 m c) (a5 m c) (a6 m c) (a7 m c) (ix2 i k))
      (t.val * 512 + r.val) := by
  have e : WE m c t (ix2 r k) = ∑ j, DE m c t (ix2 r j) * iblk m c 11 t (ix2 k j) := rfl
  rw [e]
  simp only [DE_at h0 h1 h2 h3 h4 h5 h6 h7, b11_at]
  rcases Nat.lt_or_ge (t.val * 512 + r.val) 8192 with h | h
  · rw [zext_in _ h]
    refine Eq.trans ?_ (v144_at _ _ _ _ _ _ _ _ ⟨_, h⟩ k).symm
    exact Finset.sum_congr rfl fun j _ => congrArg (· * _) (dif_pos h)
  · simp only [zext_of_ge _ h, zero_mul, Finset.sum_const_zero]

/-- A group's cotangent at the rows of the extended block. -/
theorem pE_at (t : Fin cfg0.N) (g : Fin 4) (r : Fin 528) (j : Fin 256) :
    pE (WE m c t) (iblk m c 10 t) (gsl (iblk m c 9 t) g) g (ix2 r j) =
      zext (fun i => val_main_v154 (F := Ideal) (a0 m c) (a1 m c) (a2 m c) (a3 m c) (a4 m c) (a5 m c) (a6 m c) (a7 m c) (ix3 i g j))
        (t.val * 512 + r.val) := by
  have e : pE (WE m c t) (iblk m c 10 t) (gsl (iblk m c 9 t) g) g (ix2 r j) =
    ∑ k, (WE m c t (ix2 r (col g k)) * iblk m c 10 t (ix2 0 (col g k))) * iblk m c 9 t (ix3 g j k) := rfl
  rw [e]
  simp only [WE_at h0 h1 h2 h3 h4 h5 h6 h7, b10_at, b9_at]
  rcases Nat.lt_or_ge (t.val * 512 + r.val) 8192 with h | h
  · rw [zext_in _ h]
    refine Eq.trans ?_ (v154_at _ _ _ _ _ _ _ _ ⟨_, h⟩ g j).symm
    refine Finset.sum_congr rfl fun k _ => congrArg (· * _) ?_
    rw [v149_at]
    exact congrArg (· * _) (dif_pos h)
  · simp only [zext_of_ge _ h, zero_mul, Finset.sum_const_zero]

/-- A group's shares at the rows of the extended block. -/
theorem acc_at (t : Fin cfg0.N) (g : Fin 4) (r : Fin 528) (j : Fin 256) :
    acc (pE (WE m c t) (iblk m c 10 t) (gsl (iblk m c 9 t) g) g) (2 ^ (g.val + 1)) (grid0.coords t) (ix2 r j) =
      zext (ucol (a0 m c) (a7 m c) (a1 m c) (a4 m c) (a6 m c) (a2 m c) (a5 m c) (a3 m c) g j) (t.val * 512 + r.val) := by
  show Ideal.div (pE (WE m c t) (iblk m c 10 t) (gsl (iblk m c 9 t) g) g (ix2 r j)) (cnt (2 ^ (g.val + 1)) (((grid0.coords t) 0).val * 512 + r.val)) = _
  rw [pE_at h0 h1 h2 h3 h4 h5 h6 h7, coord]
  rcases Nat.lt_or_ge (t.val * 512 + r.val) 8192 with h | h
  · refine Eq.trans ?_ (dif_pos h).symm
    exact congrArg (Ideal.div · _) (dif_pos h)
  · rw [zext_of_ge _ h, zext_of_ge _ h]
    exact zero_div_cnt _ _ (Nat.pow_pos (by decide))

/-- The cotangent of what is pooled is the reference's. -/
theorem PE_at (t : Fin cfg0.N) (r : Fin 512) (k : Fin 1024) :
    PE m c t (ix2 r k) =
      val_main_v216 (F := Ideal) (a0 m c) (a1 m c) (a2 m c) (a3 m c) (a4 m c) (a5 m c) (a6 m c) (a7 m c) (ix2 (row t r) k) := by
  have e : PE m c t (ix2 r k) = dpP (pE (WE m c t) (iblk m c 10 t) (gsl (iblk m c 9 t) (grp k)) (grp k)) (2 ^ ((grp k).val + 1)) (grid0.coords t)
      (ix2 r (sub k)) := rfl
  rw [e]
  have hk : k = col (grp k) (sub k) := Fin.ext (by simp only [col, grp, sub]; omega)
  refine Eq.trans ?_ (congrArg (fun q => val_main_v216 (F := Ideal) (a0 m c) (a1 m c) (a2 m c) (a3 m c) (a4 m c) (a5 m c) (a6 m c) (a7 m c)
    (ix2 (row t r) q)) hk.symm)
  generalize grp k = g
  generalize sub k = j
  rw [v216_eq h0 h1 h2 h3 h4 h5 h6 h7]
  have hg : 2 ^ (g.val + 1) ≤ 16 := by
    revert g; decide
  unfold dpP win
  refine congrArg₂ (fun a b => a - b) (Finset.sum_congr rfl fun n hn => ?_) ?_
  · have hn' : n < 2 ^ (g.val + 1) := Finset.mem_range.mp hn
    have hr : r.val + n < 528 := by omega
    refine (zext_of_lt (fun s : Fin 528 => acc (pE (WE m c t) (iblk m c 10 t) (gsl (iblk m c 9 t) g) g) (2 ^ (g.val + 1)) (grid0.coords t) (ix2 s j))
      ⟨r.val + n, hr⟩).trans ((acc_at h0 h1 h2 h3 h4 h5 h6 h7 t g ⟨r.val + n, hr⟩ j).trans ?_)
    exact congrArg (zext _) (Nat.add_assoc _ _ _).symm
  · refine (pE_at h0 h1 h2 h3 h4 h5 h6 h7 t g ⟨r.val, by omega⟩ j).trans ?_
    exact zext_of_lt (fun i => val_main_v154 (F := Ideal) (a0 m c) (a1 m c) (a2 m c) (a3 m c) (a4 m c) (a5 m c) (a6 m c) (a7 m c) (ix3 i g j)) (row t r)

/-- The scaled product's cotangent at the block's rows. -/
theorem WE_row (t : Fin cfg0.N) (r : Fin 512) (h : r.val < 528) (k : Fin 1024) :
    WE m c t (ix2 ⟨r.val, h⟩ k) =
      val_main_v144 (F := Ideal) (a0 m c) (a1 m c) (a2 m c) (a3 m c) (a4 m c) (a5 m c) (a6 m c) (a7 m c) (ix2 (row t r) k) :=
  (WE_at h0 h1 h2 h3 h4 h5 h6 h7 t ⟨r.val, h⟩ k).trans
    (zext_of_lt (fun i => val_main_v144 (F := Ideal) (a0 m c) (a1 m c) (a2 m c) (a3 m c) (a4 m c) (a5 m c) (a6 m c) (a7 m c) (ix2 i k)) (row t r))

end Cert.BBwdIdeal.Blocks

end
-- ==== Proof.BFinal.lean ====
/-
  The result arrays of mixer B's gradient are the reference's, for real arguments.
-/
module

public import proofs.«01_k».proof.Proof.BRows

@[expose] public section

set_option maxRecDepth 16384

noncomputable section

namespace Cert.BBwdIdeal.Blocks

open Cert.BBwdIdeal Cert.BBwdIdeal.Gen Cert.BBwdIdeal.Value Cert.BBwdIdeal.Host Cert.BBwdRefIdeal.Read Cert.BBwdRefIdeal.Stages
open Idealize.ShloMosaic Idealize.ShloMosaic.TcCoe Idealize.SL.Sem Cert.Spec

variable {m : (ℓ : Loc nD τ sig) → Buf (Elt Ideal) ℓ} {c : Dev nD}
  (h0 : ∀ i, IsR (a0 m c i)) (h1 : ∀ i, IsR (a1 m c i)) (h2 : ∀ i, IsR (a2 m c i)) (h3 : ∀ i, IsR (a3 m c i)) (h4 : ∀ i, IsR (a4 m c i))
  (h5 : ∀ i, IsR (a5 m c i)) (h6 : ∀ i, IsR (a6 m c i)) (h7 : ∀ i, IsR (a7 m c i))

/-- The block of `dx` at a position. -/
theorem dxBlk_at (dy x : S512x1024.Idx → EReal) (g : S1x1024.Idx → EReal) (H : S512x1024.Idx → EReal) (r : Fin 512) (k : Fin 1024) :
    dxBlk dy x g H (ix2 r k) =
      dy (ix2 r k) + rmsBack cD (fun k => x (ix2 r k)) (fun k => g (ix2 0 k)) (fun k => H (ix2 r k)) k := rfl

/-- The points' rows are all the rows. -/
theorem sum_rows (G : Fin 8192 → EReal) : ∑ t : Fin cfg0.N, ∑ r : Fin 512, G (row t r) = ∑ i, G i :=
  Fin.sum_mul_add_congr fun t r hl => rfl

include h0 h1 h2 h3 h4 h5 h6 h7

/-- The block of the output projection's cotangent is the reference's. -/
theorem dm_ref (t : Fin cfg0.N) (r : Fin 512) (k : Fin 1024) :
    dmBlk (DE m c t) (ix2 r k) =
      val_main_v143 (F := Ideal) (a0 m c) (a1 m c) (a2 m c) (a3 m c) (a4 m c) (a5 m c) (a6 m c) (a7 m c) (ix2 (row t r) k) :=
  (DE_at h0 h1 h2 h3 h4 h5 h6 h7 t (lift r) k).trans
    (zext_of_lt (fun i => val_main_v143 (F := Ideal) (a0 m c) (a1 m c) (a2 m c) (a3 m c) (a4 m c) (a5 m c) (a6 m c) (a7 m c) (ix2 i k)) (row t r))

/-- The block of the grouped product's cotangent is the reference's. -/
theorem draw_ref (t : Fin cfg0.N) (r : Fin 512) (k : Fin 1024) :
    drawBlk (WE m c t) (iblk m c 10 t) (ix2 r k) =
      val_main_v149 (F := Ideal) (a0 m c) (a1 m c) (a2 m c) (a3 m c) (a4 m c) (a5 m c) (a6 m c) (a7 m c) (ix2 (row t r) k) := by
  show WE m c t (ix2 (lift r) k) * iblk m c 10 t (ix2 0 k) = _
  rw [v149_at, b10_at, ← WE_row h0 h1 h2 h3 h4 h5 h6 h7 t r (by omega) k]
  rfl

/-- The block of the normed input's cotangent is the reference's. -/
theorem dh_ref (t : Fin cfg0.N) (r : Fin 512) (k : Fin 1024) :
    dhBlk (PE m c t) (iblk m c 8 t) (ix2 r k) =
      val_main_v217 (F := Ideal) (a0 m c) (a1 m c) (a2 m c) (a3 m c) (a4 m c) (a5 m c) (a6 m c) (a7 m c) (ix2 (row t r) k) := by
  show ∑ j, PE m c t (ix2 r j) * iblk m c 8 t (ix2 k j) = _
  rw [v217_at]
  simp only [PE_at h0 h1 h2 h3 h4 h5 h6 h7, b8_at]

/-- The block of `dx` is the reference's. -/
theorem dx_ref (t : Fin cfg0.N) (r : Fin 512) (k : Fin 1024) :
    dxBlk (iblk m c 0 t) (iblk m c 4 t) (iblk m c 7 t) (dhBlk (PE m c t) (iblk m c 8 t)) (ix2 r k) =
      val_main_v238 (F := Ideal) (a0 m c) (a1 m c) (a2 m c) (a3 m c) (a4 m c) (a5 m c) (a6 m c) (a7 m c) (ix2 (row t r) k) := by
  rw [v238_eq h0 h1 h2 h3 h4 h5 h6 h7, dxBlk_at]
  simp only [dh_ref h0 h1 h2 h3 h4 h5 h6 h7, b0_at, b4_at, b7_at]

/-- A point's share of the scale's gradient, in the reference's stages. -/
theorem ds_ref (t : Fin cfg0.N) (k : Fin 1024) (z : S1x1024.Idx) (hz : z = ix2 0 k) :
    dsBlk (WE m c t) (ext (iblk m c 5 t) (iblk m c 6 t)) (iblk m c 9 t) z =
      ∑ r : Fin 512,
        val_main_v144 (F := Ideal) (a0 m c) (a1 m c) (a2 m c) (a3 m c) (a4 m c) (a5 m c) (a6 m c) (a7 m c) (ix2 (row t r) k) *
          val_main_v100 (F := Ideal) (a0 m c) (a1 m c) (a2 m c) (a3 m c) (ix2 (row t r) k) := by
  subst hz
  have hk : k = col (grp k) (sub k) := Fin.ext (by simp only [col, grp, sub]; omega)
  have e : dsBlk (WE m c t) (ext (iblk m c 5 t) (iblk m c 6 t)) (iblk m c 9 t) (ix2 0 k) =
    ∑ r : Fin 512, WE m c t (ix2 ⟨r.val, by omega⟩ (col (grp k) (sub k))) *
      ∑ q, ext (iblk m c 5 t) (iblk m c 6 t) (ix2 ⟨r.val, by omega⟩ (col (grp k) q)) * iblk m c 9 t (ix3 (grp k) q (sub k)) := rfl
  rw [e]
  refine Finset.sum_congr rfl fun r _ => ?_
  rw [WE_row h0 h1 h2 h3 h4 h5 h6 h7, ← hk]
  refine congrArg (_ * ·) ?_
  conv_rhs => rw [hk, v100_at]
  exact Finset.sum_congr rfl fun q _ => by rw [ext_lift, b5_at, b9_at]

/-- The kernel's `dx` is the reference's. -/
theorem final13 : (dats m 0 c).arrAt 13 cfg0.N =
    val_main_v238 (F := Ideal) (a0 m c) (a1 m c) (a2 m c) (a3 m c) (a4 m c) (a5 m c) (a6 m c) (a7 m c) := by
  refine (dats m 0 c).arrAt_eq_of_covers 13 _ (by decide +kernel) fun t _ y => ?_
  have hN : cfg0.N = 16 := N_0
  blk_simp
  rw [after0_13, dx_at]
  refine Eq.trans ?_ ((dx_ref h0 h1 h2 h3 h4 h5 h6 h7 t (y 0) (y 1)).trans ?_)
  · congr 1
    exact (ix2_eta y).symm
  · unfold row; blk_point [idx t]

/-- The kernel's cotangent of the output projection is the reference's. -/
theorem final14 : (dats m 0 c).arrAt 14 cfg0.N =
    val_main_v239 (F := Ideal) (a0 m c) (a1 m c) (a2 m c) (a3 m c) (a4 m c) (a5 m c) (a6 m c) (a7 m c) := by
  refine (dats m 0 c).arrAt_eq_of_covers 14 _ (by decide +kernel) fun t _ y => ?_
  have hN : cfg0.N = 16 := N_0
  blk_simp
  rw [after0_14, dm_at]
  refine Eq.trans ?_ ((dm_ref h0 h1 h2 h3 h4 h5 h6 h7 t (y 0) (y 1)).trans ?_)
  · congr 1
    exact (ix2_eta y).symm
  · pointwise [val_main_v239]
    unfold row; blk_point [idx t]

/-- The kernel's cotangent of the grouped product is the reference's. -/
theorem final15 : (dats m 0 c).arrAt 15 cfg0.N =
    val_main_v240 (F := Ideal) (a0 m c) (a1 m c) (a2 m c) (a3 m c) (a4 m c) (a5 m c) (a6 m c) (a7 m c) := by
  refine (dats m 0 c).arrAt_eq_of_covers 15 _ (by decide +kernel) fun t _ y => ?_
  have hN : cfg0.N = 16 := N_0
  blk_simp
  rw [after0_15, draw_at]
  refine Eq.trans ?_ ((draw_ref h0 h1 h2 h3 h4 h5 h6 h7 t (y 0) (y 1)).trans ?_)
  · congr 1
    exact (ix2_eta y).symm
  · pointwise [val_main_v240]
    unfold row; blk_point [idx t]

/-- The kernel's cotangent of what is pooled is the reference's. -/
theorem final16 : (dats m 0 c).arrAt 16 cfg0.N =
    val_main_v241 (F := Ideal) (a0 m c) (a1 m c) (a2 m c) (a3 m c) (a4 m c) (a5 m c) (a6 m c) (a7 m c) := by
  refine (dats m 0 c).arrAt_eq_of_covers 16 _ (by decide +kernel) fun t _ y => ?_
  have hN : cfg0.N = 16 := N_0
  blk_simp
  rw [after0_16, dp_at]
  refine Eq.trans ?_ ((PE_at h0 h1 h2 h3 h4 h5 h6 h7 t (y 0) (y 1)).trans ?_)
  · congr 1
    exact (ix2_eta y).symm
  · pointwise [val_main_v241]
    unfold row; blk_point [idx t]

/-- The kernel's gradient of the post-norm's gain is the reference's. -/
theorem final17 : (dats m 0 c).arrAt 17 cfg0.N =
    val_main_v242 (F := Ideal) (a0 m c) (a1 m c) (a2 m c) (a3 m c) (a4 m c) (a5 m c) (a7 m c) := by
  refine (dats m 0 c).arrAt_eq_of_covers 17 _ (by decide +kernel) fun t hf y => ?_
  have hN : cfg0.N = 16 := N_0
  have ht : t.val % 16 = 15 := (flush0_17 t).mp hf
  have hg : ∀ s z, gainBlk (iblk m c 2 s) (iblk m c 0 s) z = ∑ r : Fin 512, rmsGain cD
      (fun j => val_main_v105 (F := Ideal) (a0 m c) (a1 m c) (a2 m c) (a3 m c) (a4 m c) (a5 m c) (ix2 (row s r) j))
      (fun j => a7 m c (ix2 (row s r) j)) (z 1) := fun s z => by simp only [gainBlk, b0_at, b2_at]
  have e := fun z => Pipeline.eq_sum_fin_of_reset_step_apply_last (fun n h => (outsAt0 m c n h).2.2.2.2.1) 16 (fun _ => 0)
    (fun s z => gainBlk (iblk m c 2 s) (iblk m c 0 s) z)
    (fun s h z => by rw [post_first m c s h, zero_add]) (fun s h z => post_next m c s h z) (le_of_eq N_0) t
    (by have := t.isLt; have : cfg0.grid.N = 16 := N_0; omega) z
  blk_simp
  rw [after0_17, e, zero_add]
  simp only [hg]
  rw [sum_rows fun i => rmsGain cD (fun j => val_main_v105 (F := Ideal) (a0 m c) (a1 m c) (a2 m c) (a3 m c) (a4 m c) (a5 m c) (ix2 i j))
      (fun j => a7 m c (ix2 i j)) (y 1)]
  refine ((v242_at _ _ _ _ _ _ _ (y 1)).symm.trans ?_)
  blk_point [idx t]

/-- The kernel's gradient of the pre-norm's gain is the reference's. -/
theorem final18 : (dats m 0 c).arrAt 18 cfg0.N =
    val_main_v243 (F := Ideal) (a0 m c) (a1 m c) (a2 m c) (a3 m c) (a4 m c) (a5 m c) (a6 m c) (a7 m c) := by
  refine (dats m 0 c).arrAt_eq_of_covers 18 _ (by decide +kernel) fun t hf y => ?_
  have hN : cfg0.N = 16 := N_0
  have ht : t.val % 16 = 15 := (flush0_18 t).mp hf
  have e := fun z => Pipeline.eq_sum_fin_of_reset_step_apply_last (fun n h => (outsAt0 m c n h).2.2.2.2.2.1) 16 (fun _ => 0)
    (fun s z => gainBlk (iblk m c 4 s) (dhBlk (PE m c s) (iblk m c 8 s)) z)
    (fun s h z => by rw [pre_first m c s h, zero_add]) (fun s h z => pre_next m c s h z) (le_of_eq N_0) t
    (by have := t.isLt; have : cfg0.grid.N = 16 := N_0; omega) z
  blk_simp
  rw [after0_18, e, zero_add]
  simp only [gainBlk, dh_ref h0 h1 h2 h3 h4 h5 h6 h7, b4_at]
  rw [sum_rows fun i => rmsGain cD (fun j => a0 m c (ix2 i j))
      (fun j => val_main_v217 (F := Ideal) (a0 m c) (a1 m c) (a2 m c) (a3 m c) (a4 m c) (a5 m c) (a6 m c) (a7 m c) (ix2 i j)) (y 1)]
  refine ((v243_at _ _ _ _ _ _ _ _ (y 1)).symm.trans ?_)
  blk_point [idx t]

/-- The kernel's gradient of the scale is the reference's. -/
theorem final19 : (dats m 0 c).arrAt 19 cfg0.N =
    val_main_v244 (F := Ideal) (a0 m c) (a1 m c) (a2 m c) (a3 m c) (a4 m c) (a5 m c) (a6 m c) (a7 m c) := by
  refine (dats m 0 c).arrAt_eq_of_covers 19 _ (by decide +kernel) fun t hf y => ?_
  have hN : cfg0.N = 16 := N_0
  have ht : t.val % 16 = 15 := (flush0_19 t).mp hf
  have e := fun z => Pipeline.eq_sum_fin_of_reset_step_apply_last (fun n h => (outsAt0 m c n h).2.2.2.2.2.2) 16 (fun _ => 0)
    (fun s z => dsBlk (WE m c s) (ext (iblk m c 5 s) (iblk m c 6 s)) (iblk m c 9 s) z)
    (fun s h z => by rw [scale_first m c s h, zero_add]) (fun s h z => scale_next m c s h z) (le_of_eq N_0) t
    (by have := t.isLt; have : cfg0.grid.N = 16 := N_0; omega) z
  have hy : ∀ z : S1x1024.Idx, z = ix2 0 (z 1) := fun z => (eq_ix2 z).trans
    (congrArg (fun q : Fin 1 => (ix2 q (z 1) : S1x1024.Idx)) (Fin.ext (Nat.lt_one_iff.mp (z 0).isLt)))
  blk_simp
  rw [after0_19, e, zero_add]
  simp only [fun s => ds_ref h0 h1 h2 h3 h4 h5 h6 h7 s (y 1) y (hy y)]
  rw [sum_rows fun i => val_main_v144 (F := Ideal) (a0 m c) (a1 m c) (a2 m c) (a3 m c) (a4 m c) (a5 m c) (a6 m c) (a7 m c) (ix2 i (y 1)) *
      val_main_v100 (F := Ideal) (a0 m c) (a1 m c) (a2 m c) (a3 m c) (ix2 i (y 1))]
  refine ((v244_at _ _ _ _ _ _ _ _ (y 1)).symm.trans ?_)
  blk_point [idx t]

end Cert.BBwdIdeal.Blocks

end
-- ==== Proof.BPair.lean ====
/-
  Mixer B's gradient: the kernel computes what the reference computes.
-/
module

public import proofs.«01_k».proof.Defs
public import proofs.«01_k».proof.Proof.BFinal
public import proofs.«01_k».proof.Proof.Finite
public import proofs.«01_k».proof.Proof.Gen.BBwdIdeal.Value
public import proofs.«01_k».proof.Proof.Gen.BBwdRefIdeal.Run
public import Idealize.ShloMosaic.Lib.Claim

@[expose] public section

set_option maxRecDepth 16384

noncomputable section

namespace Cert.BPair

open Idealize.ShloMosaic Idealize.ShloMosaic.TcCoe Idealize.SL.Sem Cert.Spec Cert.BBwdRefIdeal.Read Cert.BBwdIdeal.Blocks

/-- For finite arguments the two programs leave the same seven results and their arguments unchanged. -/
theorem algebraic : Cert.algebraic_BBwdIdeal_BBwdRefIdeal_pre_b_finite := by
  pair_intro
  · run_from Cert.BBwdIdeal.Value.run_blocks m g
  · refine (θ_run _ _ _).mono (fun r h c => ?_) (Cert.BBwdRefIdeal.Value.run m' g')
    obtain ⟨e0, e1, e2, e3, e4, e5, e6, e7⟩ := hagree c
    obtain ⟨h0, h1, h2, h3, h4, h5, h6, h7⟩ := b_real _ _ _ _ _ _ _ _ (hpre c)
    replace e0 : StableHlo.launchContents m' c (Proc.devRef .tc Cert.BBwdRefIdeal.main_arg0) = Cert.BBwdIdeal.Host.a0 m c := e0
    replace e1 : StableHlo.launchContents m' c (Proc.devRef .tc Cert.BBwdRefIdeal.main_arg1) = Cert.BBwdIdeal.Host.a1 m c := e1
    replace e2 : StableHlo.launchContents m' c (Proc.devRef .tc Cert.BBwdRefIdeal.main_arg2) = Cert.BBwdIdeal.Host.a2 m c := e2
    replace e3 : StableHlo.launchContents m' c (Proc.devRef .tc Cert.BBwdRefIdeal.main_arg3) = Cert.BBwdIdeal.Host.a3 m c := e3
    replace e4 : StableHlo.launchContents m' c (Proc.devRef .tc Cert.BBwdRefIdeal.main_arg4) = Cert.BBwdIdeal.Host.a4 m c := e4
    replace e5 : StableHlo.launchContents m' c (Proc.devRef .tc Cert.BBwdRefIdeal.main_arg5) = Cert.BBwdIdeal.Host.a5 m c := e5
    replace e6 : StableHlo.launchContents m' c (Proc.devRef .tc Cert.BBwdRefIdeal.main_arg6) = Cert.BBwdIdeal.Host.a6 m c := e6
    replace e7 : StableHlo.launchContents m' c (Proc.devRef .tc Cert.BBwdRefIdeal.main_arg7) = Cert.BBwdIdeal.Host.a7 m c := e7
    obtain ⟨r238, r239, r240, r241, r242, r243, r244, rest⟩ := h c
    refine ⟨r238.trans ?_, r239.trans ?_, r240.trans ?_, r241.trans ?_, r242.trans ?_, r243.trans ?_, r244.trans ?_, rest⟩
    · refine (val_main_v238_eq (F := Ideal) _).trans (Eq.trans ?_ (final13 h0 h1 h2 h3 h4 h5 h6 h7).symm)
      rw [e0, e1, e2, e3, e4, e5, e6, e7]
    · refine (val_main_v239_eq (F := Ideal) _).trans (Eq.trans ?_ (final14 h0 h1 h2 h3 h4 h5 h6 h7).symm)
      rw [e0, e1, e2, e3, e4, e5, e6, e7]
    · refine (val_main_v240_eq (F := Ideal) _).trans (Eq.trans ?_ (final15 h0 h1 h2 h3 h4 h5 h6 h7).symm)
      rw [e0, e1, e2, e3, e4, e5, e6, e7]
    · refine (val_main_v241_eq (F := Ideal) _).trans (Eq.trans ?_ (final16 h0 h1 h2 h3 h4 h5 h6 h7).symm)
      rw [e0, e1, e2, e3, e4, e5, e6, e7]
    · refine (val_main_v242_eq (F := Ideal) _).trans (Eq.trans ?_ (final17 h0 h1 h2 h3 h4 h5 h6 h7).symm)
      rw [e0, e1, e2, e3, e4, e5, e7]
    · refine (val_main_v243_eq (F := Ideal) _).trans (Eq.trans ?_ (final18 h0 h1 h2 h3 h4 h5 h6 h7).symm)
      rw [e0, e1, e2, e3, e4, e5, e6, e7]
    · refine (val_main_v244_eq (F := Ideal) _).trans (Eq.trans ?_ (final19 h0 h1 h2 h3 h4 h5 h6 h7).symm)
      rw [e0, e1, e2, e3, e4, e5, e6, e7]

end Cert.BPair

end
-- ==== Proof.HBlock.lean ====
/-
  What mixer A's forward kernel computes of one grid point's blocks, stage by stage.
-/
module

public import proofs.«01_k».proof.Proof.Gen.AFwdIdeal.Skeleton
public import proofs.«01_k».proof.Proof.Spec
public import Idealize.ShloMosaic.Lib.Claim
public import Idealize.ShloMosaic.Lib.Pointwise
public import Idealize.ShloMosaic.Lib.WordCmp
public import Idealize.ShloMosaic.PureOps.Ideal.Laws

@[expose] public section

set_option maxRecDepth 16384

noncomputable section

namespace Cert.AFwdIdeal.Blocks

open Cert.AFwdIdeal Cert.AFwdIdeal.Gen Idealize.ShloMosaic Idealize.ShloMosaic.TcCoe Idealize.SL.Sem Cert.Spec

/-- One half, as both programs spell it. -/
abbrev cH : EReal := Ideal.ofBits .f32 0x3F000000#32
/-- The reciprocal square root of two, as both programs spell it. -/
abbrev cS : EReal := Ideal.ofBits .f32 0x3F3504F3#32
/-- The width of a mixer row, 2048, as both programs spell it. -/
abbrev cA : EReal := Ideal.ofBits .f32 0x45000000#32

/-- GELU as the kernel spells it: the argument times its normal distribution function. -/
def gel (z : EReal) : EReal := z * (cH + cH * Ideal.erf (z * cS))
/-- A row without its mean. -/
def centred {n : ℕ} (x : Fin n → EReal) (k : Fin n) : EReal := x k - Ideal.div (∑ j, x j) cA
/-- A row's reciprocal standard deviation. -/
def lnr {n : ℕ} (x : Fin n → EReal) : EReal := Ideal.rsqrt (Ideal.div (∑ j, centred x j * centred x j) cA + cE)

/-- A normed block: each row times its reciprocal root mean square and the gain. -/
def normBlk (x : S512x1024.Idx → EReal) (g : S1x1024.Idx → EReal) (y : S512x1024.Idx) : EReal :=
  x y * rinv cD (fun k => x (ix2 (y 0) k)) * g (ix2 0 (y 1))
/-- A block of rows times the transposed input projection. -/
def zBlk (H : S512x1024.Idx → EReal) (w : S4096x1024.Idx → EReal) (y : S512x4096.Idx) : EReal :=
  ∑ j : Fin 1024, H (ix2 (y 0) j) * w (ix2 (y 1) j)
/-- GELU of the projection's first half. -/
def uBlk (Z : S512x4096.Idx → EReal) (y : S512x2048.Idx) : EReal := gel (Z (ix2 (y 0) ⟨(y 1).val, lt_trans (y 1).isLt (by decide)⟩))
/-- GELU of the projection's second half. -/
def vBlk (Z : S512x4096.Idx → EReal) (y : S512x2048.Idx) : EReal := gel (Z (ix2 (y 0) ⟨2048 + (y 1).val, Nat.add_lt_add_left (y 1).isLt 2048⟩))
/-- The block's layer norm before its gain and bias. -/
def vhBlk (v : S512x2048.Idx → EReal) (y : S512x2048.Idx) : EReal :=
  centred (fun k => v (ix2 (y 0) k)) (y 1) * lnr (fun k => v (ix2 (y 0) k))
/-- The rows' reciprocal standard deviations, one in every lane. -/
def rsBlk (v : S512x2048.Idx → EReal) (y : S512x128.Idx) : EReal := lnr (fun k => v (ix2 (y 0) k))
/-- The layer norm's gain and bias. -/
def vnBlk (h : S512x2048.Idx → EReal) (g b : S1x2048.Idx → EReal) (y : S512x2048.Idx) : EReal := h y * g (ix2 0 (y 1)) + b (ix2 0 (y 1))

variable (x0 : S512x1024.Idx → EReal) (x1 : S1x1024.Idx → EReal) (x2 : S4096x1024.Idx → EReal)

/-- The normed block. -/
theorem pay4_eq : k0_pay4 (F := Ideal) x0 x1 = normBlk x0 x1 := by
  funext y
  pointwise [k0_pay4, normBlk, rinv]
/-- The projection. -/
theorem pay5_eq : k0_pay5 (F := Ideal) x0 x1 x2 = zBlk (normBlk x0 x1) x2 := by
  funext y
  rw [k0_pay5, pay4_eq]
  generalize normBlk x0 x1 = H
  pointwise [zBlk]
/-- The gate's half. -/
theorem pay8_eq : k0_pay8 (F := Ideal) x0 x1 x2 = uBlk (zBlk (normBlk x0 x1) x2) := by
  funext y
  simp only [k0_pay8, k0_pay7, k0_pay6, pay5_eq]
  generalize zBlk _ _ = Z
  pointwise [uBlk, gel, Ideal.erf_def]
/-- The value half: the layer norm's rows. -/
theorem pay18_eq : k0_pay18 (F := Ideal) (k0_pay10 x0 x1 x2) (k0_pay11 x0 x1 x2) = vhBlk (vBlk (zBlk (normBlk x0 x1) x2)) := by
  funext y
  simp only [k0_pay18, k0_pay17, k0_pay16, k0_pay12, k0_pay11, k0_pay10, pay5_eq]
  generalize zBlk _ _ = Z
  pointwise [vhBlk, vBlk, gel, centred, lnr, Ideal.erf_def]
/-- The value half: the layer norm's reciprocal standard deviations. -/
theorem pay21_eq : k0_pay21 (F := Ideal) (k0_pay20 (k0_pay10 x0 x1 x2) (k0_pay11 x0 x1 x2)) = rsBlk (vBlk (zBlk (normBlk x0 x1) x2)) := by
  funext y
  simp only [k0_pay21, k0_pay20, k0_pay17, k0_pay16, k0_pay12, k0_pay11, k0_pay10, pay5_eq]
  generalize zBlk _ _ = Z
  pointwise [rsBlk, vBlk, gel, centred, lnr, Ideal.erf_def]
/-- The layer norm. -/
theorem pay22_eq (h : S512x2048.Idx → EReal) (g b : S1x2048.Idx → EReal) : k0_pay22 (F := Ideal) h g b = vnBlk h g b := by
  funext y
  pointwise [k0_pay22, vnBlk]

/-- A row of a chunk among the block's. -/
def chRow (c : Fin 4) (r : Fin 128) : Fin 512 := ⟨c.val * 128 + r.val, by omega⟩
/-- A column of a group among the block's. -/
def gCol (g : Fin 8) (q : Fin 256) : Fin 2048 := ⟨g.val * 256 + q.val, by omega⟩
/-- A row's chunk. -/
def rowCh (r : Fin 512) : Fin 4 := ⟨r.val / 128, by omega⟩
/-- A row's place in its chunk. -/
def rowIn (r : Fin 512) : Fin 128 := ⟨r.val % 128, Nat.mod_lt _ (by decide)⟩
/-- A column's group. -/
def colG (q : Fin 2048) : Fin 8 := ⟨q.val / 256, by omega⟩

/-- The block of the gated product: per group of columns and chunk of rows, the group's lower triangle times the chunk, plus the bias. -/
def gatedBlk (U N : S512x2048.Idx → EReal) (ws : S8x128x128.Idx → EReal) (b : S128x8.Idx → EReal) (y : S512x2048.Idx) : EReal :=
  U y * ((∑ k : Fin 128, if k.val ≤ (rowIn (y 0)).val then ws (ix3 (colG (y 1)) (rowIn (y 0)) k) *
    N (ix2 (chRow (rowCh (y 0)) k) (y 1)) else 0) + b (ix2 (rowIn (y 0)) (colG (y 1))))

/-- The lower triangle's mask, as the words spell it. -/
theorem sel_le (p k : Fin 128) (a b : EReal) :
    Scalar.select (IntOp.cmpi CmpIPredicate.sge (BitVec.ofNat 32 p.val) (BitVec.ofNat 32 k.val)) a b = if k.val ≤ p.val then a else b := by
  rw [WordCmp.cmpi_sge_ofNat (by have := p.isLt; omega) (by have := k.isLt; omega)]
  by_cases h : k.val ≤ p.val <;> simp [h, Scalar.select]

/-- One piece of it, its group, its chunk and its rows told by the position. -/
theorem gated_piece (U N : S512x2048.Idx → EReal) (ws : S8x128x128.Idx → EReal) (b : S128x8.Idx → EReal) (y : S512x2048.Idx)
    (i : Fin 512) (j : Fin 2048) (r : Fin 128) (g : Fin 8) (f : Fin 128 → Fin 512) (hi : i = y 0) (hj : j = y 1)
    (hr : r = rowIn (y 0)) (hg : g = colG (y 1)) (hf : ∀ k, f k = chRow (rowCh (y 0)) k) :
    U (ix2 i j) * ((∑ k : Fin 128, Scalar.select (IntOp.cmpi CmpIPredicate.sge (BitVec.ofNat 32 r.val) (BitVec.ofNat 32 k.val))
      (ws (ix3 g r k) * N (ix2 (f k) j)) 0) + b (ix2 r g)) = gatedBlk U N ws b y := by
  simp only [sel_le]
  unfold gatedBlk
  rw [show U y = U (ix2 (y 0) (y 1)) from congrArg U (eq_ix2 y), hi, hj, hr, hg]
  simp only [hf]

/-- The output projection's block. -/
def mBlk (G : S512x2048.Idx → EReal) (w : S2048x1024.Idx → EReal) (y : S512x1024.Idx) : EReal := ∑ k : Fin 2048, G (ix2 (y 0) k) * w (ix2 k (y 1))
/-- The block with its residual. -/
def addBlk (x N : S512x1024.Idx → EReal) (y : S512x1024.Idx) : EReal := x y + N y
/-- The output projection. -/
theorem pay2_eq (G : S512x2048.Idx → EReal) (w : S2048x1024.Idx → EReal) : k0_pay2 (F := Ideal) G w = mBlk G w := by
  funext y
  pointwise [k0_pay2, mBlk]
/-- The block's output. -/
theorem pay3_eq (x : S512x1024.Idx → EReal) (G : S512x2048.Idx → EReal) (w : S2048x1024.Idx → EReal) (g : S1x1024.Idx → EReal) :
    k0_pay3 (F := Ideal) x G w g = addBlk x (normBlk (mBlk G w) g) := by
  funext y
  rw [k0_pay3, pay2_eq]
  generalize mBlk G w = M
  pointwise [addBlk, normBlk, rinv]

end Cert.AFwdIdeal.Blocks

end
-- ==== Proof.HKernel.lean ====
/-
  What one grid point of mixer A's forward kernel leaves in each output block, as a function of its input blocks.
-/
module

public import proofs.«01_k».proof.Proof.Gen.AFwdIdeal.Value
public import proofs.«01_k».proof.Proof.HBlock
public import Idealize.ShloMosaic.Lib.Pipeline.ValueKit
public import Idealize.ShloMosaic.Lib.Pipeline.ReadBack

@[expose] public section

set_option maxRecDepth 16384

noncomputable section

namespace Cert.AFwdIdeal.Blocks

open Cert.AFwdIdeal Cert.AFwdIdeal.Gen Idealize.ShloMosaic Idealize.ShloMosaic.TcCoe Idealize.SL.Sem Cert.Spec

variable (m : (ℓ : Loc nD τ sig) → Buf (Elt Ideal) ℓ) (c : Dev nD) (t : Fin cfg0.N)

/-- The projection at a point's block. -/
def ZE : S512x4096.Idx → EReal := zBlk (normBlk (iblk m c 0 t) (iblk m c 1 t)) (iblk m c 2 t)

/-- What a point leaves of the normed input. -/
theorem h_at (y) : (outsAt0 m c t).2.1 y = normBlk (iblk m c 0 t) (iblk m c 1 t) y := by
  unfold outsAt0
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  frame_open
  frame_out
  rw [pay4_eq]

/-- What a point leaves of the gate. -/
theorem u_at (y) : (outsAt0 m c t).2.2.2.1 y = uBlk (ZE m c t) y := by
  unfold outsAt0 ZE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  frame_open
  frame_out
  rw [pay8_eq]
  generalize uBlk _ = U
  pointwise [k0_pay15]

/-- What a point leaves of the layer norm. -/
theorem vh_at (y) : (outsAt0 m c t).2.2.2.2.1 y = vhBlk (vBlk (ZE m c t)) y := by
  unfold outsAt0 ZE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  frame_open
  frame_out
  rw [k0_pay19, pay18_eq]
  generalize vhBlk _ = U
  pointwise []

/-- What a point leaves of the reciprocal standard deviations. -/
theorem rs_at (y) : (outsAt0 m c t).2.2.2.2.2.1 y = rsBlk (vBlk (ZE m c t)) y := by
  unfold outsAt0 ZE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  frame_open
  frame_out
  rw [pay21_eq]

/-- A position in the whole block is itself. -/
theorem whole_idx (h) (j : S512x2048.Idx) : (Rect.unit (s := S512x2048) ![0, 0] ![512, 2048] h).idx j = j := by
  refine funext fun a => Fin.ext ?_
  rw [Rect.idx_unit_val]
  fin_cases a <;> exact Nat.zero_add _

/-- The gated product at a point's block. -/
def GE : S512x2048.Idx → EReal :=
  gatedBlk (uBlk (ZE m c t)) (vnBlk (vhBlk (vBlk (ZE m c t))) (iblk m c 3 t) (iblk m c 4 t)) (iblk m c 5 t) (iblk m c 6 t)

/-- What a point leaves of the gated product, of the output projection and of the block's output. -/
theorem last_at : (∀ y, (outsAt0 m c t).2.2.2.2.2.2.1 y = GE m c t y) ∧
    (∀ y, (outsAt0 m c t).2.2.2.2.2.2.2 y = mBlk (GE m c t) (iblk m c 7 t) y) ∧
    ∀ y, (outsAt0 m c t).1 y = addBlk (iblk m c 0 t) (normBlk (mBlk (GE m c t) (iblk m c 7 t)) (iblk m c 8 t)) y := by
  unfold GE ZE outsAt0
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  generalize iblk m c 8 t = b8
  frame_open
  frame_out
  simp only [k0_pay25, k0_pay26, pay22_eq, pay18_eq, pay8_eq]
  generalize vnBlk _ _ _ = N
  generalize uBlk _ = U
  simp only [View.readCov_eq_canon', pay3_eq, pay2_eq]
  rw [show View.canon (s := S512x2048) (e := .bf16) _ = gatedBlk U N b5 b6 from ?h]
  case h =>
   funext y
   canon_tiles x h
   all_goals
    have hx0 : (x 0).val < 128 := (x 0).isLt
    have hx1 : (x 1).val < 256 := (x 1).isLt
    pointwise [k0_pay1, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69]
    refine gated_piece U N b5 b6 y _ _ _ _ _ ?_ ?_ ?_ ?_ fun k => ?_
    all_goals
      refine Fin.ext ?_
      simp only [rowIn, colG, chRow, rowCh, Fin.val_zero, Fin.val_one]
      omega
  simp only [whole_idx]
  exact ⟨fun _ => trivial, fun _ => trivial, fun _ => trivial⟩

end Cert.AFwdIdeal.Blocks

end
-- ==== Proof.HRef.lean ====
/-
  The stages of mixer A's forward pass as the reference computes them, read at an index.
-/
module

public import proofs.«01_k».proof.Proof.Gen.AFwdRefIdeal.Read
public import proofs.«01_k».proof.Proof.HBlock
public import proofs.«01_k».proof.Proof.Reals
public import Idealize.ShloMosaic.Lib.Pointwise
public import Idealize.ShloMosaic.Lib.Affine
public import Idealize.ShloMosaic.Lib.Claim

@[expose] public section

set_option maxRecDepth 16384

noncomputable section

namespace Cert.AFwdRefIdeal.Stages

open Cert.AFwdRefIdeal Cert.AFwdRefIdeal.Gen Cert.AFwdRefIdeal.Read Idealize.ShloMosaic Idealize.ShloMosaic.TcCoe Idealize.SL.Sem Cert.Spec
open Cert.AFwdIdeal.Blocks (gel centred lnr cA cH cS colG sel_le)

/-- The constant 1/2. -/
theorem half_eq : cH = ((1/2 : ℝ) : EReal) := by
  simp [Ideal.ofBits, Ideal.ieee, -EReal.coe_mul]; norm_num
/-- The error function of any extended real is a real. -/
theorem erf_real (x : EReal) : IsR (Ideal.erf x) := by
  induction x using EReal.rec with
  | bot => exact ⟨-1, by rw [Ideal.erf_bot]; rfl⟩
  | top => exact ⟨1, by rw [Ideal.erf_top]; rfl⟩
  | coe r => exact ⟨_, Ideal.erf_coe r⟩
/-- GELU with the complementary error function is GELU with the error function. -/
theorem gel_host (z : EReal) : cH * z * Ideal.erfc (-(z * cS)) = gel z := by
  unfold gel
  rw [Ideal.erfc_neg, half_eq]
  obtain ⟨e, he⟩ := erf_real (z * cS)
  rw [he, mul_comm ((1/2 : ℝ) : EReal) z, mul_assoc, ← EReal.coe_one]
  simp only [← EReal.coe_mul, ← EReal.coe_add]
  congr 2; ring

variable (x0 : S8192x1024.Idx → EReal) (x1 x8 : S1024.Idx → EReal) (x2 : S1024x4096.Idx → EReal) (x3 x4 : S2048.Idx → EReal)
  (x5 : S8x128x128.Idx → EReal) (x6 : S8x128.Idx → EReal) (x7 : S2048x1024.Idx → EReal)

/-- The normed input. -/
theorem v12_at (i : Fin 8192) (k : Fin 1024) :
    val_main_v12 (F := Ideal) x0 x1 (ix2 i k) = x0 (ix2 i k) * rinv cD (fun j => x0 (ix2 i j)) * x1 (ix1 k) := by
  pointwise [val_main_v12, val_main_v9, val_main_v8, val_main_v7, val_main_v6, val_main_v4, val_main_v2, val_main_v1, val_main_v0, val_main_cst, val_main_v3, val_main_cst_0, val_main_v5, val_main_cst_1, val_main_v11, val_main_v10, rinv]
/-- The projection. -/
theorem v13_at (i : Fin 8192) (k : Fin 4096) :
    val_main_v13 (F := Ideal) x0 x1 x2 (ix2 i k) = ∑ j, val_main_v12 (F := Ideal) x0 x1 (ix2 i j) * x2 (ix2 j k) := by
  pointwise [val_main_v13]
/-- Its GELU, for the saved halves. -/
theorem v20_at (i : Fin 8192) (k : Fin 4096) :
    val_main_v20 (F := Ideal) x0 x1 x2 (ix2 i k) = gel (val_main_v13 (F := Ideal) x0 x1 x2 (ix2 i k)) := by
  pointwise [val_main_v20, val_main_v15, val_main_v14, val_main_cst_2, val_main_v19, val_main_v18, val_main_v16, val_main_v17, val_main_cst_3, Ideal.hostUnary_erfc_def, Ideal.hostNegf_def, Ideal.negf_def, neg_mul]
  exact gel_host _
/-- Its GELU, for the gate. -/
theorem v43_at (i : Fin 8192) (k : Fin 4096) :
    val_main_v43 (F := Ideal) x0 x1 x2 (ix2 i k) = gel (val_main_v13 (F := Ideal) x0 x1 x2 (ix2 i k)) := by
  pointwise [val_main_v43, val_main_v38, val_main_v37, val_main_cst_9, val_main_v42, val_main_v41, val_main_v39, val_main_v40, val_main_cst_10, Ideal.hostUnary_erfc_def, Ideal.hostNegf_def, Ideal.negf_def, neg_mul]
  exact gel_host _

/-- A column of the first half. -/
def lo (k : Fin 2048) : Fin 4096 := ⟨k.val, lt_trans k.isLt (by decide)⟩
/-- A column of the second half. -/
def hi (k : Fin 2048) : Fin 4096 := ⟨2048 + k.val, Nat.add_lt_add_left k.isLt 2048⟩

/-- The saved gate. -/
theorem v99_at (i : Fin 8192) (k : Fin 2048) :
    val_main_v99 (F := Ideal) x0 x1 x2 (ix2 i k) = gel (val_main_v13 (F := Ideal) x0 x1 x2 (ix2 i (lo k))) := by
  rw [← v20_at]
  pointwise [val_main_v99, val_main_v21, lo]
/-- The saved path's values. -/
theorem v22_at (i : Fin 8192) (k : Fin 2048) :
    val_main_v22 (F := Ideal) x0 x1 x2 (ix2 i k) = gel (val_main_v13 (F := Ideal) x0 x1 x2 (ix2 i (hi k))) := by
  rw [← v20_at]
  pointwise [val_main_v22, hi]
/-- The gate. -/
theorem v44_at (i : Fin 8192) (k : Fin 2048) :
    val_main_v44 (F := Ideal) x0 x1 x2 (ix2 i k) = gel (val_main_v13 (F := Ideal) x0 x1 x2 (ix2 i (lo k))) := by
  rw [← v43_at]
  pointwise [val_main_v44, lo]
/-- The values. -/
theorem v45_at (i : Fin 8192) (k : Fin 2048) :
    val_main_v45 (F := Ideal) x0 x1 x2 (ix2 i k) = gel (val_main_v13 (F := Ideal) x0 x1 x2 (ix2 i (hi k))) := by
  rw [← v43_at]
  pointwise [val_main_v45, hi]

/-- The saved reciprocal standard deviations. -/
theorem v103_at (i : Fin 8192) (k : Fin 128) :
    val_main_v103 (F := Ideal) x0 x1 x2 (ix2 i k) = lnr (fun k => val_main_v22 (F := Ideal) x0 x1 x2 (ix2 i k)) := by
  pointwise [val_main_v103, val_main_v36, val_main_v35, val_main_v33, val_main_v31, val_main_v30, val_main_v29, val_main_v28, val_main_v27, val_main_v26, val_main_v24, val_main_v23, val_main_cst_4, val_main_v25, val_main_cst_5, val_main_cst_6, val_main_v32, val_main_cst_7, val_main_v34, val_main_cst_8, lnr, centred]
/-- The saved layer norm. -/
theorem v102_at (i : Fin 8192) (k : Fin 2048) :
    val_main_v102 (F := Ideal) x0 x1 x2 (ix2 i k) =
      centred (fun k => val_main_v22 (F := Ideal) x0 x1 x2 (ix2 i k)) k * lnr (fun k => val_main_v22 (F := Ideal) x0 x1 x2 (ix2 i k)) := by
  pointwise [val_main_v102, val_main_v101, val_main_v28, val_main_v27, val_main_v26, val_main_v24, val_main_v23, val_main_cst_4, val_main_v25, val_main_cst_5, val_main_v100, val_main_v36, val_main_v35, val_main_v33, val_main_v31, val_main_v30, val_main_v29, val_main_cst_6, val_main_v32, val_main_cst_7, val_main_v34, val_main_cst_8, lnr, centred]
/-- The layer norm with its gain and bias. -/
theorem v67_at (i : Fin 8192) (k : Fin 2048) :
    val_main_v67 (F := Ideal) x0 x1 x2 x3 x4 (ix2 i k) =
      centred (fun k => val_main_v45 (F := Ideal) x0 x1 x2 (ix2 i k)) k * lnr (fun k => val_main_v45 (F := Ideal) x0 x1 x2 (ix2 i k)) *
        x3 (ix1 k) + x4 (ix1 k) := by
  pointwise [val_main_v67, val_main_v64, val_main_v61, val_main_v51, val_main_v50, val_main_v49, val_main_v47, val_main_v46, val_main_cst_11, val_main_v48, val_main_cst_12, val_main_v60, val_main_v59, val_main_v58, val_main_v56, val_main_v54, val_main_v53, val_main_v52, val_main_cst_13, val_main_v55, val_main_cst_14, val_main_v57, val_main_cst_15, val_main_v63, val_main_v62, val_main_v66, val_main_v65, lnr, centred]

/-- The lower triangles. -/
theorem v74_at (g : Fin 8) (p k : Fin 128) :
    val_main_v74 (F := Ideal) x5 (ix3 g p k) = if k.val ≤ p.val then x5 (ix3 g p k) else 0 := by
  rw [← sel_le]
  pointwise [val_main_v74, val_main_v73, val_main_cst_16, val_main_call1_v0, val_main_v72, val_main_v71, val_main_v70, val_main_c, val_main_call0_v4, val_main_call0_v2, val_main_call0_v0, val_main_call0_v1, val_main_call0_c, val_main_call0_v3, val_main_call0_v5, val_main_call0_c_0]
  rw [show ∀ w : BitVec 32, IntOp.addi w 0#32 = w from fun w => BitVec.add_zero w,
    show ∀ w : BitVec 1, Scalar.select w 1#1 0#1 = w by decide]

/-- A row of the same chunk. -/
def chunkRow (i : Fin 8192) (k : Fin 128) : Fin 8192 := ⟨i.val / 128 * 128 + k.val, by omega⟩
/-- A row's place in its chunk. -/
def place (i : Fin 8192) : Fin 128 := ⟨i.val % 128, Nat.mod_lt _ (by decide)⟩

/-- The gated product. -/
theorem v82_at (i : Fin 8192) (q : Fin 2048) :
    val_main_v82 (F := Ideal) x0 x1 x2 x3 x4 x5 x6 (ix2 i q) = val_main_v44 (F := Ideal) x0 x1 x2 (ix2 i q) *
      ((∑ k : Fin 128, val_main_v67 (F := Ideal) x0 x1 x2 x3 x4 (ix2 (chunkRow i k) q) *
        val_main_v74 (F := Ideal) x5 (ix3 (colG q) (place i) k)) + x6 (ix2 (colG q) (place i))) := by
  pointwise [val_main_v82, val_main_v81, val_main_v69, val_main_v80, val_main_v76, val_main_v75, val_main_v68, val_main_v79, val_main_v78, val_main_v77]
  rfl
/-- The output projection. -/
theorem v83_at (i : Fin 8192) (k : Fin 1024) :
    val_main_v83 (F := Ideal) x0 x1 x2 x3 x4 x5 x6 x7 (ix2 i k) =
      ∑ j, val_main_v82 (F := Ideal) x0 x1 x2 x3 x4 x5 x6 (ix2 i j) * x7 (ix2 j k) := by
  pointwise [val_main_v83]
/-- The block's output. -/
theorem v97_at (i : Fin 8192) (k : Fin 1024) :
    val_main_v97 (F := Ideal) x0 x1 x2 x3 x4 x5 x6 x7 x8 (ix2 i k) = x0 (ix2 i k) +
      val_main_v83 (F := Ideal) x0 x1 x2 x3 x4 x5 x6 x7 (ix2 i k) *
        rinv cD (fun j => val_main_v83 (F := Ideal) x0 x1 x2 x3 x4 x5 x6 x7 (ix2 i j)) * x8 (ix1 k) := by
  pointwise [val_main_v97, val_main_v96, val_main_v93, val_main_v92, val_main_v91, val_main_v90, val_main_v88, val_main_v86, val_main_v85, val_main_v84, val_main_cst_17, val_main_v87, val_main_cst_18, val_main_v89, val_main_cst_19, val_main_v95, val_main_v94, rinv]

end Cert.AFwdRefIdeal.Stages

end
-- ==== Proof.HHost.lean ====
/-
  Mixer A's forward pass: what the host hands to the kernel, and the kernel's blocks as blocks of the reference's stages.
-/
module

public import proofs.«01_k».proof.Proof.HKernel
public import proofs.«01_k».proof.Proof.HRef
public import Idealize.ShloMosaic.Lib.StableHlo.ReadAt

@[expose] public section

set_option maxRecDepth 16384

noncomputable section

namespace Cert.AFwdIdeal.Blocks

open Cert.AFwdIdeal Cert.AFwdIdeal.Gen Cert.AFwdRefIdeal.Read Cert.AFwdRefIdeal.Stages Idealize.ShloMosaic Idealize.ShloMosaic.TcCoe
open Idealize.SL.Sem Cert.Spec

variable (m : (ℓ : Loc nD τ sig) → Buf (Elt Ideal) ℓ) (c : Dev nD)

/-- The mixer's input. -/
abbrev a0 : S8192x1024.Idx → EReal := m ((c : Thread nD τ).loc main_arg0)
/-- The pre-norm's gain. -/
abbrev a1 : S1024.Idx → EReal := m ((c : Thread nD τ).loc main_arg1)
/-- The input projection. -/
abbrev a2 : S1024x4096.Idx → EReal := m ((c : Thread nD τ).loc main_arg2)
/-- The layer norm's gain. -/
abbrev a3 : S2048.Idx → EReal := m ((c : Thread nD τ).loc main_arg3)
/-- The layer norm's bias. -/
abbrev a4 : S2048.Idx → EReal := m ((c : Thread nD τ).loc main_arg4)
/-- The groups' mixing matrices. -/
abbrev a5 : S8x128x128.Idx → EReal := m ((c : Thread nD τ).loc main_arg5)
/-- The groups' biases. -/
abbrev a6 : S8x128.Idx → EReal := m ((c : Thread nD τ).loc main_arg6)
/-- The output projection. -/
abbrev a7 : S2048x1024.Idx → EReal := m ((c : Thread nD τ).loc main_arg7)
/-- The post-norm's gain. -/
abbrev a8 : S1024.Idx → EReal := m ((c : Thread nD τ).loc main_arg8)

/-- The input projection, transposed. -/
theorem v1_at (k : Fin 4096) (j : Fin 1024) : (V m c main_v1 : S4096x1024.Idx → EReal) (ix2 k j) = a2 m c (ix2 j k) := by
  unfold V
  after_reads_at
/-- The output projection. -/
theorem v2_at (k : Fin 2048) (j : Fin 1024) : (V m c main_v2 : S2048x1024.Idx → EReal) (ix2 k j) = a7 m c (ix2 k j) := by
  unfold V
  after_reads_at
/-- The pre-norm's gain, laid out as a row. -/
theorem v3_at (k : Fin 1024) : (V m c main_v3 : S1x1024.Idx → EReal) (ix2 0 k) = a1 m c (ix1 k) := by
  unfold V
  after_reads_at
/-- The layer norm's gain, laid out as a row. -/
theorem v4_at (k : Fin 2048) : (V m c main_v4 : S1x2048.Idx → EReal) (ix2 0 k) = a3 m c (ix1 k) := by
  unfold V
  after_reads_at
/-- The layer norm's bias, laid out as a row. -/
theorem v5_at (k : Fin 2048) : (V m c main_v5 : S1x2048.Idx → EReal) (ix2 0 k) = a4 m c (ix1 k) := by
  unfold V
  after_reads_at
/-- The groups' biases, transposed. -/
theorem v6_at (p : Fin 128) (g : Fin 8) : (V m c main_v6 : S128x8.Idx → EReal) (ix2 p g) = a6 m c (ix2 g p) := by
  unfold V
  after_reads_at
/-- The post-norm's gain, laid out as a row. -/
theorem v7_at (k : Fin 1024) : (V m c main_v7 : S1x1024.Idx → EReal) (ix2 0 k) = a8 m c (ix1 k) := by
  unfold V
  after_reads_at

/-- All windows' block indices, by the grid point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0, 0] ∧ win0_6.index t = ![0, 0] ∧
    win0_7.index t = ![0, 0] ∧ win0_8.index t = ![0, 0] ∧ win0_9.index t = ![t.val, 0] ∧ win0_10.index t = ![t.val, 0] ∧
    win0_12.index t = ![t.val, 0] ∧ win0_13.index t = ![t.val, 0] ∧ win0_14.index t = ![t.val, 0] ∧
    win0_15.index t = ![t.val, 0] ∧ win0_16.index t = ![t.val, 0] :=
  (by decide +kernel : ∀ t : Fin grid0.N, _)

/-- Row `r` of point `t`'s block is this row of the array. -/
def row (t : Fin cfg0.N) (r : Fin 512) : Fin 8192 := ⟨t.val * 512 + r.val, by have := t.isLt; have : cfg0.N = 16 := N_0; omega⟩

theorem b0_at (t : Fin cfg0.N) (r : Fin 512) (k : Fin 1024) :
    (iblk m c 0 t : S512x1024.Idx → EReal) (ix2 r k) = a0 m c (ix2 (row t r) k) := by
  unfold row; blk_ext [iblk, V, idx t]
theorem b1_at (t : Fin cfg0.N) (k : Fin 1024) : (iblk m c 1 t : S1x1024.Idx → EReal) (ix2 0 k) = a1 m c (ix1 k) := by
  rw [← v3_at]; blk_ext [iblk, idx t]
theorem b2_at (t : Fin cfg0.N) (k : Fin 4096) (j : Fin 1024) :
    (iblk m c 2 t : S4096x1024.Idx → EReal) (ix2 k j) = a2 m c (ix2 j k) := by
  rw [← v1_at]; blk_ext [iblk, idx t]
theorem b3_at (t : Fin cfg0.N) (k : Fin 2048) : (iblk m c 3 t : S1x2048.Idx → EReal) (ix2 0 k) = a3 m c (ix1 k) := by
  rw [← v4_at]; blk_ext [iblk, idx t]
theorem b4_at (t : Fin cfg0.N) (k : Fin 2048) : (iblk m c 4 t : S1x2048.Idx → EReal) (ix2 0 k) = a4 m c (ix1 k) := by
  rw [← v5_at]; blk_ext [iblk, idx t]
theorem b5_at (t : Fin cfg0.N) (g : Fin 8) (p k : Fin 128) :
    (iblk m c 5 t : S8x128x128.Idx → EReal) (ix3 g p k) = a5 m c (ix3 g p k) := by
  blk_ext [iblk, V, idx t]
theorem b6_at (t : Fin cfg0.N) (p : Fin 128) (g : Fin 8) : (iblk m c 6 t : S128x8.Idx → EReal) (ix2 p g) = a6 m c (ix2 g p) := by
  rw [← v6_at]; blk_ext [iblk, idx t]
theorem b7_at (t : Fin cfg0.N) (k : Fin 2048) (j : Fin 1024) :
    (iblk m c 7 t : S2048x1024.Idx → EReal) (ix2 k j) = a7 m c (ix2 k j) := by
  rw [← v2_at]; blk_ext [iblk, idx t]
theorem b8_at (t : Fin cfg0.N) (k : Fin 1024) : (iblk m c 8 t : S1x1024.Idx → EReal) (ix2 0 k) = a8 m c (ix1 k) := by
  rw [← v7_at]; blk_ext [iblk, idx t]

/-- A normed block at a position. -/
theorem normBlk_at (x : S512x1024.Idx → EReal) (g : S1x1024.Idx → EReal) (r : Fin 512) (k : Fin 1024) :
    normBlk x g (ix2 r k) = x (ix2 r k) * rinv cD (fun k => x (ix2 r k)) * g (ix2 0 k) := rfl
/-- A block with its residual at a position. -/
theorem addBlk_at (x N : S512x1024.Idx → EReal) (y : S512x1024.Idx) : addBlk x N y = x y + N y := rfl
/-- A projected block at a position. -/
theorem zBlk_at (H : S512x1024.Idx → EReal) (w : S4096x1024.Idx → EReal) (r : Fin 512) (k : Fin 4096) :
    zBlk H w (ix2 r k) = ∑ j : Fin 1024, H (ix2 r j) * w (ix2 k j) := rfl
/-- The gate's block at a position. -/
theorem uBlk_at (Z : S512x4096.Idx → EReal) (r : Fin 512) (k : Fin 2048) : uBlk Z (ix2 r k) = gel (Z (ix2 r (lo k))) := rfl
/-- The values' block at a position. -/
theorem vBlk_at (Z : S512x4096.Idx → EReal) (r : Fin 512) (k : Fin 2048) : vBlk Z (ix2 r k) = gel (Z (ix2 r (hi k))) := rfl
/-- The layer norm's block at a position. -/
theorem vhBlk_at (v : S512x2048.Idx → EReal) (r : Fin 512) (k : Fin 2048) :
    vhBlk v (ix2 r k) = centred (fun k => v (ix2 r k)) k * lnr (fun k => v (ix2 r k)) := rfl
/-- The reciprocal standard deviations' block at a position. -/
theorem rsBlk_at (v : S512x2048.Idx → EReal) (r : Fin 512) (k : Fin 128) : rsBlk v (ix2 r k) = lnr (fun k => v (ix2 r k)) := rfl
/-- The layer norm's block with its gain and bias at a position. -/
theorem vnBlk_at (h : S512x2048.Idx → EReal) (g b : S1x2048.Idx → EReal) (r : Fin 512) (k : Fin 2048) :
    vnBlk h g b (ix2 r k) = h (ix2 r k) * g (ix2 0 k) + b (ix2 0 k) := rfl
/-- The gated product's block at a position. -/
theorem gatedBlk_at (U N : S512x2048.Idx → EReal) (ws : S8x128x128.Idx → EReal) (b : S128x8.Idx → EReal) (r : Fin 512) (q : Fin 2048) :
    gatedBlk U N ws b (ix2 r q) = U (ix2 r q) * ((∑ k : Fin 128, if k.val ≤ (rowIn r).val then ws (ix3 (colG q) (rowIn r) k) *
      N (ix2 (chRow (rowCh r) k) q) else 0) + b (ix2 (rowIn r) (colG q))) := rfl
/-- An output projection's block at a position. -/
theorem mBlk_at (G : S512x2048.Idx → EReal) (w : S2048x1024.Idx → EReal) (r : Fin 512) (k : Fin 1024) :
    mBlk G w (ix2 r k) = ∑ j : Fin 2048, G (ix2 r j) * w (ix2 j k) := rfl

/-- A row's place in its chunk is the same in the block and in the array. -/
theorem place_row (t : Fin cfg0.N) (r : Fin 512) : place (row t r) = rowIn r :=
  Fin.ext (by simp only [place, row, rowIn]; omega)
/-- The rows of a row's chunk are the same in the block and in the array. -/
theorem chunkRow_row (t : Fin cfg0.N) (r : Fin 512) (k : Fin 128) : chunkRow (row t r) k = row t (chRow (rowCh r) k) :=
  Fin.ext (by simp only [chunkRow, row, chRow, rowCh]; omega)

/-- The normed block is the reference's. -/
theorem norm_ref (t : Fin cfg0.N) (r : Fin 512) (k : Fin 1024) :
    normBlk (iblk m c 0 t) (iblk m c 1 t) (ix2 r k) = val_main_v12 (F := Ideal) (a0 m c) (a1 m c) (ix2 (row t r) k) := by
  rw [v12_at, normBlk_at]
  simp only [b0_at, b1_at]
/-- The projection's block is the reference's. -/
theorem z_ref (t : Fin cfg0.N) (r : Fin 512) (k : Fin 4096) :
    ZE m c t (ix2 r k) = val_main_v13 (F := Ideal) (a0 m c) (a1 m c) (a2 m c) (ix2 (row t r) k) := by
  unfold ZE
  rw [v13_at, zBlk_at]
  simp only [norm_ref, b2_at]
/-- The gate's block is the reference's. -/
theorem u_ref (t : Fin cfg0.N) (r : Fin 512) (k : Fin 2048) :
    uBlk (ZE m c t) (ix2 r k) = val_main_v99 (F := Ideal) (a0 m c) (a1 m c) (a2 m c) (ix2 (row t r) k) := by
  rw [v99_at, uBlk_at, z_ref]
/-- The layer norm's block is the reference's. -/
theorem vh_ref (t : Fin cfg0.N) (r : Fin 512) (k : Fin 2048) :
    vhBlk (vBlk (ZE m c t)) (ix2 r k) = val_main_v102 (F := Ideal) (a0 m c) (a1 m c) (a2 m c) (ix2 (row t r) k) := by
  rw [v102_at, vhBlk_at]
  simp only [vBlk_at, v22_at, z_ref]
/-- The reciprocal standard deviations' block is the reference's. -/
theorem rs_ref (t : Fin cfg0.N) (r : Fin 512) (k : Fin 128) :
    rsBlk (vBlk (ZE m c t)) (ix2 r k) = val_main_v103 (F := Ideal) (a0 m c) (a1 m c) (a2 m c) (ix2 (row t r) k) := by
  rw [v103_at, rsBlk_at]
  simp only [vBlk_at, v22_at, z_ref]
/-- The layer norm with its gain and bias is the reference's. -/
theorem vn_ref (t : Fin cfg0.N) (r : Fin 512) (k : Fin 2048) :
    vnBlk (vhBlk (vBlk (ZE m c t))) (iblk m c 3 t) (iblk m c 4 t) (ix2 r k) =
      val_main_v67 (F := Ideal) (a0 m c) (a1 m c) (a2 m c) (a3 m c) (a4 m c) (ix2 (row t r) k) := by
  rw [v67_at, vnBlk_at, vhBlk_at]
  simp only [vBlk_at, v45_at, z_ref, b3_at, b4_at]
/-- The gated product's block is the reference's. -/
theorem gated_ref (t : Fin cfg0.N) (r : Fin 512) (q : Fin 2048) :
    GE m c t (ix2 r q) = val_main_v82 (F := Ideal) (a0 m c) (a1 m c) (a2 m c) (a3 m c) (a4 m c) (a5 m c) (a6 m c) (ix2 (row t r) q) := by
  unfold GE
  rw [v82_at, gatedBlk_at, v44_at, uBlk_at, z_ref, place_row, b6_at]
  refine congrArg (fun s => _ * (s + _)) (Finset.sum_congr rfl fun k _ => ?_)
  rw [v74_at, chunkRow_row, vn_ref, b5_at]
  split
  · exact mul_comm _ _
  · exact (mul_zero _).symm
/-- The output projection's block is the reference's. -/
theorem m_ref (t : Fin cfg0.N) (r : Fin 512) (k : Fin 1024) :
    mBlk (GE m c t) (iblk m c 7 t) (ix2 r k) =
      val_main_v83 (F := Ideal) (a0 m c) (a1 m c) (a2 m c) (a3 m c) (a4 m c) (a5 m c) (a6 m c) (a7 m c) (ix2 (row t r) k) := by
  rw [v83_at, mBlk_at]
  simp only [gated_ref, b7_at]
/-- The output's block is the reference's. -/
theorem out_ref (t : Fin cfg0.N) (r : Fin 512) (k : Fin 1024) :
    addBlk (iblk m c 0 t) (normBlk (mBlk (GE m c t) (iblk m c 7 t)) (iblk m c 8 t)) (ix2 r k) =
      val_main_v97 (F := Ideal) (a0 m c) (a1 m c) (a2 m c) (a3 m c) (a4 m c) (a5 m c) (a6 m c) (a7 m c) (a8 m c) (ix2 (row t r) k) := by
  rw [v97_at, addBlk_at, normBlk_at]
  simp only [m_ref, b0_at, b8_at]

end Cert.AFwdIdeal.Blocks

end
-- ==== Proof.HFinal.lean ====
/-
  Mixer A's forward pass: seven of the kernel's result arrays are the reference's.
-/
module

public import proofs.«01_k».proof.Proof.HHost

@[expose] public section

set_option maxRecDepth 16384

noncomputable section

namespace Cert.AFwdIdeal.Blocks

open Cert.AFwdIdeal Cert.AFwdIdeal.Gen Cert.AFwdRefIdeal.Read Cert.AFwdRefIdeal.Stages Idealize.ShloMosaic Idealize.ShloMosaic.TcCoe
open Idealize.SL.Sem Cert.Spec

variable {m : (ℓ : Loc nD τ sig) → Buf (Elt Ideal) ℓ} {c : Dev nD}

/-- The output is the reference's. -/
theorem final9 : (dats m 0 c).arrAt 9 cfg0.N = val_main_v97 (F := Ideal) (a0 m c) (a1 m c) (a2 m c) (a3 m c) (a4 m c) (a5 m c) (a6 m c) (a7 m c) (a8 m c) := by
  refine (dats m 0 c).arrAt_eq_of_covers 9 _ (by decide +kernel) fun t _ y => ?_
  have hN : cfg0.N = 16 := N_0
  blk_simp
  rw [after0_9, (last_at m c t).2.2]
  refine Eq.trans ?_ ((out_ref m c t (y 0) (y 1)).trans ?_)
  · congr 1
    exact (ix2_eta y).symm
  · unfold row; blk_point [idx t]

/-- The normed input is the reference's. -/
theorem final10 : (dats m 0 c).arrAt 10 cfg0.N = val_main_v98 (F := Ideal) (a0 m c) (a1 m c) := by
  refine (dats m 0 c).arrAt_eq_of_covers 10 _ (by decide +kernel) fun t _ y => ?_
  have hN : cfg0.N = 16 := N_0
  blk_simp
  rw [after0_10, h_at]
  refine Eq.trans ?_ ((norm_ref m c t (y 0) (y 1)).trans ?_)
  · congr 1
    exact (ix2_eta y).symm
  · pointwise [val_main_v98]
    unfold row; blk_point [idx t]

/-- The saved gate is the reference's. -/
theorem final12 : (dats m 0 c).arrAt 12 cfg0.N = val_main_v99 (F := Ideal) (a0 m c) (a1 m c) (a2 m c) := by
  refine (dats m 0 c).arrAt_eq_of_covers 12 _ (by decide +kernel) fun t _ y => ?_
  have hN : cfg0.N = 16 := N_0
  blk_simp
  rw [after0_12, u_at]
  refine Eq.trans ?_ ((u_ref m c t (y 0) (y 1)).trans ?_)
  · congr 1
    exact (ix2_eta y).symm
  · unfold row; blk_point [idx t]

/-- The saved layer norm is the reference's. -/
theorem final13 : (dats m 0 c).arrAt 13 cfg0.N = val_main_v102 (F := Ideal) (a0 m c) (a1 m c) (a2 m c) := by
  refine (dats m 0 c).arrAt_eq_of_covers 13 _ (by decide +kernel) fun t _ y => ?_
  have hN : cfg0.N = 16 := N_0
  blk_simp
  rw [after0_13, vh_at]
  refine Eq.trans ?_ ((vh_ref m c t (y 0) (y 1)).trans ?_)
  · congr 1
    exact (ix2_eta y).symm
  · unfold row; blk_point [idx t]

/-- The saved reciprocal standard deviations is the reference's. -/
theorem final14 : (dats m 0 c).arrAt 14 cfg0.N = val_main_v103 (F := Ideal) (a0 m c) (a1 m c) (a2 m c) := by
  refine (dats m 0 c).arrAt_eq_of_covers 14 _ (by decide +kernel) fun t _ y => ?_
  have hN : cfg0.N = 16 := N_0
  blk_simp
  rw [after0_14, rs_at]
  refine Eq.trans ?_ ((rs_ref m c t (y 0) (y 1)).trans ?_)
  · congr 1
    exact (ix2_eta y).symm
  · unfold row; blk_point [idx t]

/-- The gated product is the reference's. -/
theorem final15 : (dats m 0 c).arrAt 15 cfg0.N = val_main_v104 (F := Ideal) (a0 m c) (a1 m c) (a2 m c) (a3 m c) (a4 m c) (a5 m c) (a6 m c) := by
  refine (dats m 0 c).arrAt_eq_of_covers 15 _ (by decide +kernel) fun t _ y => ?_
  have hN : cfg0.N = 16 := N_0
  blk_simp
  rw [after0_15, (last_at m c t).1]
  refine Eq.trans ?_ ((gated_ref m c t (y 0) (y 1)).trans ?_)
  · congr 1
    exact (ix2_eta y).symm
  · pointwise [val_main_v104]
    unfold row; blk_point [idx t]

/-- The output projection is the reference's. -/
theorem final16 : (dats m 0 c).arrAt 16 cfg0.N = val_main_v83 (F := Ideal) (a0 m c) (a1 m c) (a2 m c) (a3 m c) (a4 m c) (a5 m c) (a6 m c) (a7 m c) := by
  refine (dats m 0 c).arrAt_eq_of_covers 16 _ (by decide +kernel) fun t _ y => ?_
  have hN : cfg0.N = 16 := N_0
  blk_simp
  rw [after0_16, (last_at m c t).2.1]
  refine Eq.trans ?_ ((m_ref m c t (y 0) (y 1)).trans ?_)
  · congr 1
    exact (ix2_eta y).symm
  · unfold row; blk_point [idx t]

end Cert.AFwdIdeal.Blocks

end
-- ==== Proof.HPair.lean ====
/-
  Mixer A's forward pass: the kernel computes what the reference computes.
-/
module

public import proofs.«01_k».proof.Defs
public import proofs.«01_k».proof.Proof.HFinal
public import proofs.«01_k».proof.Proof.Gen.AFwdIdeal.Value
public import proofs.«01_k».proof.Proof.Gen.AFwdRefIdeal.Run
public import Idealize.ShloMosaic.Lib.Claim

@[expose] public section

set_option maxRecDepth 16384

noncomputable section

namespace Cert.HPair

open Idealize.ShloMosaic Idealize.ShloMosaic.TcCoe Idealize.SL.Sem Cert.Spec Cert.AFwdRefIdeal.Read Cert.AFwdIdeal.Blocks

/-- The two programs leave the same seven results and their arguments unchanged. -/
theorem algebraic : Cert.algebraic_AFwdIdeal_AFwdRefIdeal := by
  pair_intro
  · run_from Cert.AFwdIdeal.Value.run_blocks m g
  · refine (θ_run _ _ _).mono (fun r h c => ?_) (Cert.AFwdRefIdeal.Value.run m' g')
    obtain ⟨e0, e1, e2, e3, e4, e5, e6, e7, e8⟩ := hagree c
    replace e0 : m' ((c.tc : Thread _ _).loc Cert.AFwdRefIdeal.main_arg0) = a0 m c := e0
    replace e1 : m' ((c.tc : Thread _ _).loc Cert.AFwdRefIdeal.main_arg1) = a1 m c := e1
    replace e2 : m' ((c.tc : Thread _ _).loc Cert.AFwdRefIdeal.main_arg2) = a2 m c := e2
    replace e3 : m' ((c.tc : Thread _ _).loc Cert.AFwdRefIdeal.main_arg3) = a3 m c := e3
    replace e4 : m' ((c.tc : Thread _ _).loc Cert.AFwdRefIdeal.main_arg4) = a4 m c := e4
    replace e5 : m' ((c.tc : Thread _ _).loc Cert.AFwdRefIdeal.main_arg5) = a5 m c := e5
    replace e6 : m' ((c.tc : Thread _ _).loc Cert.AFwdRefIdeal.main_arg6) = a6 m c := e6
    replace e7 : m' ((c.tc : Thread _ _).loc Cert.AFwdRefIdeal.main_arg7) = a7 m c := e7
    replace e8 : m' ((c.tc : Thread _ _).loc Cert.AFwdRefIdeal.main_arg8) = a8 m c := e8
    obtain ⟨r97, r98, r99, r102, r103, r104, r83, rest⟩ := h c
    refine ⟨r97.trans ?_, r98.trans ?_, r99.trans ?_, r102.trans ?_, r103.trans ?_, r104.trans ?_, r83.trans ?_, rest⟩
    · refine (val_main_v97_eq (F := Ideal) m' c).trans (Eq.trans ?_ final9.symm)
      rw [e0, e1, e2, e3, e4, e5, e6, e7, e8]
    · refine (val_main_v98_eq (F := Ideal) _ _).trans (Eq.trans ?_ final10.symm)
      rw [e0, e1]
    · refine (val_main_v99_eq (F := Ideal) _ _ _).trans (Eq.trans ?_ final12.symm)
      rw [e0, e1, e2]
    · refine (val_main_v102_eq (F := Ideal) m' c).trans (Eq.trans ?_ final13.symm)
      rw [e0, e1, e2]
    · refine (val_main_v103_eq (F := Ideal) m' c).trans (Eq.trans ?_ final14.symm)
      rw [e0, e1, e2]
    · refine (val_main_v104_eq (F := Ideal) m' c).trans (Eq.trans ?_ final15.symm)
      rw [e0, e1, e2, e3, e4, e5, e6]
    · refine (val_main_v83_eq (F := Ideal) m' c).trans (Eq.trans ?_ final16.symm)
      rw [e0, e1, e2, e3, e4, e5, e6, e7]

end Cert.HPair

end
-- ==== Proof.QSum.lean ====
/-
  Running sums from the first row on over the extended reals, and their differences as sums over a window of rows.
-/
module

public import proofs.«01_k».proof.Proof.Cumsum

@[expose] public section

noncomputable section

namespace Cert.Spec

open Idealize.ShloMosaic Idealize.ShloMosaic.Routing

/-- The sum of the first `t` rows of a column. -/
def first {R : ℕ} {M : Type} [AddCommMonoid M] (x : Fin R → M) (t : ℕ) : M := ∑ s ∈ Finset.range t, zext x s
/-- The sum of the `w` rows ending at row `i`, rows before the first counting as zero. -/
def back {R : ℕ} {M : Type} [AddCommMonoid M] (x : Fin R → M) (w i : ℕ) : M :=
  ∑ n ∈ Finset.range w, if n ≤ i then zext x (i - n) else 0

/-- `jnp.cumsum(axis=0)` of a matrix, as it prints: each row is the sum of the rows up to it. -/
theorem cumsum_fwd {Rm1 C : ℕ} (x : (⟨2, ![Rm1 + 1, C]⟩ : Shape).Idx → EReal) (init : (⟨0, ![]⟩ : Shape).Idx → EReal) (hi : ∀ i, init i = 0)
    (h : (⟨2, ![Rm1 + 1, C]⟩ : Shape).ReduceWindows (![Rm1 + 1, 1] : Fin 2 → ℕ) ![1, 1] ![Rm1, 0] ![0, 0] ⟨2, ![Rm1 + 1, C]⟩)
    (hu : 0 < (⟨0, ![]⟩ : Shape).numel) (j : Fin (Rm1 + 1)) (c : Fin C) :
    Host.reduceWindowAdd (F := Ideal) (φ := .f32) ![Rm1 + 1, 1] ![1, 1] ![Rm1, 0] ![0, 0] x init h hu (ix2 j c) =
      first (fun i => x (ix2 i c)) (j.val + 1) := by
  have hj := j.isLt
  have hc := c.isLt
  have e : first (fun i => x (ix2 i c)) (j.val + 1) =
      ∑ n ∈ Finset.range (Rm1 + 1), if Rm1 ≤ j.val + n then zext (fun i => x (ix2 i c)) (j.val + n - Rm1) else 0 := by
    have s := Finset.sum_range_add (fun n => if Rm1 ≤ j.val + n then zext (fun i => x (ix2 i c)) (j.val + n - Rm1) else 0) (Rm1 - j.val) (j.val + 1)
    rw [show Rm1 - j.val + (j.val + 1) = Rm1 + 1 by omega] at s
    refine Eq.trans ?_ s.symm
    have z : (∑ n ∈ Finset.range (Rm1 - j.val), if Rm1 ≤ j.val + n then zext (fun i => x (ix2 i c)) (j.val + n - Rm1) else 0) = 0 :=
      Finset.sum_eq_zero fun n hn => if_neg (by have := Finset.mem_range.mp hn; omega)
    rw [z, zero_add]
    refine Finset.sum_congr rfl fun n _ => ?_
    rw [if_pos (by omega), show j.val + (Rm1 - j.val + n) - Rm1 = n by omega]
  rw [e]
  show Host.reduceWindow (· + ·) _ _ _ _ x (fun _ : (⟨0, ![]⟩ : Shape).Idx => init (Shape.Idx.first hu)) h (by decide) _ = _
  unfold Host.reduceWindow
  rw [hi]
  refine (foldl_add _ 0).trans ?_
  rw [zero_add, Finset.sum_range, ← Equiv.sum_comp (finCongr (numel_col (Rm1 + 1)).symm)]
  refine Finset.sum_congr rfl fun n _ => ?_
  have hn := n.isLt
  have hw0 : ((shape2 (Rm1 + 1) 1).rowMajor.symm (finCongr (numel_col (Rm1 + 1)).symm n) 0).val = n.val := by rw [symm_col]; rfl
  have hw1 : ((shape2 (Rm1 + 1) 1).rowMajor.symm (finCongr (numel_col (Rm1 + 1)).symm n) 1).val = 0 := by rw [symm_col]; rfl
  by_cases hle : Rm1 ≤ j.val + n.val
  · rw [if_pos hle, dif_pos]
    · refine Eq.trans (congrArg x (funext fun a => Fin.ext ?_)) (zext_of_lt (fun i => x (ix2 i c)) ⟨j.val + n.val - Rm1, by omega⟩).symm
      match a with
      | ⟨0, _⟩ =>
        show j.val * 1 + ((shape2 (Rm1 + 1) 1).rowMajor.symm (finCongr (numel_col (Rm1 + 1)).symm n) 0).val - Rm1 = j.val + n.val - Rm1
        rw [hw0]; omega
      | ⟨1, _⟩ =>
        show c.val * 1 + ((shape2 (Rm1 + 1) 1).rowMajor.symm (finCongr (numel_col (Rm1 + 1)).symm n) 1).val - 0 = c.val
        rw [hw1]; omega
    · intro a
      match a with
      | ⟨0, _⟩ =>
        show Rm1 ≤ j.val * 1 + ((shape2 (Rm1 + 1) 1).rowMajor.symm (finCongr (numel_col (Rm1 + 1)).symm n) 0).val ∧
          j.val * 1 + ((shape2 (Rm1 + 1) 1).rowMajor.symm (finCongr (numel_col (Rm1 + 1)).symm n) 0).val - Rm1 < Rm1 + 1
        rw [hw0]; omega
      | ⟨1, _⟩ =>
        show 0 ≤ c.val * 1 + ((shape2 (Rm1 + 1) 1).rowMajor.symm (finCongr (numel_col (Rm1 + 1)).symm n) 1).val ∧
          c.val * 1 + ((shape2 (Rm1 + 1) 1).rowMajor.symm (finCongr (numel_col (Rm1 + 1)).symm n) 1).val - 0 < C
        rw [hw1]; omega
  · rw [if_neg hle, dif_neg]
    intro hin
    have h0 := hin 0
    change Rm1 ≤ j.val * 1 + ((shape2 (Rm1 + 1) 1).rowMajor.symm (finCongr (numel_col (Rm1 + 1)).symm n) 0).val ∧
      j.val * 1 + ((shape2 (Rm1 + 1) 1).rowMajor.symm (finCongr (numel_col (Rm1 + 1)).symm n) 0).val - Rm1 < Rm1 + 1 at h0
    rw [hw0] at h0
    omega

/-- The sum of no rows is zero. -/
theorem first_zero {R : ℕ} {M : Type} [AddCommMonoid M] (x : Fin R → M) : first x 0 = 0 := Finset.sum_range_zero _

/-- The difference of two running sums, one `w` rows before the other, is the sum of the window between them. -/
theorem window_of_fwd {R : ℕ} (w i : ℕ) (u : Fin R → ℝ) : first u (i + 1) - first u (i + 1 - w) = back u w i := by
  unfold back
  induction w with
  | zero => rw [Nat.sub_zero, sub_self, Finset.sum_range_zero]
  | succ w ih =>
    rw [Finset.sum_range_succ, ← ih]
    by_cases h : w ≤ i
    · rw [if_pos h, show i + 1 - (w + 1) = i - w by omega, show i + 1 - w = i - w + 1 by omega]
      unfold first
      rw [Finset.sum_range_succ (zext u) (i - w)]
      linarith
    · rw [if_neg h, show i + 1 - (w + 1) = 0 by omega, show i + 1 - w = 0 by omega, add_zero]

/-- The same of real values among the extended reals. -/
theorem window_of_fwd_real {R : ℕ} (w i : ℕ) {u : Fin R → EReal} (hu : ∀ i, IsR (u i)) : first u (i + 1) - first u (i + 1 - w) = back u w i := by
  obtain ⟨u, rfl⟩ := lift hu
  have z : ∀ t, zext (fun i => (u i : EReal)) t = ((zext u t : ℝ) : EReal) := fun t => by
    unfold zext
    split <;> rfl
  have s : ∀ (f : ℕ → ℝ) (n : ℕ), ∑ k ∈ Finset.range n, ((f k : ℝ) : EReal) = ((∑ k ∈ Finset.range n, f k : ℝ) : EReal) := fun f n => by
    rw [Finset.sum_range, Finset.sum_range, coe_sum]
  have f : ∀ t, first (fun i => (u i : EReal)) t = ((first u t : ℝ) : EReal) := fun t => by
    unfold first
    simp only [z]
    exact s _ _
  have b : back (fun i => (u i : EReal)) w i = ((back u w i : ℝ) : EReal) := by
    unfold back
    rw [← s]
    refine Finset.sum_congr rfl fun n _ => ?_
    split
    · exact z _
    · rfl
  rw [f, f, b, ← window_of_fwd w i u, EReal.coe_sub]

end Cert.Spec

end
-- ==== Proof.QBlock.lean ====
/-
  What one grid point of mixer B's forward kernel computes from its input blocks, payload by payload.
-/
module

public import proofs.«01_k».proof.Proof.Gen.BFwdIdeal.Value
public import proofs.«01_k».proof.Proof.Spec
public import proofs.«01_k».proof.Proof.QSum
public import Idealize.ShloMosaic.Lib.Affine
public import Idealize.ShloMosaic.Lib.KernelVsHost
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

namespace Cert.BFwdIdeal.Blocks

open Cert.BFwdIdeal Cert.BFwdIdeal.Gen Idealize.ShloMosaic Idealize.ShloMosaic.TcCoe Idealize.SL.Sem Cert.Spec

/-- Whether the rows before the block are rows of the array: one, or zero at the first point. -/
def keep (i : grid0.Coords) : EReal := if 0 < (i 0).val then 1 else 0
/-- The 16 rows before a block, zeros at the first point, and the block's 512 rows. -/
def ext (i : grid0.Coords) (a : S512x1024.Idx → EReal) (b : S16x1024.Idx → EReal) (y : S528x1024.Idx) : EReal :=
  if h : (y 0).val < 16 then b (ix2 ⟨(y 0).val, h⟩ (y 1)) * keep i
  else a (ix2 ⟨(y 0).val - 16, by have h0 : (y 0).val < 528 := (y 0).isLt; omega⟩ (y 1))
/-- The pre-norm, row by row. -/
def normE (X : S528x1024.Idx → EReal) (g : S1x1024.Idx → EReal) (y : S528x1024.Idx) : EReal :=
  X y * rinv cD (fun k => X (ix2 (y 0) k)) * g (ix2 0 (y 1))
/-- Its input projection. -/
def projE (N : S528x1024.Idx → EReal) (w : S1024x1024.Idx → EReal) (y : S528x1024.Idx) : EReal := ∑ j, N (ix2 (y 0) j) * w (ix2 j (y 1))
/-- A block's row among the rows of the extended block. -/
def low (r : Fin 512) : Fin 528 := ⟨16 + r.val, by omega⟩
/-- A column, from its group and its place in the group. -/
def gcol (g : Fin 4) (j : Fin 256) : Fin 1024 := ⟨g.val * 256 + j.val, by omega⟩

/-- The choice of the factor of the rows before the block. -/
theorem keep_eq (i : grid0.Coords) :
    Scalar.select (Scalar.cmpi CmpIPredicate.sgt (BitVec.ofNat 32 (i 0).val) 0#32) (1 : EReal) 0 = keep i := by
  have h16 : (i 0).val < 16 := (i 0).isLt
  unfold keep
  generalize (i 0).val = n at h16
  rcases Nat.eq_zero_or_pos n with hi | hi
  · rw [if_neg (by omega)]
    exact if_neg (Affine.sgt_fails (Affine.ofNat _ ⟨rfl, by omega⟩) (Affine.ofNat 0 ⟨rfl, by omega⟩) (by omega))
  · rw [if_pos hi]
    exact if_pos (Affine.sgt_holds (Affine.ofNat _ ⟨rfl, by omega⟩) (Affine.ofNat 0 ⟨rfl, by omega⟩) (by omega))

/-- The normed rows. -/
theorem pay1_eq (i : grid0.Coords) (v0 : S512x1024.Idx → EReal) (v3 : S16x1024.Idx → EReal) (v7 : S1x1024.Idx → EReal) :
    k0_pay1 (F := Ideal) i v0 v3 v7 = normE (ext i v0 v3) v7 := by
  funext y
  pointwise [k0_pay1, normE, rinv, ext, ← keep_eq]
/-- The normed rows of the block itself. -/
theorem pay2_at (i : grid0.Coords) (v0 : S512x1024.Idx → EReal) (v3 : S16x1024.Idx → EReal) (v7 : S1x1024.Idx → EReal) (y : S512x1024.Idx) :
    k0_pay2 (F := Ideal) i v0 v3 v7 y = normE (ext i v0 v3) v7 (ix2 (low (y 0)) (y 1)) := by
  rw [k0_pay2, pay1_eq]
  generalize normE _ _ = N
  pointwise [low]
/-- The projected rows. -/
theorem pay3_eq (i : grid0.Coords) (v0 : S512x1024.Idx → EReal) (v3 : S16x1024.Idx → EReal) (v7 : S1x1024.Idx → EReal) (w : S1024x1024.Idx → EReal) :
    k0_pay3 (F := Ideal) i v0 v3 v7 w = projE (normE (ext i v0 v3) v7) w := by
  rw [k0_pay3, pay1_eq]
  generalize normE _ _ = N
  funext y
  pointwise [projE]

/-- The sum of the `n` entries of a column from row `r` up. -/
def win (P : S528x1024.Idx → EReal) (n r : ℕ) (k : Fin 1024) : EReal := ∑ j ∈ Finset.range n, zext (fun s => P (ix2 s k)) (r - j)

/-- A window of `n` rows and the same window `n` rows earlier make one of `2 n` rows. -/
theorem win_add (P : S528x1024.Idx → EReal) (n r : ℕ) (k : Fin 1024) : win P n r k + win P n (r - n) k = win P (n + n) r k := by
  unfold win
  rw [Finset.sum_range_add]
  exact congrArg _ (Finset.sum_congr rfl fun j _ => congrArg _ (Nat.sub_sub _ _ _))
/-- A window of one row. -/
theorem win_one (P : S528x1024.Idx → EReal) (r : Fin 528) (k : Fin 1024) : win P 1 r.val k = P (ix2 r k) := by
  unfold win
  rw [Finset.sum_range_one]
  exact zext_of_lt (fun s => P (ix2 s k)) r

/-- A rotation down by `n` rows, read at a row that has `n` rows before it. -/
theorem rot_at {C : ℕ} (N : BitVec 32) (n : ℕ) (hN : N.toNat = n) (b : (⟨2, ![528, C]⟩ : Shape).Idx → EReal) (h) (r : Fin 528) (k : Fin C)
    (hr : n ≤ r.val) : dynamicRotate 0 N none b h (ix2 r k) = b (ix2 ⟨r.val - n, by omega⟩ k) := by
  refine dynamicRotate_apply (0 : Fin 2) N b h _ _ fun a => ?_
  match a with
  | ⟨0, _⟩ =>
    show r.val - n = (r.val + 528 - N.toNat % 528) % 528
    rw [hN]
    have := r.isLt
    omega
  | ⟨1, _⟩ => rfl

/-- Windows of two rows. -/
theorem pay4_at (i : grid0.Coords) (v0 : S512x1024.Idx → EReal) (v3 : S16x1024.Idx → EReal) (v7 : S1x1024.Idx → EReal) (w : S1024x1024.Idx → EReal)
    (r : Fin 528) (k : Fin 1024) (hr : 1 ≤ r.val) :
    k0_pay4 (F := Ideal) i v0 v3 v7 w (ix2 r k) = win (projE (normE (ext i v0 v3) v7) w) 2 r.val k := by
  rw [k0_pay4, pay3_eq]
  generalize projE _ _ = P
  rw [← win_add P 1, win_one]
  show P (ix2 r k) + dynamicRotate 0 1#32 none P _ (ix2 r k) = _
  rw [rot_at 1#32 1 rfl P _ r k hr]
  exact congrArg _ (win_one P ⟨r.val - 1, by omega⟩ k).symm
/-- Windows of four rows, from the second group's columns on. -/
theorem pay7_at (P v28 : S528x1024.Idx → EReal) (h28 : ∀ (r : Fin 528) k, 1 ≤ r.val → v28 (ix2 r k) = win P 2 r.val k)
    (r : Fin 528) (k : Fin 768) (hr : 3 ≤ r.val) :
    k0_pay7 (F := Ideal) v28 (ix2 r k) = win P 4 r.val ⟨256 + k.val, by omega⟩ := by
  have e : ∀ r : Fin 528, extractStridedSlice S528x768 ![0, 256] v28 slices_S528x1024_o0_256_S528x768 (ix2 r k) = v28 (ix2 r ⟨256 + k.val, by omega⟩) :=
    fun r => by pointwise []
  rw [← win_add P 2]
  show extractStridedSlice S528x768 ![0, 256] v28 slices_S528x1024_o0_256_S528x768 (ix2 r k) + dynamicRotate 0 2#32 none _ _ (ix2 r k) = _
  rw [rot_at 2#32 2 rfl _ _ r k (by omega), e, e, h28 _ _ (by omega), h28 _ _ (by show 1 ≤ r.val - 2; omega)]
/-- Windows of eight rows, from the third group's columns on. -/
theorem pay9_at (P v28 : S528x1024.Idx → EReal) (h28 : ∀ (r : Fin 528) k, 1 ≤ r.val → v28 (ix2 r k) = win P 2 r.val k)
    (r : Fin 528) (k : Fin 512) (hr : 7 ≤ r.val) :
    k0_pay9 (F := Ideal) v28 (ix2 r k) = win P 8 r.val ⟨512 + k.val, by omega⟩ := by
  have e : ∀ r : Fin 528, 3 ≤ r.val → extractStridedSlice S528x512 ![0, 256] (k0_pay7 (F := Ideal) v28) slices_S528x768_o0_256_S528x512 (ix2 r k) =
      win P 4 r.val ⟨512 + k.val, by omega⟩ := fun r hr => by
    have q := pay7_at P v28 h28 r ⟨256 + k.val, by omega⟩ hr
    generalize k0_pay7 (F := Ideal) v28 = Q at q
    refine Eq.trans (by pointwise []) (q.trans (congrArg (win P 4 r.val) (Fin.ext ?_)))
    show 256 + (256 + k.val) = 512 + k.val
    omega
  rw [← win_add P 4]
  show extractStridedSlice S528x512 ![0, 256] (k0_pay7 (F := Ideal) v28) slices_S528x768_o0_256_S528x512 (ix2 r k) + dynamicRotate 0 4#32 none _ _ (ix2 r k) = _
  rw [rot_at 4#32 4 rfl _ _ r k (by omega), e _ (by omega), e _ (by show 3 ≤ r.val - 4; omega)]

/-- The count as the kernel computes it. -/
theorem kernel_cnt (w c r : ℕ) (hw : w < 8192) (hc : c < 16) (hr : r < 512) :
    Scalar.sitofp (F := Ideal) .f32 (IntOp.minsi (BitVec.ofNat 32 w) (IntOp.maxsi 1#32
      (IntOp.addi (IntOp.addi (Scalar.subi (Scalar.muli (BitVec.ofNat 32 c) 512#32) 16#32) (BitVec.ofNat 32 (16 + r))) 1#32))) =
      cnt w (c * 512 + r) := by
  have h := Affine.minsi (Affine.ofNat w ⟨rfl, by omega⟩) (Affine.maxsi (Affine.ofNat 1 ⟨rfl, by omega⟩)
    (Affine.addi (Affine.addi (Affine.subi (Affine.muli (Affine.ofNat c ⟨rfl, by omega⟩) (Affine.ofNat 512 ⟨rfl, by omega⟩) ⟨rfl, by omega, by omega⟩)
      (Affine.ofNat 16 ⟨rfl, by omega⟩) ⟨rfl, by omega, by omega⟩)
      (Affine.ofNat (16 + r) ⟨rfl, by omega⟩) ⟨rfl, by omega, by omega⟩) (Affine.ofNat 1 ⟨rfl, by omega⟩) ⟨rfl, by omega, by omega⟩) rfl)
    (e := min (w : ℤ) ((c * 512 + r : ℕ) + 1)) (by omega)
  unfold Affine.IsInt at h
  exact congrArg (fun z : ℤ => ((z : ℝ) : EReal)) h

/-- A group's pooled rows: the window's sum by its count, less the row itself. -/
def poolP (P : S528x1024.Idx → EReal) (g : Fin 4) (i : grid0.Coords) (z : S512x256.Idx) : EReal :=
  Ideal.div (win P (2 ^ (g.val + 1)) (low (z 0)).val (gcol g (z 1))) (cnt (2 ^ (g.val + 1)) ((i 0).val * 512 + (z 0).val)) -
    P (ix2 (low (z 0)) (gcol g (z 1)))

/-- A group's pooled rows, from the windows' sums and the count word. -/
theorem pool_of (P : S528x1024.Idx → EReal) (g : Fin 4) (i : grid0.Coords) (z : S512x256.Idx) (w : ℕ) (hw : w = 2 ^ (g.val + 1)) (hw' : w < 8192)
    {a b : EReal} {n : ℕ} (ha : a = win P w (low (z 0)).val (gcol g (z 1))) (hb : b = P (ix2 (low (z 0)) (gcol g (z 1))))
    (hn : n = 16 + (z 0).val) :
    Ideal.div a (FloatOps.sitofp (F := Ideal) .f32 (IntOp.minsi (BitVec.ofNat 32 w) (IntOp.maxsi 1#32
      (IntOp.addi (IntOp.addi (Scalar.subi (Scalar.muli (BitVec.ofNat 32 (i 0).val) 512#32) 16#32) (BitVec.ofNat 32 n)) 1#32)))) - b =
      poolP P g i z := by
  subst ha hb hn
  unfold poolP
  rw [← hw]
  exact congrArg (fun q => Ideal.div _ q - _) (kernel_cnt w _ _ hw' (i 0).isLt (z 0).isLt)

/-- The first group's piece. -/
theorem pay6_eq (P v28 : S528x1024.Idx → EReal) (h28 : ∀ (r : Fin 528) k, 1 ≤ r.val → v28 (ix2 r k) = win P 2 r.val k) (i : grid0.Coords) :
    k0_pay6 (F := Ideal) P v28 (k0_pay5 i) 1#32 = poolP P 0 i := by
  funext z
  pointwise [k0_pay6, k0_pay5]
  refine pool_of P 0 i z 2 rfl (by decide) ?_ ?_ ?_
  · rw [h28 _ _ (by show 1 ≤ 16 + _; omega)]
    exact congrArg (win P 2 _) (Fin.ext (by simp only [gcol, Fin.val_zero]; omega))
  · exact congrArg (fun q => P (ix2 _ q)) (Fin.ext (by simp only [gcol, Fin.val_zero]; omega))
  · rfl
/-- The second group's piece. -/
theorem pay8_eq (P v28 : S528x1024.Idx → EReal) (h28 : ∀ (r : Fin 528) k, 1 ≤ r.val → v28 (ix2 r k) = win P 2 r.val k) (i : grid0.Coords) :
    k0_pay8 (F := Ideal) (BitVec.ofNat 32 (i 0).val) P v28 = poolP P 1 i := by
  funext z
  have q := pay7_at P v28 h28 (low (z 0)) ⟨(z 1).val, Nat.lt_of_lt_of_le (z 1).isLt (by decide)⟩ (by show 3 ≤ 16 + _; omega)
  unfold k0_pay8
  generalize k0_pay7 (F := Ideal) v28 = Q at q
  pointwise []
  refine pool_of P 1 i z 4 rfl (by decide) ?_ ?_ ?_
  · refine Eq.trans ?_ (q.trans (congrArg (win P 4 _) (Fin.ext ?_)))
    · exact congrArg Q (congrArg₂ ix2 (Fin.ext (by simp only [low])) (Fin.ext (by simp only [])))
    · simp only [gcol, Fin.val_one]
  · exact congrArg (fun q => P (ix2 _ q)) (Fin.ext (by simp only [gcol, Fin.val_one]))
  · rfl
/-- The third group's piece. -/
theorem pay11_eq (P v28 : S528x1024.Idx → EReal) (h28 : ∀ (r : Fin 528) k, 1 ≤ r.val → v28 (ix2 r k) = win P 2 r.val k) (i : grid0.Coords) :
    k0_pay11 (F := Ideal) P (k0_pay9 v28) (k0_pay10 (BitVec.ofNat 32 (i 0).val)) = poolP P 2 i := by
  funext z
  have q := pay9_at P v28 h28 (low (z 0)) ⟨(z 1).val, Nat.lt_of_lt_of_le (z 1).isLt (by decide)⟩ (by show 7 ≤ 16 + _; omega)
  generalize k0_pay9 (F := Ideal) v28 = Q at q
  pointwise [k0_pay11, k0_pay10]
  refine pool_of P 2 i z 8 rfl (by decide) ?_ ?_ ?_
  · refine Eq.trans ?_ (q.trans (congrArg (win P 8 _) (Fin.ext ?_)))
    · exact congrArg Q (congrArg₂ ix2 (Fin.ext (by simp only [low])) (Fin.ext (by simp only [])))
    · show 512 + (z 1).val = 2 * 256 + (z 1).val
      omega
  · exact congrArg (fun q => P (ix2 _ q)) (Fin.ext (by show _ = 2 * 256 + (z 1).val; simp only []))
  · rfl
/-- The last group's piece. -/
theorem pay12_eq (P v28 : S528x1024.Idx → EReal) (h28 : ∀ (r : Fin 528) k, 1 ≤ r.val → v28 (ix2 r k) = win P 2 r.val k) (i : grid0.Coords) :
    k0_pay12 (F := Ideal) (BitVec.ofNat 32 (i 0).val) P (k0_pay9 v28) = poolP P 3 i := by
  funext z
  have hz : (z 1).val < 256 := (z 1).isLt
  have q : ∀ r : Fin 528, 7 ≤ r.val → extractStridedSlice S528x256 ![0, 256] (k0_pay9 (F := Ideal) v28) slices_S528x512_o0_256_S528x256 (ix2 r (z 1)) =
      win P 8 r.val (gcol 3 (z 1)) := fun r hr => by
    have q := pay9_at P v28 h28 r ⟨256 + (z 1).val, by omega⟩ hr
    generalize k0_pay9 (F := Ideal) v28 = Q at q
    refine Eq.trans (by pointwise []) (q.trans (congrArg (win P 8 r.val) (Fin.ext ?_)))
    show 512 + (256 + (z 1).val) = 3 * 256 + (z 1).val
    omega
  unfold k0_pay12
  generalize extractStridedSlice S528x256 ![0, 256] (k0_pay9 (F := Ideal) v28) slices_S528x512_o0_256_S528x256 = A at q
  have a : addf (F := Ideal) (φ := .f32) A (dynamicRotate 0 8#32 none A rotates_S528x256_d0) (ix2 (low (z 0)) (z 1)) =
      win P 16 (low (z 0)).val (gcol 3 (z 1)) := by
    rw [← win_add P 8]
    refine congrArg₂ (· + ·) (q _ (by show 7 ≤ 16 + _; omega)) ?_
    exact (rot_at 8#32 8 rfl A _ (low (z 0)) (z 1) (by show 8 ≤ 16 + _; omega)).trans (q _ (by show 7 ≤ 16 + (z 0).val - 8; omega))
  generalize addf (F := Ideal) (φ := .f32) A (dynamicRotate 0 8#32 none A rotates_S528x256_d0) = B at a
  pointwise []
  refine pool_of P 3 i z 16 rfl (by decide) ?_ ?_ ?_
  · refine Eq.trans ?_ a
    exact congrArg B (congrArg₂ ix2 (Fin.ext (by simp only [low])) rfl)
  · exact congrArg (fun q => P (ix2 _ q)) (Fin.ext (by show _ = 3 * 256 + (z 1).val; simp only []))
  · rfl

/-- A group's product times its scale. -/
def mixP (Q : S512x256.Idx → EReal) (w : S1x256x256.Idx → EReal) (s : S1x256.Idx → EReal) (z : S512x256.Idx) : EReal :=
  (∑ k : Fin 256, Q (ix2 (z 0) k) * w (ix3 0 k (z 1))) * s (ix2 0 (z 1))
theorem pay14_eq (Q w s) : k0_pay14 (F := Ideal) (k0_pay13 Q) w s = mixP Q w s := by
  funext z
  pointwise [k0_pay14, k0_pay13, mixP]
theorem pay15_eq (Q w s) : k0_pay15 (F := Ideal) Q w s = mixP Q w s := by
  funext z
  pointwise [k0_pay15, mixP]
theorem pay16_eq (Q w s) : k0_pay16 (F := Ideal) Q w s = mixP Q w s := by
  funext z
  pointwise [k0_pay16, mixP]
theorem pay17_eq (Q w s) : k0_pay17 (F := Ideal) Q w s = mixP Q w s := by
  funext z
  pointwise [k0_pay17, mixP]

/-- The output projection's block. -/
def mBlk (M : S512x1024.Idx → EReal) (w : S1024x1024.Idx → EReal) (y : S512x1024.Idx) : EReal := ∑ j, M (ix2 (y 0) j) * w (ix2 j (y 1))
/-- The output's block: the input and the normed projection. -/
def outBlk (x m : S512x1024.Idx → EReal) (g : S1x1024.Idx → EReal) (y : S512x1024.Idx) : EReal :=
  x y + m y * rinv cD (fun k => m (ix2 (y 0) k)) * g (ix2 0 (y 1))
theorem outBlk_apply (x m : S512x1024.Idx → EReal) (g : S1x1024.Idx → EReal) (r : Fin 512) (k : Fin 1024) :
    outBlk x m g (ix2 r k) = x (ix2 r k) + m (ix2 r k) * rinv cD (fun k => m (ix2 r k)) * g (ix2 0 k) := rfl
theorem pay18_eq (M w) : k0_pay18 (F := Ideal) M w = mBlk M w := by
  funext y
  pointwise [k0_pay18, mBlk]
theorem pay19_eq (x M w g) : k0_pay19 (F := Ideal) x M w g = outBlk x (mBlk M w) g := by
  unfold k0_pay19
  rw [pay18_eq]
  generalize mBlk M w = m
  funext y
  pointwise [outBlk, rinv]

end Cert.BFwdIdeal.Blocks

end
-- ==== Proof.QKernel.lean ====
/-
  What one grid point of mixer B's forward kernel leaves in each output block, as a function of its input blocks.
-/
module

public import proofs.«01_k».proof.Proof.QBlock

@[expose] public section

set_option maxRecDepth 16384

noncomputable section

namespace Cert.BFwdIdeal.Blocks

open Cert.BFwdIdeal Cert.BFwdIdeal.Gen Idealize.ShloMosaic Idealize.ShloMosaic.TcCoe Idealize.SL.Sem Cert.Spec

/-- A column's group. -/
def grp (q : Fin 1024) : Fin 4 := ⟨q.val / 256, by omega⟩
/-- A column's place in its group. -/
def sub (q : Fin 1024) : Fin 256 := ⟨q.val % 256, Nat.mod_lt _ (by decide)⟩
/-- The block of what is pooled. -/
def poolBlk (P : S528x1024.Idx → EReal) (i : grid0.Coords) (y : S512x1024.Idx) : EReal := poolP P (grp (y 1)) i (ix2 (y 0) (sub (y 1)))
/-- The block of the grouped product times its scale. -/
def mixBlk (P : S528x1024.Idx → EReal) (i : grid0.Coords) (wg : S4x256x256.Idx → EReal) (sc : S1x1024.Idx → EReal) (y : S512x1024.Idx) : EReal :=
  (∑ k : Fin 256, poolP P (grp (y 1)) i (ix2 (y 0) k) * wg (ix3 (grp (y 1)) k (sub (y 1)))) * sc (ix2 0 (y 1))

theorem grp_of {q : Fin 1024} {g : Fin 4} {j : ℕ} (hj : j < 256) (h : q.val = g.val * 256 + j) : grp q = g :=
  Fin.ext (by show q.val / 256 = g.val; omega)
theorem sub_of {q : Fin 1024} {g : Fin 4} {j : Fin 256} (h : q.val = g.val * 256 + j.val) : sub q = j :=
  Fin.ext (by show q.val % 256 = j.val; omega)

/-- A group's piece of what is pooled. -/
theorem pool_piece (P : S528x1024.Idx → EReal) (i : grid0.Coords) (g : Fin 4) (z : S512x256.Idx) (y : S512x1024.Idx)
    (h0 : (y 0).val = (z 0).val) (h1 : (y 1).val = g.val * 256 + (z 1).val) : poolP P g i z = poolBlk P i y := by
  unfold poolBlk
  rw [grp_of (z 1).isLt h1, sub_of h1, show y 0 = z 0 from Fin.ext h0]
  exact congrArg _ (eq_ix2 z)
/-- A group's piece of the grouped product. -/
theorem mix_piece (P : S528x1024.Idx → EReal) (i : grid0.Coords) (wg : S4x256x256.Idx → EReal) (sc : S1x1024.Idx → EReal) (wl : S1x256x256.Idx → EReal)
    (sl : S1x256.Idx → EReal) (g : Fin 4) (hl : ∀ p q, wl (ix3 0 p q) = wg (ix3 g p q)) (hs : ∀ q, sl (ix2 0 q) = sc (ix2 0 (gcol g q)))
    (z : S512x256.Idx) (y : S512x1024.Idx) (h0 : (y 0).val = (z 0).val) (h1 : (y 1).val = g.val * 256 + (z 1).val) :
    mixP (poolP P g i) wl sl z = mixBlk P i wg sc y := by
  unfold mixBlk mixP
  rw [grp_of (z 1).isLt h1, sub_of h1, show y 0 = z 0 from Fin.ext h0]
  exact congrArg₂ (· * ·) (Finset.sum_congr rfl fun k _ => congrArg _ (hl _ _)) ((hs (z 1)).trans (congrArg (fun q => sc (ix2 0 q)) (Fin.ext h1).symm))

variable (m : (ℓ : Loc nD τ sig) → Buf (Elt Ideal) ℓ) (c : Dev nD) (t : Fin cfg0.N)

/-- The normed rows at a point's extended block. -/
def NE : S528x1024.Idx → EReal := normE (ext (grid0.coords t) (iblk m c 0 t) (iblk m c 1 t)) (iblk m c 2 t)
/-- Their input projection. -/
def PE : S528x1024.Idx → EReal := projE (NE m c t) (iblk m c 3 t)
/-- The grouped product at a point's block. -/
def ME : S512x1024.Idx → EReal := mixBlk (PE m c t) (grid0.coords t) (iblk m c 4 t) (iblk m c 5 t)

/-- What a point leaves of the normed input. -/
theorem h_at (y) : (outsAt0 m c t).2.1 y = NE m c t (ix2 (low (y 0)) (y 1)) := by
  unfold outsAt0 NE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  frame_open
  frame_out
  exact pay2_at _ _ _ _ _

/-- What a point leaves of what is pooled. -/
theorem pool_at (y) : (outsAt0 m c t).2.2.1 y = poolBlk (PE m c t) (grid0.coords t) y := by
  unfold outsAt0 PE NE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  frame_open
  frame_out
  have h28 := pay4_at (grid0.coords t) b0 b1 b2 b3
  rw [pay3_eq]
  generalize k0_pay4 (F := Ideal) _ b0 b1 b2 b3 = v28 at h28 ⊢
  generalize projE _ b3 = P at h28 ⊢
  rw [pay6_eq P v28 h28, pay8_eq P v28 h28, pay11_eq P v28 h28, pay12_eq P v28 h28]
  canon_tiles x h
  · exact pool_piece P _ 3 _ _ h0 h1
  · exact pool_piece P _ 2 _ _ h0 h1
  · exact pool_piece P _ 1 _ _ h0 h1
  · exact pool_piece P _ 0 _ _ h0 (h1.trans (Nat.zero_add _).symm)

/-- A block read whole is the block. -/
theorem idx_whole (f : S512x1024.Idx → EReal) : (fun j => f ((Rect.unit ![0, 0] ![512, 1024] inb_S512x1024_S512x1024_0_0).idx j)) = f := by
  refine funext fun j => congrArg f (funext fun a => Fin.ext ?_)
  rw [Rect.idx_unit_val]
  match a with
  | ⟨0, _⟩ => exact Nat.zero_add _
  | ⟨1, _⟩ => exact Nat.zero_add _
/-- What a point leaves of the grouped product. -/
theorem mix_at (y) : (outsAt0 m c t).2.2.2.1 y = ME m c t y := by
  unfold outsAt0 ME PE NE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  frame_open
  simp (disch := decide) only [↓ View.readCov_skip, ↓ View.readCov_cons_toLoadRect, ↓ View.readCov_fill]
  frame_out
  have h28 := pay4_at (grid0.coords t) b0 b1 b2 b3
  rw [pay3_eq]
  generalize k0_pay4 (F := Ideal) _ b0 b1 b2 b3 = v28 at h28 ⊢
  generalize projE _ b3 = P at h28 ⊢
  rw [pay6_eq P v28 h28, pay8_eq P v28 h28, pay11_eq P v28 h28, pay12_eq P v28 h28]
  simp only [pay14_eq, pay15_eq, pay16_eq, pay17_eq]
  canon_tiles x h
  · exact mix_piece P _ b4 b5 _ _ 3 (fun p q => by pointwise []) (fun q => by pointwise [gcol]) _ _ h0 h1
  · exact mix_piece P _ b4 b5 _ _ 2 (fun p q => by pointwise []) (fun q => by pointwise [gcol]) _ _ h0 h1
  · exact mix_piece P _ b4 b5 _ _ 1 (fun p q => by pointwise []) (fun q => by pointwise [gcol]) _ _ h0 h1
  · exact mix_piece P _ b4 b5 _ _ 0 (fun p q => by pointwise []) (fun q => by pointwise [gcol]) _ _ h0 (h1.trans (Nat.zero_add _).symm)

/-- What a point leaves of the output projection. -/
theorem m_at (y) : (outsAt0 m c t).2.2.2.2 y = mBlk (ME m c t) (iblk m c 6 t) y := by
  unfold outsAt0 ME PE NE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  frame_open
  simp (disch := decide) only [↓ View.readCov_skip, ↓ View.readCov_cons_toLoadRect, ↓ View.readCov_fill]
  frame_out
  have h28 := pay4_at (grid0.coords t) b0 b1 b2 b3
  rw [pay3_eq]
  generalize k0_pay4 (F := Ideal) _ b0 b1 b2 b3 = v28 at h28 ⊢
  generalize projE _ b3 = P at h28 ⊢
  rw [pay6_eq P v28 h28, pay8_eq P v28 h28, pay11_eq P v28 h28, pay12_eq P v28 h28]
  simp only [pay14_eq, pay15_eq, pay16_eq, pay17_eq]
  rw [View.readCov_eq_canon', show View.canon (s := S512x1024) (e := .bf16) _ = mixBlk P (grid0.coords t) b4 b5 from ?h]
  case h =>
    funext z
    canon_tiles x h
    · exact mix_piece P _ b4 b5 _ _ 3 (fun p q => by pointwise []) (fun q => by pointwise [gcol]) _ _ h0 h1
    · exact mix_piece P _ b4 b5 _ _ 2 (fun p q => by pointwise []) (fun q => by pointwise [gcol]) _ _ h0 h1
    · exact mix_piece P _ b4 b5 _ _ 1 (fun p q => by pointwise []) (fun q => by pointwise [gcol]) _ _ h0 h1
    · exact mix_piece P _ b4 b5 _ _ 0 (fun p q => by pointwise []) (fun q => by pointwise [gcol]) _ _ h0 (h1.trans (Nat.zero_add _).symm)
  rw [pay18_eq]
  exact congrArg (fun q => mBlk q b6 y) (idx_whole _)

/-- What a point leaves of the output. -/
theorem out_at (y) : (outsAt0 m c t).1 y = outBlk (iblk m c 0 t) (mBlk (ME m c t) (iblk m c 6 t)) (iblk m c 7 t) y := by
  unfold outsAt0 ME PE NE
  generalize iblk m c 0 t = b0
  generalize iblk m c 1 t = b1
  generalize iblk m c 2 t = b2
  generalize iblk m c 3 t = b3
  generalize iblk m c 4 t = b4
  generalize iblk m c 5 t = b5
  generalize iblk m c 6 t = b6
  generalize iblk m c 7 t = b7
  frame_open
  simp (disch := decide) only [↓ View.readCov_skip, ↓ View.readCov_cons_toLoadRect, ↓ View.readCov_fill]
  frame_out
  have h28 := pay4_at (grid0.coords t) b0 b1 b2 b3
  rw [pay3_eq]
  generalize k0_pay4 (F := Ideal) _ b0 b1 b2 b3 = v28 at h28 ⊢
  generalize projE _ b3 = P at h28 ⊢
  rw [pay6_eq P v28 h28, pay8_eq P v28 h28, pay11_eq P v28 h28, pay12_eq P v28 h28]
  simp only [pay14_eq, pay15_eq, pay16_eq, pay17_eq]
  rw [View.readCov_eq_canon', show View.canon (s := S512x1024) (e := .bf16) _ = mixBlk P (grid0.coords t) b4 b5 from ?h]
  case h =>
    funext z
    canon_tiles x h
    · exact mix_piece P _ b4 b5 _ _ 3 (fun p q => by pointwise []) (fun q => by pointwise [gcol]) _ _ h0 h1
    · exact mix_piece P _ b4 b5 _ _ 2 (fun p q => by pointwise []) (fun q => by pointwise [gcol]) _ _ h0 h1
    · exact mix_piece P _ b4 b5 _ _ 1 (fun p q => by pointwise []) (fun q => by pointwise [gcol]) _ _ h0 h1
    · exact mix_piece P _ b4 b5 _ _ 0 (fun p q => by pointwise []) (fun q => by pointwise [gcol]) _ _ h0 (h1.trans (Nat.zero_add _).symm)
  rw [pay19_eq]
  exact congrArg (fun q => outBlk b0 (mBlk q b6) b7 y) (idx_whole _)

end Cert.BFwdIdeal.Blocks

end
-- ==== Proof.QRef.lean ====
/-
  The stages of mixer B's forward pass as the reference computes them, read at an index, and what is pooled as sums over
  windows of rows where the arguments are real.
-/
module

public import proofs.«01_k».proof.Proof.Gen.BFwdRefIdeal.Read
public import proofs.«01_k».proof.Proof.BReal
public import proofs.«01_k».proof.Proof.QSum
public import Idealize.ShloMosaic.Lib.Pointwise
public import Idealize.ShloMosaic.Lib.Affine
public import Idealize.ShloMosaic.Lib.Claim

@[expose] public section

set_option maxRecDepth 16384

noncomputable section

namespace Cert.BFwdRefIdeal.Stages

open Cert.BFwdRefIdeal Cert.BFwdRefIdeal.Gen Cert.BFwdRefIdeal.Read Idealize.ShloMosaic Idealize.ShloMosaic.TcCoe Idealize.SL.Sem Cert.Spec
open Cert.BBwdRefIdeal.Stages (host_cnt col groups exists_col)

variable (x0 : S8192x1024.Idx → EReal) (x1 x4 x6 : S1024.Idx → EReal) (x2 x5 : S1024x1024.Idx → EReal) (x3 : S4x256x256.Idx → EReal)

/-- The normed input. -/
theorem v12_at (i : Fin 8192) (k : Fin 1024) :
    val_main_v12 (F := Ideal) x0 x1 (ix2 i k) = x0 (ix2 i k) * rinv cD (fun j => x0 (ix2 i j)) * x1 (ix1 k) := by
  pointwise [val_main_v12, val_main_v9, val_main_v8, val_main_v7, val_main_v6, val_main_v4, val_main_v2, val_main_v1, val_main_v0, val_main_cst, val_main_v3, val_main_cst_0, val_main_v5, val_main_cst_1, val_main_v11, val_main_v10, rinv]

/-- The input projection. -/
theorem v13_at (i : Fin 8192) (k : Fin 1024) :
    val_main_v13 (F := Ideal) x0 x1 x2 (ix2 i k) = ∑ j, val_main_v12 (F := Ideal) x0 x1 (ix2 i j) * x2 (ix2 j k) := by
  pointwise [val_main_v13]

/-- A column of the input projection. -/
def pcol (q : Fin 1024) (i : Fin 8192) : EReal := val_main_v13 (F := Ideal) x0 x1 x2 (ix2 i q)

/-- The running sum. -/
theorem v15_at (i : Fin 8192) (k : Fin 1024) : val_main_v15 (F := Ideal) x0 x1 x2 (ix2 i k) = first (pcol x0 x1 x2 k) (i.val + 1) :=
  cumsum_fwd (Rm1 := 8191) _ _ (fun _ => by pointwise [val_main_call0_call0_v0, val_main_call0_call0_cst]) _ _ i k

/-- The running sum with a row of zeros before it: the sum of the rows before. -/
theorem v16_at (i : Fin 8193) (k : Fin 1024) : val_main_v16 (F := Ideal) x0 x1 x2 (ix2 i k) = first (pcol x0 x1 x2 k) i.val := by
  have hi := i.isLt
  pointwise [val_main_v16, val_main_v14, val_main_cst_2]
  by_cases h : i.val < 1
  · rw [dif_pos h, show i.val = 0 by omega, first_zero]
  · rw [dif_neg h, v15_at]
    exact congrArg _ (by simp only []; omega)

/-- A group's pooled entry, from the difference of the running sums and the count word. -/
theorem pool_step (g : Fin 4) (j : Fin 256) (i : Fin 8192) (w p a : ℕ) (q : Fin 1024) (hw : w = 2 ^ (g.val + 1)) (hw' : w < 8192)
    (hp : p + 1 = w) (hq : q = col g j) (ha : a = i.val + 1) :
    Ideal.div (first (pcol x0 x1 x2 q) a - if _h : i.val < p then 0 else first (pcol x0 x1 x2 q) (i.val - p))
        (FloatOps.sitofp (F := Ideal) .f32 (IntOp.minsi (IntOp.addi (BitVec.ofNat 32 i.val) 1#32) (BitVec.ofNat 32 w))) -
      val_main_v13 (F := Ideal) x0 x1 x2 (ix2 i q) =
    Ideal.div (first (pcol x0 x1 x2 (col g j)) (i.val + 1) - first (pcol x0 x1 x2 (col g j)) (i.val + 1 - 2 ^ (g.val + 1)))
      (cnt (2 ^ (g.val + 1)) i.val) - pcol x0 x1 x2 (col g j) i := by
  subst hq ha
  rw [← hw]
  have e : (if _h : i.val < p then 0 else first (pcol x0 x1 x2 (col g j)) (i.val - p)) = first (pcol x0 x1 x2 (col g j)) (i.val + 1 - w) := by
    by_cases h : i.val < p
    · rw [dif_pos h, show i.val + 1 - w = 0 by omega, first_zero]
    · rw [dif_neg h, show i.val + 1 - w = i.val - p by omega]
  rw [e]
  exact congrArg (fun z => Ideal.div _ z - _) (host_cnt w i.val hw' i.isLt)

/-- What is pooled. -/
theorem v86_at (i : Fin 8192) (g : Fin 4) (j : Fin 256) :
    val_main_v86 (F := Ideal) x0 x1 x2 (ix3 i g j) =
      Ideal.div (first (pcol x0 x1 x2 (col g j)) (i.val + 1) - first (pcol x0 x1 x2 (col g j)) (i.val + 1 - 2 ^ (g.val + 1)))
        (cnt (2 ^ (g.val + 1)) i.val) - pcol x0 x1 x2 (col g j) i := by
  induction g using groups
  all_goals
    pointwise [val_main_v86, val_main_v82, val_main_v33, val_main_v31, val_main_v23, val_main_v21, val_main_v18, val_main_v22, val_main_v20, val_main_v19, val_main_cst_3, val_main_v30, val_main_v29, val_main_v28, val_main_v27, val_main_v25, val_main_v17, val_main_v24, val_main_c, val_main_v26, val_main_c_4, val_main_v32, val_main_v83, val_main_v49, val_main_v47, val_main_v39, val_main_v37, val_main_v34, val_main_v38, val_main_v36, val_main_v35, val_main_cst_5, val_main_v46, val_main_v45, val_main_v44, val_main_v43, val_main_v41, val_main_v40, val_main_c_6, val_main_v42, val_main_c_7, val_main_v48, val_main_v84, val_main_v65, val_main_v63, val_main_v55, val_main_v53, val_main_v50, val_main_v54, val_main_v52, val_main_v51, val_main_cst_8, val_main_v62, val_main_v61, val_main_v60, val_main_v59, val_main_v57, val_main_v56, val_main_c_9, val_main_v58, val_main_c_10, val_main_v64, val_main_v85, val_main_v81, val_main_v79, val_main_v71, val_main_v69, val_main_v66, val_main_v70, val_main_v68, val_main_v67, val_main_cst_11, val_main_v78, val_main_v77, val_main_v76, val_main_v75, val_main_v73, val_main_v72, val_main_c_12, val_main_v74, val_main_c_13, val_main_v80]
    simp only [v16_at]
  · exact pool_step x0 x1 x2 0 j i 2 1 _ _ rfl (by decide) rfl (Fin.ext (by simp only [col, Fin.val_zero]; omega)) (by omega)
  · exact pool_step x0 x1 x2 1 j i 4 3 _ _ rfl (by decide) rfl (Fin.ext (by simp only [col, Fin.val_one])) (by omega)
  · exact pool_step x0 x1 x2 2 j i 8 7 _ _ rfl (by decide) rfl (Fin.ext (by show _ = 2 * 256 + j.val; simp only [])) (by omega)
  · exact pool_step x0 x1 x2 3 j i 16 15 _ _ rfl (by decide) rfl (Fin.ext (by show _ = 3 * 256 + j.val; simp only [])) (by omega)

/-- The grouped product. -/
theorem v89_at (i : Fin 8192) (g : Fin 4) (j : Fin 256) :
    val_main_v89 (F := Ideal) x0 x1 x2 x3 (ix2 i (col g j)) =
      ∑ k : Fin 256, val_main_v86 (F := Ideal) x0 x1 x2 (ix3 i g k) * x3 (ix3 g k j) := by
  pointwise [val_main_v89, val_main_v88, val_main_v87, col]
  exact Finset.sum_congr rfl fun i _ => mul_comm _ _

/-- The grouped product times the scale. -/
theorem v92_at (i : Fin 8192) (k : Fin 1024) :
    val_main_v92 (F := Ideal) x0 x1 x2 x3 x4 (ix2 i k) = val_main_v89 (F := Ideal) x0 x1 x2 x3 (ix2 i k) * x4 (ix1 k) := by
  pointwise [val_main_v92, val_main_v91, val_main_v90]

/-- The output projection. -/
theorem v93_at (i : Fin 8192) (k : Fin 1024) :
    val_main_v93 (F := Ideal) x0 x1 x2 x3 x4 x5 (ix2 i k) = ∑ j, val_main_v92 (F := Ideal) x0 x1 x2 x3 x4 (ix2 i j) * x5 (ix2 j k) := by
  pointwise [val_main_v93]

/-- The output. -/
theorem v107_at (i : Fin 8192) (k : Fin 1024) :
    val_main_v107 (F := Ideal) x0 x1 x2 x3 x4 x5 x6 (ix2 i k) = x0 (ix2 i k) + val_main_v93 (F := Ideal) x0 x1 x2 x3 x4 x5 (ix2 i k) *
      rinv cD (fun j => val_main_v93 (F := Ideal) x0 x1 x2 x3 x4 x5 (ix2 i j)) * x6 (ix1 k) := by
  pointwise [val_main_v107, val_main_v106, val_main_v103, val_main_v102, val_main_v101, val_main_v100, val_main_v98, val_main_v96, val_main_v95, val_main_v94, val_main_cst_14, val_main_v97, val_main_cst_15, val_main_v99, val_main_cst_16, val_main_v105, val_main_v104, rinv]

/-- What is pooled, a row's groups side by side. -/
theorem v110_at (i : Fin 8192) (g : Fin 4) (j : Fin 256) :
    val_main_v110 (F := Ideal) x0 x1 x2 (ix2 i (col g j)) = val_main_v86 (F := Ideal) x0 x1 x2 (ix3 i g j) := by
  pointwise [val_main_v110, val_main_v109, col]

variable {x0 x1 x2} (h0 : ∀ i, IsR (x0 i)) (h1 : ∀ i, IsR (x1 i)) (h2 : ∀ i, IsR (x2 i))

include h0 h1 h2 in
/-- The input projection of reals is real. -/
theorem pcol_real (q : Fin 1024) (i : Fin 8192) : IsR (pcol x0 x1 x2 q i) := by
  rw [pcol, v13_at]
  refine IsR.sum fun j => IsR.mul ?_ (h2 _)
  rw [v12_at]
  exact ((h0 _).mul (IsR.rinv fun j => h0 _)).mul (h1 _)
include h0 h1 h2 in
/-- What is pooled, of reals: the window's sum by its count, less the row itself. -/
theorem v86_eq (i : Fin 8192) (g : Fin 4) (j : Fin 256) :
    val_main_v86 (F := Ideal) x0 x1 x2 (ix3 i g j) =
      Ideal.div (back (pcol x0 x1 x2 (col g j)) (2 ^ (g.val + 1)) i.val) (cnt (2 ^ (g.val + 1)) i.val) - pcol x0 x1 x2 (col g j) i := by
  rw [v86_at, window_of_fwd_real _ _ (pcol_real h0 h1 h2 _)]

end Cert.BFwdRefIdeal.Stages

end
-- ==== Proof.QHost.lean ====
/-
  Mixer B's forward pass: what the host hands to the kernel, and the kernel's blocks as blocks of the reference's stages.
-/
module

public import proofs.«01_k».proof.Proof.QKernel
public import proofs.«01_k».proof.Proof.QRef
public import Idealize.ShloMosaic.Lib.StableHlo.ReadAt

@[expose] public section

set_option maxRecDepth 16384

noncomputable section

namespace Cert.BFwdIdeal.Blocks

open Cert.BFwdIdeal Cert.BFwdIdeal.Gen Cert.BFwdRefIdeal.Read Cert.BFwdRefIdeal.Stages Idealize.ShloMosaic Idealize.ShloMosaic.TcCoe
open Idealize.SL.Sem Cert.Spec
open Cert.BBwdRefIdeal.Stages (col exists_col)

section
variable (m : (ℓ : Loc nD τ sig) → Buf (Elt Ideal) ℓ) (c : Dev nD)

/-- The mixer's input. -/
abbrev a0 : S8192x1024.Idx → EReal := m ((c : Thread nD τ).loc main_arg0)
/-- The pre-norm's gain. -/
abbrev a1 : S1024.Idx → EReal := m ((c : Thread nD τ).loc main_arg1)
/-- The input projection. -/
abbrev a2 : S1024x1024.Idx → EReal := m ((c : Thread nD τ).loc main_arg2)
/-- The groups' weights. -/
abbrev a3 : S4x256x256.Idx → EReal := m ((c : Thread nD τ).loc main_arg3)
/-- The scale. -/
abbrev a4 : S1024.Idx → EReal := m ((c : Thread nD τ).loc main_arg4)
/-- The output projection. -/
abbrev a5 : S1024x1024.Idx → EReal := m ((c : Thread nD τ).loc main_arg5)
/-- The post-norm's gain. -/
abbrev a6 : S1024.Idx → EReal := m ((c : Thread nD τ).loc main_arg6)

/-- The input projection. -/
theorem v0_at (k j : Fin 1024) : (V m c main_v0 : S1024x1024.Idx → EReal) (ix2 k j) = a2 m c (ix2 k j) := by
  unfold V
  after_reads_at
/-- The output projection. -/
theorem v1_at (k j : Fin 1024) : (V m c main_v1 : S1024x1024.Idx → EReal) (ix2 k j) = a5 m c (ix2 k j) := by
  unfold V
  after_reads_at
/-- The pre-norm's gain, laid out as a row. -/
theorem v2_at (k : Fin 1024) : (V m c main_v2 : S1x1024.Idx → EReal) (ix2 0 k) = a1 m c (ix1 k) := by
  unfold V
  after_reads_at
/-- The groups' weights. -/
theorem v3_at (g : Fin 4) (k j : Fin 256) : (V m c main_v3 : S4x256x256.Idx → EReal) (ix3 g k j) = a3 m c (ix3 g k j) := by
  unfold V
  after_reads_at
/-- The scale, laid out as a row. -/
theorem v4_at (k : Fin 1024) : (V m c main_v4 : S1x1024.Idx → EReal) (ix2 0 k) = a4 m c (ix1 k) := by
  unfold V
  after_reads_at
/-- The post-norm's gain, laid out as a row. -/
theorem v5_at (k : Fin 1024) : (V m c main_v5 : S1x1024.Idx → EReal) (ix2 0 k) = a6 m c (ix1 k) := by
  unfold V
  after_reads_at

/-- The windows' block indices, by the grid point. -/
theorem idx : ∀ t : Fin cfg0.N, win0_0.index t = ![t.val, 0] ∧ win0_2.index t = ![0, 0] ∧ win0_3.index t = ![0, 0] ∧
    win0_4.index t = ![0, 0, 0] ∧ win0_5.index t = ![0, 0] ∧ win0_6.index t = ![0, 0] ∧ win0_7.index t = ![0, 0] ∧
    win0_8.index t = ![t.val, 0] ∧ win0_9.index t = ![t.val, 0] ∧ win0_10.index t = ![t.val, 0] ∧
    win0_11.index t = ![t.val, 0] ∧ win0_12.index t = ![t.val, 0] :=
  (by decide +kernel : ∀ t : Fin grid0.N, _)
/-- The block index of the rows before the block, at every point but the first. -/
theorem idx_before : ∀ t : Fin cfg0.N, 0 < t.val → win0_1.index t = ![t.val * 32 - 1, 0] := (by decide +kernel : ∀ t : Fin grid0.N, _)
/-- The grid's coordinate is the point. -/
theorem coord : ∀ t : Fin cfg0.N, ((grid0.coords t) 0).val = t.val := (by decide +kernel : ∀ t : Fin grid0.N, _)

theorem t_lt (t : Fin cfg0.N) : t.val < 16 := lt_of_lt_of_eq t.isLt N_0

/-- Row `r` of point `t`'s block is this row of the array. -/
def row (t : Fin cfg0.N) (r : Fin 512) : Fin 8192 := ⟨t.val * 512 + r.val, by have := t_lt t; omega⟩
/-- Row `s` of point `t`'s extended block, where it is a row of the array, is this one. -/
def rowE (t : Fin cfg0.N) (s : Fin 528) : Fin 8192 := ⟨t.val * 512 + s.val - 16, by have := t_lt t; omega⟩

theorem b0_at (t : Fin cfg0.N) (r : Fin 512) (k : Fin 1024) :
    (iblk m c 0 t : S512x1024.Idx → EReal) (ix2 r k) = a0 m c (ix2 (row t r) k) := by
  unfold row; blk_ext [iblk, V, idx t]
theorem b1_at (t : Fin cfg0.N) (ht : 0 < t.val) (r : Fin 16) (k : Fin 1024) :
    (iblk m c 1 t : S16x1024.Idx → EReal) (ix2 r k) = a0 m c (ix2 ⟨(t.val * 32 - 1) * 16 + r.val, by have := t_lt t; omega⟩ k) := by
  blk_ext [iblk, V, idx_before t ht]
theorem b2_at (t : Fin cfg0.N) (k : Fin 1024) : (iblk m c 2 t : S1x1024.Idx → EReal) (ix2 0 k) = a1 m c (ix1 k) := by
  rw [← v2_at]; blk_ext [iblk, idx t]
theorem b3_at (t : Fin cfg0.N) (k j : Fin 1024) : (iblk m c 3 t : S1024x1024.Idx → EReal) (ix2 k j) = a2 m c (ix2 k j) := by
  rw [← v0_at]; blk_ext [iblk, idx t]
theorem b4_at (t : Fin cfg0.N) (g : Fin 4) (k j : Fin 256) : (iblk m c 4 t : S4x256x256.Idx → EReal) (ix3 g k j) = a3 m c (ix3 g k j) := by
  rw [← v3_at]; blk_ext [iblk, idx t]
theorem b5_at (t : Fin cfg0.N) (k : Fin 1024) : (iblk m c 5 t : S1x1024.Idx → EReal) (ix2 0 k) = a4 m c (ix1 k) := by
  rw [← v4_at]; blk_ext [iblk, idx t]
theorem b6_at (t : Fin cfg0.N) (k j : Fin 1024) : (iblk m c 6 t : S1024x1024.Idx → EReal) (ix2 k j) = a5 m c (ix2 k j) := by
  rw [← v1_at]; blk_ext [iblk, idx t]
theorem b7_at (t : Fin cfg0.N) (k : Fin 1024) : (iblk m c 7 t : S1x1024.Idx → EReal) (ix2 0 k) = a6 m c (ix1 k) := by
  rw [← v5_at]; blk_ext [iblk, idx t]

/-- A row of the extended block that is a row of the array. -/
theorem ext_in (t : Fin cfg0.N) (s : Fin 528) (h : 16 ≤ t.val * 512 + s.val) (k : Fin 1024) :
    ext (grid0.coords t) (iblk m c 0 t) (iblk m c 1 t) (ix2 s k) = a0 m c (ix2 (rowE t s) k) := by
  rcases Nat.lt_or_ge s.val 16 with hs | hs
  · refine (dif_pos (show s.val < 16 from hs)).trans ?_
    unfold keep
    rw [coord, if_pos (by omega), mul_one]
    refine (b1_at m c t (by omega) ⟨s.val, hs⟩ k).trans ?_
    exact congrArg (fun i => a0 m c (ix2 i k)) (Fin.ext (by simp only [rowE]; omega))
  · refine (dif_neg (show ¬s.val < 16 by omega)).trans ((b0_at m c t ⟨s.val - 16, by omega⟩ k).trans ?_)
    exact congrArg (fun i => a0 m c (ix2 i k)) (Fin.ext (by simp only [row, rowE]; omega))
/-- A row of the extended block before the array's first. -/
theorem ext_out (t : Fin cfg0.N) (s : Fin 528) (h : t.val * 512 + s.val < 16) (k : Fin 1024) :
    ext (grid0.coords t) (iblk m c 0 t) (iblk m c 1 t) (ix2 s k) = 0 := by
  refine (dif_pos (show s.val < 16 by omega)).trans ?_
  unfold keep
  rw [coord, if_neg (by omega), mul_zero]

/-- The norm at a position. -/
theorem normE_at (X : S528x1024.Idx → EReal) (g : S1x1024.Idx → EReal) (r : Fin 528) (k : Fin 1024) :
    normE X g (ix2 r k) = X (ix2 r k) * rinv cD (fun k => X (ix2 r k)) * g (ix2 0 k) := rfl
/-- The projection at a position. -/
theorem projE_at (N : S528x1024.Idx → EReal) (w : S1024x1024.Idx → EReal) (r : Fin 528) (k : Fin 1024) :
    projE N w (ix2 r k) = ∑ j, N (ix2 r j) * w (ix2 j k) := rfl

/-- The normed rows are the reference's. -/
theorem norm_in (t : Fin cfg0.N) (s : Fin 528) (h : 16 ≤ t.val * 512 + s.val) (k : Fin 1024) :
    NE m c t (ix2 s k) = val_main_v12 (F := Ideal) (a0 m c) (a1 m c) (ix2 (rowE t s) k) := by
  unfold NE
  rw [v12_at, normE_at]
  simp only [ext_in m c t s h, b2_at]
/-- The norm of a row before the array's first is zero. -/
theorem norm_out (t : Fin cfg0.N) (s : Fin 528) (h : t.val * 512 + s.val < 16) (k : Fin 1024) : NE m c t (ix2 s k) = 0 := by
  unfold NE
  rw [normE_at, ext_out m c t s h, zero_mul, zero_mul]
/-- The projected rows are the reference's. -/
theorem proj_in (t : Fin cfg0.N) (s : Fin 528) (h : 16 ≤ t.val * 512 + s.val) (k : Fin 1024) :
    PE m c t (ix2 s k) = pcol (a0 m c) (a1 m c) (a2 m c) k (rowE t s) := by
  unfold PE pcol
  rw [v13_at, projE_at]
  simp only [norm_in m c t s h, b3_at]
/-- The projection of a row before the array's first is zero. -/
theorem proj_out (t : Fin cfg0.N) (s : Fin 528) (h : t.val * 512 + s.val < 16) (k : Fin 1024) : PE m c t (ix2 s k) = 0 := by
  unfold PE
  rw [projE_at]
  exact Finset.sum_eq_zero fun j _ => by rw [norm_out m c t s h, zero_mul]

/-- A row of the block, among the rows of the extended block. -/
theorem rowE_low (t : Fin cfg0.N) (r : Fin 512) : rowE t (low r) = row t r := Fin.ext (by simp only [rowE, row, low]; omega)
theorem low_in (t : Fin cfg0.N) (r : Fin 512) : 16 ≤ t.val * 512 + (low r).val := by show 16 ≤ t.val * 512 + (16 + r.val); omega

/-- The normed block is the reference's. -/
theorem h_ref (t : Fin cfg0.N) (r : Fin 512) (k : Fin 1024) :
    NE m c t (ix2 (low r) k) = val_main_v12 (F := Ideal) (a0 m c) (a1 m c) (ix2 (row t r) k) := by
  rw [norm_in m c t (low r) (low_in t r), rowE_low]

/-- The kernel's window is the reference's rows' window. -/
theorem win_ref (t : Fin cfg0.N) (r : Fin 512) (k : Fin 1024) (w : ℕ) (hw : w ≤ 16) :
    win (PE m c t) w (low r).val k = back (pcol (a0 m c) (a1 m c) (a2 m c) k) w (row t r).val := by
  have ht := t_lt t
  refine Finset.sum_congr rfl fun n hn => ?_
  have hn := Finset.mem_range.mp hn
  have hr := r.isLt
  have e := zext_of_lt (fun s => PE m c t (ix2 s k)) ⟨16 + r.val - n, by omega⟩
  refine e.trans ?_
  show PE m c t (ix2 ⟨16 + r.val - n, _⟩ k) = if n ≤ t.val * 512 + r.val then _ else _
  by_cases h : n ≤ t.val * 512 + r.val
  · rw [if_pos h, proj_in m c t _ (by show 16 ≤ t.val * 512 + (16 + r.val - n); omega)]
    refine Eq.trans (congrArg _ (Fin.ext ?_)) (zext_of_lt (pcol (a0 m c) (a1 m c) (a2 m c) k) ⟨t.val * 512 + r.val - n, by omega⟩).symm
    show t.val * 512 + (16 + r.val - n) - 16 = t.val * 512 + r.val - n
    omega
  · rw [if_neg h, proj_out m c t _ (by show t.val * 512 + (16 + r.val - n) < 16; omega)]

end

variable {m : (ℓ : Loc nD τ sig) → Buf (Elt Ideal) ℓ} {c : Dev nD}
  (h0 : ∀ i, IsR (a0 m c i)) (h1 : ∀ i, IsR (a1 m c i)) (h2 : ∀ i, IsR (a2 m c i))

include h0 h1 h2

/-- What is pooled is the reference's. -/
theorem poolP_ref (t : Fin cfg0.N) (g : Fin 4) (r : Fin 512) (j : Fin 256) :
    poolP (PE m c t) g (grid0.coords t) (ix2 r j) = val_main_v86 (F := Ideal) (a0 m c) (a1 m c) (a2 m c) (ix3 (row t r) g j) := by
  have hg : 2 ^ (g.val + 1) ≤ 16 := le_trans (Nat.pow_le_pow_right (by decide) (show g.val + 1 ≤ 4 by omega)) (by decide)
  rw [v86_eq h0 h1 h2]
  show Ideal.div (win (PE m c t) _ (low r).val (col g j)) (cnt _ (((grid0.coords t) 0).val * 512 + r.val)) - PE m c t (ix2 (low r) (col g j)) = _
  rw [win_ref m c t r _ _ hg, coord, proj_in m c t (low r) (low_in t r), rowE_low]
  rfl
theorem pool_ref (t : Fin cfg0.N) (r : Fin 512) (q : Fin 1024) :
    poolBlk (PE m c t) (grid0.coords t) (ix2 r q) = val_main_v110 (F := Ideal) (a0 m c) (a1 m c) (a2 m c) (ix2 (row t r) q) := by
  obtain ⟨g, j, rfl⟩ := exists_col q
  rw [v110_at, ← poolP_ref h0 h1 h2]
  exact (pool_piece _ _ g (ix2 r j) _ rfl rfl).symm
/-- The grouped product's block is the reference's. -/
theorem mix_ref (t : Fin cfg0.N) (r : Fin 512) (q : Fin 1024) :
    ME m c t (ix2 r q) = val_main_v92 (F := Ideal) (a0 m c) (a1 m c) (a2 m c) (a3 m c) (a4 m c) (ix2 (row t r) q) := by
  obtain ⟨g, j, rfl⟩ := exists_col q
  rw [v92_at, v89_at, ME]
  refine (mix_piece (PE m c t) (grid0.coords t) (iblk m c 4 t) (iblk m c 5 t) (fun z => iblk m c 4 t (ix3 g (z 1) (z 2)))
    (fun z => iblk m c 5 t (ix2 0 (gcol g (z 1)))) g (fun _ _ => rfl) (fun _ => rfl) (ix2 r j) _ rfl rfl).symm.trans ?_
  refine congrArg₂ (· * ·) (Finset.sum_congr rfl fun k _ => congrArg₂ (· * ·) (poolP_ref h0 h1 h2 t g r k) (b4_at m c t g k j)) (b5_at m c t (col g j))
/-- The output projection's block is the reference's. -/
theorem m_ref (t : Fin cfg0.N) (r : Fin 512) (k : Fin 1024) :
    mBlk (ME m c t) (iblk m c 6 t) (ix2 r k) =
      val_main_v93 (F := Ideal) (a0 m c) (a1 m c) (a2 m c) (a3 m c) (a4 m c) (a5 m c) (ix2 (row t r) k) := by
  rw [v93_at]
  exact Finset.sum_congr rfl fun j _ => congrArg₂ (· * ·) (mix_ref h0 h1 h2 t r j) (b6_at m c t j k)
/-- The output's block is the reference's. -/
theorem out_ref (t : Fin cfg0.N) (r : Fin 512) (k : Fin 1024) :
    outBlk (iblk m c 0 t) (mBlk (ME m c t) (iblk m c 6 t)) (iblk m c 7 t) (ix2 r k) =
      val_main_v107 (F := Ideal) (a0 m c) (a1 m c) (a2 m c) (a3 m c) (a4 m c) (a5 m c) (a6 m c) (ix2 (row t r) k) := by
  rw [v107_at]
  rw [outBlk_apply]
  simp only [m_ref h0 h1 h2]
  exact congrArg₂ (fun a b => a + _ * b) (b0_at m c t r k) (b7_at m c t k)

end Cert.BFwdIdeal.Blocks

end
-- ==== Proof.QFinal.lean ====
/-
  Mixer B's forward pass: the kernel's five result arrays are the reference's.
-/
module

public import proofs.«01_k».proof.Proof.QHost

@[expose] public section

set_option maxRecDepth 16384

noncomputable section

namespace Cert.BFwdIdeal.Blocks

open Cert.BFwdIdeal Cert.BFwdIdeal.Gen Cert.BFwdRefIdeal.Read Cert.BFwdRefIdeal.Stages Idealize.ShloMosaic Idealize.ShloMosaic.TcCoe
open Idealize.SL.Sem Cert.Spec

variable {m : (ℓ : Loc nD τ sig) → Buf (Elt Ideal) ℓ} {c : Dev nD}
  (h0 : ∀ i, IsR (a0 m c i)) (h1 : ∀ i, IsR (a1 m c i)) (h2 : ∀ i, IsR (a2 m c i))

include h0 h1 h2 in
/-- The output is the reference's. -/
theorem final8 : (dats m 0 c).arrAt 8 cfg0.N = val_main_v107 (F := Ideal) (a0 m c) (a1 m c) (a2 m c) (a3 m c) (a4 m c) (a5 m c) (a6 m c) := by
  refine (dats m 0 c).arrAt_eq_of_covers 8 _ (by decide +kernel) fun t _ y => ?_
  have hN : cfg0.N = 16 := N_0
  blk_simp
  rw [after0_8, out_at m c t]
  refine Eq.trans ?_ ((out_ref h0 h1 h2 t (y 0) (y 1)).trans ?_)
  · congr 1
    exact (ix2_eta y).symm
  · unfold row; blk_point [idx t]

/-- The normed input is the reference's. -/
theorem final9 : (dats m 0 c).arrAt 9 cfg0.N = val_main_v108 (F := Ideal) (a0 m c) (a1 m c) := by
  refine (dats m 0 c).arrAt_eq_of_covers 9 _ (by decide +kernel) fun t _ y => ?_
  have hN : cfg0.N = 16 := N_0
  blk_simp
  rw [after0_9, h_at]
  refine Eq.trans ?_ ((h_ref m c t (y 0) (y 1)).trans ?_)
  · congr 1
  · pointwise [val_main_v108]
    unfold row; blk_point [idx t]

include h0 h1 h2 in
/-- What is pooled is the reference's. -/
theorem final10 : (dats m 0 c).arrAt 10 cfg0.N = val_main_v110 (F := Ideal) (a0 m c) (a1 m c) (a2 m c) := by
  refine (dats m 0 c).arrAt_eq_of_covers 10 _ (by decide +kernel) fun t _ y => ?_
  have hN : cfg0.N = 16 := N_0
  blk_simp
  rw [after0_10, pool_at]
  refine Eq.trans ?_ ((pool_ref h0 h1 h2 t (y 0) (y 1)).trans ?_)
  · congr 1
    exact (ix2_eta y).symm
  · unfold row; blk_point [idx t]

include h0 h1 h2 in
/-- The grouped product is the reference's. -/
theorem final11 : (dats m 0 c).arrAt 11 cfg0.N = val_main_v111 (F := Ideal) (a0 m c) (a1 m c) (a2 m c) (a3 m c) (a4 m c) := by
  refine (dats m 0 c).arrAt_eq_of_covers 11 _ (by decide +kernel) fun t _ y => ?_
  have hN : cfg0.N = 16 := N_0
  blk_simp
  rw [after0_11, mix_at m c t]
  refine Eq.trans ?_ ((mix_ref h0 h1 h2 t (y 0) (y 1)).trans ?_)
  · congr 1
    exact (ix2_eta y).symm
  · pointwise [val_main_v111]
    unfold row; blk_point [idx t]

include h0 h1 h2 in
/-- The output projection is the reference's. -/
theorem final12 : (dats m 0 c).arrAt 12 cfg0.N = val_main_v93 (F := Ideal) (a0 m c) (a1 m c) (a2 m c) (a3 m c) (a4 m c) (a5 m c) := by
  refine (dats m 0 c).arrAt_eq_of_covers 12 _ (by decide +kernel) fun t _ y => ?_
  have hN : cfg0.N = 16 := N_0
  blk_simp
  rw [after0_12, m_at m c t]
  refine Eq.trans ?_ ((m_ref h0 h1 h2 t (y 0) (y 1)).trans ?_)
  · congr 1
    exact (ix2_eta y).symm
  · unfold row; blk_point [idx t]

end Cert.BFwdIdeal.Blocks

end
-- ==== Proof.QPair.lean ====
/-
  Mixer B's forward pass: the kernel computes what the reference computes, for finite arguments.
-/
module

public import proofs.«01_k».proof.Defs
public import proofs.«01_k».proof.Proof.QFinal
public import proofs.«01_k».proof.Proof.Finite
public import proofs.«01_k».proof.Proof.Gen.Pre_bf_finite
public import proofs.«01_k».proof.Proof.Gen.BFwdIdeal.Value
public import proofs.«01_k».proof.Proof.Gen.BFwdRefIdeal.Run
public import Idealize.ShloMosaic.Lib.Claim

@[expose] public section

set_option maxRecDepth 16384

noncomputable section

namespace Cert.QPair

open Idealize.ShloMosaic Idealize.ShloMosaic.TcCoe Idealize.SL.Sem Cert.Spec Cert.BFwdRefIdeal.Read Cert.BFwdIdeal.Blocks

/-- The precondition makes every entry of the input, of the pre-norm's gain and of the input projection real. -/
theorem bf_real (x0 : FVec Ideal Cert.Pre_bf_finite.S8192x1024 .f32) (x1 x4 x6 : FVec Ideal Cert.Pre_bf_finite.S1024 .f32)
    (x2 x5 : FVec Ideal Cert.Pre_bf_finite.S1024x1024 .f32) (x3 : FVec Ideal Cert.Pre_bf_finite.S4x256x256 .f32)
    (h : Cert.Pre_bf_finite.fn (F := Ideal) x0 x1 x2 x3 x4 x5 x6 = fun _ => 1#1) :
    (∀ i, IsR (x0 i)) ∧ (∀ i, IsR (x1 i)) ∧ ∀ i, IsR (x2 i) := by
  have : Subsingleton Cert.Pre_bf_finite.S_.Idx := ⟨fun a b => funext fun k => absurd k.isLt (by decide +revert)⟩
  have e := congrFun h fun k => k.elim0
  simp only [Cert.Pre_bf_finite.fn, andi] at e
  obtain ⟨e, h2⟩ := and_one e
  obtain ⟨e, h1⟩ := and_one e
  obtain ⟨e, h0⟩ := and_one e
  exact ⟨isR_of_all _ _ (fun _ => rfl) _ _ _ _ h0, isR_of_all _ _ (fun _ => rfl) _ _ _ _ h1, isR_of_all _ _ (fun _ => rfl) _ _ _ _ h2⟩

/-- For finite arguments the two programs leave the same five results and their arguments unchanged. -/
theorem algebraic : Cert.algebraic_BFwdIdeal_BFwdRefIdeal_pre_bf_finite := by
  pair_intro
  · run_from Cert.BFwdIdeal.Value.run_blocks m g
  · refine (θ_run _ _ _).mono (fun r h c => ?_) (Cert.BFwdRefIdeal.Value.run m' g')
    obtain ⟨e0, e1, e2, e3, e4, e5, e6⟩ := hagree c
    obtain ⟨h0, h1, h2⟩ := bf_real _ _ _ _ _ _ _ (hpre c)
    replace e0 : m' ((c.tc : Thread _ _).loc Cert.BFwdRefIdeal.main_arg0) = a0 m c := e0
    replace e1 : m' ((c.tc : Thread _ _).loc Cert.BFwdRefIdeal.main_arg1) = a1 m c := e1
    replace e2 : m' ((c.tc : Thread _ _).loc Cert.BFwdRefIdeal.main_arg2) = a2 m c := e2
    replace e3 : m' ((c.tc : Thread _ _).loc Cert.BFwdRefIdeal.main_arg3) = a3 m c := e3
    replace e4 : m' ((c.tc : Thread _ _).loc Cert.BFwdRefIdeal.main_arg4) = a4 m c := e4
    replace e5 : m' ((c.tc : Thread _ _).loc Cert.BFwdRefIdeal.main_arg5) = a5 m c := e5
    replace e6 : m' ((c.tc : Thread _ _).loc Cert.BFwdRefIdeal.main_arg6) = a6 m c := e6
    obtain ⟨r107, r108, r110, r111, r93, rest⟩ := h c
    refine ⟨r107.trans ?_, r108.trans ?_, r110.trans ?_, r111.trans ?_, r93.trans ?_, rest⟩
    · refine (val_main_v107_eq (F := Ideal) m' c).trans (Eq.trans ?_ (final8 h0 h1 h2).symm)
      rw [e0, e1, e2, e3, e4, e5, e6]
    · refine (val_main_v108_eq (F := Ideal) _ _).trans (Eq.trans ?_ final9.symm)
      rw [e0, e1]
    · refine (val_main_v110_eq (F := Ideal) m' c).trans (Eq.trans ?_ (final10 h0 h1 h2).symm)
      rw [e0, e1, e2]
    · refine (val_main_v111_eq (F := Ideal) m' c).trans (Eq.trans ?_ (final11 h0 h1 h2).symm)
      rw [e0, e1, e2, e3, e4]
    · refine (val_main_v93_eq (F := Ideal) m' c).trans (Eq.trans ?_ (final12 h0 h1 h2).symm)
      rw [e0, e1, e2, e3, e4, e5]

end Cert.QPair

end
-- ==== Proof.lean ====
/-
  The claims of the statement, from the frames, the reference runs and the value pairs.
-/
module

public import proofs.«01_k».proof.Defs
public import proofs.«01_k».proof.Proof.Gen.FBwd.Frame
public import proofs.«01_k».proof.Proof.Gen.FBwdIdeal.Frame
public import proofs.«01_k».proof.Proof.Gen.FBwdRefIdeal.Run
public import proofs.«01_k».proof.Proof.Gen.FBwdRefIdeal.Read
public import proofs.«01_k».proof.Proof.Gen.FBwdIdeal.Value
public import proofs.«01_k».proof.Proof.Gen.FGrad.Frame
public import proofs.«01_k».proof.Proof.Gen.FGradIdeal.Frame
public import proofs.«01_k».proof.Proof.Gen.FGradRefIdeal.Run
public import proofs.«01_k».proof.Proof.Gen.FGradRefIdeal.Read
public import proofs.«01_k».proof.Proof.Gen.FFwd.Frame
public import proofs.«01_k».proof.Proof.Gen.FFwdIdeal.Frame
public import proofs.«01_k».proof.Proof.Gen.FFwdRefIdeal.Run
public import proofs.«01_k».proof.Proof.Gen.FFwdRefIdeal.Read
public import proofs.«01_k».proof.Proof.Gen.FFwdIdeal.Value
public import proofs.«01_k».proof.Proof.Gen.AIn.Frame
public import proofs.«01_k».proof.Proof.Gen.AInIdeal.Frame
public import proofs.«01_k».proof.Proof.Gen.AInRefIdeal.Run
public import proofs.«01_k».proof.Proof.Gen.AInRefIdeal.Read
public import proofs.«01_k».proof.Proof.Gen.AInIdeal.Value
public import proofs.«01_k».proof.Proof.Gen.AOut.Frame
public import proofs.«01_k».proof.Proof.Gen.AOutIdeal.Frame
public import proofs.«01_k».proof.Proof.Gen.AOutRefIdeal.Run
public import proofs.«01_k».proof.Proof.Gen.AOutRefIdeal.Read
public import proofs.«01_k».proof.Proof.Gen.AOutIdeal.Value
public import proofs.«01_k».proof.Proof.Gen.BGrad.Frame
public import proofs.«01_k».proof.Proof.Gen.BGradIdeal.Frame
public import proofs.«01_k».proof.Proof.Gen.BGradRefIdeal.Run
public import proofs.«01_k».proof.Proof.Gen.BGradRefIdeal.Read
public import proofs.«01_k».proof.Proof.Gen.BGradIdeal.Value
public import proofs.«01_k».proof.Proof.Gen.BBwd.Frame
public import proofs.«01_k».proof.Proof.Gen.BBwdIdeal.Frame
public import proofs.«01_k».proof.Proof.Gen.BBwdRefIdeal.Run
public import proofs.«01_k».proof.Proof.Gen.BBwdRefIdeal.Read
public import proofs.«01_k».proof.Proof.Gen.BBwdIdeal.Value
public import proofs.«01_k».proof.Proof.Gen.AFwd.Frame
public import proofs.«01_k».proof.Proof.Gen.AFwdIdeal.Frame
public import proofs.«01_k».proof.Proof.Gen.AFwdRefIdeal.Run
public import proofs.«01_k».proof.Proof.Gen.AFwdRefIdeal.Read
public import proofs.«01_k».proof.Proof.Gen.AFwdIdeal.Value
public import proofs.«01_k».proof.Proof.Gen.BFwd.Frame
public import proofs.«01_k».proof.Proof.Gen.BFwdIdeal.Frame
public import proofs.«01_k».proof.Proof.Gen.BFwdRefIdeal.Run
public import proofs.«01_k».proof.Proof.Gen.BFwdRefIdeal.Read
public import proofs.«01_k».proof.Proof.Gen.BFwdIdeal.Value
public import proofs.«01_k».proof.Proof.Gen.Pre_f_finite
public import proofs.«01_k».proof.Proof.Gen.Pre_ff_finite
public import proofs.«01_k».proof.Proof.Gen.Pre_b_finite
public import proofs.«01_k».proof.Proof.Gen.Pre_bf_finite
public import proofs.«01_k».proof.Proof.FPair
public import proofs.«01_k».proof.Proof.WPair
public import proofs.«01_k».proof.Proof.GPair
public import proofs.«01_k».proof.Proof.IPair
public import proofs.«01_k».proof.Proof.OPair
public import proofs.«01_k».proof.Proof.PPair
public import proofs.«01_k».proof.Proof.BPair
public import proofs.«01_k».proof.Proof.HPair
public import proofs.«01_k».proof.Proof.QPair
public import Idealize.ShloMosaic.Adequacy
public import Idealize.ShloMosaic.Init

@[expose] public section

noncomputable section

namespace Cert.Proof

open Idealize.ShloMosaic Idealize.SL.Sem

/-- The reference of `FBwd` runs to its end, keeps its arguments, and has no semaphores to leave raised. -/
theorem ref_FBwd : Cert.quiescent_FBwdRefIdeal := fun m ρ _ =>
  (θ_run _ _ _).mono (fun r h => ⟨fun c => (h c).2.2.2.2.2, sem_eq_zero_of_no_sems (by decide) r.2⟩) (Cert.FBwdRefIdeal.Value.run (F := Ideal) m ρ)

/-- The reference of `FGrad` runs to its end, keeps its arguments, and has no semaphores to leave raised. -/
theorem ref_FGrad : Cert.quiescent_FGradRefIdeal := fun m ρ _ =>
  (θ_run _ _ _).mono (fun r h => ⟨fun c => (h c).2, sem_eq_zero_of_no_sems (by decide) r.2⟩) (Cert.FGradRefIdeal.Value.run (F := Ideal) m ρ)

/-- The reference of `FFwd` runs to its end, keeps its arguments, and has no semaphores to leave raised. -/
theorem ref_FFwd : Cert.quiescent_FFwdRefIdeal := fun m ρ _ =>
  (θ_run _ _ _).mono (fun r h => ⟨fun c => (h c).2.2.2.2, sem_eq_zero_of_no_sems (by decide) r.2⟩) (Cert.FFwdRefIdeal.Value.run (F := Ideal) m ρ)

/-- The reference of `AIn` runs to its end, keeps its arguments, and has no semaphores to leave raised. -/
theorem ref_AIn : Cert.quiescent_AInRefIdeal := fun m ρ _ =>
  (θ_run _ _ _).mono (fun r h => ⟨fun c => (h c).2, sem_eq_zero_of_no_sems (by decide) r.2⟩) (Cert.AInRefIdeal.Value.run (F := Ideal) m ρ)

/-- The reference of `AOut` runs to its end, keeps its arguments, and has no semaphores to leave raised. -/
theorem ref_AOut : Cert.quiescent_AOutRefIdeal := fun m ρ _ =>
  (θ_run _ _ _).mono (fun r h => ⟨fun c => (h c).2, sem_eq_zero_of_no_sems (by decide) r.2⟩) (Cert.AOutRefIdeal.Value.run (F := Ideal) m ρ)

/-- The reference of `BGrad` runs to its end, keeps its arguments, and has no semaphores to leave raised. -/
theorem ref_BGrad : Cert.quiescent_BGradRefIdeal := fun m ρ _ =>
  (θ_run _ _ _).mono (fun r h => ⟨fun c => (h c).2.2, sem_eq_zero_of_no_sems (by decide) r.2⟩) (Cert.BGradRefIdeal.Value.run (F := Ideal) m ρ)

/-- The reference of `BBwd` runs to its end, keeps its arguments, and has no semaphores to leave raised. -/
theorem ref_BBwd : Cert.quiescent_BBwdRefIdeal := fun m ρ _ =>
  (θ_run _ _ _).mono (fun r h => ⟨fun c => (h c).2.2.2.2.2.2.2, sem_eq_zero_of_no_sems (by decide) r.2⟩) (Cert.BBwdRefIdeal.Value.run (F := Ideal) m ρ)

/-- The reference of `AFwd` runs to its end, keeps its arguments, and has no semaphores to leave raised. -/
theorem ref_AFwd : Cert.quiescent_AFwdRefIdeal := fun m ρ _ =>
  (θ_run _ _ _).mono (fun r h => ⟨fun c => (h c).2.2.2.2.2.2.2, sem_eq_zero_of_no_sems (by decide) r.2⟩) (Cert.AFwdRefIdeal.Value.run (F := Ideal) m ρ)

/-- The reference of `BFwd` runs to its end, keeps its arguments, and has no semaphores to leave raised. -/
theorem ref_BFwd : Cert.quiescent_BFwdRefIdeal := fun m ρ _ =>
  (θ_run _ _ _).mono (fun r h => ⟨fun c => (h c).2.2.2.2.2, sem_eq_zero_of_no_sems (by decide) r.2⟩) (Cert.BFwdRefIdeal.Value.run (F := Ideal) m ρ)

/-- The claims of the statement. -/
theorem claim : Cert.Claim :=
  ⟨Cert.FBwd.Gen.facts,
    Cert.FBwdIdeal.Gen.facts,
    Cert.FBwdRefIdeal.Gen.facts,
    Cert.FGrad.Gen.facts,
    Cert.FGradIdeal.Gen.facts,
    Cert.FGradRefIdeal.Gen.facts,
    Cert.FFwd.Gen.facts,
    Cert.FFwdIdeal.Gen.facts,
    Cert.FFwdRefIdeal.Gen.facts,
    Cert.AIn.Gen.facts,
    Cert.AInIdeal.Gen.facts,
    Cert.AInRefIdeal.Gen.facts,
    Cert.AOut.Gen.facts,
    Cert.AOutIdeal.Gen.facts,
    Cert.AOutRefIdeal.Gen.facts,
    Cert.BGrad.Gen.facts,
    Cert.BGradIdeal.Gen.facts,
    Cert.BGradRefIdeal.Gen.facts,
    Cert.BBwd.Gen.facts,
    Cert.BBwdIdeal.Gen.facts,
    Cert.BBwdRefIdeal.Gen.facts,
    Cert.AFwd.Gen.facts,
    Cert.AFwdIdeal.Gen.facts,
    Cert.AFwdRefIdeal.Gen.facts,
    Cert.BFwd.Gen.facts,
    Cert.BFwdIdeal.Gen.facts,
    Cert.BFwdRefIdeal.Gen.facts,
    Cert.Pre_f_finite.Gen.facts,
    Cert.Pre_ff_finite.Gen.facts,
    Cert.Pre_b_finite.Gen.facts,
    Cert.Pre_bf_finite.Gen.facts,
    fun m ρ _ => Cert.FBwd.Gen.frame m ρ,
    fun m ρ _ => Cert.FBwdIdeal.Gen.frame m ρ,
    fun m ρ _ => Cert.FBwdIdeal.Gen.frame m ρ,
    ref_FBwd,
    fun m ρ _ => ref_FBwd m ρ trivial,
    fun m ρ _ => Cert.FGrad.Gen.frame m ρ,
    fun m ρ _ => Cert.FGradIdeal.Gen.frame m ρ,
    ref_FGrad,
    fun m ρ _ => Cert.FFwd.Gen.frame m ρ,
    fun m ρ _ => Cert.FFwdIdeal.Gen.frame m ρ,
    fun m ρ _ => Cert.FFwdIdeal.Gen.frame m ρ,
    ref_FFwd,
    fun m ρ _ => ref_FFwd m ρ trivial,
    fun m ρ _ => Cert.AIn.Gen.frame m ρ,
    fun m ρ _ => Cert.AInIdeal.Gen.frame m ρ,
    ref_AIn,
    fun m ρ _ => Cert.AOut.Gen.frame m ρ,
    fun m ρ _ => Cert.AOutIdeal.Gen.frame m ρ,
    ref_AOut,
    fun m ρ _ => Cert.BGrad.Gen.frame m ρ,
    fun m ρ _ => Cert.BGradIdeal.Gen.frame m ρ,
    ref_BGrad,
    fun m ρ _ => Cert.BBwd.Gen.frame m ρ,
    fun m ρ _ => Cert.BBwdIdeal.Gen.frame m ρ,
    fun m ρ _ => Cert.BBwdIdeal.Gen.frame m ρ,
    ref_BBwd,
    fun m ρ _ => ref_BBwd m ρ trivial,
    fun m ρ _ => Cert.AFwd.Gen.frame m ρ,
    fun m ρ _ => Cert.AFwdIdeal.Gen.frame m ρ,
    ref_AFwd,
    fun m ρ _ => Cert.BFwd.Gen.frame m ρ,
    fun m ρ _ => Cert.BFwdIdeal.Gen.frame m ρ,
    fun m ρ _ => Cert.BFwdIdeal.Gen.frame m ρ,
    ref_BFwd,
    fun m ρ _ => ref_BFwd m ρ trivial,
    trivial,
    Cert.FPair.algebraic,
    trivial,
    Cert.WPair.algebraic,
    trivial,
    Cert.GPair.algebraic,
    trivial,
    Cert.IPair.algebraic,
    trivial,
    Cert.OPair.algebraic,
    trivial,
    Cert.PPair.algebraic,
    trivial,
    Cert.BPair.algebraic,
    trivial,
    Cert.HPair.algebraic,
    trivial,
    Cert.QPair.algebraic⟩

end Cert.Proof

end
